-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_inputs2 [hPre_finite_inputs2 : Cert.Pre_finite_inputs2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 = (fun _ => 1#1)
    ∧ (Cert.Pre_finite_inputs2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_inputs2 [hPre_finite_inputs2 : Cert.Pre_finite_inputs2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.1 = (fun _ => 1#1)
    ∧ (Cert.Pre_finite_inputs2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))).2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_finite_inputs2 [hKernel2Ideal : Cert.Kernel2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_inputs2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_finite_inputs2 [hReference2Ideal : Cert.Reference2Ideal.Facts] [hPre_finite_inputs2 : Cert.Pre_finite_inputs2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_inputs2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9)
      ∧ r.2.mem ((c.tc : Thread Cert.Kernel13.nD Cert.Kernel13.τ).loc Cert.Kernel13.main_arg10) = m ((c.tc : Thread Cert.Kernel13.nD Cert.Kernel13.τ).loc Cert.Kernel13.main_arg10))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
      ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9)
      ∧ r.2.mem ((c.tc : Thread Cert.Reference13Ideal.nD Cert.Reference13Ideal.τ).loc Cert.Reference13Ideal.main_arg10) = m ((c.tc : Thread Cert.Reference13Ideal.nD Cert.Reference13Ideal.τ).loc Cert.Reference13Ideal.main_arg10))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v19_3)) (v4 : (c : Dev Cert.KernelIdeal.nD) → Buf (Elt Ideal) ((c.tc : Thread Cert.KernelIdeal.nD Cert.KernelIdeal.τ).loc Cert.KernelIdeal.main_v19_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v19_3) = v3 c
          ∧ r.2.mem ((c.tc : Thread Cert.KernelIdeal.nD Cert.KernelIdeal.τ).loc Cert.KernelIdeal.main_v19_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v112) = v1 c
          ∧ r.2.mem ((c.tc : Thread Cert.ReferenceIdeal.nD Cert.ReferenceIdeal.τ).loc Cert.ReferenceIdeal.main_v113) = v2 c
          ∧ r.2.mem ((c.tc : Thread Cert.ReferenceIdeal.nD Cert.ReferenceIdeal.τ).loc Cert.ReferenceIdeal.main_v88) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_inputs2 [hKernel2Ideal : Cert.Kernel2Ideal.Facts] [hReference2Ideal : Cert.Reference2Ideal.Facts] [hPre_finite_inputs2 : Cert.Pre_finite_inputs2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_inputs2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v29_0)) (v1 : (c : Dev Cert.Kernel2Ideal.nD) → Buf (Elt Ideal) ((c.tc : Thread Cert.Kernel2Ideal.nD Cert.Kernel2Ideal.τ).loc Cert.Kernel2Ideal.main_v29_1)) (v2 : (c : Dev Cert.Kernel2Ideal.nD) → Buf (Elt Ideal) ((c.tc : Thread Cert.Kernel2Ideal.nD Cert.Kernel2Ideal.τ).loc Cert.Kernel2Ideal.main_v29_2)) (v3 : (c : Dev Cert.Kernel2Ideal.nD) → Buf (Elt Ideal) ((c.tc : Thread Cert.Kernel2Ideal.nD Cert.Kernel2Ideal.τ).loc Cert.Kernel2Ideal.main_v29_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v29_0) = v0 c
          ∧ r.2.mem ((c.tc : Thread Cert.Kernel2Ideal.nD Cert.Kernel2Ideal.τ).loc Cert.Kernel2Ideal.main_v29_1) = v1 c
          ∧ r.2.mem ((c.tc : Thread Cert.Kernel2Ideal.nD Cert.Kernel2Ideal.τ).loc Cert.Kernel2Ideal.main_v29_2) = v2 c
          ∧ r.2.mem ((c.tc : Thread Cert.Kernel2Ideal.nD Cert.Kernel2Ideal.τ).loc Cert.Kernel2Ideal.main_v29_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v58) = v0 c
          ∧ r.2.mem ((c.tc : Thread Cert.Reference2Ideal.nD Cert.Reference2Ideal.τ).loc Cert.Reference2Ideal.main_v52) = v1 c
          ∧ r.2.mem ((c.tc : Thread Cert.Reference2Ideal.nD Cert.Reference2Ideal.τ).loc Cert.Reference2Ideal.main_v59) = v2 c
          ∧ r.2.mem ((c.tc : Thread Cert.Reference2Ideal.nD Cert.Reference2Ideal.τ).loc Cert.Reference2Ideal.main_v60) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v19) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v14) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v5) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_v17) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v5_0)) (v1 : (c : Dev Cert.Kernel7Ideal.nD) → Buf (Elt Ideal) ((c.tc : Thread Cert.Kernel7Ideal.nD Cert.Kernel7Ideal.τ).loc Cert.Kernel7Ideal.main_v5_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v5_0) = v0 c
          ∧ r.2.mem ((c.tc : Thread Cert.Kernel7Ideal.nD Cert.Kernel7Ideal.τ).loc Cert.Kernel7Ideal.main_v5_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v8) = v0 c
          ∧ r.2.mem ((c.tc : Thread Cert.Reference7Ideal.nD Cert.Reference7Ideal.τ).loc Cert.Reference7Ideal.main_v11) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v1_0)) (v1 : (c : Dev Cert.Kernel8Ideal.nD) → Buf (Elt Ideal) ((c.tc : Thread Cert.Kernel8Ideal.nD Cert.Kernel8Ideal.τ).loc Cert.Kernel8Ideal.main_v1_1)) (v2 : (c : Dev Cert.Kernel8Ideal.nD) → Buf (Elt Ideal) ((c.tc : Thread Cert.Kernel8Ideal.nD Cert.Kernel8Ideal.τ).loc Cert.Kernel8Ideal.main_v1_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1_0) = v0 c
          ∧ r.2.mem ((c.tc : Thread Cert.Kernel8Ideal.nD Cert.Kernel8Ideal.τ).loc Cert.Kernel8Ideal.main_v1_1) = v1 c
          ∧ r.2.mem ((c.tc : Thread Cert.Kernel8Ideal.nD Cert.Kernel8Ideal.τ).loc Cert.Kernel8Ideal.main_v1_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v54) = v0 c
          ∧ r.2.mem ((c.tc : Thread Cert.Reference8Ideal.nD Cert.Reference8Ideal.τ).loc Cert.Reference8Ideal.main_v71) = v1 c
          ∧ r.2.mem ((c.tc : Thread Cert.Reference8Ideal.nD Cert.Reference8Ideal.τ).loc Cert.Reference8Ideal.main_v72) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)) (v4 : (c : Dev Cert.Kernel9Ideal.nD) → Buf (Elt Ideal) ((c.tc : Thread Cert.Kernel9Ideal.nD Cert.Kernel9Ideal.τ).loc Cert.Kernel9Ideal.main_v2_4)) (v5 : (c : Dev Cert.Kernel9Ideal.nD) → Buf (Elt Ideal) ((c.tc : Thread Cert.Kernel9Ideal.nD Cert.Kernel9Ideal.τ).loc Cert.Kernel9Ideal.main_v2_5)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_v2_4) = v4 c
          ∧ r.2.mem ((c.tc : Thread Cert.Kernel9Ideal.nD Cert.Kernel9Ideal.τ).loc Cert.Kernel9Ideal.main_v2_5) = v5 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_v58) = v1 c
          ∧ r.2.mem ((c.tc : Thread Cert.Reference9Ideal.nD Cert.Reference9Ideal.τ).loc Cert.Reference9Ideal.main_v59) = v2 c
          ∧ r.2.mem ((c.tc : Thread Cert.Reference9Ideal.nD Cert.Reference9Ideal.τ).loc Cert.Reference9Ideal.main_v60) = v3 c
          ∧ r.2.mem ((c.tc : Thread Cert.Reference9Ideal.nD Cert.Reference9Ideal.τ).loc Cert.Reference9Ideal.main_v44) = v4 c
          ∧ r.2.mem ((c.tc : Thread Cert.Reference9Ideal.nD Cert.Reference9Ideal.τ).loc Cert.Reference9Ideal.main_v61) = v5 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v10_0)) (v1 : (c : Dev Cert.Kernel10Ideal.nD) → Buf (Elt Ideal) ((c.tc : Thread Cert.Kernel10Ideal.nD Cert.Kernel10Ideal.τ).loc Cert.Kernel10Ideal.main_v10_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v10_0) = v0 c
          ∧ r.2.mem ((c.tc : Thread Cert.Kernel10Ideal.nD Cert.Kernel10Ideal.τ).loc Cert.Kernel10Ideal.main_v10_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v13) = v0 c
          ∧ r.2.mem ((c.tc : Thread Cert.Reference10Ideal.nD Cert.Reference10Ideal.τ).loc Cert.Reference10Ideal.main_v16) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v24_0)) (v1 : (c : Dev Cert.Kernel11Ideal.nD) → Buf (Elt Ideal) ((c.tc : Thread Cert.Kernel11Ideal.nD Cert.Kernel11Ideal.τ).loc Cert.Kernel11Ideal.main_v24_1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v24_0) = v0 c
          ∧ r.2.mem ((c.tc : Thread Cert.Kernel11Ideal.nD Cert.Kernel11Ideal.τ).loc Cert.Kernel11Ideal.main_v24_1) = v1 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v30) = v0 c
          ∧ r.2.mem ((c.tc : Thread Cert.Reference11Ideal.nD Cert.Reference11Ideal.τ).loc Cert.Reference11Ideal.main_v31) = v1 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v13) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)
      ∧ m' ((c.tc : Thread Cert.Reference13Ideal.nD Cert.Reference13Ideal.τ).loc Cert.Reference13Ideal.main_arg10) = m ((c.tc : Thread Cert.Kernel13Ideal.nD Cert.Kernel13Ideal.τ).loc Cert.Kernel13Ideal.main_arg10)) →
    ∃ (v0 : (c : Dev Cert.Kernel13Ideal.nD) → Buf (Elt Ideal) ((c.tc : Thread Cert.Kernel13Ideal.nD Cert.Kernel13Ideal.τ).loc Cert.Kernel13Ideal.main_v27_0)) (v1 : (c : Dev Cert.Kernel13Ideal.nD) → Buf (Elt Ideal) ((c.tc : Thread Cert.Kernel13Ideal.nD Cert.Kernel13Ideal.τ).loc Cert.Kernel13Ideal.main_v27_1)) (v2 : (c : Dev Cert.Kernel13Ideal.nD) → Buf (Elt Ideal) ((c.tc : Thread Cert.Kernel13Ideal.nD Cert.Kernel13Ideal.τ).loc Cert.Kernel13Ideal.main_v27_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v27_0) = v0 c
          ∧ r.2.mem ((c.tc : Thread Cert.Kernel13Ideal.nD Cert.Kernel13Ideal.τ).loc Cert.Kernel13Ideal.main_v27_1) = v1 c
          ∧ r.2.mem ((c.tc : Thread Cert.Kernel13Ideal.nD Cert.Kernel13Ideal.τ).loc Cert.Kernel13Ideal.main_v27_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9)
          ∧ r.2.mem ((c.tc : Thread Cert.Kernel13Ideal.nD Cert.Kernel13Ideal.τ).loc Cert.Kernel13Ideal.main_arg10) = m ((c.tc : Thread Cert.Kernel13Ideal.nD Cert.Kernel13Ideal.τ).loc Cert.Kernel13Ideal.main_arg10))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_v329) = v1 c
          ∧ r.2.mem ((c.tc : Thread Cert.Reference13Ideal.nD Cert.Reference13Ideal.τ).loc Cert.Reference13Ideal.main_v238) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9)
          ∧ r.2.mem ((c.tc : Thread Cert.Reference13Ideal.nD Cert.Reference13Ideal.τ).loc Cert.Reference13Ideal.main_arg10) = m' ((c.tc : Thread Cert.Reference13Ideal.nD Cert.Reference13Ideal.τ).loc Cert.Reference13Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite_inputs : Cert.Pre_finite_inputs.Facts) (hPre_finite_inputs2 : Cert.Pre_finite_inputs2.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Kernel2 (hKernel2 := hKernel2)
    ∧ quiescent_Kernel2Ideal (hKernel2Ideal := hKernel2Ideal)
    ∧ quiescent_Kernel2Ideal_pre_finite_inputs2 (hKernel2Ideal := hKernel2Ideal) (hPre_finite_inputs2 := hPre_finite_inputs2)
    ∧ quiescent_Reference2Ideal (hReference2Ideal := hReference2Ideal)
    ∧ quiescent_Reference2Ideal_pre_finite_inputs2 (hReference2Ideal := hReference2Ideal) (hPre_finite_inputs2 := hPre_finite_inputs2)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal_pre_finite_inputs2 (hKernel2Ideal := hKernel2Ideal) (hReference2Ideal := hReference2Ideal) (hPre_finite_inputs2 := hPre_finite_inputs2)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite_inputs.lean ====
abbrev S4096x1024 : Shape := ⟨2, ![4096, 1024]⟩
abbrev S1024x1024 : Shape := ⟨2, ![1024, 1024]⟩
abbrev S256x2048 : Shape := ⟨2, ![256, 2048]⟩
abbrev S1024 : Shape := ⟨1, ![1024]⟩
abbrev S_ : Shape := ⟨0, ![]⟩

class Facts : Prop where
  bitsLt_bf16_f32 : FTy.bits .bf16 < FTy.bits .f32
  bcast_S_S256x2048 : S_.BroadcastsInDim S256x2048 (![] : Fin 0 → Fin S256x2048.rank)
  bcast_S_S1024x1024 : S_.BroadcastsInDim S1024x1024 (![] : Fin 0 → Fin S1024x1024.rank)
  bcast_S_S1024 : S_.BroadcastsInDim S1024 (![] : Fin 0 → Fin S1024.rank)

variable [Facts]

def fn {F : FTy → Type} [FloatOps F] (main_arg0 : FVec F S4096x1024 .f32) (main_arg1 : FVec F S1024x1024 .bf16) (main_arg2 : FVec F S256x2048 .bf16) (main_arg3 : FVec F S1024x1024 .bf16) (main_arg4 : FVec F S4096x1024 .f32) (main_arg5 : FVec F S1024 .f32) : IVec S256x2048 1 × IVec S1024x1024 1 × IVec S1024 1 :=
  let main_v0 : FVec F S256x2048 .f32 := (extf .f32 · bitsLt_bf16_f32) main_arg2
  let main_v1 : FVec F S256x2048 .f32 := Host.absf main_v0
  let main_cst : FVec F S_ .f32 := constant S_ .f32 0x7F800000#32
  let main_v2 : FVec F S256x2048 .f32 := broadcastInDim S256x2048 ![] bcast_S_S256x2048 main_cst
  let main_v3 : IVec S256x2048 1 := cmpf .olt main_v1 main_v2
  let main_v4 : FVec F S1024x1024 .f32 := (extf .f32 · bitsLt_bf16_f32) main_arg3
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024 .f32 := Host.absf main_arg5
  let main_cst_1 : FVec F S_ .f32 := constant S_ .f32 0x7F800000#32
  let main_v9 : FVec F S1024 .f32 := broadcastInDim S1024 ![] bcast_S_S1024 main_cst_1
  let main_v10 : IVec S1024 1 := cmpf .olt main_v8 main_v9
  (main_v3, main_v7, main_v10)
-- ==== Pre_finite_inputs2.lean ====
abbrev S4096x1024 : Shape := ⟨2, ![4096, 1024]⟩
abbrev S2816x1024 : Shape := ⟨2, ![2816, 1024]⟩
abbrev S1024x5632 : Shape := ⟨2, ![1024, 5632]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  bitsLt_bf16_f32 : FTy.bits .bf16 < FTy.bits .f32
  bcast_S_S2816x1024 : S_.BroadcastsInDim S2816x1024 (![] : Fin 0 → Fin S2816x1024.rank)
  bcast_S_S1024x5632 : S_.BroadcastsInDim S1024x5632 (![] : Fin 0 → Fin S1024x5632.rank)
  bcast_S_S1024 : S_.BroadcastsInDim S1024 (![] : Fin 0 → Fin S1024.rank)

variable [Facts]

def fn {F : FTy → Type} [FloatOps F] (main_arg0 : FVec F S4096x1024 .f32) (main_arg1 : FVec F S2816x1024 .bf16) (main_arg2 : FVec F S1024x5632 .bf16) (main_arg3 : FVec F S4096x1024 .f32) (main_arg4 : FVec F S1024 .f32) : IVec S4096x1024 1 × IVec S2816x1024 1 × IVec S1024x5632 1 × IVec S1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S2816x1024 .f32 := (extf .f32 · bitsLt_bf16_f32) main_arg1
  let main_v4 : FVec F S2816x1024 .f32 := Host.absf main_v3
  let main_cst_0 : FVec F S_ .f32 := constant S_ .f32 0x7F800000#32
  let main_v5 : FVec F S2816x1024 .f32 := broadcastInDim S2816x1024 ![] bcast_S_S2816x1024 main_cst_0
  let main_v6 : IVec S2816x1024 1 := cmpf .olt main_v4 main_v5
  let main_v7 : FVec F S1024x5632 .f32 := (extf .f32 · bitsLt_bf16_f32) main_arg2
  let main_v8 : FVec F S1024x5632 .f32 := Host.absf main_v7
  let main_cst_1 : FVec F S_ .f32 := constant S_ .f32 0x7F800000#32
  let main_v9 : FVec F S1024x5632 .f32 := broadcastInDim S1024x5632 ![] bcast_S_S1024x5632 main_cst_1
  let main_v10 : IVec S1024x5632 1 := cmpf .olt main_v8 main_v9
  let main_v11 : FVec F S1024 .f32 := Host.absf main_arg4
  let main_cst_2 : FVec F S_ .f32 := constant S_ .f32 0x7F800000#32
  let main_v12 : FVec F S1024 .f32 := broadcastInDim S1024 ![] bcast_S_S1024 main_cst_2
  let main_v13 : IVec S1024 1 := cmpf .olt main_v11 main_v12
  (main_v2, main_v6, main_v10, main_v13)
-- ==== Kernel.lean ====
abbrev S4096x1024 : Shape := ⟨2, ![4096, 1024]⟩
abbrev S1024x1024 : Shape := ⟨2, ![1024, 1024]⟩
abbrev S256x2048 : Shape := ⟨2, ![256, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S1024x256 : Shape := ⟨2, ![1024, 256]⟩
abbrev S256x256 : Shape := ⟨2, ![256, 256]⟩
abbrev S1024x1 : Shape := ⟨2, ![1024, 1]⟩

abbrev nBuf : Space → Nat
  | .hbm => 33
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S256x2048, .bf16⟩
  | .hbm, ⟨3, _⟩ => ⟨S1024x1024, .bf16⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S1x1024, .f32⟩
  | .hbm, ⟨20, _⟩ => ⟨S4096x1024, .f32⟩
  | .hbm, ⟨21, _⟩ => ⟨S4096x1024, .f32⟩
  | .hbm, ⟨22, _⟩ => ⟨S4096x1024, .bf16⟩
  | .hbm, ⟨23, _⟩ => ⟨S4096x1024, .f32⟩
  | .hbm, ⟨24, _⟩ => ⟨S1024x1024, .f32⟩
  | .hbm, ⟨25, _⟩ => ⟨S4096x1024, .f32⟩
  | .hbm, ⟨26, _⟩ => ⟨S4096x1024, .bf16⟩
  | .hbm, ⟨27, _⟩ => ⟨S1x1024, .f32⟩
  | .hbm, ⟨28, _⟩ => ⟨S4096x1024, .f32⟩
  | .hbm, ⟨29, _⟩ => ⟨S4096x1024, .bf16⟩
  | .hbm, ⟨30, _⟩ => ⟨S4096x1024, .bf16⟩
  | .hbm, ⟨31, _⟩ => ⟨S256x2048, .f32⟩
  | .hbm, ⟨32, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S256x2048, .bf16⟩
  | .local _ .vmem, ⟨6, _⟩ => ⟨S1024x1024, .bf16⟩
  | .local _ .vmem, ⟨7, _⟩ => ⟨S1024x1024, .f32⟩
  | .local _ .vmem, ⟨8, _⟩ => ⟨S1024x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1024x1024, .bf16⟩
  | .local _ .vmem, ⟨16, _⟩ => ⟨S256x2048, .f32⟩
  | .local _ .vmem, ⟨17, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S256x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== ReferenceIdeal.lean ====
abbrev S4096x1024 : Shape := ⟨2, ![4096, 1024]⟩
abbrev S1024x1024 : Shape := ⟨2, ![1024, 1024]⟩
abbrev S256x2048 : Shape := ⟨2, ![256, 2048]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩
abbrev S4x256x256 : Shape := ⟨3, ![4, 256, 256]⟩

abbrev nBuf : Space → Nat
  | .hbm => 144
  | .vmem => 0
  | .smem => 0
  | _ => 0

abbrev hbmTy0_0 (i : Nat) : BufTy := match i % 128 with
  | 0 => ⟨S4096x1024, .f32⟩
  | 1 => ⟨S1024x1024, .bf16⟩
  | 2 => ⟨S256x2048, .bf16⟩
  | 3 => ⟨S1024x1024, .bf16⟩
  | 4 => ⟨S4096x1024, .f32⟩
  | 5 => ⟨S1024, .f32⟩
  | 6 => ⟨S1024x1024, .f32⟩
  | 7 => ⟨S256x2048, .f32⟩
  | 8 => ⟨S1024x1024, .f32⟩
  | 9 => ⟨S4096x1024, .f32⟩
  | 10 => ⟨S_, .f32⟩
  | 11 => ⟨S4096, .f32⟩
  | 12 => ⟨S4096x1, .f32⟩
  | 13 => ⟨S_, .f32⟩
  | 14 => ⟨S4096x1, .f32⟩
  | 15 => ⟨S4096x1, .f32⟩
  | 16 => ⟨S_, .f32⟩
  | 17 => ⟨S4096x1, .f32⟩
  | 18 => ⟨S4096x1, .f32⟩
  | 19 => ⟨S4096x1, .f32⟩
  | 20 => ⟨S4096x1, .f32⟩
  | 21 => ⟨S_, .f32⟩
  | 22 => ⟨S4096x1, .f32⟩
  | 23 => ⟨S4096x1, .f32⟩
  | 24 => ⟨S4096x1024, .f32⟩
  | 25 => ⟨S4096x1024, .f32⟩
  | 26 => ⟨S1x1024, .f32⟩
  | 27 => ⟨S4096x1024, .f32⟩
  | 28 => ⟨S4096x1024, .f32⟩
  | 29 => ⟨S4096x1024, .f32⟩
  | 30 => ⟨S4096x4x256, .f32⟩
  | 31 => ⟨S256x1024, .f32⟩
  | 32 => ⟨S256x1024, .f32⟩
  | 33 => ⟨S256x4x256, .f32⟩
  | 34 => ⟨S256x4x256, .f32⟩
  | 35 => ⟨S4x4096x256, .f32⟩
  | 36 => ⟨S_, .f32⟩
  | 37 => ⟨S4x4096x256, .f32⟩
  | 38 => ⟨S4x4096x256, .f32⟩
  | 39 => ⟨S_, .f32⟩
  | 40 => ⟨S4x4096, .f32⟩
  | 41 => ⟨S4x4096x1, .f32⟩
  | 42 => ⟨S4x4096x256, .f32⟩
  | 43 => ⟨S4x4096x256, .i1⟩
  | 44 => ⟨S4x4096x256, .f32⟩
  | 45 => ⟨S_, .f32⟩
  | 46 => ⟨S4x4096, .f32⟩
  | 47 => ⟨S_, .f32⟩
  | 48 => ⟨S4x4096, .f32⟩
  | 49 => ⟨S4x4096, .f32⟩
  | 50 => ⟨S_, .f32⟩
  | 51 => ⟨S4x4096, .f32⟩
  | 52 => ⟨S4x4096, .i1⟩
  | 53 => ⟨S_, .f32⟩
  | 54 => ⟨S4x4096, .f32⟩
  | 55 => ⟨S4x4096, .i1⟩
  | 56 => ⟨S_, .f32⟩
  | 57 => ⟨S4x4096, .f32⟩
  | 58 => ⟨S_, .f32⟩
  | 59 => ⟨S4x4096, .f32⟩
  | 60 => ⟨S_, .f32⟩
  | 61 => ⟨S4x4096, .f32⟩
  | 62 => ⟨S4x4096, .f32⟩
  | 63 => ⟨S4x4096, .f32⟩
  | 64 => ⟨S4x4096x1, .f32⟩
  | 65 => ⟨S4x4096x256, .f32⟩
  | 66 => ⟨S4x4096x256, .f32⟩
  | 67 => ⟨S4x4096x256, .f32⟩
  | 68 => ⟨S_, .f32⟩
  | 69 => ⟨S4x4096, .f32⟩
  | 70 => ⟨S4x4096x1, .f32⟩
  | 71 => ⟨S4x4096x256, .f32⟩
  | 72 => ⟨S4x4096x256, .f32⟩
  | 73 => ⟨S4x4096x1, .f32⟩
  | 74 => ⟨S_, .f32⟩
  | 75 => ⟨S4x4096x1, .f32⟩
  | 76 => ⟨S4x4096x1, .f32⟩
  | 77 => ⟨S4x256x4096, .f32⟩
  | 78 => ⟨S4096x4x256, .f32⟩
  | 79 => ⟨S4096x1024, .f32⟩
  | 80 => ⟨S4096x1024, .f32⟩
  | 81 => ⟨S4096x1024, .f32⟩
  | 82 => ⟨S4096x1024, .f32⟩
  | 83 => ⟨S4096x1024, .f32⟩
  | 84 => ⟨S4096x4x256, .f32⟩
  | 85 => ⟨S4x256x4096, .f32⟩
  | 86 => ⟨S4x4096x256, .f32⟩
  | 87 => ⟨S4x256x256, .f32⟩
  | 88 => ⟨S256x4x256, .f32⟩
  | 89 => ⟨S4x4096x256, .f32⟩
  | 90 => ⟨S4x4096x256, .f32⟩
  | 91 => ⟨S4x4096x256, .f32⟩
  | 92 => ⟨S_, .f32⟩
  | 93 => ⟨S4x4096, .f32⟩
  | 94 => ⟨S4x4096x1, .f32⟩
  | 95 => ⟨S4x4096x1, .f32⟩
  | 96 => ⟨S4x4096x256, .f32⟩
  | 97 => ⟨S4x4096x256, .f32⟩
  | 98 => ⟨S_, .f32⟩
  | 99 => ⟨S4x4096, .f32⟩
  | 100 => ⟨S4x4096x256, .f32⟩
  | 101 => ⟨S4x4096x256, .f32⟩
  | 102 => ⟨S4x4096x256, .f32⟩
  | 103 => ⟨S_, .f32⟩
  | 104 => ⟨S4x4096x256, .f32⟩
  | 105 => ⟨S4x4096x256, .f32⟩
  | 106 => ⟨S4x256x256, .f32⟩
  | 107 => ⟨S256x4x256, .f32⟩
  | 108 => ⟨S4x4096x256, .f32⟩
  | 109 => ⟨S4096x4x256, .f32⟩
  | 110 => ⟨S256x1024, .f32⟩
  | 111 => ⟨S256x1024, .f32⟩
  | 112 => ⟨S256x2048, .f32⟩
  | 113 => ⟨S4096x1024, .f32⟩
  | 114 => ⟨S4096x1024, .f32⟩
  | 115 => ⟨S4096x1024, .f32⟩
  | 116 => ⟨S_, .f32⟩
  | 117 => ⟨S1024, .f32⟩
  | 118 => ⟨S1x1024, .f32⟩
  | 119 => ⟨S4096x1024, .f32⟩
  | 120 => ⟨S4096x1024, .f32⟩
  | 121 => ⟨S_, .f32⟩
  | 122 => ⟨S1024, .f32⟩
  | 123 => ⟨S4096x1024, .f32⟩
  | 124 => ⟨S_, .f32⟩
  | 125 => ⟨S4096, .f32⟩
  | 126 => ⟨S4096x1, .f32⟩
  | 127 => ⟨S4096x1024, .f32⟩
  | _ => ⟨S4096x1024, .f32⟩

abbrev hbmTy0_1 (i : Nat) : BufTy := match i % 128 with
  | 0 => ⟨S4096x1024, .f32⟩
  | 1 => ⟨S4096x1024, .f32⟩
  | 2 => ⟨S4096x1, .f32⟩
  | 3 => ⟨S_, .f32⟩
  | 4 => ⟨S4096x1, .f32⟩
  | 5 => ⟨S4096x1, .f32⟩
  | 6 => ⟨S_, .f32⟩
  | 7 => ⟨S4096, .f32⟩
  | 8 => ⟨S4096x1024, .f32⟩
  | 9 => ⟨S4096x1024, .f32⟩
  | 10 => ⟨S4096x1024, .f32⟩
  | 11 => ⟨S4096x1024, .f32⟩
  | 12 => ⟨S4096x1024, .f32⟩
  | 13 => ⟨S4096x1024, .bf16⟩
  | 14 => ⟨S4096x1024, .bf16⟩
  | 15 => ⟨S1x1024, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_cst_4 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_cst_10 : Ref sig .tc := ⟨.hbm, 58, rfl⟩
abbrev main_v41 : Ref sig .tc := ⟨.hbm, 59, rfl⟩
abbrev main_cst_11 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_14 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_cst_15 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_cst_17 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_cst_18 : Ref sig .tc := ⟨.hbm, 121, rfl⟩
abbrev main_v96 : Ref sig .tc := ⟨.hbm, 122, rfl⟩
abbrev main_v97 : Ref sig .tc := ⟨.hbm, 123, rfl⟩
abbrev main_cst_19 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_cst_20 : Ref sig .tc := ⟨.hbm, 131, rfl⟩
abbrev main_v104 : Ref sig .tc := ⟨.hbm, 132, rfl⟩
abbrev main_v105 : Ref sig .tc := ⟨.hbm, 133, rfl⟩
abbrev main_cst_21 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩

abbrev nD : Nat := 1
abbrev τ : Topo := Topo.v7x

variable {F : FTy → Type} [FloatOps F]
-- ==== Kernel2.lean ====
abbrev S4096x1024 : Shape := ⟨2, ![4096, 1024]⟩
abbrev S2816x1024 : Shape := ⟨2, ![2816, 1024]⟩
abbrev S1024x5632 : Shape := ⟨2, ![1024, 5632]⟩
abbrev S1024 : Shape := ⟨1, ![1024]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S512x1024 : Shape := ⟨2, ![512, 1024]⟩
abbrev S2x512x2816 : Shape := ⟨3, ![2, 512, 2816]⟩
abbrev S1024x1024 : Shape := ⟨2, ![1024, 1024]⟩
abbrev S1x512x1024 : Shape := ⟨3, ![1, 512, 1024]⟩
abbrev S768x1024 : Shape := ⟨2, ![768, 1024]⟩
abbrev S512x768 : Shape := ⟨2, ![512, 768]⟩
abbrev S1x512x768 : Shape := ⟨3, ![1, 512, 768]⟩
abbrev S1x512x2816 : Shape := ⟨3, ![1, 512, 2816]⟩
abbrev S512x2816 : Shape := ⟨2, ![512, 2816]⟩
abbrev S512 : Shape := ⟨1, ![512]⟩
abbrev S512x1 : Shape := ⟨2, ![512, 1]⟩

abbrev nBuf : Space → Nat
  | .hbm => 41
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S1024x2816, .bf16⟩
  | .hbm, ⟨6, _⟩ => ⟨S1024x2816, .bf16⟩
  | .hbm, ⟨7, _⟩ => ⟨S1x1024x2816, .bf16⟩
  | .hbm, ⟨8, _⟩ => ⟨S1x1024x2816, .bf16⟩
  | .hbm, ⟨9, _⟩ => ⟨S2x1024x2816, .bf16⟩
  | .hbm, ⟨10, _⟩ => ⟨S4096x1024, .f32⟩
  | .hbm, ⟨11, _⟩ => ⟨S_, .f32⟩
  | .hbm, ⟨12, _⟩ => ⟨S4096, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .bf16⟩
  | .hbm, ⟨27, _⟩ => ⟨S4096x1024, .f32⟩
  | .hbm, ⟨28, _⟩ => ⟨S1024x5632, .f32⟩
  | .hbm, ⟨29, _⟩ => ⟨S4096x5632, .f32⟩
  | .hbm, ⟨30, _⟩ => ⟨S4096x5632, .bf16⟩
  | .hbm, ⟨31, _⟩ => ⟨S4096x2816, .bf16⟩
  | .hbm, ⟨32, _⟩ => ⟨S4096x2816, .bf16⟩
  | .hbm, ⟨33, _⟩ => ⟨S1x4096x2816, .bf16⟩
  | .hbm, ⟨34, _⟩ => ⟨S1x4096x2816, .bf16⟩
  | .hbm, ⟨35, _⟩ => ⟨S2x4096x2816, .bf16⟩
  | .hbm, ⟨36, _⟩ => ⟨S1x1024, .f32⟩
  | .hbm, ⟨37, _⟩ => ⟨S2x4096x2816, .bf16⟩
  | .hbm, ⟨38, _⟩ => ⟨S4096x1024, .f32⟩
  | .hbm, ⟨39, _⟩ => ⟨S4096x1024, .bf16⟩
  | .hbm, ⟨40, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S2816x1024, .bf16⟩
  | .local _ .vmem, ⟨3, _⟩ => ⟨S2x512x2816, .bf16⟩
  | .local _ .vmem, ⟨4, _⟩ => ⟨S2x512x2816, .bf16⟩
  | .local _ .vmem, ⟨5, _⟩ => ⟨S2x1024x2816, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2x512x2816, .bf16⟩
  | .local _ .vmem, ⟨10, _⟩ => ⟨S2x512x2816, .bf16⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29_0 : Ref sig .tc := ⟨.hbm, 37, rfl⟩
abbrev main_v29_1 : Ref sig .tc := ⟨.hbm, 38, rfl⟩
abbrev main_v29_2 : Ref sig .tc := ⟨.hbm, 39, rfl⟩
abbrev main_v29_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2x1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x512x2816 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference2Ideal.lean ====
abbrev S4096x1024 : Shape := ⟨2, ![4096, 1024]⟩
abbrev S2816x1024 : Shape := ⟨2, ![2816, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩

abbrev nBuf : Space → Nat
  | .hbm => 90
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2816x1024, .bf16⟩
  | .hbm, ⟨2, _⟩ => ⟨S1024x5632, .bf16⟩
  | .hbm, ⟨3, _⟩ => ⟨S4096x1024, .f32⟩
  | .hbm, ⟨4, _⟩ => ⟨S1024, .f32⟩
  | .hbm, ⟨5, _⟩ => ⟨S2816x1024, .f32⟩
  | .hbm, ⟨6, _⟩ => ⟨S1024x5632, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S1x1024, .f32⟩
  | .hbm, ⟨25, _⟩ => ⟨S4096x1024, .f32⟩
  | .hbm, ⟨26, _⟩ => ⟨S4096x1024, .f32⟩
  | .hbm, ⟨27, _⟩ => ⟨S4096x5632, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S_, .f32⟩
  | .hbm, ⟨33, _⟩ => ⟨S4096x2816, .f32⟩
  | .hbm, ⟨34, _⟩ => ⟨S4096x2816, .f32⟩
  | .hbm, ⟨35, _⟩ => ⟨S_, .f32⟩
  | .hbm, ⟨36, _⟩ => ⟨S4096x2816, .f32⟩
  | .hbm, ⟨37, _⟩ => ⟨S4096x2816, .f32⟩
  | .hbm, ⟨38, _⟩ => ⟨S_, .f32⟩
  | .hbm, ⟨39, _⟩ => ⟨S4096x2816, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x2816, .f32⟩
  | .hbm, ⟨48, _⟩ => ⟨S4096x2816, .f32⟩
  | .hbm, ⟨49, _⟩ => ⟨S4096x2816, .f32⟩
  | .hbm, ⟨50, _⟩ => ⟨S4096x2816, .f32⟩
  | .hbm, ⟨51, _⟩ => ⟨S4096x2816, .f32⟩
  | .hbm, ⟨52, _⟩ => ⟨S4096x2816, .f32⟩
  | .hbm, ⟨53, _⟩ => ⟨S4096x2816, .f32⟩
  | .hbm, ⟨54, _⟩ => ⟨S4096x5632, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S1024, .f32⟩
  | .hbm, ⟨64, _⟩ => ⟨S4096x1024, .f32⟩
  | .hbm, ⟨65, _⟩ => ⟨S_, .f32⟩
  | .hbm, ⟨66, _⟩ => ⟨S4096, .f32⟩
  | .hbm, ⟨67, _⟩ => ⟨S4096x1, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1, .f32⟩
  | .hbm, ⟨72, _⟩ => ⟨S_, .f32⟩
  | .hbm, ⟨73, _⟩ => ⟨S4096x1, .f32⟩
  | .hbm, ⟨74, _⟩ => ⟨S4096x1, .f32⟩
  | .hbm, ⟨75, _⟩ => ⟨S_, .f32⟩
  | .hbm, ⟨76, _⟩ => ⟨S4096, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x2816, .f32⟩
  | .hbm, ⟨83, _⟩ => ⟨S4096x2816, .f32⟩
  | .hbm, ⟨84, _⟩ => ⟨S1x4096x2816, .f32⟩
  | .hbm, ⟨85, _⟩ => ⟨S1x4096x2816, .f32⟩
  | .hbm, ⟨86, _⟩ => ⟨S2x4096x2816, .f32⟩
  | .hbm, ⟨87, _⟩ => ⟨S2x4096x2816, .bf16⟩
  | .hbm, ⟨88, _⟩ => ⟨S4096x1024, .bf16⟩
  | .hbm, ⟨89, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_call0_v0 : Ref sig .tc := ⟨.hbm, 30, rfl⟩
abbrev main_call0_v1 : Ref sig .tc := ⟨.hbm, 31, rfl⟩
abbrev main_call0_cst : Ref sig .tc := ⟨.hbm, 32, rfl⟩
abbrev main_call0_v2 : Ref sig .tc := ⟨.hbm, 33, rfl⟩
abbrev main_call0_v3 : Ref sig .tc := ⟨.hbm, 34, rfl⟩
abbrev main_call0_cst_0 : Ref sig .tc := ⟨.hbm, 35, rfl⟩
abbrev main_call0_v4 : Ref sig .tc := ⟨.hbm, 36, rfl⟩
abbrev main_v21_2 : Ref sig .tc := ⟨.hbm, 37, rfl⟩
abbrev main_call0_cst_1 : Ref sig .tc := ⟨.hbm, 38, rfl⟩
abbrev main_call0_v6 : Ref sig .tc := ⟨.hbm, 39, rfl⟩
abbrev main_call0_v7 : Ref sig .tc := ⟨.hbm, 40, rfl⟩
abbrev main_v21_1 : Ref sig .tc := ⟨.hbm, 41, rfl⟩
abbrev main_v21_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_3 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_4 : Ref sig .tc := ⟨.hbm, 62, rfl⟩
abbrev main_v37 : Ref sig .tc := ⟨.hbm, 63, rfl⟩
abbrev main_v38 : Ref sig .tc := ⟨.hbm, 64, rfl⟩
abbrev main_cst_5 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_6 : Ref sig .tc := ⟨.hbm, 72, rfl⟩
abbrev main_v45 : Ref sig .tc := ⟨.hbm, 73, rfl⟩
abbrev main_v46 : Ref sig .tc := ⟨.hbm, 74, rfl⟩
abbrev main_cst_7 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩

abbrev nD : Nat := 1
abbrev τ : Topo := Topo.v7x

variable {F : FTy → Type} [FloatOps F]
-- ==== Kernel3.lean ====
abbrev S4096x1024 : Shape := ⟨2, ![4096, 1024]⟩
abbrev S2x4096x2816 : Shape := ⟨3, ![2, 4096, 2816]⟩
abbrev S4x1024x1408 : Shape := ⟨3, ![4, 1024, 1408]⟩
abbrev S2048x1024 : Shape := ⟨2, ![2048, 1024]⟩
abbrev S1x2048x1408 : Shape := ⟨3, ![1, 2048, 1408]⟩
abbrev S1x1024x1408 : Shape := ⟨3, ![1, 1024, 1408]⟩
abbrev S2048x1408 : Shape := ⟨2, ![2048, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S4x1024x1408, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4096x1024 : Shape := ⟨2, ![4096, 1024]⟩
abbrev S2x4096x2816 : Shape := ⟨3, ![2, 4096, 2816]⟩
abbrev S1x4096x2816 : Shape := ⟨3, ![1, 4096, 2816]⟩
abbrev S4096x2816 : Shape := ⟨2, ![4096, 2816]⟩
abbrev S4096x5632 : Shape := ⟨2, ![4096, 5632]⟩
abbrev S_ : Shape := ⟨0, ![]⟩
abbrev S1024x5632 : Shape := ⟨2, ![1024, 5632]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2x4096x2816, .bf16⟩
  | .hbm, ⟨2, _⟩ => ⟨S1x4096x2816, .bf16⟩
  | .hbm, ⟨3, _⟩ => ⟨S4096x2816, .bf16⟩
  | .hbm, ⟨4, _⟩ => ⟨S1x4096x2816, .bf16⟩
  | .hbm, ⟨5, _⟩ => ⟨S4096x2816, .bf16⟩
  | .hbm, ⟨6, _⟩ => ⟨S4096x5632, .bf16⟩
  | .hbm, ⟨7, _⟩ => ⟨S_, .f32⟩
  | .hbm, ⟨8, _⟩ => ⟨S1024x5632, .f32⟩
  | .hbm, ⟨9, _⟩ => ⟨S4096x1024, .f32⟩
  | .hbm, ⟨10, _⟩ => ⟨S4096x5632, .f32⟩
  | .hbm, ⟨11, _⟩ => ⟨S4096x5632, .f32⟩
  | .hbm, ⟨12, _⟩ => ⟨S5632x1024, .f32⟩
  | .hbm, ⟨13, _⟩ => ⟨S1024x5632, .f32⟩
  | .hbm, ⟨14, _⟩ => ⟨S1024x1408, .f32⟩
  | .hbm, ⟨15, _⟩ => ⟨S1024x1408, .f32⟩
  | .hbm, ⟨16, _⟩ => ⟨S1024x1408, .f32⟩
  | .hbm, ⟨17, _⟩ => ⟨S1024x1408, .f32⟩
  | .hbm, ⟨18, _⟩ => ⟨S1x1024x1408, .f32⟩
  | .hbm, ⟨19, _⟩ => ⟨S1x1024x1408, .f32⟩
  | .hbm, ⟨20, _⟩ => ⟨S1x1024x1408, .f32⟩
  | .hbm, ⟨21, _⟩ => ⟨S1x1024x1408, .f32⟩
  | .hbm, ⟨22, _⟩ => ⟨S4x1024x1408, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S1x4096x1024 : Shape := ⟨3, ![1, 4096, 1024]⟩
abbrev S1x2816x1024 : Shape := ⟨3, ![1, 2816, 1024]⟩
abbrev S2048x1408 : Shape := ⟨2, ![2048, 1408]⟩
abbrev S1x2048x1024 : Shape := ⟨3, ![1, 2048, 1024]⟩
abbrev S1x1408x1024 : Shape := ⟨3, ![1, 1408, 1024]⟩
abbrev S2048x1024 : Shape := ⟨2, ![2048, 1024]⟩
abbrev S1408x1024 : Shape := ⟨2, ![1408, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S1x4096x1024, .f32⟩
  | .hbm, ⟨3, _⟩ => ⟨S1x2816x1024, .f32⟩
  | .local _ .vmem, ⟨0, _⟩ => ⟨S2048x1408, .bf16⟩
  | .local _ .vmem, ⟨1, _⟩ => ⟨S2048x1408, .bf16⟩
  | .local _ .vmem, ⟨2, _⟩ => ⟨S1x2048x1024, .f32⟩
  | .local _ .vmem, ⟨3, _⟩ => ⟨S1x2048x1024, .f32⟩
  | .local _ .vmem, ⟨4, _⟩ => ⟨S1x1408x1024, .f32⟩
  | .local _ .vmem, ⟨5, _⟩ => ⟨S1x1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 2], ![false, false, false]⟩

def k0_cond1 (i : grid0.Coords) : BitVec 1 :=
  let arg2 : BitVec 32 := BitVec.ofNat 32 (i 2).val
  let c0_i32 : BitVec 32 := 0#32
  let v5 : BitVec 1 := Scalar.cmpi .eq arg2 c0_i32
  let v6 : BitVec 32 := Scalar.extui v5
  let c0_i32_4 : BitVec 32 := 0#32
  let v7 : BitVec 1 := Scalar.cmpi .ne v6 c0_i32_4
  v7

def k0_cond2 (i : grid0.Coords) : BitVec 1 :=
  let arg2 : BitVec 32 := BitVec.ofNat 32 (i 2).val
  let c0_i32_5 : BitVec 32 := 0#32
  let v8 : BitVec 1 := Scalar.cmpi .sgt arg2 c0_i32_5
  let v9 : BitVec 32 := Scalar.extui v8
  let c0_i32_6 : BitVec 32 := 0#32
  let v10 : BitVec 1 := Scalar.cmpi .ne v9 c0_i32_6
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩
abbrev S1x2816x1024 : Shape := ⟨3, ![1, 2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .f32⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S1024x2816, .f32⟩
  | .hbm, ⟨7, _⟩ => ⟨S2816x1024, .f32⟩
  | .hbm, ⟨8, _⟩ => ⟨S1x2816x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel5.lean ====
abbrev S4096x1024 : Shape := ⟨2, ![4096, 1024]⟩
abbrev S4096x2048 : Shape := ⟨2, ![4096, 2048]⟩
abbrev S1x4096x2048 : Shape := ⟨3, ![1, 4096, 2048]⟩
abbrev S4x1024x512 : Shape := ⟨3, ![4, 1024, 512]⟩
abbrev S2048x1024 : Shape := ⟨2, ![2048, 1024]⟩
abbrev S1x2048x1024 : Shape := ⟨3, ![1, 2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1x4096x2048, .bf16⟩
  | .hbm, ⟨3, _⟩ => ⟨S4x1024x512, .f32⟩
  | .local _ .vmem, ⟨0, _⟩ => ⟨S2048x1024, .bf16⟩
  | .local _ .vmem, ⟨1, _⟩ => ⟨S2048x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S2x1024x512, .f32⟩
  | .local _ .vmem, ⟨5, _⟩ => ⟨S2x1024x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 2], ![false, false, false]⟩

def k0_cond1 (i : grid0.Coords) : BitVec 1 :=
  let arg2 : BitVec 32 := BitVec.ofNat 32 (i 2).val
  let c0_i32 : BitVec 32 := 0#32
  let v4 : BitVec 1 := Scalar.cmpi .eq arg2 c0_i32
  let v5 : BitVec 32 := Scalar.extui v4
  let c0_i32_4 : BitVec 32 := 0#32
  let v6 : BitVec 1 := Scalar.cmpi .ne v5 c0_i32_4
  v6

def k0_cond2 (i : grid0.Coords) : BitVec 1 :=
  let arg2 : BitVec 32 := BitVec.ofNat 32 (i 2).val
  let c0_i32_5 : BitVec 32 := 0#32
  let v7 : BitVec 1 := Scalar.cmpi .sgt arg2 c0_i32_5
  let v8 : BitVec 32 := Scalar.extui v7
  let c0_i32_6 : BitVec 32 := 0#32
  let v9 : BitVec 1 := Scalar.cmpi .ne v8 c0_i32_6
  v9

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S2x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 18
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S1024x512, .f32⟩
  | .hbm, ⟨13, _⟩ => ⟨S1x1024x512, .f32⟩
  | .hbm, ⟨14, _⟩ => ⟨S1x1024x512, .f32⟩
  | .hbm, ⟨15, _⟩ => ⟨S1x1024x512, .f32⟩
  | .hbm, ⟨16, _⟩ => ⟨S1x1024x512, .f32⟩
  | .hbm, ⟨17, _⟩ => ⟨S4x1024x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel6.lean ====
abbrev S4096x1024 : Shape := ⟨2, ![4096, 1024]⟩
abbrev S1024x1024 : Shape := ⟨2, ![1024, 1024]⟩

abbrev nBuf : Space → Nat
  | .hbm => 9
  | .vmem => 15
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S1024x1024, .f32⟩
  | .hbm, ⟨7, _⟩ => ⟨S1024x1024, .f32⟩
  | .hbm, ⟨8, _⟩ => ⟨S1024x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .f32⟩
  | .local _ .vmem, ⟨13, _⟩ => ⟨S1024x1024, .f32⟩
  | .local _ .vmem, ⟨14, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v9 : BitVec 1 := Scalar.cmpi .eq arg0 c0_i32
  let v10 : BitVec 32 := Scalar.extui v9
  let c0_i32_13 : BitVec 32 := 0#32
  let v11 : BitVec 1 := Scalar.cmpi .ne v10 c0_i32_13
  v11

def k0_cond2 (i : grid0.Coords) : BitVec 1 :=
  let arg0 : BitVec 32 := BitVec.ofNat 32 (i 0).val
  let c0_i32_14 : BitVec 32 := 0#32
  let v12 : BitVec 1 := Scalar.cmpi .sgt arg0 c0_i32_14
  let v13 : BitVec 32 := Scalar.extui v12
  let c0_i32_15 : BitVec 32 := 0#32
  let v14 : BitVec 1 := Scalar.cmpi .ne v13 c0_i32_15
  v14

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Reference6Ideal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S4096x1024, .bf16⟩
  | .hbm, ⟨3, _⟩ => ⟨S4096x1024, .bf16⟩
  | .hbm, ⟨4, _⟩ => ⟨S4096x1024, .bf16⟩
  | .hbm, ⟨5, _⟩ => ⟨S4096x1024, .bf16⟩
  | .hbm, ⟨6, _⟩ => ⟨S_, .f32⟩
  | .hbm, ⟨7, _⟩ => ⟨S1024x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x1024, .f32⟩
  | .hbm, ⟨12, _⟩ => ⟨S1024x1024, .f32⟩
  | .hbm, ⟨13, _⟩ => ⟨S_, .f32⟩
  | .hbm, ⟨14, _⟩ => ⟨S1024x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1024x1024, .f32⟩
  | .hbm, ⟨19, _⟩ => ⟨S1024x1024, .f32⟩
  | .hbm, ⟨20, _⟩ => ⟨S_, .f32⟩
  | .hbm, ⟨21, _⟩ => ⟨S1024x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1024x1024, .f32⟩
  | .hbm, ⟨26, _⟩ => ⟨S1024x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Kernel7.lean ====
abbrev S4096x1024 : Shape := ⟨2, ![4096, 1024]⟩
abbrev S1024x5632 : Shape := ⟨2, ![1024, 5632]⟩
abbrev S1024x2816 : Shape := ⟨2, ![1024, 2816]⟩
abbrev S1x1024x2816 : Shape := ⟨3, ![1, 1024, 2816]⟩
abbrev S2x1024x2816 : Shape := ⟨3, ![2, 1024, 2816]⟩
abbrev S2x4096x2816 : Shape := ⟨3, ![2, 4096, 2816]⟩
abbrev S4096x2816 : Shape := ⟨2, ![4096, 2816]⟩
abbrev S512x1024 : Shape := ⟨2, ![512, 1024]⟩
abbrev S2x512x2816 : Shape := ⟨3, ![2, 512, 2816]⟩
abbrev S512x2816 : Shape := ⟨2, ![512, 2816]⟩
abbrev S1x1024x1024 : Shape := ⟨3, ![1, 1024, 1024]⟩
abbrev S1024x1024 : Shape := ⟨2, ![1024, 1024]⟩
abbrev S1x512x1024 : Shape := ⟨3, ![1, 512, 1024]⟩
abbrev S1x1024x768 : Shape := ⟨3, ![1, 1024, 768]⟩
abbrev S1024x768 : Shape := ⟨2, ![1024, 768]⟩
abbrev S512x768 : Shape := ⟨2, ![512, 768]⟩
abbrev S1x512x768 : Shape := ⟨3, ![1, 512, 768]⟩

abbrev nBuf : Space → Nat
  | .hbm => 9
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S1024x2816, .bf16⟩
  | .hbm, ⟨3, _⟩ => ⟨S1024x2816, .bf16⟩
  | .hbm, ⟨4, _⟩ => ⟨S1x1024x2816, .bf16⟩
  | .hbm, ⟨5, _⟩ => ⟨S1x1024x2816, .bf16⟩
  | .hbm, ⟨6, _⟩ => ⟨S2x1024x2816, .bf16⟩
  | .hbm, ⟨7, _⟩ => ⟨S2x4096x2816, .bf16⟩
  | .hbm, ⟨8, _⟩ => ⟨S4096x2816, .bf16⟩
  | .local _ .vmem, ⟨0, _⟩ => ⟨S512x1024, .bf16⟩
  | .local _ .vmem, ⟨1, _⟩ => ⟨S512x1024, .bf16⟩
  | .local _ .vmem, ⟨2, _⟩ => ⟨S2x1024x2816, .bf16⟩
  | .local _ .vmem, ⟨3, _⟩ => ⟨S2x512x2816, .bf16⟩
  | .local _ .vmem, ⟨4, _⟩ => ⟨S2x512x2816, .bf16⟩
  | .local _ .vmem, ⟨5, _⟩ => ⟨S512x2816, .bf16⟩
  | .local _ .vmem, ⟨6, _⟩ => ⟨S512x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5_0 : Ref sig .tc := ⟨.hbm, 7, rfl⟩
abbrev main_v5_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S4096x1024 : Shape := ⟨2, ![4096, 1024]⟩
abbrev S1024x5632 : Shape := ⟨2, ![1024, 5632]⟩
abbrev S4096x5632 : Shape := ⟨2, ![4096, 5632]⟩
abbrev S4096x2816 : Shape := ⟨2, ![4096, 2816]⟩
abbrev S1x4096x2816 : Shape := ⟨3, ![1, 4096, 2816]⟩
abbrev S2x4096x2816 : Shape := ⟨3, ![2, 4096, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x5632, .bf16⟩
  | .hbm, ⟨2, _⟩ => ⟨S4096x1024, .f32⟩
  | .hbm, ⟨3, _⟩ => ⟨S1024x5632, .f32⟩
  | .hbm, ⟨4, _⟩ => ⟨S4096x5632, .f32⟩
  | .hbm, ⟨5, _⟩ => ⟨S4096x2816, .f32⟩
  | .hbm, ⟨6, _⟩ => ⟨S4096x2816, .f32⟩
  | .hbm, ⟨7, _⟩ => ⟨S1x4096x2816, .f32⟩
  | .hbm, ⟨8, _⟩ => ⟨S1x4096x2816, .f32⟩
  | .hbm, ⟨9, _⟩ => ⟨S2x4096x2816, .f32⟩
  | .hbm, ⟨10, _⟩ => ⟨S2x4096x2816, .bf16⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S1x1024, .f32⟩
  | .hbm, ⟨6, _⟩ => ⟨S4096x1024, .f32⟩
  | .hbm, ⟨7, _⟩ => ⟨S1x1024, .f32⟩
  | .hbm, ⟨8, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1024, .f32⟩
  | .hbm, ⟨4, _⟩ => ⟨S4096x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S4096x1024, .f32⟩
  | .hbm, ⟨33, _⟩ => ⟨S4096x1024, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S4096, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S4096, .f32⟩
  | .hbm, ⟨47, _⟩ => ⟨S_, .f32⟩
  | .hbm, ⟨48, _⟩ => ⟨S4096, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S_, .f32⟩
  | .hbm, ⟨59, _⟩ => ⟨S1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S4096x1024, .f32⟩
  | .hbm, ⟨65, _⟩ => ⟨S4096x1024, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S_, .f32⟩
  | .hbm, ⟨71, _⟩ => ⟨S4096, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S_, .f32⟩
  | .hbm, ⟨79, _⟩ => ⟨S4096, .f32⟩
  | .hbm, ⟨80, _⟩ => ⟨S4096x1, .f32⟩
  | .hbm, ⟨81, _⟩ => ⟨S_, .f32⟩
  | .hbm, ⟨82, _⟩ => ⟨S4096x1, .f32⟩
  | .hbm, ⟨83, _⟩ => ⟨S4096x1, .f32⟩
  | .hbm, ⟨84, _⟩ => ⟨S_, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S1x1024, .f32⟩
  | .hbm, ⟨91, _⟩ => ⟨S4096x1024, .f32⟩
  | .hbm, ⟨92, _⟩ => ⟨S4096x1024, .f32⟩
  | .hbm, ⟨93, _⟩ => ⟨S4096x1024, .f32⟩
  | .hbm, ⟨94, _⟩ => ⟨S4096x1024, .f32⟩
  | .hbm, ⟨95, _⟩ => ⟨S_, .f32⟩
  | .hbm, ⟨96, _⟩ => ⟨S1024, .f32⟩
  | .hbm, ⟨97, _⟩ => ⟨S1x1024, .f32⟩
  | .hbm, ⟨98, _⟩ => ⟨S1x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_cst_6 : Ref sig .tc := ⟨.hbm, 39, rfl⟩
abbrev main_v27 : Ref sig .tc := ⟨.hbm, 40, rfl⟩
abbrev main_cst_7 : Ref sig .tc := ⟨.hbm, 41, rfl⟩
abbrev main_v28 : Ref sig .tc := ⟨.hbm, 42, rfl⟩
abbrev main_cst_8 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩
abbrev main_cst_10 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_12 : Ref sig .tc := ⟨.hbm, 58, rfl⟩
abbrev main_v40 : Ref sig .tc := ⟨.hbm, 59, rfl⟩
abbrev main_v41 : Ref sig .tc := ⟨.hbm, 60, rfl⟩
abbrev main_cst_13 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_cst_15 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_cst_17 : Ref sig .tc := ⟨.hbm, 81, rfl⟩
abbrev main_v58 : Ref sig .tc := ⟨.hbm, 82, rfl⟩
abbrev main_v59 : Ref sig .tc := ⟨.hbm, 83, rfl⟩
abbrev main_cst_18 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_cst_19 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1024 : Shape := ⟨1, ![1024]⟩
abbrev S256x2048 : Shape := ⟨2, ![256, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S256x256 : Shape := ⟨2, ![256, 256]⟩

abbrev nBuf : Space → Nat
  | .hbm => 16
  | .vmem => 22
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024x1024, .bf16⟩
  | .hbm, ⟨5, _⟩ => ⟨S256x2048, .bf16⟩
  | .hbm, ⟨6, _⟩ => ⟨S1024x1024, .bf16⟩
  | .hbm, ⟨7, _⟩ => ⟨S1024, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .bf16⟩
  | .hbm, ⟨12, _⟩ => ⟨S4096x1024, .bf16⟩
  | .hbm, ⟨13, _⟩ => ⟨S4096x1024, .bf16⟩
  | .hbm, ⟨14, _⟩ => ⟨S4096x1024, .f32⟩
  | .hbm, ⟨15, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S256x2048, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .f32⟩
  | .local _ .vmem, ⟨19, _⟩ => ⟨S512x1024, .f32⟩
  | .local _ .vmem, ⟨20, _⟩ => ⟨S512x1024, .bf16⟩
  | .local _ .vmem, ⟨21, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference9Ideal.lean ====
abbrev S4096x1024 : Shape := ⟨2, ![4096, 1024]⟩
abbrev S1024x1024 : Shape := ⟨2, ![1024, 1024]⟩
abbrev S1024 : Shape := ⟨1, ![1024]⟩
abbrev S256x2048 : Shape := ⟨2, ![256, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S4096x4x256 : Shape := ⟨3, ![4096, 4, 256]⟩
abbrev S256x1024 : Shape := ⟨2, ![256, 1024]⟩
abbrev S256x4x256 : Shape := ⟨3, ![256, 4, 256]⟩
abbrev S4x4096x256 : Shape := ⟨3, ![4, 4096, 256]⟩
abbrev S4x4096 : Shape := ⟨2, ![4, 4096]⟩
abbrev S4x4096x1 : Shape := ⟨3, ![4, 4096, 1]⟩
abbrev S4x256x4096 : Shape := ⟨3, ![4, 256, 4096]⟩

abbrev nBuf : Space → Nat
  | .hbm => 80
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S1024x1024, .bf16⟩
  | .hbm, ⟨3, _⟩ => ⟨S1024, .f32⟩
  | .hbm, ⟨4, _⟩ => ⟨S1024x1024, .bf16⟩
  | .hbm, ⟨5, _⟩ => ⟨S256x2048, .bf16⟩
  | .hbm, ⟨6, _⟩ => ⟨S1024x1024, .bf16⟩
  | .hbm, ⟨7, _⟩ => ⟨S1024, .f32⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S1024x1024, .f32⟩
  | .hbm, ⟨29, _⟩ => ⟨S4096x1024, .f32⟩
  | .hbm, ⟨30, _⟩ => ⟨S256x2048, .f32⟩
  | .hbm, ⟨31, _⟩ => ⟨S4096x4x256, .f32⟩
  | .hbm, ⟨32, _⟩ => ⟨S256x1024, .f32⟩
  | .hbm, ⟨33, _⟩ => ⟨S256x1024, .f32⟩
  | .hbm, ⟨34, _⟩ => ⟨S256x4x256, .f32⟩
  | .hbm, ⟨35, _⟩ => ⟨S256x4x256, .f32⟩
  | .hbm, ⟨36, _⟩ => ⟨S4x4096x256, .f32⟩
  | .hbm, ⟨37, _⟩ => ⟨S_, .f32⟩
  | .hbm, ⟨38, _⟩ => ⟨S4x4096x256, .f32⟩
  | .hbm, ⟨39, _⟩ => ⟨S4x4096x256, .f32⟩
  | .hbm, ⟨40, _⟩ => ⟨S_, .f32⟩
  | .hbm, ⟨41, _⟩ => ⟨S4x4096, .f32⟩
  | .hbm, ⟨42, _⟩ => ⟨S_, .f32⟩
  | .hbm, ⟨43, _⟩ => ⟨S4x4096, .f32⟩
  | .hbm, ⟨44, _⟩ => ⟨S4x4096, .f32⟩
  | .hbm, ⟨45, _⟩ => ⟨S4x4096x1, .f32⟩
  | .hbm, ⟨46, _⟩ => ⟨S4x4096x256, .f32⟩
  | .hbm, ⟨47, _⟩ => ⟨S4x4096x256, .f32⟩
  | .hbm, ⟨48, _⟩ => ⟨S4x4096x256, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S4x4096x256, .f32⟩
  | .hbm, ⟨53, _⟩ => ⟨S4x4096x256, .f32⟩
  | .hbm, ⟨54, _⟩ => ⟨S4x256x4096, .f32⟩
  | .hbm, ⟨55, _⟩ => ⟨S4096x4x256, .f32⟩
  | .hbm, ⟨56, _⟩ => ⟨S4096x1024, .f32⟩
  | .hbm, ⟨57, _⟩ => ⟨S1024x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1024, .f32⟩
  | .hbm, ⟨72, _⟩ => ⟨S4096x1024, .f32⟩
  | .hbm, ⟨73, _⟩ => ⟨S1x1024, .f32⟩
  | .hbm, ⟨74, _⟩ => ⟨S4096x1024, .f32⟩
  | .hbm, ⟨75, _⟩ => ⟨S4096x1024, .f32⟩
  | .hbm, ⟨76, _⟩ => ⟨S4096x1024, .bf16⟩
  | .hbm, ⟨77, _⟩ => ⟨S4096x1024, .bf16⟩
  | .hbm, ⟨78, _⟩ => ⟨S4096x1024, .bf16⟩
  | .hbm, ⟨79, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_cst_4 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_5 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_cst_6 : Ref sig .tc := ⟨.hbm, 61, rfl⟩
abbrev main_v46 : Ref sig .tc := ⟨.hbm, 62, rfl⟩
abbrev main_v47 : Ref sig .tc := ⟨.hbm, 63, rfl⟩
abbrev main_cst_7 : Ref sig .tc := ⟨.hbm, 64, rfl⟩
abbrev main_v48 : Ref sig .tc := ⟨.hbm, 65, rfl⟩
abbrev main_v49 : Ref sig .tc := ⟨.hbm, 66, rfl⟩
abbrev main_cst_8 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩

abbrev nD : Nat := 1
abbrev τ : Topo := Topo.v7x

variable {F : FTy → Type} [FloatOps F]
-- ==== Kernel10.lean ====
abbrev S256x1024 : Shape := ⟨2, ![256, 1024]⟩
abbrev S1024 : Shape := ⟨1, ![1024]⟩
abbrev S1024x2048 : Shape := ⟨2, ![1024, 2048]⟩
abbrev S1x1024 : Shape := ⟨2, ![1, 1024]⟩
abbrev S1024x512 : Shape := ⟨2, ![1024, 512]⟩
abbrev S1x1024x512 : Shape := ⟨3, ![1, 1024, 512]⟩
abbrev S4x1024x512 : Shape := ⟨3, ![4, 1024, 512]⟩
abbrev S256x2048 : Shape := ⟨2, ![256, 2048]⟩
abbrev S256 : Shape := ⟨1, ![256]⟩
abbrev S256x1 : Shape := ⟨2, ![256, 1]⟩
abbrev S256x512 : Shape := ⟨2, ![256, 512]⟩

abbrev nBuf : Space → Nat
  | .hbm => 15
  | .vmem => 5
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .bf16⟩
  | .hbm, ⟨3, _⟩ => ⟨S1x1024, .f32⟩
  | .hbm, ⟨4, _⟩ => ⟨S1024x512, .bf16⟩
  | .hbm, ⟨5, _⟩ => ⟨S1024x512, .bf16⟩
  | .hbm, ⟨6, _⟩ => ⟨S1024x512, .bf16⟩
  | .hbm, ⟨7, _⟩ => ⟨S1024x512, .bf16⟩
  | .hbm, ⟨8, _⟩ => ⟨S1x1024x512, .bf16⟩
  | .hbm, ⟨9, _⟩ => ⟨S1x1024x512, .bf16⟩
  | .hbm, ⟨10, _⟩ => ⟨S1x1024x512, .bf16⟩
  | .hbm, ⟨11, _⟩ => ⟨S1x1024x512, .bf16⟩
  | .hbm, ⟨12, _⟩ => ⟨S4x1024x512, .bf16⟩
  | .hbm, ⟨13, _⟩ => ⟨S256x1024, .bf16⟩
  | .hbm, ⟨14, _⟩ => ⟨S256x2048, .bf16⟩
  | .local _ .vmem, ⟨0, _⟩ => ⟨S256x1024, .f32⟩
  | .local _ .vmem, ⟨1, _⟩ => ⟨S1x1024, .f32⟩
  | .local _ .vmem, ⟨2, _⟩ => ⟨S4x1024x512, .bf16⟩
  | .local _ .vmem, ⟨3, _⟩ => ⟨S256x1024, .bf16⟩
  | .local _ .vmem, ⟨4, _⟩ => ⟨S256x2048, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10_0 : Ref sig .tc := ⟨.hbm, 13, rfl⟩
abbrev main_v10_1 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Reference10Ideal.lean ====
abbrev S256x1024 : Shape := ⟨2, ![256, 1024]⟩
abbrev S1024 : Shape := ⟨1, ![1024]⟩
abbrev S1024x2048 : Shape := ⟨2, ![1024, 2048]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x2048 : Shape := ⟨2, ![256, 2048]⟩

abbrev nBuf : Space → Nat
  | .hbm => 23
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1024x2048, .bf16⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1024, .f32⟩
  | .hbm, ⟨15, _⟩ => ⟨S256x1024, .f32⟩
  | .hbm, ⟨16, _⟩ => ⟨S1x1024, .f32⟩
  | .hbm, ⟨17, _⟩ => ⟨S256x1024, .f32⟩
  | .hbm, ⟨18, _⟩ => ⟨S256x1024, .f32⟩
  | .hbm, ⟨19, _⟩ => ⟨S256x1024, .bf16⟩
  | .hbm, ⟨20, _⟩ => ⟨S1024x2048, .f32⟩
  | .hbm, ⟨21, _⟩ => ⟨S256x2048, .f32⟩
  | .hbm, ⟨22, _⟩ => ⟨S256x2048, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== Kernel11.lean ====
abbrev S256x2048 : Shape := ⟨2, ![256, 2048]⟩
abbrev S1024x2048 : Shape := ⟨2, ![1024, 2048]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S1024x512 : Shape := ⟨2, ![1024, 512]⟩
abbrev S1x1024x512 : Shape := ⟨3, ![1, 1024, 512]⟩
abbrev S4x1024x512 : Shape := ⟨3, ![4, 1024, 512]⟩
abbrev S256x512 : Shape := ⟨2, ![256, 512]⟩

abbrev nBuf : Space → Nat
  | .hbm => 33
  | .vmem => 7
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1024, .f32⟩
  | .hbm, ⟨4, _⟩ => ⟨S256x1024, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x1024, .f32⟩
  | .hbm, ⟨16, _⟩ => ⟨S256x1024, .f32⟩
  | .hbm, ⟨17, _⟩ => ⟨S1x1024, .f32⟩
  | .hbm, ⟨18, _⟩ => ⟨S256x1024, .f32⟩
  | .hbm, ⟨19, _⟩ => ⟨S256x1024, .f32⟩
  | .hbm, ⟨20, _⟩ => ⟨S256x1024, .bf16⟩
  | .hbm, ⟨21, _⟩ => ⟨S1024x512, .bf16⟩
  | .hbm, ⟨22, _⟩ => ⟨S1024x512, .bf16⟩
  | .hbm, ⟨23, _⟩ => ⟨S1024x512, .bf16⟩
  | .hbm, ⟨24, _⟩ => ⟨S1024x512, .bf16⟩
  | .hbm, ⟨25, _⟩ => ⟨S1x1024x512, .bf16⟩
  | .hbm, ⟨26, _⟩ => ⟨S1x1024x512, .bf16⟩
  | .hbm, ⟨27, _⟩ => ⟨S1x1024x512, .bf16⟩
  | .hbm, ⟨28, _⟩ => ⟨S1x1024x512, .bf16⟩
  | .hbm, ⟨29, _⟩ => ⟨S4x1024x512, .bf16⟩
  | .hbm, ⟨30, _⟩ => ⟨S1x1024, .f32⟩
  | .hbm, ⟨31, _⟩ => ⟨S4x1024x512, .f32⟩
  | .hbm, ⟨32, _⟩ => ⟨S1x1024, .f32⟩
  | .local _ .vmem, ⟨0, _⟩ => ⟨S256x2048, .f32⟩
  | .local _ .vmem, ⟨1, _⟩ => ⟨S256x1024, .bf16⟩
  | .local _ .vmem, ⟨2, _⟩ => ⟨S4x1024x512, .bf16⟩
  | .local _ .vmem, ⟨3, _⟩ => ⟨S256x1024, .f32⟩
  | .local _ .vmem, ⟨4, _⟩ => ⟨S1x1024, .f32⟩
  | .local _ .vmem, ⟨5, _⟩ => ⟨S4x1024x512, .f32⟩
  | .local _ .vmem, ⟨6, _⟩ => ⟨S1x1024, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24_0 : Ref sig .tc := ⟨.hbm, 31, rfl⟩
abbrev main_v24_1 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x1024x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Reference11Ideal.lean ====
abbrev S256x2048 : Shape := ⟨2, ![256, 2048]⟩
abbrev S1024x2048 : Shape := ⟨2, ![1024, 2048]⟩
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S2048x1024 : Shape := ⟨2, ![2048, 1024]⟩
abbrev S1024x512 : Shape := ⟨2, ![1024, 512]⟩
abbrev S1x1024x512 : Shape := ⟨3, ![1, 1024, 512]⟩
abbrev S4x1024x512 : Shape := ⟨3, ![4, 1024, 512]⟩

abbrev nBuf : Space → Nat
  | .hbm => 41
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1024x2048, .bf16⟩
  | .hbm, ⟨2, _⟩ => ⟨S256x1024, .f32⟩
  | .hbm, ⟨3, _⟩ => ⟨S1024, .f32⟩
  | .hbm, ⟨4, _⟩ => ⟨S1024x2048, .f32⟩
  | .hbm, ⟨5, _⟩ => ⟨S256x1024, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S_, .f32⟩
  | .hbm, ⟨13, _⟩ => ⟨S256x1, .f32⟩
  | .hbm, ⟨14, _⟩ => ⟨S256x1, .f32⟩
  | .hbm, ⟨15, _⟩ => ⟨S256x1, .f32⟩
  | .hbm, ⟨16, _⟩ => ⟨S256x1024, .f32⟩
  | .hbm, ⟨17, _⟩ => ⟨S256x1024, .f32⟩
  | .hbm, ⟨18, _⟩ => ⟨S1x1024, .f32⟩
  | .hbm, ⟨19, _⟩ => ⟨S256x1024, .f32⟩
  | .hbm, ⟨20, _⟩ => ⟨S256x1024, .f32⟩
  | .hbm, ⟨21, _⟩ => ⟨S256x2048, .f32⟩
  | .hbm, ⟨22, _⟩ => ⟨S2048x1024, .f32⟩
  | .hbm, ⟨23, _⟩ => ⟨S1024x2048, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S1024, .f32⟩
  | .hbm, ⟨28, _⟩ => ⟨S1x1024, .f32⟩
  | .hbm, ⟨29, _⟩ => ⟨S_, .f32⟩
  | .hbm, ⟨30, _⟩ => ⟨S1024, .f32⟩
  | .hbm, ⟨31, _⟩ => ⟨S1024x512, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S1x1024x512, .f32⟩
  | .hbm, ⟨36, _⟩ => ⟨S1x1024x512, .f32⟩
  | .hbm, ⟨37, _⟩ => ⟨S1x1024x512, .f32⟩
  | .hbm, ⟨38, _⟩ => ⟨S1x1024x512, .f32⟩
  | .hbm, ⟨39, _⟩ => ⟨S4x1024x512, .f32⟩
  | .hbm, ⟨40, _⟩ => ⟨S1x1024, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩

abbrev nD : Nat := 1
abbrev τ : Topo := Topo.v7x

variable {F : FTy → Type} [FloatOps F]
-- ==== Kernel12.lean ====
abbrev S4096x1024 : Shape := ⟨2, ![4096, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x1024 : Shape := ⟨2, ![4096, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S4096x1024, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S4096x1024, .f32⟩
  | .hbm, ⟨14, _⟩ => ⟨S4096x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel13.lean ====
abbrev S4096x1024 : Shape := ⟨2, ![4096, 1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S4x128x128 : Shape := ⟨3, ![4, 128, 128]⟩
abbrev S4x128x256 : Shape := ⟨3, ![4, 128, 256]⟩
abbrev S128x8 : Shape := ⟨2, ![128, 8]⟩
abbrev S128x8x64 : Shape := ⟨3, ![128, 8, 64]⟩
abbrev S128x512 : Shape := ⟨2, ![128, 512]⟩
abbrev S32x512 : Shape := ⟨2, ![32, 512]⟩
abbrev S1024x512 : Shape := ⟨2, ![1024, 512]⟩
abbrev S1x1024x512 : Shape := ⟨3, ![1, 1024, 512]⟩
abbrev S4x1024x512 : Shape := ⟨3, ![4, 1024, 512]⟩
abbrev S1x2048 : Shape := ⟨2, ![1, 2048]⟩
abbrev S1x512 : Shape := ⟨2, ![1, 512]⟩
abbrev S4096x2048 : Shape := ⟨2, ![4096, 2048]⟩
abbrev S4096x512 : Shape := ⟨2, ![4096, 512]⟩
abbrev S512x1024 : Shape := ⟨2, ![512, 1024]⟩
abbrev S512x2048 : Shape := ⟨2, ![512, 2048]⟩
abbrev S512x512 : Shape := ⟨2, ![512, 512]⟩
abbrev S544x512 : Shape := ⟨2, ![544, 512]⟩
abbrev S7x536x512 : Shape := ⟨3, ![7, 536, 512]⟩
abbrev S536x512 : Shape := ⟨2, ![536, 512]⟩
abbrev S1x536x512 : Shape := ⟨3, ![1, 536, 512]⟩
abbrev S1x512x512 : Shape := ⟨3, ![1, 512, 512]⟩
abbrev S512x1 : Shape := ⟨2, ![512, 1]⟩
abbrev S256x128 : Shape := ⟨2, ![256, 128]⟩
abbrev S1x128x256 : Shape := ⟨3, ![1, 128, 256]⟩
abbrev S128x256 : Shape := ⟨2, ![128, 256]⟩

abbrev nBuf : Space → Nat
  | .hbm => 56
  | .vmem => 21
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S2048, .f32⟩
  | .hbm, ⟨3, _⟩ => ⟨S31x512, .f32⟩
  | .hbm, ⟨4, _⟩ => ⟨S512, .f32⟩
  | .hbm, ⟨5, _⟩ => ⟨S512, .f32⟩
  | .hbm, ⟨6, _⟩ => ⟨S512, .f32⟩
  | .hbm, ⟨7, _⟩ => ⟨S512, .f32⟩
  | .hbm, ⟨8, _⟩ => ⟨S512, .f32⟩
  | .hbm, ⟨9, _⟩ => ⟨S8x128x128, .f32⟩
  | .hbm, ⟨10, _⟩ => ⟨S8x128, .f32⟩
  | .hbm, ⟨11, _⟩ => ⟨S_, .i1⟩
  | .hbm, ⟨12, _⟩ => ⟨S128x128, .i1⟩
  | .hbm, ⟨13, _⟩ => ⟨S128x128, .i32⟩
  | .hbm, ⟨14, _⟩ => ⟨S_, .i32⟩
  | .hbm, ⟨15, _⟩ => ⟨S128x128, .i32⟩
  | .hbm, ⟨16, _⟩ => ⟨S128x128, .i32⟩
  | .hbm, ⟨17, _⟩ => ⟨S128x128, .i32⟩
  | .hbm, ⟨18, _⟩ => ⟨S128x128, .i1⟩
  | .hbm, ⟨19, _⟩ => ⟨S_, .i1⟩
  | .hbm, ⟨20, _⟩ => ⟨S128x128, .i1⟩
  | .hbm, ⟨21, _⟩ => ⟨S128x128, .i1⟩
  | .hbm, ⟨22, _⟩ => ⟨S1x128x128, .i1⟩
  | .hbm, ⟨23, _⟩ => ⟨S_, .f32⟩
  | .hbm, ⟨24, _⟩ => ⟨S_, .f32⟩
  | .hbm, ⟨25, _⟩ => ⟨S8x128x128, .i1⟩
  | .hbm, ⟨26, _⟩ => ⟨S8x128x128, .f32⟩
  | .hbm, ⟨27, _⟩ => ⟨S8x128x128, .f32⟩
  | .hbm, ⟨28, _⟩ => ⟨S4x128x128, .f32⟩
  | .hbm, ⟨29, _⟩ => ⟨S4x128x128, .f32⟩
  | .hbm, ⟨30, _⟩ => ⟨S4x128x256, .f32⟩
  | .hbm, ⟨31, _⟩ => ⟨S4x128x256, .bf16⟩
  | .hbm, ⟨32, _⟩ => ⟨S128x8, .f32⟩
  | .hbm, ⟨33, _⟩ => ⟨S128x8x64, .f32⟩
  | .hbm, ⟨34, _⟩ => ⟨S128x512, .f32⟩
  | .hbm, ⟨35, _⟩ => ⟨S_, .i32⟩
  | .hbm, ⟨36, _⟩ => ⟨S_, .f32⟩
  | .hbm, ⟨37, _⟩ => ⟨S32x512, .f32⟩
  | .hbm, ⟨38, _⟩ => ⟨S1024x512, .bf16⟩
  | .hbm, ⟨39, _⟩ => ⟨S1024x512, .bf16⟩
  | .hbm, ⟨40, _⟩ => ⟨S1024x512, .bf16⟩
  | .hbm, ⟨41, _⟩ => ⟨S1024x512, .bf16⟩
  | .hbm, ⟨42, _⟩ => ⟨S1x1024x512, .bf16⟩
  | .hbm, ⟨43, _⟩ => ⟨S1x1024x512, .bf16⟩
  | .hbm, ⟨44, _⟩ => ⟨S1x1024x512, .bf16⟩
  | .hbm, ⟨45, _⟩ => ⟨S1x1024x512, .bf16⟩
  | .hbm, ⟨46, _⟩ => ⟨S4x1024x512, .bf16⟩
  | .hbm, ⟨47, _⟩ => ⟨S1x2048, .f32⟩
  | .hbm, ⟨48, _⟩ => ⟨S1x512, .f32⟩
  | .hbm, ⟨49, _⟩ => ⟨S1x512, .f32⟩
  | .hbm, ⟨50, _⟩ => ⟨S1x512, .f32⟩
  | .hbm, ⟨51, _⟩ => ⟨S1x512, .f32⟩
  | .hbm, ⟨52, _⟩ => ⟨S1x512, .f32⟩
  | .hbm, ⟨53, _⟩ => ⟨S4096x2048, .f32⟩
  | .hbm, ⟨54, _⟩ => ⟨S4096x1024, .bf16⟩
  | .hbm, ⟨55, _⟩ => ⟨S4096x512, .f32⟩
  | .local _ .vmem, ⟨0, _⟩ => ⟨S512x1024, .bf16⟩
  | .local _ .vmem, ⟨1, _⟩ => ⟨S512x1024, .bf16⟩
  | .local _ .vmem, ⟨2, _⟩ => ⟨S4x1024x512, .bf16⟩
  | .local _ .vmem, ⟨3, _⟩ => ⟨S1x2048, .f32⟩
  | .local _ .vmem, ⟨4, _⟩ => ⟨S32x512, .f32⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S4x128x256, .bf16⟩
  | .local _ .vmem, ⟨11, _⟩ => ⟨S128x512, .f32⟩
  | .local _ .vmem, ⟨12, _⟩ => ⟨S512x2048, .f32⟩
  | .local _ .vmem, ⟨13, _⟩ => ⟨S512x2048, .f32⟩
  | .local _ .vmem, ⟨14, _⟩ => ⟨S512x1024, .bf16⟩
  | .local _ .vmem, ⟨15, _⟩ => ⟨S512x1024, .bf16⟩
  | .local _ .vmem, ⟨16, _⟩ => ⟨S512x512, .f32⟩
  | .local _ .vmem, ⟨17, _⟩ => ⟨S512x512, .f32⟩
  | .local _ .vmem, ⟨18, _⟩ => ⟨S544x512, .f32⟩
  | .local _ .vmem, ⟨19, _⟩ => ⟨S7x536x512, .f32⟩
  | .local _ .vmem, ⟨20, _⟩ => ⟨S512x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_v0 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v1 : Ref sig .tc := ⟨.hbm, 21, rfl⟩
abbrev main_v2 : Ref sig .tc := ⟨.hbm, 22, rfl⟩
abbrev main_cst : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_c_0 : Ref sig .tc := ⟨.hbm, 35, rfl⟩
abbrev main_call2_v0 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27_0 : Ref sig .tc := ⟨.hbm, 53, rfl⟩
abbrev main_v27_1 : Ref sig .tc := ⟨.hbm, 54, rfl⟩
abbrev main_v27_2 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference13Ideal.lean ====
abbrev S4096x1024 : Shape := ⟨2, ![4096, 1024]⟩
abbrev S1024x2048 : Shape := ⟨2, ![1024, 2048]⟩
abbrev S2048 : Shape := ⟨1, ![2048]⟩
abbrev S31x512 : Shape := ⟨2, ![31, 512]⟩
abbrev S512 : Shape := ⟨1, ![512]⟩
abbrev S8x128x128 : Shape := ⟨3, ![8, 128, 128]⟩
abbrev S8x128 : Shape := ⟨2, ![8, 128]⟩
abbrev S4096x2048 : Shape := ⟨2, ![4096, 2048]⟩
abbrev S1x2048 : Shape := ⟨2, ![1, 2048]⟩
abbrev S4096x512 : Shape := ⟨2, ![4096, 512]⟩
abbrev S_ : Shape := ⟨0, ![]⟩
abbrev S4126x512 : Shape := ⟨2, ![4126, 512]⟩
abbrev S1x512 : Shape := ⟨2, ![1, 512]⟩
abbrev S4096 : Shape := ⟨1, ![4096]⟩
abbrev S4096x1 : Shape := ⟨2, ![4096, 1]⟩
abbrev S32x128x8x64 : Shape := ⟨4, ![32, 128, 8, 64]⟩
abbrev S128x128 : Shape := ⟨2, ![128, 128]⟩
abbrev S1x128x128 : Shape := ⟨3, ![1, 128, 128]⟩
abbrev S8x32x64x128 : Shape := ⟨4, ![8, 32, 64, 128]⟩
abbrev S128x8 : Shape := ⟨2, ![128, 8]⟩
abbrev S1x128x8x1 : Shape := ⟨4, ![1, 128, 8, 1]⟩

abbrev nBuf : Space → Nat
  | .hbm => 383
  | .vmem => 0
  | .smem => 0
  | _ => 0

abbrev hbmTy0_0 (i : Nat) : BufTy := match i % 128 with
  | 0 => ⟨S4096x1024, .bf16⟩
  | 1 => ⟨S1024x2048, .bf16⟩
  | 2 => ⟨S2048, .f32⟩
  | 3 => ⟨S31x512, .f32⟩
  | 4 => ⟨S512, .f32⟩
  | 5 => ⟨S512, .f32⟩
  | 6 => ⟨S512, .f32⟩
  | 7 => ⟨S512, .f32⟩
  | 8 => ⟨S512, .f32⟩
  | 9 => ⟨S8x128x128, .f32⟩
  | 10 => ⟨S8x128, .f32⟩
  | 11 => ⟨S4096x1024, .f32⟩
  | 12 => ⟨S1024x2048, .f32⟩
  | 13 => ⟨S4096x2048, .f32⟩
  | 14 => ⟨S1x2048, .f32⟩
  | 15 => ⟨S4096x2048, .f32⟩
  | 16 => ⟨S4096x2048, .f32⟩
  | 17 => ⟨S4096x512, .f32⟩
  | 18 => ⟨S4096x512, .f32⟩
  | 19 => ⟨S4096x512, .f32⟩
  | 20 => ⟨S4096x512, .f32⟩
  | 21 => ⟨S4096x512, .f32⟩
  | 22 => ⟨S4096x512, .f32⟩
  | 23 => ⟨S_, .f32⟩
  | 24 => ⟨S4096x512, .f32⟩
  | 25 => ⟨S4096x512, .f32⟩
  | 26 => ⟨S_, .f32⟩
  | 27 => ⟨S4096x512, .f32⟩
  | 28 => ⟨S4096x512, .f32⟩
  | 29 => ⟨S4096x512, .f32⟩
  | 30 => ⟨S_, .i32⟩
  | 31 => ⟨S_, .f32⟩
  | 32 => ⟨S4126x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S1x512, .f32⟩
  | 43 => ⟨S512, .f32⟩
  | 44 => ⟨S4096x512, .f32⟩
  | 45 => ⟨S1x512, .f32⟩
  | 46 => ⟨S4096x512, .f32⟩
  | 47 => ⟨S4096x512, .f32⟩
  | 48 => ⟨S4096x512, .f32⟩
  | 49 => ⟨S1x512, .f32⟩
  | 50 => ⟨S512, .f32⟩
  | 51 => ⟨S4096x512, .f32⟩
  | 52 => ⟨S1x512, .f32⟩
  | 53 => ⟨S4096x512, .f32⟩
  | 54 => ⟨S4096x512, .f32⟩
  | 55 => ⟨S4096x512, .f32⟩
  | 56 => ⟨S1x512, .f32⟩
  | 57 => ⟨S512, .f32⟩
  | 58 => ⟨S4096x512, .f32⟩
  | 59 => ⟨S1x512, .f32⟩
  | 60 => ⟨S4096x512, .f32⟩
  | 61 => ⟨S4096x512, .f32⟩
  | 62 => ⟨S4096x512, .f32⟩
  | 63 => ⟨S1x512, .f32⟩
  | 64 => ⟨S512, .f32⟩
  | 65 => ⟨S4096x512, .f32⟩
  | 66 => ⟨S1x512, .f32⟩
  | 67 => ⟨S4096x512, .f32⟩
  | 68 => ⟨S4096x512, .f32⟩
  | 69 => ⟨S4096x512, .f32⟩
  | 70 => ⟨S1x512, .f32⟩
  | 71 => ⟨S512, .f32⟩
  | 72 => ⟨S4096x512, .f32⟩
  | 73 => ⟨S1x512, .f32⟩
  | 74 => ⟨S4096x512, .f32⟩
  | 75 => ⟨S4096x512, .f32⟩
  | 76 => ⟨S4096x512, .f32⟩
  | 77 => ⟨S1x512, .f32⟩
  | 78 => ⟨S512, .f32⟩
  | 79 => ⟨S4096x512, .f32⟩
  | 80 => ⟨S1x512, .f32⟩
  | 81 => ⟨S4096x512, .f32⟩
  | 82 => ⟨S4096x512, .f32⟩
  | 83 => ⟨S4096x512, .f32⟩
  | 84 => ⟨S1x512, .f32⟩
  | 85 => ⟨S512, .f32⟩
  | 86 => ⟨S4096x512, .f32⟩
  | 87 => ⟨S1x512, .f32⟩
  | 88 => ⟨S4096x512, .f32⟩
  | 89 => ⟨S4096x512, .f32⟩
  | 90 => ⟨S4096x512, .f32⟩
  | 91 => ⟨S1x512, .f32⟩
  | 92 => ⟨S512, .f32⟩
  | 93 => ⟨S4096x512, .f32⟩
  | 94 => ⟨S1x512, .f32⟩
  | 95 => ⟨S4096x512, .f32⟩
  | 96 => ⟨S4096x512, .f32⟩
  | 97 => ⟨S4096x512, .f32⟩
  | 98 => ⟨S1x512, .f32⟩
  | 99 => ⟨S512, .f32⟩
  | 100 => ⟨S4096x512, .f32⟩
  | 101 => ⟨S1x512, .f32⟩
  | 102 => ⟨S4096x512, .f32⟩
  | 103 => ⟨S4096x512, .f32⟩
  | 104 => ⟨S4096x512, .f32⟩
  | 105 => ⟨S1x512, .f32⟩
  | 106 => ⟨S512, .f32⟩
  | 107 => ⟨S4096x512, .f32⟩
  | 108 => ⟨S1x512, .f32⟩
  | 109 => ⟨S4096x512, .f32⟩
  | 110 => ⟨S4096x512, .f32⟩
  | 111 => ⟨S4096x512, .f32⟩
  | 112 => ⟨S1x512, .f32⟩
  | 113 => ⟨S512, .f32⟩
  | 114 => ⟨S4096x512, .f32⟩
  | 115 => ⟨S1x512, .f32⟩
  | 116 => ⟨S4096x512, .f32⟩
  | 117 => ⟨S4096x512, .f32⟩
  | 118 => ⟨S4096x512, .f32⟩
  | 119 => ⟨S1x512, .f32⟩
  | 120 => ⟨S512, .f32⟩
  | 121 => ⟨S4096x512, .f32⟩
  | 122 => ⟨S1x512, .f32⟩
  | 123 => ⟨S4096x512, .f32⟩
  | 124 => ⟨S4096x512, .f32⟩
  | 125 => ⟨S4096x512, .f32⟩
  | 126 => ⟨S1x512, .f32⟩
  | 127 => ⟨S512, .f32⟩
  | _ => ⟨S4096x1024, .bf16⟩

abbrev hbmTy0_1 (i : Nat) : BufTy := match i % 128 with
  | 0 => ⟨S4096x512, .f32⟩
  | 1 => ⟨S1x512, .f32⟩
  | 2 => ⟨S4096x512, .f32⟩
  | 3 => ⟨S4096x512, .f32⟩
  | 4 => ⟨S4096x512, .f32⟩
  | 5 => ⟨S1x512, .f32⟩
  | 6 => ⟨S512, .f32⟩
  | 7 => ⟨S4096x512, .f32⟩
  | 8 => ⟨S1x512, .f32⟩
  | 9 => ⟨S4096x512, .f32⟩
  | 10 => ⟨S4096x512, .f32⟩
  | 11 => ⟨S4096x512, .f32⟩
  | 12 => ⟨S1x512, .f32⟩
  | 13 => ⟨S512, .f32⟩
  | 14 => ⟨S4096x512, .f32⟩
  | 15 => ⟨S1x512, .f32⟩
  | 16 => ⟨S4096x512, .f32⟩
  | 17 => ⟨S4096x512, .f32⟩
  | 18 => ⟨S4096x512, .f32⟩
  | 19 => ⟨S1x512, .f32⟩
  | 20 => ⟨S512, .f32⟩
  | 21 => ⟨S4096x512, .f32⟩
  | 22 => ⟨S1x512, .f32⟩
  | 23 => ⟨S4096x512, .f32⟩
  | 24 => ⟨S4096x512, .f32⟩
  | 25 => ⟨S4096x512, .f32⟩
  | 26 => ⟨S1x512, .f32⟩
  | 27 => ⟨S512, .f32⟩
  | 28 => ⟨S4096x512, .f32⟩
  | 29 => ⟨S1x512, .f32⟩
  | 30 => ⟨S4096x512, .f32⟩
  | 31 => ⟨S4096x512, .f32⟩
  | 32 => ⟨S4096x512, .f32⟩
  | 33 => ⟨S1x512, .f32⟩
  | 34 => ⟨S512, .f32⟩
  | 35 => ⟨S4096x512, .f32⟩
  | 36 => ⟨S1x512, .f32⟩
  | 37 => ⟨S4096x512, .f32⟩
  | 38 => ⟨S4096x512, .f32⟩
  | 39 => ⟨S4096x512, .f32⟩
  | 40 => ⟨S1x512, .f32⟩
  | 41 => ⟨S512, .f32⟩
  | 42 => ⟨S4096x512, .f32⟩
  | 43 => ⟨S1x512, .f32⟩
  | 44 => ⟨S4096x512, .f32⟩
  | 45 => ⟨S4096x512, .f32⟩
  | 46 => ⟨S4096x512, .f32⟩
  | 47 => ⟨S1x512, .f32⟩
  | 48 => ⟨S512, .f32⟩
  | 49 => ⟨S4096x512, .f32⟩
  | 50 => ⟨S1x512, .f32⟩
  | 51 => ⟨S4096x512, .f32⟩
  | 52 => ⟨S4096x512, .f32⟩
  | 53 => ⟨S4096x512, .f32⟩
  | 54 => ⟨S1x512, .f32⟩
  | 55 => ⟨S512, .f32⟩
  | 56 => ⟨S4096x512, .f32⟩
  | 57 => ⟨S1x512, .f32⟩
  | 58 => ⟨S4096x512, .f32⟩
  | 59 => ⟨S4096x512, .f32⟩
  | 60 => ⟨S4096x512, .f32⟩
  | 61 => ⟨S1x512, .f32⟩
  | 62 => ⟨S512, .f32⟩
  | 63 => ⟨S4096x512, .f32⟩
  | 64 => ⟨S1x512, .f32⟩
  | 65 => ⟨S4096x512, .f32⟩
  | 66 => ⟨S4096x512, .f32⟩
  | 67 => ⟨S4096x512, .f32⟩
  | 68 => ⟨S1x512, .f32⟩
  | 69 => ⟨S512, .f32⟩
  | 70 => ⟨S4096x512, .f32⟩
  | 71 => ⟨S1x512, .f32⟩
  | 72 => ⟨S4096x512, .f32⟩
  | 73 => ⟨S4096x512, .f32⟩
  | 74 => ⟨S4096x512, .f32⟩
  | 75 => ⟨S1x512, .f32⟩
  | 76 => ⟨S512, .f32⟩
  | 77 => ⟨S4096x512, .f32⟩
  | 78 => ⟨S1x512, .f32⟩
  | 79 => ⟨S4096x512, .f32⟩
  | 80 => ⟨S4096x512, .f32⟩
  | 81 => ⟨S4096x512, .f32⟩
  | 82 => ⟨S1x512, .f32⟩
  | 83 => ⟨S512, .f32⟩
  | 84 => ⟨S4096x512, .f32⟩
  | 85 => ⟨S1x512, .f32⟩
  | 86 => ⟨S4096x512, .f32⟩
  | 87 => ⟨S4096x512, .f32⟩
  | 88 => ⟨S4096x512, .f32⟩
  | 89 => ⟨S1x512, .f32⟩
  | 90 => ⟨S512, .f32⟩
  | 91 => ⟨S4096x512, .f32⟩
  | 92 => ⟨S1x512, .f32⟩
  | 93 => ⟨S4096x512, .f32⟩
  | 94 => ⟨S4096x512, .f32⟩
  | 95 => ⟨S4096x512, .f32⟩
  | 96 => ⟨S1x512, .f32⟩
  | 97 => ⟨S512, .f32⟩
  | 98 => ⟨S4096x512, .f32⟩
  | 99 => ⟨S1x512, .f32⟩
  | 100 => ⟨S4096x512, .f32⟩
  | 101 => ⟨S4096x512, .f32⟩
  | 102 => ⟨S4096x512, .f32⟩
  | 103 => ⟨S1x512, .f32⟩
  | 104 => ⟨S512, .f32⟩
  | 105 => ⟨S4096x512, .f32⟩
  | 106 => ⟨S1x512, .f32⟩
  | 107 => ⟨S4096x512, .f32⟩
  | 108 => ⟨S4096x512, .f32⟩
  | 109 => ⟨S4096x512, .f32⟩
  | 110 => ⟨S1x512, .f32⟩
  | 111 => ⟨S512, .f32⟩
  | 112 => ⟨S4096x512, .f32⟩
  | 113 => ⟨S1x512, .f32⟩
  | 114 => ⟨S4096x512, .f32⟩
  | 115 => ⟨S4096x512, .f32⟩
  | 116 => ⟨S4096x512, .f32⟩
  | 117 => ⟨S1x512, .f32⟩
  | 118 => ⟨S512, .f32⟩
  | 119 => ⟨S4096x512, .f32⟩
  | 120 => ⟨S1x512, .f32⟩
  | 121 => ⟨S4096x512, .f32⟩
  | 122 => ⟨S4096x512, .f32⟩
  | 123 => ⟨S4096x512, .f32⟩
  | 124 => ⟨S1x512, .f32⟩
  | 125 => ⟨S4096x512, .f32⟩
  | 126 => ⟨S4096x512, .f32⟩
  | 127 => ⟨S_, .f32⟩
  | _ => ⟨S4096x1024, .bf16⟩

abbrev hbmTy0_2 (i : Nat) : BufTy := match i % 128 with
  | 0 => ⟨S4096, .f32⟩
  | 1 => ⟨S4096x1, .f32⟩
  | 2 => ⟨S_, .f32⟩
  | 3 => ⟨S4096x1, .f32⟩
  | 4 => ⟨S4096x1, .f32⟩
  | 5 => ⟨S4096x512, .f32⟩
  | 6 => ⟨S4096x512, .f32⟩
  | 7 => ⟨S4096x512, .f32⟩
  | 8 => ⟨S_, .f32⟩
  | 9 => ⟨S4096, .f32⟩
  | 10 => ⟨S4096x1, .f32⟩
  | 11 => ⟨S_, .f32⟩
  | 12 => ⟨S4096x1, .f32⟩
  | 13 => ⟨S4096x1, .f32⟩
  | 14 => ⟨S4096x512, .f32⟩
  | 15 => ⟨S4096x512, .f32⟩
  | 16 => ⟨S_, .f32⟩
  | 17 => ⟨S4096x1, .f32⟩
  | 18 => ⟨S4096x1, .f32⟩
  | 19 => ⟨S4096x1, .f32⟩
  | 20 => ⟨S4096x512, .f32⟩
  | 21 => ⟨S4096x512, .f32⟩
  | 22 => ⟨S1x512, .f32⟩
  | 23 => ⟨S4096x512, .f32⟩
  | 24 => ⟨S4096x512, .f32⟩
  | 25 => ⟨S1x512, .f32⟩
  | 26 => ⟨S4096x512, .f32⟩
  | 27 => ⟨S4096x512, .f32⟩
  | 28 => ⟨S4096x512, .f32⟩
  | 29 => ⟨S4096x512, .f32⟩
  | 30 => ⟨S_, .f32⟩
  | 31 => ⟨S4096x512, .f32⟩
  | 32 => ⟨S4096x512, .f32⟩
  | 33 => ⟨S_, .f32⟩
  | 34 => ⟨S4096x512, .f32⟩
  | 35 => ⟨S4096x512, .f32⟩
  | 36 => ⟨S4096x512, .f32⟩
  | 37 => ⟨S4096x512, .f32⟩
  | 38 => ⟨S4096x512, .f32⟩
  | 39 => ⟨S_, .f32⟩
  | 40 => ⟨S4096x512, .f32⟩
  | 41 => ⟨S4096x512, .f32⟩
  | 42 => ⟨S4096x512, .f32⟩
  | 43 => ⟨S_, .f32⟩
  | 44 => ⟨S4096x512, .f32⟩
  | 45 => ⟨S4096x512, .f32⟩
  | 46 => ⟨S4096x512, .f32⟩
  | 47 => ⟨S_, .f32⟩
  | 48 => ⟨S4096x512, .f32⟩
  | 49 => ⟨S4096x512, .f32⟩
  | 50 => ⟨S_, .f32⟩
  | 51 => ⟨S4096x512, .f32⟩
  | 52 => ⟨S4096x512, .f32⟩
  | 53 => ⟨S4096x512, .f32⟩
  | 54 => ⟨S4096x512, .f32⟩
  | 55 => ⟨S4096x512, .f32⟩
  | 56 => ⟨S_, .f32⟩
  | 57 => ⟨S4096x512, .f32⟩
  | 58 => ⟨S4096x512, .f32⟩
  | 59 => ⟨S4096x512, .f32⟩
  | 60 => ⟨S_, .f32⟩
  | 61 => ⟨S4096x512, .f32⟩
  | 62 => ⟨S4096x512, .f32⟩
  | 63 => ⟨S4096x512, .f32⟩
  | 64 => ⟨S_, .f32⟩
  | 65 => ⟨S4096x512, .f32⟩
  | 66 => ⟨S4096x512, .f32⟩
  | 67 => ⟨S_, .f32⟩
  | 68 => ⟨S4096x512, .f32⟩
  | 69 => ⟨S4096x512, .f32⟩
  | 70 => ⟨S4096x512, .f32⟩
  | 71 => ⟨S_, .f32⟩
  | 72 => ⟨S4096, .f32⟩
  | 73 => ⟨S4096x1, .f32⟩
  | 74 => ⟨S_, .f32⟩
  | 75 => ⟨S4096x1, .f32⟩
  | 76 => ⟨S4096x1, .f32⟩
  | 77 => ⟨S4096x512, .f32⟩
  | 78 => ⟨S4096x512, .f32⟩
  | 79 => ⟨S4096x512, .f32⟩
  | 80 => ⟨S_, .f32⟩
  | 81 => ⟨S4096, .f32⟩
  | 82 => ⟨S4096x1, .f32⟩
  | 83 => ⟨S_, .f32⟩
  | 84 => ⟨S4096x1, .f32⟩
  | 85 => ⟨S4096x1, .f32⟩
  | 86 => ⟨S4096x512, .f32⟩
  | 87 => ⟨S4096x512, .f32⟩
  | 88 => ⟨S_, .f32⟩
  | 89 => ⟨S4096x1, .f32⟩
  | 90 => ⟨S4096x1, .f32⟩
  | 91 => ⟨S4096x1, .f32⟩
  | 92 => ⟨S4096x512, .f32⟩
  | 93 => ⟨S4096x512, .f32⟩
  | 94 => ⟨S1x512, .f32⟩
  | 95 => ⟨S4096x512, .f32⟩
  | 96 => ⟨S4096x512, .f32⟩
  | 97 => ⟨S1x512, .f32⟩
  | 98 => ⟨S4096x512, .f32⟩
  | 99 => ⟨S4096x512, .f32⟩
  | 100 => ⟨S32x128x8x64, .f32⟩
  | 101 => ⟨S_, .i1⟩
  | 102 => ⟨S128x128, .i1⟩
  | 103 => ⟨S128x128, .i32⟩
  | 104 => ⟨S_, .i32⟩
  | 105 => ⟨S128x128, .i32⟩
  | 106 => ⟨S128x128, .i32⟩
  | 107 => ⟨S128x128, .i32⟩
  | 108 => ⟨S128x128, .i1⟩
  | 109 => ⟨S_, .i1⟩
  | 110 => ⟨S128x128, .i1⟩
  | 111 => ⟨S128x128, .i1⟩
  | 112 => ⟨S1x128x128, .i1⟩
  | 113 => ⟨S_, .f32⟩
  | 114 => ⟨S8x128x128, .f32⟩
  | 115 => ⟨S8x128x128, .i1⟩
  | 116 => ⟨S8x128x128, .f32⟩
  | 117 => ⟨S8x32x64x128, .f32⟩
  | 118 => ⟨S32x128x8x64, .f32⟩
  | 119 => ⟨S128x8, .f32⟩
  | 120 => ⟨S1x128x8x1, .f32⟩
  | 121 => ⟨S32x128x8x64, .f32⟩
  | 122 => ⟨S32x128x8x64, .f32⟩
  | 123 => ⟨S4096x512, .f32⟩
  | 124 => ⟨S4096x512, .f32⟩
  | 125 => ⟨S4096x1024, .f32⟩
  | 126 => ⟨S4096x1024, .bf16⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_call0_v0 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_1 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_v102 : Ref sig .tc := ⟨.hbm, 118, rfl⟩
abbrev main_v103 : Ref sig .tc := ⟨.hbm, 119, rfl⟩
abbrev main_v104 : Ref sig .tc := ⟨.hbm, 120, rfl⟩
abbrev main_v105 : Ref sig .tc := ⟨.hbm, 121, rfl⟩
abbrev main_v106 : Ref sig .tc := ⟨.hbm, 122, rfl⟩
abbrev main_v107 : Ref sig .tc := ⟨.hbm, 123, rfl⟩
abbrev main_v108 : Ref sig .tc := ⟨.hbm, 124, rfl⟩
abbrev main_v109 : Ref sig .tc := ⟨.hbm, 125, rfl⟩
abbrev main_v110 : Ref sig .tc := ⟨.hbm, 126, rfl⟩
abbrev main_v111 : Ref sig .tc := ⟨.hbm, 127, rfl⟩
abbrev main_v112 : Ref sig .tc := ⟨.hbm, 128, rfl⟩
abbrev main_v113 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_v142 : Ref sig .tc := ⟨.hbm, 158, rfl⟩
abbrev main_v143 : Ref sig .tc := ⟨.hbm, 159, rfl⟩
abbrev main_v144 : Ref sig .tc := ⟨.hbm, 160, rfl⟩
abbrev main_v145 : Ref sig .tc := ⟨.hbm, 161, rfl⟩
abbrev main_v146 : Ref sig .tc := ⟨.hbm, 162, rfl⟩
abbrev main_v147 : Ref sig .tc := ⟨.hbm, 163, rfl⟩
abbrev main_v148 : Ref sig .tc := ⟨.hbm, 164, rfl⟩
abbrev main_v149 : Ref sig .tc := ⟨.hbm, 165, rfl⟩
abbrev main_v150 : Ref sig .tc := ⟨.hbm, 166, rfl⟩
abbrev main_v151 : Ref sig .tc := ⟨.hbm, 167, rfl⟩
abbrev main_v152 : Ref sig .tc := ⟨.hbm, 168, rfl⟩
abbrev main_v153 : Ref sig .tc := ⟨.hbm, 169, rfl⟩
abbrev main_v154 : Ref sig .tc := ⟨.hbm, 170, rfl⟩
abbrev main_v155 : Ref sig .tc := ⟨.hbm, 171, rfl⟩
abbrev main_v156 : Ref sig .tc := ⟨.hbm, 172, rfl⟩
abbrev main_v157 : Ref sig .tc := ⟨.hbm, 173, rfl⟩
abbrev main_v158 : Ref sig .tc := ⟨.hbm, 174, rfl⟩
abbrev main_v159 : Ref sig .tc := ⟨.hbm, 175, rfl⟩
abbrev main_v160 : Ref sig .tc := ⟨.hbm, 176, rfl⟩
abbrev main_v161 : Ref sig .tc := ⟨.hbm, 177, rfl⟩
abbrev main_v162 : Ref sig .tc := ⟨.hbm, 178, rfl⟩
abbrev main_v163 : Ref sig .tc := ⟨.hbm, 179, rfl⟩
abbrev main_v164 : Ref sig .tc := ⟨.hbm, 180, rfl⟩
abbrev main_v165 : Ref sig .tc := ⟨.hbm, 181, rfl⟩
abbrev main_v166 : Ref sig .tc := ⟨.hbm, 182, rfl⟩
abbrev main_v167 : Ref sig .tc := ⟨.hbm, 183, rfl⟩
abbrev main_v168 : Ref sig .tc := ⟨.hbm, 184, rfl⟩
abbrev main_v169 : Ref sig .tc := ⟨.hbm, 185, rfl⟩
abbrev main_v170 : Ref sig .tc := ⟨.hbm, 186, rfl⟩
abbrev main_v171 : Ref sig .tc := ⟨.hbm, 187, rfl⟩
abbrev main_v172 : Ref sig .tc := ⟨.hbm, 188, rfl⟩
abbrev main_v173 : Ref sig .tc := ⟨.hbm, 189, rfl⟩
abbrev main_v174 : Ref sig .tc := ⟨.hbm, 190, rfl⟩
abbrev main_v175 : Ref sig .tc := ⟨.hbm, 191, rfl⟩
abbrev main_v176 : Ref sig .tc := ⟨.hbm, 192, rfl⟩
abbrev main_v177 : Ref sig .tc := ⟨.hbm, 193, rfl⟩
abbrev main_v178 : Ref sig .tc := ⟨.hbm, 194, rfl⟩
abbrev main_v179 : Ref sig .tc := ⟨.hbm, 195, rfl⟩
abbrev main_v180 : Ref sig .tc := ⟨.hbm, 196, rfl⟩
abbrev main_v181 : Ref sig .tc := ⟨.hbm, 197, rfl⟩
abbrev main_v182 : Ref sig .tc := ⟨.hbm, 198, rfl⟩
abbrev main_v183 : Ref sig .tc := ⟨.hbm, 199, rfl⟩
abbrev main_v184 : Ref sig .tc := ⟨.hbm, 200, rfl⟩
abbrev main_v185 : Ref sig .tc := ⟨.hbm, 201, rfl⟩
abbrev main_v186 : Ref sig .tc := ⟨.hbm, 202, rfl⟩
abbrev main_v187 : Ref sig .tc := ⟨.hbm, 203, rfl⟩
abbrev main_v188 : Ref sig .tc := ⟨.hbm, 204, rfl⟩
abbrev main_v189 : Ref sig .tc := ⟨.hbm, 205, rfl⟩
abbrev main_v190 : Ref sig .tc := ⟨.hbm, 206, rfl⟩
abbrev main_v191 : Ref sig .tc := ⟨.hbm, 207, rfl⟩
abbrev main_v192 : Ref sig .tc := ⟨.hbm, 208, rfl⟩
abbrev main_v193 : Ref sig .tc := ⟨.hbm, 209, rfl⟩
abbrev main_v194 : Ref sig .tc := ⟨.hbm, 210, rfl⟩
abbrev main_v195 : Ref sig .tc := ⟨.hbm, 211, rfl⟩
abbrev main_v196 : Ref sig .tc := ⟨.hbm, 212, rfl⟩
abbrev main_v197 : Ref sig .tc := ⟨.hbm, 213, rfl⟩
abbrev main_v198 : Ref sig .tc := ⟨.hbm, 214, rfl⟩
abbrev main_v199 : Ref sig .tc := ⟨.hbm, 215, rfl⟩
abbrev main_v200 : Ref sig .tc := ⟨.hbm, 216, rfl⟩
abbrev main_v201 : Ref sig .tc := ⟨.hbm, 217, rfl⟩
abbrev main_v202 : Ref sig .tc := ⟨.hbm, 218, rfl⟩
abbrev main_v203 : Ref sig .tc := ⟨.hbm, 219, rfl⟩
abbrev main_v204 : Ref sig .tc := ⟨.hbm, 220, rfl⟩
abbrev main_v205 : Ref sig .tc := ⟨.hbm, 221, rfl⟩
abbrev main_v206 : Ref sig .tc := ⟨.hbm, 222, rfl⟩
abbrev main_v207 : Ref sig .tc := ⟨.hbm, 223, rfl⟩
abbrev main_v208 : Ref sig .tc := ⟨.hbm, 224, rfl⟩
abbrev main_v209 : Ref sig .tc := ⟨.hbm, 225, rfl⟩
abbrev main_v210 : Ref sig .tc := ⟨.hbm, 226, rfl⟩
abbrev main_v211 : Ref sig .tc := ⟨.hbm, 227, rfl⟩
abbrev main_v212 : Ref sig .tc := ⟨.hbm, 228, rfl⟩
abbrev main_v213 : Ref sig .tc := ⟨.hbm, 229, rfl⟩
abbrev main_v214 : Ref sig .tc := ⟨.hbm, 230, rfl⟩
abbrev main_v215 : Ref sig .tc := ⟨.hbm, 231, rfl⟩
abbrev main_v216 : Ref sig .tc := ⟨.hbm, 232, rfl⟩
abbrev main_v217 : Ref sig .tc := ⟨.hbm, 233, rfl⟩
abbrev main_v218 : Ref sig .tc := ⟨.hbm, 234, rfl⟩
abbrev main_v219 : Ref sig .tc := ⟨.hbm, 235, rfl⟩
abbrev main_v220 : Ref sig .tc := ⟨.hbm, 236, rfl⟩
abbrev main_v221 : Ref sig .tc := ⟨.hbm, 237, rfl⟩
abbrev main_v222 : Ref sig .tc := ⟨.hbm, 238, rfl⟩
abbrev main_v223 : Ref sig .tc := ⟨.hbm, 239, rfl⟩
abbrev main_v224 : Ref sig .tc := ⟨.hbm, 240, rfl⟩
abbrev main_v225 : Ref sig .tc := ⟨.hbm, 241, rfl⟩
abbrev main_v226 : Ref sig .tc := ⟨.hbm, 242, rfl⟩
abbrev main_v227 : Ref sig .tc := ⟨.hbm, 243, rfl⟩
abbrev main_v228 : Ref sig .tc := ⟨.hbm, 244, rfl⟩
abbrev main_v229 : Ref sig .tc := ⟨.hbm, 245, rfl⟩
abbrev main_v230 : Ref sig .tc := ⟨.hbm, 246, rfl⟩
abbrev main_v231 : Ref sig .tc := ⟨.hbm, 247, rfl⟩
abbrev main_v232 : Ref sig .tc := ⟨.hbm, 248, rfl⟩
abbrev main_v233 : Ref sig .tc := ⟨.hbm, 249, rfl⟩
abbrev main_v234 : Ref sig .tc := ⟨.hbm, 250, rfl⟩
abbrev main_v235 : Ref sig .tc := ⟨.hbm, 251, rfl⟩
abbrev main_v236 : Ref sig .tc := ⟨.hbm, 252, rfl⟩
abbrev main_v237 : Ref sig .tc := ⟨.hbm, 253, rfl⟩
abbrev main_v238 : Ref sig .tc := ⟨.hbm, 254, rfl⟩
abbrev main_cst_2 : Ref sig .tc := ⟨.hbm, 255, rfl⟩
abbrev main_v239 : Ref sig .tc := ⟨.hbm, 256, rfl⟩
abbrev main_v240 : Ref sig .tc := ⟨.hbm, 257, rfl⟩
abbrev main_cst_3 : Ref sig .tc := ⟨.hbm, 258, rfl⟩
abbrev main_v241 : Ref sig .tc := ⟨.hbm, 259, rfl⟩
abbrev main_v242 : Ref sig .tc := ⟨.hbm, 260, rfl⟩
abbrev main_v243 : Ref sig .tc := ⟨.hbm, 261, rfl⟩
abbrev main_v244 : Ref sig .tc := ⟨.hbm, 262, rfl⟩
abbrev main_v245 : Ref sig .tc := ⟨.hbm, 263, rfl⟩
abbrev main_cst_4 : Ref sig .tc := ⟨.hbm, 264, rfl⟩
abbrev main_v246 : Ref sig .tc := ⟨.hbm, 265, rfl⟩
abbrev main_v247 : Ref sig .tc := ⟨.hbm, 266, rfl⟩
abbrev main_cst_5 : Ref sig .tc := ⟨.hbm, 267, rfl⟩
abbrev main_v248 : Ref sig .tc := ⟨.hbm, 268, rfl⟩
abbrev main_v249 : Ref sig .tc := ⟨.hbm, 269, rfl⟩
abbrev main_v250 : Ref sig .tc := ⟨.hbm, 270, rfl⟩
abbrev main_v251 : Ref sig .tc := ⟨.hbm, 271, rfl⟩
abbrev main_cst_6 : Ref sig .tc := ⟨.hbm, 272, rfl⟩
abbrev main_v252 : Ref sig .tc := ⟨.hbm, 273, rfl⟩
abbrev main_v253 : Ref sig .tc := ⟨.hbm, 274, rfl⟩
abbrev main_v254 : Ref sig .tc := ⟨.hbm, 275, rfl⟩
abbrev main_v255 : Ref sig .tc := ⟨.hbm, 276, rfl⟩
abbrev main_v256 : Ref sig .tc := ⟨.hbm, 277, rfl⟩
abbrev main_v257 : Ref sig .tc := ⟨.hbm, 278, rfl⟩
abbrev main_v258 : Ref sig .tc := ⟨.hbm, 279, rfl⟩
abbrev main_v259 : Ref sig .tc := ⟨.hbm, 280, rfl⟩
abbrev main_v260 : Ref sig .tc := ⟨.hbm, 281, rfl⟩
abbrev main_v261 : Ref sig .tc := ⟨.hbm, 282, rfl⟩
abbrev main_v262 : Ref sig .tc := ⟨.hbm, 283, rfl⟩
abbrev main_call1_v0 : Ref sig .tc := ⟨.hbm, 284, rfl⟩
abbrev main_call1_v1 : Ref sig .tc := ⟨.hbm, 285, rfl⟩
abbrev main_call1_cst : Ref sig .tc := ⟨.hbm, 286, rfl⟩
abbrev main_call1_v2 : Ref sig .tc := ⟨.hbm, 287, rfl⟩
abbrev main_call1_v3 : Ref sig .tc := ⟨.hbm, 288, rfl⟩
abbrev main_call1_cst_0 : Ref sig .tc := ⟨.hbm, 289, rfl⟩
abbrev main_call1_v4 : Ref sig .tc := ⟨.hbm, 290, rfl⟩
abbrev main_call1_v5 : Ref sig .tc := ⟨.hbm, 291, rfl⟩
abbrev main_v263 : Ref sig .tc := ⟨.hbm, 292, rfl⟩
abbrev main_v264 : Ref sig .tc := ⟨.hbm, 293, rfl⟩
abbrev main_v265 : Ref sig .tc := ⟨.hbm, 294, rfl⟩
abbrev main_cst_7 : Ref sig .tc := ⟨.hbm, 295, rfl⟩
abbrev main_v266 : Ref sig .tc := ⟨.hbm, 296, rfl⟩
abbrev main_v267 : Ref sig .tc := ⟨.hbm, 297, rfl⟩
abbrev main_v268 : Ref sig .tc := ⟨.hbm, 298, rfl⟩
abbrev main_cst_8 : Ref sig .tc := ⟨.hbm, 299, rfl⟩
abbrev main_v269 : Ref sig .tc := ⟨.hbm, 300, rfl⟩
abbrev main_v270 : Ref sig .tc := ⟨.hbm, 301, rfl⟩
abbrev main_v271 : Ref sig .tc := ⟨.hbm, 302, rfl⟩
abbrev main_cst_9 : Ref sig .tc := ⟨.hbm, 303, rfl⟩
abbrev main_v272 : Ref sig .tc := ⟨.hbm, 304, rfl⟩
abbrev main_v273 : Ref sig .tc := ⟨.hbm, 305, rfl⟩
abbrev main_cst_10 : Ref sig .tc := ⟨.hbm, 306, rfl⟩
abbrev main_v274 : Ref sig .tc := ⟨.hbm, 307, rfl⟩
abbrev main_v275 : Ref sig .tc := ⟨.hbm, 308, rfl⟩
abbrev main_v276 : Ref sig .tc := ⟨.hbm, 309, rfl⟩
abbrev main_v277 : Ref sig .tc := ⟨.hbm, 310, rfl⟩
abbrev main_v278 : Ref sig .tc := ⟨.hbm, 311, rfl⟩
abbrev main_cst_11 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_cst_12 : Ref sig .tc := ⟨.hbm, 316, rfl⟩
abbrev main_v282 : Ref sig .tc := ⟨.hbm, 317, rfl⟩
abbrev main_v283 : Ref sig .tc := ⟨.hbm, 318, rfl⟩
abbrev main_v284 : Ref sig .tc := ⟨.hbm, 319, rfl⟩
abbrev main_cst_13 : Ref sig .tc := ⟨.hbm, 320, rfl⟩
abbrev main_v285 : Ref sig .tc := ⟨.hbm, 321, rfl⟩
abbrev main_v286 : Ref sig .tc := ⟨.hbm, 322, rfl⟩
abbrev main_cst_14 : Ref sig .tc := ⟨.hbm, 323, rfl⟩
abbrev main_v287 : Ref sig .tc := ⟨.hbm, 324, rfl⟩
abbrev main_v288 : Ref sig .tc := ⟨.hbm, 325, rfl⟩
abbrev main_v289 : Ref sig .tc := ⟨.hbm, 326, rfl⟩
abbrev main_cst_15 : Ref sig .tc := ⟨.hbm, 327, rfl⟩
abbrev main_v290 : Ref sig .tc := ⟨.hbm, 328, rfl⟩
abbrev main_v291 : Ref sig .tc := ⟨.hbm, 329, rfl⟩
abbrev main_cst_16 : Ref sig .tc := ⟨.hbm, 330, rfl⟩
abbrev main_v292 : Ref sig .tc := ⟨.hbm, 331, rfl⟩
abbrev main_v293 : Ref sig .tc := ⟨.hbm, 332, rfl⟩
abbrev main_v294 : Ref sig .tc := ⟨.hbm, 333, rfl⟩
abbrev main_v295 : Ref sig .tc := ⟨.hbm, 334, rfl⟩
abbrev main_v296 : Ref sig .tc := ⟨.hbm, 335, rfl⟩
abbrev main_cst_17 : Ref sig .tc := ⟨.hbm, 336, rfl⟩
abbrev main_v297 : Ref sig .tc := ⟨.hbm, 337, rfl⟩
abbrev main_v298 : Ref sig .tc := ⟨.hbm, 338, rfl⟩
abbrev main_cst_18 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_cst_19 : Ref sig .tc := ⟨.hbm, 344, rfl⟩
abbrev main_v303 : Ref sig .tc := ⟨.hbm, 345, rfl⟩
abbrev main_v304 : Ref sig .tc := ⟨.hbm, 346, rfl⟩
abbrev main_v305 : Ref sig .tc := ⟨.hbm, 347, rfl⟩
abbrev main_v306 : Ref sig .tc := ⟨.hbm, 348, rfl⟩
abbrev main_v307 : Ref sig .tc := ⟨.hbm, 349, rfl⟩
abbrev main_v308 : Ref sig .tc := ⟨.hbm, 350, rfl⟩
abbrev main_v309 : Ref sig .tc := ⟨.hbm, 351, rfl⟩
abbrev main_v310 : Ref sig .tc := ⟨.hbm, 352, rfl⟩
abbrev main_v311 : Ref sig .tc := ⟨.hbm, 353, rfl⟩
abbrev main_v312 : Ref sig .tc := ⟨.hbm, 354, rfl⟩
abbrev main_v313 : Ref sig .tc := ⟨.hbm, 355, rfl⟩
abbrev main_v314 : Ref sig .tc := ⟨.hbm, 356, rfl⟩
abbrev main_c_20 : Ref sig .tc := ⟨.hbm, 357, rfl⟩
abbrev main_v315 : Ref sig .tc := ⟨.hbm, 358, rfl⟩
abbrev main_call2_v0 : Ref sig .tc := ⟨.hbm, 359, rfl⟩
abbrev main_call2_c : Ref sig .tc := ⟨.hbm, 360, rfl⟩
abbrev main_call2_v1 : Ref sig .tc := ⟨.hbm, 361, rfl⟩
abbrev main_call2_v2 : Ref sig .tc := ⟨.hbm, 362, rfl⟩
abbrev main_call2_v3 : Ref sig .tc := ⟨.hbm, 363, rfl⟩
abbrev main_call2_v4 : Ref sig .tc := ⟨.hbm, 364, rfl⟩
abbrev main_call2_c_0 : Ref sig .tc := ⟨.hbm, 365, rfl⟩
abbrev main_call2_v5 : Ref sig .tc := ⟨.hbm, 366, rfl⟩
abbrev main_v316 : Ref sig .tc := ⟨.hbm, 367, rfl⟩
abbrev main_v317 : Ref sig .tc := ⟨.hbm, 368, rfl⟩
abbrev main_cst_21 : Ref sig .tc := ⟨.hbm, 369, rfl⟩
abbrev main_v318 : Ref sig .tc := ⟨.hbm, 370, rfl⟩
abbrev main_call3_v0 : Ref sig .tc := ⟨.hbm, 371, rfl⟩
abbrev main_v319 : Ref sig .tc := ⟨.hbm, 372, rfl⟩
abbrev main_v320 : Ref sig .tc := ⟨.hbm, 373, rfl⟩
abbrev main_v321 : Ref sig .tc := ⟨.hbm, 374, rfl⟩
abbrev main_v322 : Ref sig .tc := ⟨.hbm, 375, rfl⟩
abbrev main_v323 : Ref sig .tc := ⟨.hbm, 376, rfl⟩
abbrev main_v324 : Ref sig .tc := ⟨.hbm, 377, rfl⟩
abbrev main_v325 : Ref sig .tc := ⟨.hbm, 378, rfl⟩
abbrev main_v326 : Ref sig .tc := ⟨.hbm, 379, rfl⟩
abbrev main_v327 : Ref sig .tc := ⟨.hbm, 380, rfl⟩
abbrev main_v328 : Ref sig .tc := ⟨.hbm, 381, rfl⟩
abbrev main_v329 : Ref sig .tc := ⟨.hbm, 382, rfl⟩

abbrev nD : Nat := 1
abbrev τ : Topo := Topo.v7x

variable {F : FTy → Type} [FloatOps F]
-- ==== Proof.Spec.lean ====
module

public import Idealize.ShloMosaic.Lib.IdealHost
public import Idealize.ShloMosaic.Lib.Pointwise

/-!
The scalar functions both programs compute, on plain index functions: the softmax row of the attention scores,
its gradient in the two forms the programs use, and the gradient of the row normalisation in the two forms.
-/

@[expose] public section
noncomputable section
namespace Cert.AttnSpec
open Idealize.ShloMosaic

/-- The scale of the scores, `1/16`. -/
def scl : EReal := Ideal.ofBits .f32 0x3D800000#32
/-- The row length, `1024`. -/
def len : EReal := Ideal.ofBits .f32 0x44800000#32
/-- The constant added to the mean square. -/
def eps : EReal := Ideal.ofBits .f32 0x358637BD#32

/-- The scores of one query row against the rows of `k`. -/
def score {D M : ℕ} (q : Fin D → EReal) (k : Fin M → Fin D → EReal) (j : Fin M) : EReal := (∑ d, q d * k j d) * scl
/-- The largest of a row of scores. -/
def top {M : ℕ} (s : Fin M → EReal) : EReal := Finset.univ.fold max (Ideal.ofBits .f32 0xFF800000#32) s
/-- The shifted exponentials of a row of scores. -/
def ex {M : ℕ} (s : Fin M → EReal) (j : Fin M) : EReal := Ideal.exp (s j - top s)
/-- The softmax of a row of scores. -/
def soft {M : ℕ} (s : Fin M → EReal) (j : Fin M) : EReal := Ideal.div (ex s j) (∑ i, ex s i)
/-- One row of `a` against the rows of `b`. -/
def dotT {D M : ℕ} (a : Fin D → EReal) (b : Fin M → Fin D → EReal) (j : Fin M) : EReal := ∑ d, a d * b j d
/-- The gradient of the scores, from the gradient `dp` of the softmax row: the kernel's form. -/
def dscore {M : ℕ} (s dp : Fin M → EReal) (j : Fin M) : EReal :=
  soft s j * (dp j - ∑ i, dp i * soft s i) * scl

/-- Column `e` of head `h` in a row of queries. -/
def col (h : Fin 4) (e : Fin 256) : Fin 1024 := ⟨h * 256 + e, by omega⟩
/-- The head a column belongs to. -/
def headOf (c : Fin 1024) : Fin 4 := ⟨c / 256, by omega⟩
/-- A key column of the memory's projections. -/
def kcol (c : Fin 1024) : Fin 2048 := ⟨c, by omega⟩
/-- A value column of the memory's projections. -/
def vcol (c : Fin 1024) : Fin 2048 := ⟨1024 + c, by omega⟩

theorem headOf_col (h : Fin 4) (e : Fin 256) : headOf (col h e) = h := by
  ext; simp only [headOf, col]; omega

/-- Head `h`'s scores of a row of queries. -/
def hscore (q : Fin 1024 → EReal) (kv : Fin 256 → Fin 2048 → EReal) (h : Fin 4) : Fin 256 → EReal :=
  score (fun e => q (col h e)) (fun j e => kv j (kcol (col h e)))
/-- The gradient of head `h`'s softmax row, from the gradient `o` of the attention's output row. -/
def hdp (o : Fin 1024 → EReal) (kv : Fin 256 → Fin 2048 → EReal) (h : Fin 4) : Fin 256 → EReal :=
  dotT (fun e => o (col h e)) (fun j e => kv j (vcol (col h e)))
/-- The gradient of head `h`'s scores of one row. -/
def hds (q o : Fin 1024 → EReal) (kv : Fin 256 → Fin 2048 → EReal) (h : Fin 4) : Fin 256 → EReal :=
  dscore (hscore q kv h) (hdp o kv h)
/-- The gradient of a row of queries, from the gradients of its scores. -/
def dqRow (ds : Fin 4 → Fin 256 → EReal) (kv : Fin 256 → Fin 2048 → EReal) (c : Fin 1024) : EReal :=
  ∑ j, ds (headOf c) j * kv j (kcol c)

/-- One row's part of the gradient of the memory's keys (the first 1024 columns) and values (the others), from the gradients
    `ds` of the row's scores, its softmax `p`, its queries and the gradient of its attention output. -/
def dkvRow (ds p : Fin 4 → Fin 256 → EReal) (q o : Fin 1024 → EReal) (j : Fin 256) (c : Fin 2048) : EReal :=
  if h : c.val < 1024 then ds (headOf ⟨c, h⟩) j * q ⟨c, h⟩
  else p (headOf ⟨c - 1024, by omega⟩) j * o ⟨c - 1024, by omega⟩

theorem dkvRow_key (ds p : Fin 4 → Fin 256 → EReal) (q o : Fin 1024 → EReal) (j : Fin 256) (c : Fin 1024) :
    dkvRow ds p q o j (kcol c) = ds (headOf c) j * q c := dif_pos c.isLt

theorem dkvRow_val (ds p : Fin 4 → Fin 256 → EReal) (q o : Fin 1024 → EReal) (j : Fin 256) (c : Fin 1024) :
    dkvRow ds p q o j (vcol c) = p (headOf c) j * o c := by
  have e : (⟨(vcol c : ℕ) - 1024, by simp [vcol]⟩ : Fin 1024) = c := by ext; simp [vcol]
  rw [dkvRow, dif_neg (by simp [vcol])]
  rw [e]

/-- The reciprocal root mean square of a row. -/
def rms (x : Fin 1024 → EReal) : EReal := Ideal.rsqrt (Ideal.div (∑ c, x c * x c) len + eps)
/-- The gradient of the normalisation at one row, added to the gradient `dh` that goes past it: the kernel's form. -/
def rmsBack (dh dn x g : Fin 1024 → EReal) (c : Fin 1024) : EReal :=
  dh c + rms x * (dn c * g c - x c * rms x * Ideal.div (∑ i, dn i * g i * (x i * rms x)) len)

/-- The entries of an array of two axes. -/
abbrev ent {a b : ℕ} {φ : FTy} (x : FVec Ideal ⟨2, ![a, b]⟩ φ) : Fin a → Fin b → EReal := fun i j => x (ix2 i j)
/-- The entries of an array of one axis. -/
abbrev ent1 {a : ℕ} {φ : FTy} (x : FVec Ideal ⟨1, ![a]⟩ φ) : Fin a → EReal := fun i => x (ix1 i)

/-! The five results as functions of the six arguments: the rows' gradient `a0`, the output projection `a1`, the memory's
keys and values `a2`, the query projection `a3`, the rows `a4` and the normalisation's scale `a5`. -/
section results
variable (a0 : Fin 4096 → Fin 1024 → EReal) (a1 : Fin 1024 → Fin 1024 → EReal) (a2 : Fin 256 → Fin 2048 → EReal)
  (a3 : Fin 1024 → Fin 1024 → EReal) (a4 : Fin 4096 → Fin 1024 → EReal) (a5 : Fin 1024 → EReal)

/-- The queries: the normalised rows times the query projection. -/
def queries (R : Fin 4096) (c : Fin 1024) : EReal := ∑ e, a4 R e * rms (a4 R) * a5 e * a3 e c
/-- The gradient of the attention's output before the output projection. -/
def outs (R : Fin 4096) : Fin 1024 → EReal := dotT (a0 R) a1
/-- The softmax of the scores. -/
def softs (R : Fin 4096) (h : Fin 4) : Fin 256 → EReal := soft (hscore (queries a3 a4 a5 R) a2 h)
/-- The gradient of the scores. -/
def dscores (R : Fin 4096) : Fin 4 → Fin 256 → EReal := hds (queries a3 a4 a5 R) (outs a0 a1 R) a2
/-- The gradient of the queries. -/
def dqs (R : Fin 4096) : Fin 1024 → EReal := dqRow (dscores a0 a1 a2 a3 a4 a5 R) a2
/-- The gradient of the normalised rows. -/
def dhns (R : Fin 4096) : Fin 1024 → EReal := dotT (dqs a0 a1 a2 a3 a4 a5 R) a3
/-- The gradient of the rows. -/
def dhs (R : Fin 4096) : Fin 1024 → EReal := rmsBack (a0 R) (dhns a0 a1 a2 a3 a4 a5 R) (a4 R) a5
/-- The gradient of the memory's keys and values. -/
def dkvs (j : Fin 256) (c : Fin 2048) : EReal :=
  ∑ R, dkvRow (dscores a0 a1 a2 a3 a4 a5 R) (softs a2 a3 a4 a5 R) (queries a3 a4 a5 R) (outs a0 a1 R) j c
/-- The gradient of the normalisation's scale. -/
def dgs (c : Fin 1024) : EReal := ∑ R, dhns a0 a1 a2 a3 a4 a5 R c * (a4 R c * rms (a4 R))

end results
end Cert.AttnSpec
end
-- ==== Proof.Heads.lean ====
module

public import proofs.«01_k».proof.Proof.Gen.KernelIdeal.Skeleton
public import Idealize.ShloMosaic.Lib.Pointwise
public import proofs.«01_k».proof.Proof.Spec

/-!
One head of one block of rows: the four heads run the same operations on different columns, so each quantity is read once.
-/

@[expose] public section
set_option maxRecDepth 16384
noncomputable section
namespace Cert.KernelIdeal.Heads
open Cert.KernelIdeal Cert.KernelIdeal.Gen Idealize.ShloMosaic Idealize.ShloMosaic.TcCoe Idealize.SL.Sem Cert.AttnSpec

variable (d q : FVec Ideal S1024x256 .bf16) (k v : FVec Ideal S256x256 .bf16) (acc : FVec Ideal S256x256 .f32)

/-- The scores of row `r` of a block of one head's queries. -/
abbrev sc (r : Fin 1024) : Fin 256 → EReal := score (fun e => q (ix2 r e)) (fun i e => k (ix2 i e))
/-- The gradient of the softmax row, of row `r`. -/
abbrev dp (r : Fin 1024) : Fin 256 → EReal := dotT (fun e => d (ix2 r e)) (fun i e => v (ix2 i e))

/-- The softmax of a block of rows. -/
def P : FVec Ideal S1024x256 .f32 := k0_pay7 (F := Ideal) q k
/-- The gradient of the scores of a block of rows. -/
def DS : FVec Ideal S1024x256 .bf16 := k0_pay25 (F := Ideal) v d (k0_pay23 (F := Ideal) q k)
/-- The gradient of one head's queries. -/
def DQ : FVec Ideal S1024x256 .bf16 := k0_pay26 (F := Ideal) k v d (k0_pay23 (F := Ideal) q k)
/-- The block's part of the gradient of one head's keys, added to `acc`. -/
def DK : FVec Ideal S256x256 .f32 := k0_pay27 (F := Ideal) q v d (k0_pay23 (F := Ideal) q k) acc
/-- The block's part of the gradient of one head's values, added to `acc`. -/
def DV : FVec Ideal S256x256 .f32 := k0_pay28 (F := Ideal) d (k0_pay23 (F := Ideal) q k) acc

theorem P_apply (r : Fin 1024) (j : Fin 256) : P q k (ix2 r j) = soft (sc q k r) j := by
  pointwise [P, k0_pay5, k0_pay7]
  rfl

/-- The gradient of the scores, with the softmax kept as one array. -/
theorem DS_P (r : Fin 1024) (j : Fin 256) :
    DS d q k v (ix2 r j) = P q k (ix2 r j) * (dp d v r j - ∑ i : Fin 256, dp d v r i * P q k (ix2 r i)) * scl := by
  have h : k0_pay24 (F := Ideal) (k0_pay23 (F := Ideal) q k) = P q k := rfl
  unfold DS
  pointwise [k0_pay25, h]
  rfl

theorem DS_apply (r : Fin 1024) (j : Fin 256) : DS d q k v (ix2 r j) = dscore (sc q k r) (dp d v r) j := by
  simp only [DS_P, P_apply, dscore]

theorem DQ_apply (r : Fin 1024) (l : Fin 256) :
    DQ d q k v (ix2 r l) = ∑ j : Fin 256, dscore (sc q k r) (dp d v r) j * k (ix2 j l) := by
  simp only [← DS_apply]
  pointwise [DQ, DS, k0_pay26]

theorem DK_apply (j : Fin 256) (l : Fin 256) :
    DK d q k v acc (ix2 j l) = acc (ix2 j l) + ∑ r : Fin 1024, dscore (sc q k r) (dp d v r) j * q (ix2 r l) := by
  simp only [← DS_apply]
  pointwise [DK, DS, k0_pay27]

theorem DV_apply (j : Fin 256) (l : Fin 256) :
    DV d q k acc (ix2 j l) = acc (ix2 j l) + ∑ r : Fin 1024, soft (sc q k r) j * d (ix2 r l) := by
  simp only [← P_apply]
  pointwise [DV, k0_pay28]
  rfl
end Cert.KernelIdeal.Heads
end
-- ==== Proof.Block.lean ====
module

public import proofs.«01_k».proof.Proof.Heads

/-!
One block of 1024 rows: the heads' pieces as columns of whole rows, and the normalisation's gradient.
-/

@[expose] public section
set_option maxRecDepth 16384
noncomputable section
namespace Cert.KernelIdeal.Heads
open Cert.KernelIdeal Cert.KernelIdeal.Gen Idealize.ShloMosaic Idealize.ShloMosaic.TcCoe Idealize.SL.Sem Cert.AttnSpec

variable (X0 : FVec Ideal S1024x1024 .f32) (X1 X2 : FVec Ideal S1024x1024 .bf16) (X3 : FVec Ideal S256x2048 .bf16)
  (X4 : FVec Ideal S1024x1024 .bf16) (X5 : FVec Ideal S1024x1024 .f32) (X6 : FVec Ideal S1x1024 .f32)

/-- Row `r` of a block's queries. -/
abbrev qrow (r : Fin 1024) : Fin 1024 → EReal := fun c => X2 (ix2 r c)
/-- The memory's keys and values. -/
abbrev kvs : Fin 256 → Fin 2048 → EReal := fun j c => X3 (ix2 j c)
/-- Row `r` of the gradient of the attention's output, before the output projection. -/
abbrev orow (r : Fin 1024) : Fin 1024 → EReal := dotT (fun e => X0 (ix2 r e)) (fun c e => X1 (ix2 c e))
/-- Row `r` of the gradient of the scores. -/
abbrev dsrow (r : Fin 1024) : Fin 4 → Fin 256 → EReal := hds (qrow X2 r) (orow X0 X1 r) (kvs X3)

/-- The four arrays a head works on are its columns of the block. -/
structure Head (h : Fin 4) (d q : FVec Ideal S1024x256 .bf16) (k v : FVec Ideal S256x256 .bf16) : Prop where
  out : ∀ r e, d (ix2 r e) = orow X0 X1 r (col h e)
  query : ∀ r e, q (ix2 r e) = X2 (ix2 r (col h e))
  key : ∀ j e, k (ix2 j e) = X3 (ix2 j (kcol (col h e)))
  val : ∀ j e, v (ix2 j e) = X3 (ix2 j (vcol (col h e)))

variable {X0 X1 X2 X3}
variable {h : Fin 4} {d q : FVec Ideal S1024x256 .bf16} {k v : FVec Ideal S256x256 .bf16}

theorem Head.sc_eq (H : Head X0 X1 X2 X3 h d q k v) (r : Fin 1024) : sc q k r = hscore (qrow X2 r) (kvs X3) h := by
  simp only [sc, hscore, H.query, H.key]

theorem Head.dp_eq (H : Head X0 X1 X2 X3 h d q k v) (r : Fin 1024) : dp d v r = hdp (orow X0 X1 r) (kvs X3) h := by
  simp only [dp, hdp, H.out, H.val]

theorem Head.dq (H : Head X0 X1 X2 X3 h d q k v) (r : Fin 1024) (l : Fin 256) :
    DQ d q k v (ix2 r l) = dqRow (dsrow X0 X1 X2 X3 r) (kvs X3) (col h l) := by
  rw [DQ_apply, H.sc_eq, H.dp_eq]
  simp only [dqRow, headOf_col, H.key, dsrow, hds]

theorem Head.dk (H : Head X0 X1 X2 X3 h d q k v) (acc : FVec Ideal S256x256 .f32) (j l : Fin 256) :
    DK d q k v acc (ix2 j l) = acc (ix2 j l) + ∑ r, dsrow X0 X1 X2 X3 r h j * X2 (ix2 r (col h l)) := by
  simp only [DK_apply, H.sc_eq, H.dp_eq, H.query, dsrow, hds]

theorem Head.dv (H : Head X0 X1 X2 X3 h d q k v) (acc : FVec Ideal S256x256 .f32) (j l : Fin 256) :
    DV d q k acc (ix2 j l) =
      acc (ix2 j l) + ∑ r, soft (hscore (qrow X2 r) (kvs X3) h) j * orow X0 X1 r (col h l) := by
  simp only [DV_apply, H.sc_eq, H.out]

theorem Head.dq_at (H : Head X0 X1 X2 X3 h d q k v) {r l x0 : Fin 1024} {x1 : Fin 256} (h0 : (r : ℕ) = x0)
    (h1 : (l : ℕ) = h * 256 + x1) :
    DQ d q k v (ix2 x0 x1) = dqRow (dsrow X0 X1 X2 X3 r) (kvs X3) l := by
  obtain rfl : r = x0 := Fin.ext h0
  obtain rfl : l = col h x1 := Fin.ext h1
  exact H.dq r x1

/-- Row `r`'s softmax. -/
abbrev prow (X2 : FVec Ideal S1024x1024 .bf16) (X3 : FVec Ideal S256x2048 .bf16) (r : Fin 1024) : Fin 4 → Fin 256 → EReal :=
  fun h => soft (hscore (qrow X2 r) (kvs X3) h)
variable (X0 X1 X2 X3) in
/-- The block's part of the gradient of the memory's keys and values. -/
def dkvBlock (j : Fin 256) (c : Fin 2048) : EReal :=
  ∑ r, dkvRow (dsrow X0 X1 X2 X3 r) (prow X2 X3 r) (qrow X2 r) (orow X0 X1 r) j c

theorem Head.dk_at (H : Head X0 X1 X2 X3 h d q k v) (acc : FVec Ideal S256x256 .f32) {j j0 : Fin 256} {c : Fin 2048} {x1 : Fin 256}
    (h0 : (j : ℕ) = j0) (h1 : (c : ℕ) = h * 256 + x1) :
    DK d q k v acc (ix2 j0 x1) = acc (ix2 j0 x1) + dkvBlock X0 X1 X2 X3 j c := by
  obtain rfl : j = j0 := Fin.ext h0
  obtain rfl : c = kcol (col h x1) := Fin.ext h1
  rw [H.dk, dkvBlock]
  simp only [dkvRow_key, headOf_col]

theorem Head.dv_at (H : Head X0 X1 X2 X3 h d q k v) (acc : FVec Ideal S256x256 .f32) {j j0 : Fin 256} {c : Fin 2048} {x1 : Fin 256}
    (h0 : (j : ℕ) = j0) (h1 : (c : ℕ) = 1024 + (h * 256 + x1)) :
    DV d q k acc (ix2 j0 x1) = acc (ix2 j0 x1) + dkvBlock X0 X1 X2 X3 j c := by
  obtain rfl : j = j0 := Fin.ext h0
  obtain rfl : c = vcol (col h x1) := Fin.ext h1
  rw [H.dv, dkvBlock]
  simp only [dkvRow_val, headOf_col]

variable (X0 X1)

/-! The four heads' stored pieces are the same operations, on the head's columns. -/
section pieces
variable (O : FVec Ideal S1024x1024 .bf16) (q : FVec Ideal S1024x256 .bf16) (k v : FVec Ideal S256x256 .bf16)
  (acc : FVec Ideal S256x256 .f32)
theorem dq0 : k0_pay9 (F := Ideal) X0 X1 q k v = DQ (k0_pay6 (F := Ideal) X0 X1) q k v := rfl
theorem dq1 : k0_pay18 (F := Ideal) k (k0_pay14 (F := Ideal) q k) (k0_pay15 (F := Ideal) O v)
    (k0_pay16 (F := Ideal) O q k v) = DQ (k0_pay13 (F := Ideal) O) q k v := rfl
theorem dq2 : k0_pay26 (F := Ideal) k v (k0_pay22 (F := Ideal) O) (k0_pay23 (F := Ideal) q k) =
    DQ (k0_pay22 (F := Ideal) O) q k v := rfl
theorem dq3 : k0_pay34 (F := Ideal) k v (k0_pay30 (F := Ideal) O) (k0_pay31 (F := Ideal) q k) =
    DQ (k0_pay30 (F := Ideal) O) q k v := rfl
theorem dk0 : k0_pay10 (F := Ideal) (k0_pay5 (F := Ideal) q) (k0_pay8 (F := Ideal) X0 X1 q k v) acc =
    DK (k0_pay6 (F := Ideal) X0 X1) q k v acc := by
  unfold k0_pay5
  rw [shapeCast_self]; rfl
theorem dk1 : k0_pay19 (F := Ideal) (k0_pay12 (F := Ideal) q) (k0_pay14 (F := Ideal) q k) (k0_pay15 (F := Ideal) O v)
    (k0_pay16 (F := Ideal) O q k v) acc = DK (k0_pay13 (F := Ideal) O) q k v acc := by
  unfold k0_pay12
  rw [shapeCast_self]; rfl
theorem dk2 : k0_pay27 (F := Ideal) (k0_pay21 (F := Ideal) q) v (k0_pay22 (F := Ideal) O) (k0_pay23 (F := Ideal) q k) acc =
    DK (k0_pay22 (F := Ideal) O) q k v acc := by
  unfold k0_pay21
  rw [shapeCast_self]; rfl
theorem dk3 : k0_pay35 (F := Ideal) (k0_pay29 (F := Ideal) q) v (k0_pay30 (F := Ideal) O) (k0_pay31 (F := Ideal) q k) acc =
    DK (k0_pay30 (F := Ideal) O) q k v acc := by
  unfold k0_pay29
  rw [shapeCast_self]; rfl
theorem dv0 : k0_pay11 (F := Ideal) (k0_pay6 (F := Ideal) X0 X1) (k0_pay7 (F := Ideal) q k) acc =
    DV (k0_pay6 (F := Ideal) X0 X1) q k acc := rfl
theorem dv1 : k0_pay20 (F := Ideal) (k0_pay13 (F := Ideal) O) (k0_pay14 (F := Ideal) q k) acc =
    DV (k0_pay13 (F := Ideal) O) q k acc := rfl
theorem dv3 : k0_pay36 (F := Ideal) (k0_pay30 (F := Ideal) O) (k0_pay31 (F := Ideal) q k) acc =
    DV (k0_pay30 (F := Ideal) O) q k acc := rfl
theorem dv2 : k0_pay28 (F := Ideal) (k0_pay22 (F := Ideal) O) (k0_pay23 (F := Ideal) q k) acc =
    DV (k0_pay22 (F := Ideal) O) q k acc := rfl
end pieces

/-- The gradient before the output projection, by columns: what each head cuts. -/
theorem out_apply (r c : Fin 1024) : k0_pay4 (F := Ideal) X0 X1 (ix2 r c) = orow X0 X1 r c := by
  pointwise [k0_pay4]
  rfl
theorem out0 (r : Fin 1024) (e : Fin 256) : k0_pay6 (F := Ideal) X0 X1 (ix2 r e) = orow X0 X1 r (col 0 e) := by
  rw [← out_apply]; pointwise [k0_pay6, col]
theorem out1 (r : Fin 1024) (e : Fin 256) : k0_pay13 (F := Ideal) (k0_pay4 (F := Ideal) X0 X1) (ix2 r e) = orow X0 X1 r (col 1 e) := by
  rw [← out_apply]; pointwise [k0_pay13, col]
theorem out2 (r : Fin 1024) (e : Fin 256) : k0_pay22 (F := Ideal) (k0_pay4 (F := Ideal) X0 X1) (ix2 r e) = orow X0 X1 r (col 2 e) := by
  rw [← out_apply]; pointwise [k0_pay22, col]
theorem out3 (r : Fin 1024) (e : Fin 256) : k0_pay30 (F := Ideal) (k0_pay4 (F := Ideal) X0 X1) (ix2 r e) = orow X0 X1 r (col 3 e) := by
  rw [← out_apply]; pointwise [k0_pay30, col]

variable {X0 X1}

/-- The gradient of the normalised rows: the queries' gradient times the transposed query projection. -/
theorem dhn_apply (Q : FVec Ideal S1024x1024 .bf16) (r c : Fin 1024) :
    k0_pay37 (F := Ideal) Q X4 (ix2 r c) = ∑ e, Q (ix2 r e) * X4 (ix2 c e) := by
  pointwise [k0_pay37]
theorem rms_apply (r : Fin 1024) (c : Fin 1) : k0_pay38 (F := Ideal) X5 (ix2 r c) = rms (fun e => X5 (ix2 r e)) := by
  pointwise [k0_pay38]
  rfl
theorem norm_apply (r c : Fin 1024) : k0_pay39 (F := Ideal) X5 (ix2 r c) = X5 (ix2 r c) * rms (fun e => X5 (ix2 r e)) := by
  rw [← rms_apply X5 r 0]
  pointwise [k0_pay39]

/-- The block's part of the gradient of the normalisation's scale. -/
theorem dg_apply (Q : FVec Ideal S1024x1024 .bf16) (a : Fin 1) (c : Fin 1024) :
    k0_pay40 (F := Ideal) Q X4 X5 (ix2 a c) =
      ∑ r : Fin 1024, (∑ e : Fin 1024, Q (ix2 r e) * X4 (ix2 c e)) * (X5 (ix2 r c) * rms (fun e => X5 (ix2 r e))) := by
  simp only [← norm_apply, ← dhn_apply]
  pointwise [k0_pay40]

/-- The gradient of the rows. -/
theorem dh_apply (Q : FVec Ideal S1024x1024 .bf16) (r c : Fin 1024) :
    k0_pay41 (F := Ideal) Q X4 X5 X6 X0 (ix2 r c) =
      rmsBack (fun c => X0 (ix2 r c)) (fun c => ∑ e, Q (ix2 r e) * X4 (ix2 c e)) (fun c => X5 (ix2 r c))
        (fun c => X6 (ix2 0 c)) c := by
  simp only [rmsBack, ← norm_apply, ← dhn_apply, ← rms_apply X5 r 0]
  pointwise [k0_pay41]
  rfl

end Cert.KernelIdeal.Heads
end
-- ==== Proof.Points.lean ====
module

public import proofs.«01_k».proof.Proof.Gen.KernelIdeal.Frame
public import Idealize.ShloMosaic.Lib.Pipeline.ValueKit
public import Idealize.ShloMosaic.Lib.Pipeline.ReadBack
public import proofs.«01_k».proof.Proof.Block

/-!
What one grid point leaves in each output block, in terms of the point's input blocks.
-/

@[expose] public section
set_option maxRecDepth 16384
noncomputable section
namespace Cert.KernelIdeal.Points
open Cert.KernelIdeal Cert.KernelIdeal.Gen Idealize.ShloMosaic Idealize.ShloMosaic.TcCoe Idealize.SL.Sem
open Idealize.ShloMosaic.Pipeline (Dat)
open Cert.AttnSpec Cert.KernelIdeal.Heads

variable (m : (ℓ : Loc nD τ sig) → Buf (Elt Ideal) ℓ)

/-! The columns of a block a head loads. -/
section heads
variable (X0 : FVec Ideal S1024x1024 .f32) (X1 X2 : FVec Ideal S1024x1024 .bf16) (X3 : FVec Ideal S256x2048 .bf16)

theorem head0 : Head X0 X1 X2 X3 0 (k0_pay6 (F := Ideal) X0 X1)
    (View.ld (Val := Elt Ideal) (e' := .bf16) X2 (Rect.unit (s := S1024x1024) ![0, 0] ![1024, 256] inb_S1024x1024_S1024x256_0_0))
    (View.ld (Val := Elt Ideal) (e' := .bf16) X3 (Rect.unit (s := S256x2048) ![0, 0] ![256, 256] inb_S256x2048_S256x256_0_0))
    (View.ld (Val := Elt Ideal) (e' := .bf16) X3 (Rect.unit (s := S256x2048) ![0, 1024] ![256, 256] inb_S256x2048_S256x256_0_1024)) := by
  refine ⟨out0 _ _, fun r e => ?_, fun r e => ?_, fun r e => ?_⟩
  all_goals (pointwise [col, kcol, vcol]; try blk_ext)

theorem head1 : Head X0 X1 X2 X3 1 (k0_pay13 (F := Ideal) (k0_pay4 (F := Ideal) X0 X1))
    (View.ld (Val := Elt Ideal) (e' := .bf16) X2 (Rect.unit (s := S1024x1024) ![0, 256] ![1024, 256] inb_S1024x1024_S1024x256_0_256))
    (View.ld (Val := Elt Ideal) (e' := .bf16) X3 (Rect.unit (s := S256x2048) ![0, 256] ![256, 256] inb_S256x2048_S256x256_0_256))
    (View.ld (Val := Elt Ideal) (e' := .bf16) X3 (Rect.unit (s := S256x2048) ![0, 1280] ![256, 256] inb_S256x2048_S256x256_0_1280)) := by
  refine ⟨out1 _ _, fun r e => ?_, fun r e => ?_, fun r e => ?_⟩
  all_goals (pointwise [col, kcol, vcol]; try blk_ext)

theorem head2 : Head X0 X1 X2 X3 2 (k0_pay22 (F := Ideal) (k0_pay4 (F := Ideal) X0 X1))
    (View.ld (Val := Elt Ideal) (e' := .bf16) X2 (Rect.unit (s := S1024x1024) ![0, 512] ![1024, 256] inb_S1024x1024_S1024x256_0_512))
    (View.ld (Val := Elt Ideal) (e' := .bf16) X3 (Rect.unit (s := S256x2048) ![0, 512] ![256, 256] inb_S256x2048_S256x256_0_512))
    (View.ld (Val := Elt Ideal) (e' := .bf16) X3 (Rect.unit (s := S256x2048) ![0, 1536] ![256, 256] inb_S256x2048_S256x256_0_1536)) := by
  refine ⟨out2 _ _, fun r e => ?_, fun r e => ?_, fun r e => ?_⟩
  all_goals (pointwise [col, kcol, vcol]; try blk_ext)

theorem head3 : Head X0 X1 X2 X3 3 (k0_pay30 (F := Ideal) (k0_pay4 (F := Ideal) X0 X1))
    (View.ld (Val := Elt Ideal) (e' := .bf16) X2 (Rect.unit (s := S1024x1024) ![0, 768] ![1024, 256] inb_S1024x1024_S1024x256_0_768))
    (View.ld (Val := Elt Ideal) (e' := .bf16) X3 (Rect.unit (s := S256x2048) ![0, 768] ![256, 256] inb_S256x2048_S256x256_0_768))
    (View.ld (Val := Elt Ideal) (e' := .bf16) X3 (Rect.unit (s := S256x2048) ![0, 1792] ![256, 256] inb_S256x2048_S256x256_0_1792)) := by
  refine ⟨out3 _ _, fun r e => ?_, fun r e => ?_, fun r e => ?_⟩
  all_goals (pointwise [col, kcol, vcol]; try blk_ext)

end heads

/-- The queries' gradient a point leaves. -/
theorem w9 (c : Dev nD) (t : Fin cfg0.N) (r l : Fin 1024) :
    (outsAt0 m c t.val t.isLt).2.2.1 (ix2 r l) =
      dqRow (dsrow (iblk m c 0 t) (iblk m c 1 t) (iblk m c 2 t) (iblk m c 3 t) r) (kvs (iblk m c 3 t)) l := by
  by_cases h0 : t.val % 4 = 0
  · rw [outsAt0_A m c t h0]; frame_out; clear h0
    canon_tiles x h
    all_goals idx_vars x
    · rw [dq3]; exact (head3 _ _ _ _).dq_at h0 h1
    · rw [dq2]; exact (head2 _ _ _ _).dq_at h0 h1
    · rw [dq1]; exact (head1 _ _ _ _).dq_at h0 h1
    · rw [dq0]; exact (head0 _ _ _ _).dq_at h0 (h1.trans (by simp))
  · rw [outsAt0_B m c t h0]; frame_out; clear h0
    canon_tiles x h
    all_goals idx_vars x
    · rw [dq3]; exact (head3 _ _ _ _).dq_at h0 h1
    · rw [dq2]; exact (head2 _ _ _ _).dq_at h0 h1
    · rw [dq1]; exact (head1 _ _ _ _).dq_at h0 h1
    · rw [dq0]; exact (head0 _ _ _ _).dq_at h0 (h1.trans (by simp))

/-- The fill of the memory's gradient at the first point. -/
theorem fill_apply (i : S256x2048.Idx) : k0_pay2 (F := Ideal) i = (0 : EReal) := by
  pointwise [k0_pay2]

/-- Stores that cover the block leave nothing of a store before them. -/
theorem canon_drop {S : Shape} {e : EltTy} (L : List (View.Piece (Elt Ideal) S e)) (q : View.Piece (Elt Ideal) S e) (y : S.Idx)
    (hc : ∃ p ∈ L, y ∈ p.1.set) : View.canon (L ++ [q]) y = View.canon L y := by
  induction L with
  | nil => obtain ⟨p, hp, _⟩ := hc; simp at hp
  | cons p L ih =>
    by_cases hm : y ∈ p.1.set
    · obtain ⟨r, w⟩ := p
      obtain ⟨x, rfl⟩ := r.exists_idx_of_mem hm
      exact (View.canon_cons_emb r w _ x).trans (View.canon_cons_emb r w _ x).symm
    · obtain ⟨p', hp', hy⟩ := hc
      rcases List.mem_cons.mp hp' with rfl | hp'
      · exact absurd hy hm
      · rw [List.cons_append, View.canon_cons_of_not_mem p _ hm, View.canon_cons_of_not_mem p _ hm]
        exact ih ⟨p', hp', hy⟩

/-- The memory's gradient after the first point: that point's part. -/
theorem w10_A (c : Dev nD) (t : Fin cfg0.N) (h0 : t.val % 4 = 0) (j : Fin 256) (l : Fin 2048) :
    (outsAt0 m c t.val t.isLt).2.2.2.1 (ix2 j l) =
      dkvBlock (iblk m c 0 t) (iblk m c 1 t) (iblk m c 2 t) (iblk m c 3 t) j l := by
  rw [outsAt0_A m c t h0]; frame_out; clear h0
  refine (canon_drop [_, _, _, _, _, _, _, _] _ _ (View.cover_of_tiled_head _ _ _ (by rfl) _)).trans ?_
  canon_tiles x h
  all_goals idx_vars x
  · rw [dv3]; refine ((head3 _ _ (iblk m c 2 t) (iblk m c 3 t)).dv_at _ h0 (h1.trans (by simp only [Fin.isValue, Fin.coe_ofNat_eq_mod, Nat.reduceMod]; omega))).trans ?_
    refine (Ideal.add_congr ?_ rfl).trans (zero_add _)
    simp (disch := decide) only [↓View.readCov_skip, View.readCov_fill]
    exact fill_apply _
  · rw [dk3]; refine ((head3 _ _ (iblk m c 2 t) (iblk m c 3 t)).dk_at _ h0 (h1)).trans ?_
    refine (Ideal.add_congr ?_ rfl).trans (zero_add _)
    simp (disch := decide) only [↓View.readCov_skip, View.readCov_fill]
    exact fill_apply _
  · rw [dv2]; refine ((head2 _ _ (iblk m c 2 t) (iblk m c 3 t)).dv_at _ h0 (h1.trans (by simp only [Fin.isValue, Fin.coe_ofNat_eq_mod, Nat.reduceMod]; omega))).trans ?_
    refine (Ideal.add_congr ?_ rfl).trans (zero_add _)
    simp (disch := decide) only [↓View.readCov_skip, View.readCov_fill]
    exact fill_apply _
  · rw [dk2]; refine ((head2 _ _ (iblk m c 2 t) (iblk m c 3 t)).dk_at _ h0 (h1)).trans ?_
    refine (Ideal.add_congr ?_ rfl).trans (zero_add _)
    simp (disch := decide) only [↓View.readCov_skip, View.readCov_fill]
    exact fill_apply _
  · rw [dv1]; refine ((head1 _ _ (iblk m c 2 t) (iblk m c 3 t)).dv_at _ h0 (h1.trans (by simp only [Fin.isValue, Fin.val_one]; omega))).trans ?_
    refine (Ideal.add_congr ?_ rfl).trans (zero_add _)
    simp (disch := decide) only [↓View.readCov_skip, View.readCov_fill]
    exact fill_apply _
  · rw [dk1]; refine ((head1 _ _ (iblk m c 2 t) (iblk m c 3 t)).dk_at _ h0 (h1)).trans ?_
    refine (Ideal.add_congr ?_ rfl).trans (zero_add _)
    simp (disch := decide) only [↓View.readCov_skip, View.readCov_fill]
    exact fill_apply _
  · rw [dv0]; refine ((head0 _ _ (iblk m c 2 t) (iblk m c 3 t)).dv_at _ h0 (h1.trans (by simp))).trans ?_
    refine (Ideal.add_congr ?_ rfl).trans (zero_add _)
    simp (disch := decide) only [↓View.readCov_skip, View.readCov_fill]
    exact fill_apply _
  · rw [dk0]; refine ((head0 _ _ (iblk m c 2 t) (iblk m c 3 t)).dk_at _ h0 (h1.trans (by simp))).trans ?_
    refine (Ideal.add_congr ?_ rfl).trans (zero_add _)
    simp (disch := decide) only [↓View.readCov_skip, View.readCov_fill]
    exact fill_apply _

/-- The memory's gradient after a later point: the point's part added to what the point before left. -/
theorem w10_B (c : Dev nD) (t : Fin cfg0.N) (h0 : ¬ t.val % 4 = 0) (j : Fin 256) (l : Fin 2048) :
    (outsAt0 m c t.val t.isLt).2.2.2.1 (ix2 j l) =
      (show EReal from (outsAt0 m c (t.val - 1) (Nat.lt_of_le_of_lt (Nat.sub_le _ _) t.isLt)).2.2.2.1 (ix2 j l)) +
      dkvBlock (iblk m c 0 t) (iblk m c 1 t) (iblk m c 2 t) (iblk m c 3 t) j l := by
  rw [outsAt0_B m c t h0]; frame_out; clear h0
  canon_tiles x h
  all_goals idx_vars x
  · rw [dv3]; refine ((head3 _ _ (iblk m c 2 t) (iblk m c 3 t)).dv_at _ h0 (h1.trans (by simp only [Fin.isValue, Fin.coe_ofNat_eq_mod, Nat.reduceMod]; omega))).trans ?_
    refine Ideal.add_congr ?_ rfl
    pointwise; blk_ext
  · rw [dk3]; refine ((head3 _ _ (iblk m c 2 t) (iblk m c 3 t)).dk_at _ h0 (h1)).trans ?_
    refine Ideal.add_congr ?_ rfl
    pointwise; blk_ext
  · rw [dv2]; refine ((head2 _ _ (iblk m c 2 t) (iblk m c 3 t)).dv_at _ h0 (h1.trans (by simp only [Fin.isValue, Fin.coe_ofNat_eq_mod, Nat.reduceMod]; omega))).trans ?_
    refine Ideal.add_congr ?_ rfl
    pointwise; blk_ext
  · rw [dk2]; refine ((head2 _ _ (iblk m c 2 t) (iblk m c 3 t)).dk_at _ h0 (h1)).trans ?_
    refine Ideal.add_congr ?_ rfl
    pointwise; blk_ext
  · rw [dv1]; refine ((head1 _ _ (iblk m c 2 t) (iblk m c 3 t)).dv_at _ h0 (h1.trans (by simp only [Fin.isValue, Fin.val_one]; omega))).trans ?_
    refine Ideal.add_congr ?_ rfl
    pointwise; blk_ext
  · rw [dk1]; refine ((head1 _ _ (iblk m c 2 t) (iblk m c 3 t)).dk_at _ h0 (h1)).trans ?_
    refine Ideal.add_congr ?_ rfl
    pointwise; blk_ext
  · rw [dv0]; refine ((head0 _ _ (iblk m c 2 t) (iblk m c 3 t)).dv_at _ h0 (h1.trans (by simp))).trans ?_
    refine Ideal.add_congr ?_ rfl
    pointwise; blk_ext
  · rw [dk0]; refine ((head0 _ _ (iblk m c 2 t) (iblk m c 3 t)).dk_at _ h0 (h1.trans (by simp))).trans ?_
    refine Ideal.add_congr ?_ rfl
    pointwise; blk_ext

end Cert.KernelIdeal.Points
end
-- ==== Proof.Rows.lean ====
module

public import proofs.«01_k».proof.Proof.Points

/-!
What one grid point leaves in the blocks of the rows' gradient and of the normalisation's scale.
-/

@[expose] public section
set_option maxRecDepth 16384
noncomputable section
namespace Cert.KernelIdeal.Points
open Cert.KernelIdeal Cert.KernelIdeal.Gen Idealize.ShloMosaic Idealize.ShloMosaic.TcCoe Idealize.SL.Sem
open Idealize.ShloMosaic.Pipeline (Dat)
open Cert.AttnSpec Cert.KernelIdeal.Heads

/-- Row `r` of the gradient of the normalised rows. -/
abbrev dhnrow (X0 : FVec Ideal S1024x1024 .f32) (X1 X2 : FVec Ideal S1024x1024 .bf16) (X3 : FVec Ideal S256x2048 .bf16)
    (X4 : FVec Ideal S1024x1024 .bf16) (r : Fin 1024) : Fin 1024 → EReal :=
  dotT (dqRow (dsrow X0 X1 X2 X3 r) (kvs X3)) (fun c e => X4 (ix2 c e))

section payloads
variable {X0 : FVec Ideal S1024x1024 .f32} {X1 X2 : FVec Ideal S1024x1024 .bf16} {X3 : FVec Ideal S256x2048 .bf16}
  {X4 : FVec Ideal S1024x1024 .bf16} (X5 : FVec Ideal S1024x1024 .f32) (X6 : FVec Ideal S1x1024 .f32) {Q : FVec Ideal S1024x1024 .bf16}

theorem dh_of (hQ : ∀ r e, Q (ix2 r e) = dqRow (dsrow X0 X1 X2 X3 r) (kvs X3) e) (r c : Fin 1024) :
    k0_pay41 (F := Ideal) Q X4 X5 X6 X0 (ix2 r c) =
      rmsBack (fun e => X0 (ix2 r e)) (dhnrow X0 X1 X2 X3 X4 r) (fun e => X5 (ix2 r e)) (fun e => X6 (ix2 0 e)) c := by
  simp only [dh_apply, hQ]
  rfl

theorem dg_of (hQ : ∀ r e, Q (ix2 r e) = dqRow (dsrow X0 X1 X2 X3 r) (kvs X3) e) (a : Fin 1) (c : Fin 1024) :
    k0_pay40 (F := Ideal) Q X4 X5 (ix2 a c) =
      ∑ r : Fin 1024, dhnrow X0 X1 X2 X3 X4 r c * (X5 (ix2 r c) * rms (fun e => X5 (ix2 r e))) := by
  simp only [dg_apply, hQ]
  rfl
end payloads

variable (m : (ℓ : Loc nD τ sig) → Buf (Elt Ideal) ℓ)

/-- A load of a whole block reads what the stores left. -/
theorem read_whole {κ : Kind} {sp : Space} {S : Shape} {e : EltTy} (v : View sig κ sp S e) (L : List (View.Piece (Elt Ideal) S e))
    {off : Fin S.rank → ℕ} (inb : ∀ a, off a + S.size a ≤ S.size a) (h : ∀ a, off a = 0) :
    v.readCov L (Rect.unit off S.size inb).toLoadRect = View.canon L :=
  (View.readCov_eq_canon' v L _).trans (View.ld_unit_lit inb (View.canon L) h)

/-- The rows' gradient a point leaves. -/
theorem w7 (c : Dev nD) (t : Fin cfg0.N) (r l : Fin 1024) :
    (outsAt0 m c t.val t.isLt).1 (ix2 r l) =
      rmsBack (fun e => iblk m c 0 t (ix2 r e))
        (dhnrow (iblk m c 0 t) (iblk m c 1 t) (iblk m c 2 t) (iblk m c 3 t) (iblk m c 4 t) r)
        (fun e => iblk m c 5 t (ix2 r e)) (fun e => iblk m c 6 t (ix2 0 e)) l := by
  by_cases h0 : t.val % 4 = 0
  · rw [outsAt0_A m c t h0]; frame_out
    refine dh_of _ _ (fun r e => ?_) _ _
    refine Eq.trans ?_ (w9 m c t r e)
    rw [outsAt0_A m c t h0]; frame_out
    exact congrFun (read_whole _ _ _ (by decide)) _
  · rw [outsAt0_B m c t h0]; frame_out
    refine dh_of _ _ (fun r e => ?_) _ _
    refine Eq.trans ?_ (w9 m c t r e)
    rw [outsAt0_B m c t h0]; frame_out
    exact congrFun (read_whole _ _ _ (by decide)) _

/-- Its second copy: the same values. -/
theorem w8 (c : Dev nD) (t : Fin cfg0.N) (r l : Fin 1024) :
    (outsAt0 m c t.val t.isLt).2.1 (ix2 r l) =
      rmsBack (fun e => iblk m c 0 t (ix2 r e))
        (dhnrow (iblk m c 0 t) (iblk m c 1 t) (iblk m c 2 t) (iblk m c 3 t) (iblk m c 4 t) r)
        (fun e => iblk m c 5 t (ix2 r e)) (fun e => iblk m c 6 t (ix2 0 e)) l := by
  by_cases h0 : t.val % 4 = 0
  · rw [outsAt0_A m c t h0]; frame_out
    refine dh_of _ _ (fun r e => ?_) _ _
    refine Eq.trans ?_ (w9 m c t r e)
    rw [outsAt0_A m c t h0]; frame_out
    exact congrFun (read_whole _ _ _ (by decide)) _
  · rw [outsAt0_B m c t h0]; frame_out
    refine dh_of _ _ (fun r e => ?_) _ _
    refine Eq.trans ?_ (w9 m c t r e)
    rw [outsAt0_B m c t h0]; frame_out
    exact congrFun (read_whole _ _ _ (by decide)) _

/-- A point's part of the gradient of the normalisation's scale. -/
def dgBlock (X0 : FVec Ideal S1024x1024 .f32) (X1 X2 : FVec Ideal S1024x1024 .bf16) (X3 : FVec Ideal S256x2048 .bf16)
    (X4 : FVec Ideal S1024x1024 .bf16) (X5 : FVec Ideal S1024x1024 .f32) (c : Fin 1024) : EReal :=
  ∑ r : Fin 1024, dhnrow X0 X1 X2 X3 X4 r c * (X5 (ix2 r c) * rms (fun e => X5 (ix2 r e)))

theorem acc_apply (x y : FVec Ideal S1x1024 .f32) (i : S1x1024.Idx) : k0_pay1 (F := Ideal) x y i = y i + x i := by
  pointwise [k0_pay1]
theorem fill1_apply (i : S1x1024.Idx) : k0_pay3 (F := Ideal) i = (0 : EReal) := by
  pointwise [k0_pay3]

/-- The scale's gradient after the first point: that point's part. -/
theorem w11_A (c : Dev nD) (t : Fin cfg0.N) (h0 : t.val % 4 = 0) (a : Fin 1) (l : Fin 1024) :
    (outsAt0 m c t.val t.isLt).2.2.2.2 (ix2 a l) =
      dgBlock (iblk m c 0 t) (iblk m c 1 t) (iblk m c 2 t) (iblk m c 3 t) (iblk m c 4 t) (iblk m c 5 t) l := by
  rw [outsAt0_A m c t h0]; frame_out
  refine (acc_apply _ _ _).trans ((Ideal.add_congr (fill1_apply _) ?_).trans (zero_add _))
  refine dg_of _ (fun r e => ?_) _ _
  refine Eq.trans ?_ (w9 m c t r e)
  rw [outsAt0_A m c t h0]; frame_out
  exact congrFun (read_whole _ _ _ (by decide)) _

/-- The scale's gradient after a later point: the point's part added to what the point before left. -/
theorem w11_B (c : Dev nD) (t : Fin cfg0.N) (h0 : ¬ t.val % 4 = 0) (a : Fin 1) (l : Fin 1024) :
    (outsAt0 m c t.val t.isLt).2.2.2.2 (ix2 a l) =
      (show EReal from (outsAt0 m c (t.val - 1) (Nat.lt_of_le_of_lt (Nat.sub_le _ _) t.isLt)).2.2.2.2 (ix2 a l)) +
      dgBlock (iblk m c 0 t) (iblk m c 1 t) (iblk m c 2 t) (iblk m c 3 t) (iblk m c 4 t) (iblk m c 5 t) l := by
  rw [outsAt0_B m c t h0]; frame_out
  refine (acc_apply _ _ _).trans (Ideal.add_congr rfl ?_)
  refine dg_of _ (fun r e => ?_) _ _
  refine Eq.trans ?_ (w9 m c t r e)
  rw [outsAt0_B m c t h0]; frame_out
  exact congrFun (read_whole _ _ _ (by decide)) _

end Cert.KernelIdeal.Points
end
-- ==== Proof.Arrays.lean ====
module

public import proofs.«01_k».proof.Proof.Rows
public import proofs.«01_k».proof.Proof.Gen.KernelIdeal.Value
public import Idealize.ShloMosaic.Lib.Claim

/-!
The kernel's five result arrays as functions of its arguments.
-/

@[expose] public section
set_option maxRecDepth 16384
noncomputable section
namespace Cert.KernelIdeal.Arrays
open Cert.KernelIdeal Cert.KernelIdeal.Gen Idealize.ShloMosaic Idealize.ShloMosaic.TcCoe Idealize.SL.Sem
open Idealize.ShloMosaic.Pipeline (Dat)
open Cert.AttnSpec Cert.KernelIdeal.Heads Cert.KernelIdeal.Points

variable (m : (ℓ : Loc nD τ sig) → Buf (Elt Ideal) ℓ) (c : Dev nD)

abbrev a0 : Fin 4096 → Fin 1024 → EReal := ent (a := 4096) (b := 1024) (φ := .f32) (m ((c : Thread nD τ).loc main_arg0))
abbrev a1 : Fin 1024 → Fin 1024 → EReal := ent (a := 1024) (b := 1024) (φ := .bf16) (m ((c : Thread nD τ).loc main_arg1))
abbrev a2 : Fin 256 → Fin 2048 → EReal := ent (a := 256) (b := 2048) (φ := .bf16) (m ((c : Thread nD τ).loc main_arg2))
abbrev a3 : Fin 1024 → Fin 1024 → EReal := ent (a := 1024) (b := 1024) (φ := .bf16) (m ((c : Thread nD τ).loc main_arg3))
abbrev a4 : Fin 4096 → Fin 1024 → EReal := ent (a := 4096) (b := 1024) (φ := .f32) (m ((c : Thread nD τ).loc main_arg4))
abbrev a5 : Fin 1024 → EReal := ent1 (a := 1024) (φ := .f32) (m ((c : Thread nD τ).loc main_arg5))

theorem idx : ∀ t : Fin cfg0.N, win0_0.index t = ![t.val, 0] ∧ win0_1.index t = ![0, 0] ∧ win0_2.index t = ![t.val, 0]
    ∧ win0_3.index t = ![0, 0] ∧ win0_4.index t = ![0, 0] ∧ win0_5.index t = ![t.val, 0] ∧ win0_6.index t = ![0, 0]
    ∧ win0_7.index t = ![t.val, 0] ∧ win0_8.index t = ![t.val, 0] ∧ win0_9.index t = ![t.val, 0] ∧ t.val < 4 :=
  (by decide +kernel : ∀ t : Fin grid0.N, _)

/-- Row `r` of the block of point `t`. -/
def rowOf (t : Fin cfg0.N) (r : Fin 1024) : Fin 4096 := ⟨t.val * 1024 + r, by have := (idx t).2.2.2.2.2.2.2.2.2.2; omega⟩

theorem b0 (t : Fin cfg0.N) (r e : Fin 1024) : (show FVec Ideal S1024x1024 .f32 from iblk m c 0 t) (ix2 r e) = a0 m c (rowOf t r) e := by
  blk_ext [iblk, V, idx t, rowOf]
theorem b1 (t : Fin cfg0.N) (r e : Fin 1024) : (show FVec Ideal S1024x1024 .bf16 from iblk m c 1 t) (ix2 r e) = a1 m c r e := by
  blk_ext [iblk, V, idx t]
theorem b2 (t : Fin cfg0.N) (r e : Fin 1024) : (show FVec Ideal S1024x1024 .bf16 from iblk m c 2 t) (ix2 r e) =
    queries (a3 m c) (a4 m c) (a5 m c) (rowOf t r) e := by
  have h : (show FVec Ideal S1024x1024 .bf16 from iblk m c 2 t) (ix2 r e) =
      (show FVec Ideal S4096x1024 .bf16 from V m c main_v17) (ix2 (rowOf t r) e) := by blk_ext [iblk, idx t, rowOf]
  refine h.trans ?_
  entry_read
  pointwise [queries, rms]
  rfl
theorem b3 (t : Fin cfg0.N) (r : Fin 256) (e : Fin 2048) : (show FVec Ideal S256x2048 .bf16 from iblk m c 3 t) (ix2 r e) = a2 m c r e := by
  blk_ext [iblk, V, idx t]
theorem b4 (t : Fin cfg0.N) (r e : Fin 1024) : (show FVec Ideal S1024x1024 .bf16 from iblk m c 4 t) (ix2 r e) = a3 m c r e := by
  blk_ext [iblk, V, idx t]
theorem b5 (t : Fin cfg0.N) (r e : Fin 1024) : (show FVec Ideal S1024x1024 .f32 from iblk m c 5 t) (ix2 r e) = a4 m c (rowOf t r) e := by
  blk_ext [iblk, V, idx t, rowOf]
theorem b6 (t : Fin cfg0.N) (e : Fin 1024) : (show FVec Ideal S1x1024 .f32 from iblk m c 6 t) (ix2 0 e) = a5 m c e := by
  have h : (show FVec Ideal S1x1024 .f32 from iblk m c 6 t) (ix2 0 e) =
      (show FVec Ideal S1x1024 .f32 from V m c main_v18) (ix2 0 e) := by blk_ext [iblk, idx t]
  refine h.trans ?_
  entry_read
  pointwise

/-! A block's rows. -/
section rows
variable (t : Fin cfg0.N) (r : Fin 1024)

theorem qrow_eq : qrow (iblk m c 2 t) r = queries (a3 m c) (a4 m c) (a5 m c) (rowOf t r) := funext (b2 m c t r)
theorem kvs_eq : kvs (iblk m c 3 t) = a2 m c := funext fun j => funext (b3 m c t j)
theorem orow_eq : orow (iblk m c 0 t) (iblk m c 1 t) r = outs (a0 m c) (a1 m c) (rowOf t r) :=
  congrArg₂ dotT (funext (b0 m c t r)) (funext fun i => funext (b1 m c t i))
theorem dsrow_eq : dsrow (iblk m c 0 t) (iblk m c 1 t) (iblk m c 2 t) (iblk m c 3 t) r =
    dscores (a0 m c) (a1 m c) (a2 m c) (a3 m c) (a4 m c) (a5 m c) (rowOf t r) := by
  rw [dsrow, qrow_eq, orow_eq, kvs_eq]; rfl
theorem prow_eq : prow (iblk m c 2 t) (iblk m c 3 t) r = softs (a2 m c) (a3 m c) (a4 m c) (a5 m c) (rowOf t r) := by
  unfold prow; rw [qrow_eq, kvs_eq]; rfl
theorem dhnrow_eq : dhnrow (iblk m c 0 t) (iblk m c 1 t) (iblk m c 2 t) (iblk m c 3 t) (iblk m c 4 t) r =
    dhns (a0 m c) (a1 m c) (a2 m c) (a3 m c) (a4 m c) (a5 m c) (rowOf t r) := by
  rw [dhnrow, dsrow_eq, kvs_eq]
  exact congrArg (dotT _) (funext fun i => funext (b4 m c t i))

theorem back_eq (l : Fin 1024) :
    rmsBack (fun e => (show FVec Ideal S1024x1024 .f32 from iblk m c 0 t) (ix2 r e))
      (dhnrow (iblk m c 0 t) (iblk m c 1 t) (iblk m c 2 t) (iblk m c 3 t) (iblk m c 4 t) r)
      (fun e => (show FVec Ideal S1024x1024 .f32 from iblk m c 5 t) (ix2 r e))
      (fun e => (show FVec Ideal S1x1024 .f32 from iblk m c 6 t) (ix2 0 e)) l =
    dhs (a0 m c) (a1 m c) (a2 m c) (a3 m c) (a4 m c) (a5 m c) (rowOf t r) l := by
  rw [dhnrow_eq, show (fun e => (show FVec Ideal S1024x1024 .f32 from iblk m c 0 t) (ix2 r e)) = a0 m c (rowOf t r) from
    funext (b0 m c t r), show (fun e => (show FVec Ideal S1024x1024 .f32 from iblk m c 5 t) (ix2 r e)) = a4 m c (rowOf t r) from
    funext (b5 m c t r), show (fun e => (show FVec Ideal S1x1024 .f32 from iblk m c 6 t) (ix2 0 e)) = a5 m c from
    funext (b6 m c t)]
  rfl

theorem w9_eq (l : Fin 1024) : (show FVec Ideal S1024x1024 .bf16 from (outsAt0 m c t.val t.isLt).2.2.1) (ix2 r l) =
    dqs (a0 m c) (a1 m c) (a2 m c) (a3 m c) (a4 m c) (a5 m c) (rowOf t r) l := by
  refine (w9 m c t r l).trans ?_
  rw [dsrow_eq, kvs_eq]; rfl

end rows

theorem dkvBlock_eq (t : Fin cfg0.N) (j : Fin 256) (l : Fin 2048) :
    dkvBlock (iblk m c 0 t) (iblk m c 1 t) (iblk m c 2 t) (iblk m c 3 t) j l =
    ∑ r, (fun R => dkvRow (dscores (a0 m c) (a1 m c) (a2 m c) (a3 m c) (a4 m c) (a5 m c) R)
      (softs (a2 m c) (a3 m c) (a4 m c) (a5 m c) R) (queries (a3 m c) (a4 m c) (a5 m c) R) (outs (a0 m c) (a1 m c) R) j l) (rowOf t r) := by
  unfold dkvBlock
  refine Finset.sum_congr rfl fun r _ => ?_
  rw [dsrow_eq, prow_eq, qrow_eq, orow_eq]

theorem dgBlock_eq (t : Fin cfg0.N) (l : Fin 1024) :
    dgBlock (iblk m c 0 t) (iblk m c 1 t) (iblk m c 2 t) (iblk m c 3 t) (iblk m c 4 t) (iblk m c 5 t) l =
    ∑ r, (fun R => dhns (a0 m c) (a1 m c) (a2 m c) (a3 m c) (a4 m c) (a5 m c) R l * (a4 m c R l * rms (a4 m c R))) (rowOf t r) := by
  unfold dgBlock
  refine Finset.sum_congr rfl fun r _ => ?_
  rw [dhnrow_eq, show (fun e => (show FVec Ideal S1024x1024 .f32 from iblk m c 5 t) (ix2 r e)) = a4 m c (rowOf t r) from
    funext (b5 m c t r)]
  exact congrArg (fun z => _ * (z * _)) (b5 m c t r l)

/-- A sum over the points and their blocks' rows is the sum over all rows. -/
theorem sum_rows (f : Fin 4096 → EReal) : ∑ t : Fin cfg0.N, ∑ r, f (rowOf t r) = ∑ R, f R :=
  ((Fin.sum_univ_tiles 4 1024 (by rfl) f).trans (by rfl)).symm

/-! The five arrays. -/

theorem sum10 (j : Fin 256) (l : Fin 2048) :
    ∑ t : Fin cfg0.N, dkvBlock (iblk m c 0 t) (iblk m c 1 t) (iblk m c 2 t) (iblk m c 3 t) j l =
    dkvs (a0 m c) (a1 m c) (a2 m c) (a3 m c) (a4 m c) (a5 m c) j l := by
  unfold dkvs
  rw [← sum_rows]
  exact Finset.sum_congr rfl fun t _ => dkvBlock_eq m c t j l

theorem sum11 (l : Fin 1024) :
    ∑ t : Fin cfg0.N, dgBlock (iblk m c 0 t) (iblk m c 1 t) (iblk m c 2 t) (iblk m c 3 t) (iblk m c 4 t) (iblk m c 5 t) l =
    dgs (a0 m c) (a1 m c) (a2 m c) (a3 m c) (a4 m c) (a5 m c) l := by
  unfold dgs
  rw [← sum_rows]
  exact Finset.sum_congr rfl fun t _ => dgBlock_eq m c t l

theorem p7 (t : Fin cfg0.N) (r l : Fin 1024) : (show FVec Ideal S1024x1024 .f32 from (outsAt0 m c t.val t.isLt).1) (ix2 r l) =
    dhs (a0 m c) (a1 m c) (a2 m c) (a3 m c) (a4 m c) (a5 m c) (rowOf t r) l :=
  (w7 m c t r l).trans (back_eq m c t r l)

theorem p8 (t : Fin cfg0.N) (r l : Fin 1024) : (show FVec Ideal S1024x1024 .bf16 from (outsAt0 m c t.val t.isLt).2.1) (ix2 r l) =
    dhs (a0 m c) (a1 m c) (a2 m c) (a3 m c) (a4 m c) (a5 m c) (rowOf t r) l :=
  (w8 m c t r l).trans (back_eq m c t r l)

theorem final7 : (dats m 0 c).arrAt 7 cfg0.N = fun i : S4096x1024.Idx =>
    dhs (a0 m c) (a1 m c) (a2 m c) (a3 m c) (a4 m c) (a5 m c) (i 0) (i 1) := by
  refine (dats m 0 c).arrAt_eq_of_covers 7 _ (by decide +kernel) fun t _ y => ?_
  blk_simp
  rw [after0_7]
  idx_vars y
  refine (p7 m c t y0 y1).trans ?_
  generalize dhs _ _ _ _ _ _ = F
  refine congrArg₂ F (Fin.ext ?_) (Fin.ext ?_) <;> blk_simp [idx t, rowOf]

theorem final8 : (dats m 0 c).arrAt 8 cfg0.N = fun i : S4096x1024.Idx =>
    dhs (a0 m c) (a1 m c) (a2 m c) (a3 m c) (a4 m c) (a5 m c) (i 0) (i 1) := by
  refine (dats m 0 c).arrAt_eq_of_covers 8 _ (by decide +kernel) fun t _ y => ?_
  blk_simp
  rw [after0_8]
  idx_vars y
  refine (p8 m c t y0 y1).trans ?_
  generalize dhs _ _ _ _ _ _ = F
  refine congrArg₂ F (Fin.ext ?_) (Fin.ext ?_) <;> blk_simp [idx t, rowOf]

theorem final9 : (dats m 0 c).arrAt 9 cfg0.N = fun i : S4096x1024.Idx =>
    dqs (a0 m c) (a1 m c) (a2 m c) (a3 m c) (a4 m c) (a5 m c) (i 0) (i 1) := by
  refine (dats m 0 c).arrAt_eq_of_covers 9 _ (by decide +kernel) fun t _ y => ?_
  blk_simp
  rw [after0_9]
  idx_vars y
  refine (w9_eq m c t y0 y1).trans ?_
  generalize dqs _ _ _ _ _ _ = F
  refine congrArg₂ F (Fin.ext ?_) (Fin.ext ?_) <;> blk_simp [idx t, rowOf]

theorem final10 : (dats m 0 c).arrAt 10 cfg0.N = fun i : S256x2048.Idx =>
    dkvs (a0 m c) (a1 m c) (a2 m c) (a3 m c) (a4 m c) (a5 m c) (i 0) (i 1) := by
  refine (dats m 0 c).arrAt_eq_of_after_last 10 t0_3 (by decide +kernel) _ fun j => ?_
  blk_simp
  rw [after0_10, Pipeline.eq_sum_fin_of_reset_step_apply_last (fun n h => (outsAt0 m c n h).2.2.2.1) 4 (fun _ => 0)
    (fun t j => dkvBlock (iblk m c 0 t) (iblk m c 1 t) (iblk m c 2 t) (iblk m c 3 t) (j 0) (j 1))
    (fun t h j => by rw [eq_ix2 j]; exact (w10_A m c t h _ _).trans (zero_add _).symm)
    (fun t h j => by rw [eq_ix2 j]; exact w10_B m c t h _ _)
    (le_of_eq N_0) t0_3 rfl j, zero_add]
  exact sum10 m c (j 0) (j 1)

theorem final11 : (dats m 0 c).arrAt 11 cfg0.N = fun i : S1x1024.Idx =>
    dgs (a0 m c) (a1 m c) (a2 m c) (a3 m c) (a4 m c) (a5 m c) (i 1) := by
  refine (dats m 0 c).arrAt_eq_of_after_last 11 t0_3 (by decide +kernel) _ fun j => ?_
  blk_simp
  rw [after0_11, Pipeline.eq_sum_fin_of_reset_step_apply_last (fun n h => (outsAt0 m c n h).2.2.2.2) 4 (fun _ => 0)
    (fun t j => dgBlock (iblk m c 0 t) (iblk m c 1 t) (iblk m c 2 t) (iblk m c 3 t) (iblk m c 4 t) (iblk m c 5 t) (j 1))
    (fun t h j => by rw [eq_ix2 j]; exact (w11_A m c t h _ _).trans (zero_add _).symm)
    (fun t h j => by rw [eq_ix2 j]; exact w11_B m c t h _ _)
    (le_of_eq N_0) t0_3 rfl j, zero_add]
  exact sum11 m c (j 1)

end Cert.KernelIdeal.Arrays
end
-- ==== Proof.Equation.lean ====
module

public import proofs.«01_k».proof.Proof.Spec

/-!
The two forms of the softmax's gradient and of the row normalisation's gradient are equal on the extended reals:
the softmax's where the scores are real numbers, the normalisation's everywhere.
-/

@[expose] public section
noncomputable section
namespace Cert.AttnSpec
open Idealize.ShloMosaic

/-- The gradient of the scores as differentiating `e / L` gives it. -/
def dscoreQ {n : ℕ} (s dp : Fin n → EReal) (j : Fin n) : EReal :=
  (Ideal.div (dp j) (∑ i, ex s i) +
      -(∑ i, dp i * Ideal.div 1 ((∑ i, ex s i) * ∑ i, ex s i) * ex s i)) * ex s j * scl

/-- The constant `-1/2`. -/
def nhalf : EReal := Ideal.ofBits .f32 0xBF000000#32

/-- The mean square of a row plus the constant. -/
def msq (x : Fin 1024 → EReal) : EReal := Ideal.div (∑ c, x c * x c) len + eps

/-- The coefficient of the row in the gradient of the normalisation. -/
def coef (dn x g : Fin 1024 → EReal) : EReal :=
  Ideal.div ((∑ i, x i * (dn i * g i)) * (nhalf * Ideal.div (rms x) (msq x))) len

/-- The gradient of a normalised row as differentiating `x * rsqrt (mean (x * x) + eps)` gives it. -/
def rmsBackQ (dh dn x g : Fin 1024 → EReal) (c : Fin 1024) : EReal :=
  dh c + dn c * g c * rms x + x c * coef dn x g + coef dn x g * x c

/-- An extended real that is a real number. -/
def IsReal (x : EReal) : Prop := ∃ r : ℝ, x = r

theorem IsReal.mul {x y : EReal} : IsReal x → IsReal y → IsReal (x * y) := by
  rintro ⟨a, rfl⟩ ⟨b, rfl⟩; exact ⟨a * b, (EReal.coe_mul a b).symm⟩

theorem coe_sum {ι : Type*} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem IsReal.sum {ι : Type*} {s : Finset ι} {f : ι → EReal} (h : ∀ i, IsReal (f i)) : IsReal (∑ i ∈ s, f i) := by
  choose g hg using h
  exact ⟨∑ i ∈ s, g i, by rw [← coe_sum]; exact Finset.sum_congr rfl fun i _ => hg i⟩

/-- A nonnegative real factor moves into a sum. -/
theorem coe_mul_sum {ι : Type*} {a : ℝ} (ha : 0 ≤ a) (s : Finset ι) (f : ι → EReal) :
    (a : EReal) * ∑ i ∈ s, f i = ∑ i ∈ s, (a : EReal) * f i := by
  classical
  induction s using Finset.induction_on with
  | empty => simp
  | insert b s h ih =>
    rw [Finset.sum_insert h, Finset.sum_insert h, ← ih,
      EReal.left_distrib_of_nonneg_of_ne_top (by exact_mod_cast ha) (EReal.coe_ne_top a)]

theorem scl_eq : scl = ((1 / 16 : ℝ) : EReal) := by
  unfold scl; simp [Ideal.ofBits, Ideal.ieee, -EReal.coe_mul]; norm_num
theorem len_eq : len = ((1024 : ℝ) : EReal) := by
  unfold len; simp [Ideal.ofBits, Ideal.ieee, -EReal.coe_mul]; norm_num
theorem nhalf_eq : nhalf = ((-(1 / 2) : ℝ) : EReal) := by
  unfold nhalf; simp [Ideal.ofBits, Ideal.ieee, -EReal.coe_mul]; norm_num
theorem eps_pos : ∃ e : ℝ, 0 < e ∧ eps = e := by
  unfold eps
  simp [Ideal.ofBits, Ideal.ieee, -EReal.coe_mul]
theorem neg_inf_eq : Ideal.ofBits .f32 0xFF800000#32 = ⊥ := by
  simp [Ideal.ofBits, Ideal.ieee]

/-! The softmax. -/

/-- The greatest of real scores is real. -/
theorem top_real {n : ℕ} [NeZero n] {s : Fin n → EReal} (h : ∀ j, IsReal (s j)) : IsReal (top s) := by
  have : top s = Finset.univ.sup s := by unfold top; rw [neg_inf_eq]; rfl
  obtain ⟨i, -, hi⟩ := Finset.exists_mem_eq_sup (Finset.univ : Finset (Fin n)) ⟨0, Finset.mem_univ _⟩ s
  rw [this, hi]; exact h i

theorem ex_real {n : ℕ} [NeZero n] {s : Fin n → EReal} (h : ∀ j, IsReal (s j)) :
    ∃ E : Fin n → ℝ, (∀ j, 0 < E j) ∧ ∀ j, ex s j = E j := by
  obtain ⟨M, hM⟩ := top_real h
  choose x hx using h
  refine ⟨fun j => Real.exp (x j - M), fun j => Real.exp_pos _, fun j => ?_⟩
  unfold ex
  rw [hM, hx, ← EReal.coe_sub]; rfl

/-- Where the scores are real the two forms of their gradient are equal. -/
theorem dscoreQ_eq {n : ℕ} [NeZero n] {s : Fin n → EReal} (h : ∀ j, IsReal (s j)) (dp : Fin n → EReal) :
    dscoreQ s dp = dscore s dp := by
  obtain ⟨E, hE, he⟩ := ex_real h
  have hL : (0 : ℝ) < ∑ i, E i := Finset.sum_pos (fun i _ => hE i) ⟨0, Finset.mem_univ _⟩
  funext j
  unfold dscoreQ dscore soft
  simp only [he, coe_sum]
  generalize (∑ i, E i) = L at hL
  have hne : L ≠ 0 := hL.ne'
  have ha : (0 : ℝ) ≤ 1 / L := by positivity
  have hLL : (L : EReal) * (L : EReal) = ((L * L : ℝ) : EReal) := (EReal.coe_mul L L).symm
  simp only [hLL, Ideal.div_coe hne, Ideal.div_coe (mul_ne_zero hne hne), one_mul]
  have e : ∑ i, dp i * ((1 / (L * L) : ℝ) : EReal) * (E i : EReal) =
      ((1 / L : ℝ) : EReal) * ∑ i, dp i * ((E i : EReal) * ((1 / L : ℝ) : EReal)) := by
    rw [coe_mul_sum ha]
    refine Finset.sum_congr rfl fun i _ => ?_
    rw [show (1 / (L * L) : ℝ) = 1 / L * (1 / L) by field_simp, EReal.coe_mul]
    ac_rfl
  rw [e, ← mul_neg, mul_comm (dp j), ← EReal.left_distrib_of_nonneg_of_ne_top (by exact_mod_cast ha) (EReal.coe_ne_top _),
    ← sub_eq_add_neg]
  ac_rfl

/-! The row normalisation. -/

theorem add_self_of_nonpos {k : ℝ} (hk : k ≤ 0) (y : EReal) : y * (k : EReal) + y * (k : EReal) = y * ((k + k : ℝ) : EReal) := by
  have := EReal.left_distrib_of_nonneg (a := ((-k : ℝ) : EReal)) (b := ((-k : ℝ) : EReal)) (c := -y)
    (by exact_mod_cast neg_nonneg.mpr hk) (by exact_mod_cast neg_nonneg.mpr hk)
  rw [← EReal.coe_add, ← neg_add, EReal.coe_neg, EReal.coe_neg] at this
  simpa only [neg_mul_neg] using this.symm

theorem mul_self_nonneg' (x : EReal) : 0 ≤ x * x := by
  rcases le_total 0 x with h | h
  · exact EReal.mul_nonneg h h
  · rw [← neg_mul_neg]; exact EReal.mul_nonneg (EReal.neg_nonneg.mpr h) (EReal.neg_nonneg.mpr h)

/-- The mean square plus the constant is positive: a positive real or infinite. -/
theorem msq_cases (x : Fin 1024 → EReal) : msq x = ⊤ ∨ ∃ v : ℝ, 0 < v ∧ msq x = v := by
  obtain ⟨e, he, hee⟩ := eps_pos
  have h0 : 0 ≤ ∑ c, x c * x c := Finset.sum_nonneg fun c _ => mul_self_nonneg' _
  unfold msq
  rw [len_eq, Ideal.div_coe (by norm_num), hee]
  generalize (∑ c, x c * x c) = S at h0
  induction S with
  | bot => exact absurd h0 (by simp)
  | top => left; rw [EReal.top_mul_coe_of_pos (by norm_num)]; rfl
  | coe s =>
    right
    have hs : 0 ≤ s := by exact_mod_cast h0
    exact ⟨s * (1 / 1024) + e, by positivity, by rw [← EReal.coe_mul, ← EReal.coe_add]⟩

theorem rms_top {x : Fin 1024 → EReal} (h : msq x = ⊤) : rms x = 0 := by
  show Ideal.rsqrt (msq x) = 0
  rw [h]; rfl

theorem rms_coe {x : Fin 1024 → EReal} {v : ℝ} (hv : 0 < v) (h : msq x = v) : rms x = (((Real.sqrt v)⁻¹ : ℝ) : EReal) := by
  show Ideal.rsqrt (msq x) = _
  rw [h, Ideal.rsqrt_coe, if_neg (not_lt.mpr hv.le), if_neg hv.ne']

/-- A row whose mean square is real holds real numbers. -/
theorem real_of_msq {x : Fin 1024 → EReal} {v : ℝ} (h : msq x = v) (c : Fin 1024) : IsReal (x c) := by
  by_contra hc
  have ht : x c * x c = ⊤ := by
    generalize x c = z at hc
    induction z with
    | bot => rfl
    | top => rfl
    | coe r => exact absurd ⟨r, rfl⟩ hc
  have hs : ∑ c, x c * x c = ⊤ := top_le_iff.mp (ht ▸ Finset.single_le_sum (f := fun c => x c * x c)
    (fun c _ => mul_self_nonneg' _) (Finset.mem_univ c))
  obtain ⟨e, he, hee⟩ := eps_pos
  unfold msq at h
  rw [hs, len_eq, Ideal.div_coe (by norm_num), hee, EReal.top_mul_coe_of_pos (by norm_num), EReal.top_add_coe] at h
  exact absurd h (EReal.coe_ne_top v).symm

/-- A normalised row holds real numbers, whatever the row holds. -/
theorem norm_real (x : Fin 1024 → EReal) (c : Fin 1024) : IsReal (x c * rms x) := by
  rcases msq_cases x with h | ⟨v, hv, h⟩
  · rw [rms_top h, mul_zero]; exact ⟨0, rfl⟩
  · exact (real_of_msq h c).mul ⟨_, rms_coe hv h⟩

/-- The two forms of the normalisation's gradient are equal. -/
theorem rmsBackQ_eq (dh dn x g : Fin 1024 → EReal) : rmsBackQ dh dn x g = rmsBack dh dn x g := by
  funext c
  unfold rmsBackQ rmsBack coef
  rcases msq_cases x with h | ⟨v, hv, h⟩
  · rw [rms_top h, h, len_eq]
    have e : Ideal.div 0 ⊤ = 0 := by simp [Ideal.div]
    rw [e]
    simp [Ideal.div_coe]
  · have hr := rms_coe hv h
    have hq : (0 : ℝ) < (Real.sqrt v)⁻¹ := by positivity
    have hqq : (1 / v : ℝ) = (Real.sqrt v)⁻¹ * (Real.sqrt v)⁻¹ := by
      rw [← mul_inv, Real.mul_self_sqrt hv.le, one_div]
    rw [hr, h, len_eq, nhalf_eq, Ideal.div_coe hv.ne', Ideal.div_coe (by norm_num), Ideal.div_coe (by norm_num), hqq]
    generalize (Real.sqrt v)⁻¹ = r at hq
    have e : ∑ i, dn i * g i * (x i * (r : EReal)) = (r : EReal) * ∑ i, x i * (dn i * g i) := by
      rw [coe_mul_sum hq.le]; exact Finset.sum_congr rfl fun i _ => by ac_rfl
    rw [e]
    generalize (∑ i, x i * (dn i * g i)) = T
    have k : (r : EReal) * (dn c * g c - x c * (r : EReal) * ((r : EReal) * T * ((1 / 1024 : ℝ) : EReal))) =
        dn c * g c * (r : EReal) + x c * T * ((-(r * r * r * (1 / 1024)) : ℝ) : EReal) := by
      rw [sub_eq_add_neg, EReal.left_distrib_of_nonneg_of_ne_top (by exact_mod_cast hq.le) (EReal.coe_ne_top _), mul_neg,
        EReal.coe_neg, mul_neg, EReal.coe_mul, EReal.coe_mul, EReal.coe_mul]
      congr 1
      · ac_rfl
      · congr 1; ac_rfl
    rw [k]
    have hk : -(1 / 2) * (r * (r * r)) * (1 / 1024) ≤ 0 := by nlinarith [mul_pos hq (mul_pos hq hq)]
    have f : T * (((-(1 / 2) : ℝ) : EReal) * ((r : EReal) * ((r * r : ℝ) : EReal))) * ((1 / 1024 : ℝ) : EReal) =
        T * ((-(1 / 2) * (r * (r * r)) * (1 / 1024) : ℝ) : EReal) := by
      simp only [EReal.coe_mul]; ac_rfl
    rw [f, mul_comm _ (x c), add_assoc (dh c + _), ← mul_assoc (x c), add_self_of_nonpos hk, add_assoc]
    congr 4
    ring

/-! The scores. -/

theorem hscore_real {q : Fin 1024 → EReal} {kv : Fin 256 → Fin 2048 → EReal} (hq : ∀ c, IsReal (q c))
    (hk : ∀ j c, IsReal (kv j c)) (h : Fin 4) (j : Fin 256) : IsReal (hscore q kv h j) :=
  (IsReal.sum fun d => (hq _).mul (hk _ _)).mul ⟨_, scl_eq⟩

theorem queries_real {a3 : Fin 1024 → Fin 1024 → EReal} {a4 : Fin 4096 → Fin 1024 → EReal} {a5 : Fin 1024 → EReal}
    (h3 : ∀ e c, IsReal (a3 e c)) (h5 : ∀ e, IsReal (a5 e)) (R : Fin 4096) (c : Fin 1024) : IsReal (queries a3 a4 a5 R c) :=
  IsReal.sum fun e => ((norm_real (a4 R) e).mul (h5 e)).mul (h3 e c)

end Cert.AttnSpec
end
-- ==== Proof.Ref.lean ====
module

public import proofs.«01_k».proof.Proof.Equation
public import proofs.«01_k».proof.Proof.Gen.ReferenceIdeal.Read

/-!
The reference's five results at an index, as the functions of `Spec` with the gradients in the reference's own forms.
-/

@[expose] public section
set_option maxRecDepth 16384
noncomputable section
namespace Cert.ReferenceIdeal.Ref
open Cert.ReferenceIdeal Cert.ReferenceIdeal.Read Idealize.ShloMosaic
open Cert.AttnSpec

variable (x0 : FVec Ideal S4096x1024 .f32) (x1 : FVec Ideal S1024x1024 .bf16) (x2 : FVec Ideal S256x2048 .bf16)
  (x3 : FVec Ideal S1024x1024 .bf16) (x4 : FVec Ideal S4096x1024 .f32) (x5 : FVec Ideal S1024 .f32)

theorem msq_at (R : Fin 4096) (z : Fin 1) : val_main_v9 (F := Ideal) x4 (ix2 R z) = msq (ent x4 R) := by
  unfold val_main_v9 val_main_v8 val_main_v7 val_main_v6 val_main_v5 val_main_v4 val_main_v3 val_main_cst val_main_cst_0 val_main_cst_1
  pointwise [msq]
  rfl

theorem q_at (R : Fin 4096) (c : Fin 1024) : val_main_v19 (F := Ideal) x3 x4 x5 (ix2 R c) =
    queries (ent x3) (ent x4) (ent1 x5) R c := by
  unfold val_main_v19 val_main_v18 val_main_v17 val_main_v16 val_main_v15 val_main_v14 val_main_v10 val_main_v2
  pointwise [queries, msq_at]
  rfl

/-- The scores of row `R`. -/
abbrev sc (R : Fin 4096) (h : Fin 4) : Fin 256 → EReal := hscore (queries (ent x3) (ent x4) (ent1 x5) R) (ent x2) h
/-- The gradient of the softmax of row `R`. -/
abbrev dp (R : Fin 4096) (h : Fin 4) : Fin 256 → EReal := hdp (outs (ent x0) (ent x1) R) (ent x2) h

theorem score_at (h : Fin 4) (R : Fin 4096) (j : Fin 256) : val_main_v27 (F := Ideal) x2 x3 x4 x5 (ix3 h R j) = sc x2 x3 x4 x5 R h j := by
  unfold val_main_v27 val_main_v26 val_main_v25 val_main_v23 val_main_v21 val_main_v20 val_main_v1 val_main_cst_3
  pointwise [q_at]
  rfl

theorem max_at (h : Fin 4) (R : Fin 4096) : val_main_v28 (F := Ideal) x2 x3 x4 x5 (ix2 h R) =
    top fun j => val_main_v27 (F := Ideal) x2 x3 x4 x5 (ix3 h R j) := by
  unfold val_main_v28 val_main_cst_4
  generalize val_main_v27 (F := Ideal) x2 x3 x4 x5 = S
  unfold top
  pointwise

theorem top_at (h : Fin 4) (R : Fin 4096) : val_main_v35 (F := Ideal) x2 x3 x4 x5 (ix2 h R) = top (sc x2 x3 x4 x5 R h) := by
  rw [val_main_v35_apply, val_main_v34_apply, val_main_cst_6_apply, max_at,
    show (fun j => val_main_v27 (F := Ideal) x2 x3 x4 x5 (ix3 h R j)) = sc x2 x3 x4 x5 R h from
    funext (score_at x2 x3 x4 x5 h R), Ideal.ofBits_def, neg_inf_eq]
  exact max_eq_right bot_le

theorem ex_at (h : Fin 4) (R : Fin 4096) (j : Fin 256) : val_main_v48 (F := Ideal) x2 x3 x4 x5 (ix3 h R j) = ex (sc x2 x3 x4 x5 R h) j := by
  unfold val_main_v48 val_main_v47 val_main_v46 val_main_v45
  pointwise [score_at, top_at]
  rfl

theorem sum_at (h : Fin 4) (R : Fin 4096) (z : Fin 1) : val_main_v50 (F := Ideal) x2 x3 x4 x5 (ix3 h R z) = ∑ j, ex (sc x2 x3 x4 x5 R h) j := by
  unfold val_main_v50 val_main_v49 val_main_cst_12
  pointwise [ex_at]

theorem soft_at (h : Fin 4) (R : Fin 4096) (j : Fin 256) : val_main_v52 (F := Ideal) x2 x3 x4 x5 (ix3 h R j) = soft (sc x2 x3 x4 x5 R h) j := by
  unfold val_main_v52 val_main_v51
  pointwise [ex_at, sum_at]
  rfl

theorem o_at (R : Fin 4096) (c : Fin 1024) : val_main_v62 (F := Ideal) x0 x1 (ix2 R c) = outs (ent x0) (ent x1) R c := by
  unfold val_main_v62 val_main_v61 val_main_v0
  pointwise
  rfl

theorem dp_at (h : Fin 4) (R : Fin 4096) (j : Fin 256) : val_main_v65 (F := Ideal) x0 x1 x2 (ix3 h R j) = dp x0 x1 x2 R h j := by
  unfold val_main_v65 val_main_v64 val_main_v63 val_main_v24 val_main_v22 val_main_v1
  pointwise [o_at]
  rfl

theorem ds_at (h : Fin 4) (R : Fin 4096) (j : Fin 256) : val_main_v81 (F := Ideal) x0 x1 x2 x3 x4 x5 (ix3 h R j) =
    dscoreQ (sc x2 x3 x4 x5 R h) (dp x0 x1 x2 R h) j := by
  unfold val_main_v81 val_main_v80 val_main_v79 val_main_v78 val_main_v77 val_main_v76 val_main_v75 val_main_v74 val_main_v73
    val_main_v72 val_main_v71 val_main_v70 val_main_v69 val_main_v68 val_main_v55 val_main_v54 val_main_v53
    val_main_cst_13 val_main_cst_14 val_main_cst_15 val_main_cst_16
  pointwise [dp_at, ex_at, sum_at]
  rw [Fin.sum_univ_one]
  rfl

/-! The results. -/

/-- The gradient of row `R`'s scores, in the reference's form. -/
abbrev dsQ (R : Fin 4096) : Fin 4 → Fin 256 → EReal := fun h => dscoreQ (sc x2 x3 x4 x5 R h) (dp x0 x1 x2 R h)

theorem dq_at (R : Fin 4096) (c : Fin 1024) : val_main_v89 (F := Ideal) x0 x1 x2 x3 x4 x5 (ix2 R c) =
    dqRow (dsQ x0 x1 x2 x3 x4 x5 R) (ent x2) c := by
  unfold val_main_v89 val_main_v85 val_main_v84 val_main_v23 val_main_v21 val_main_v1
  pointwise [ds_at]
  rfl

theorem dk_at (j : Fin 256) (c : Fin 1024) : val_main_v87 (F := Ideal) x0 x1 x2 x3 x4 x5 (ix2 j c) =
    ∑ R, dsQ x0 x1 x2 x3 x4 x5 R (headOf c) j * queries (ent x3) (ent x4) (ent1 x5) R c := by
  unfold val_main_v87 val_main_v83 val_main_v82 val_main_v20
  pointwise [ds_at, q_at]
  rfl

theorem dv_at (j : Fin 256) (c : Fin 1024) : val_main_v86 (F := Ideal) x0 x1 x2 x3 x4 x5 (ix2 j c) =
    ∑ R, soft (sc x2 x3 x4 x5 R (headOf c)) j * outs (ent x0) (ent x1) R c := by
  unfold val_main_v86 val_main_v67 val_main_v66 val_main_v64 val_main_v63
  pointwise [soft_at, o_at]
  exact Finset.sum_congr rfl fun R _ => mul_comm _ _

theorem dkv_at (j : Fin 256) (c : Fin 2048) : val_main_v88 (F := Ideal) x0 x1 x2 x3 x4 x5 (ix2 j c) =
    ∑ R, dkvRow (dsQ x0 x1 x2 x3 x4 x5 R) (fun h => soft (sc x2 x3 x4 x5 R h)) (queries (ent x3) (ent x4) (ent1 x5) R)
      (outs (ent x0) (ent x1) R) j c := by
  have ek := dk_at x0 x1 x2 x3 x4 x5 j
  have ev := dv_at x0 x1 x2 x3 x4 x5 j
  unfold val_main_v88
  generalize val_main_v87 (F := Ideal) x0 x1 x2 x3 x4 x5 = K at ek
  generalize val_main_v86 (F := Ideal) x0 x1 x2 x3 x4 x5 = W at ev
  pointwise
  by_cases h : c.val < 1024
  · rw [dif_pos h, ek]
    exact Finset.sum_congr rfl fun R _ => (dkvRow_key _ _ _ _ j ⟨c, h⟩).symm
  · rw [dif_neg h, ev]
    refine Finset.sum_congr rfl fun R _ => ?_
    unfold dkvRow
    rw [dif_neg h]

/-- The gradient of row `R`'s normalisation, in the reference's form. -/
abbrev dhnQ (R : Fin 4096) : Fin 1024 → EReal := dotT (dqRow (dsQ x0 x1 x2 x3 x4 x5 R) (ent x2)) (ent x3)

theorem dhn_at (R : Fin 4096) (c : Fin 1024) : val_main_v90 (F := Ideal) x0 x1 x2 x3 x4 x5 (ix2 R c) =
    dhnQ x0 x1 x2 x3 x4 x5 R c := by
  unfold val_main_v90 val_main_v2
  pointwise [dq_at]
  rfl

theorem dg_at (z : Fin 1) (c : Fin 1024) : val_main_v114 (F := Ideal) x0 x1 x2 x3 x4 x5 (ix2 z c) =
    ∑ R, dhnQ x0 x1 x2 x3 x4 x5 R c * (ent x4 R c * rms (ent x4 R)) := by
  unfold val_main_v114 val_main_v96 val_main_v93 val_main_v92 val_main_v91 val_main_v15 val_main_v14 val_main_v10
    val_main_cst_17 val_main_cst_18
  pointwise [dhn_at, msq_at]
  rw [Fin.sum_univ_one]
  exact Finset.sum_congr rfl fun R _ => mul_comm _ _

theorem dh_at (R : Fin 4096) (c : Fin 1024) : val_main_v111 (F := Ideal) x0 x1 x2 x3 x4 x5 (ix2 R c) =
    rmsBackQ (ent x0 R) (dhnQ x0 x1 x2 x3 x4 x5 R) (ent x4 R) (ent1 x5) c := by
  unfold val_main_v111 val_main_v110 val_main_v109 val_main_v108 val_main_v107 val_main_v106 val_main_v105 val_main_v104
    val_main_v103 val_main_v102 val_main_v101 val_main_v100 val_main_v99 val_main_v98 val_main_v97 val_main_v95 val_main_v94
    val_main_v16 val_main_v13 val_main_v12 val_main_v11 val_main_v10 val_main_cst_19 val_main_cst_20 val_main_cst_21 val_main_cst_2
  pointwise [dhn_at, msq_at]
  rw [Fin.sum_univ_one]
  rfl

end Cert.ReferenceIdeal.Ref
end
-- ==== Proof.Pre.lean ====
module

public import proofs.«01_k».proof.Defs
public import proofs.«01_k».proof.Proof.Arrays
public import proofs.«01_k».proof.Proof.Equation

/-!
The precondition: the memory's keys and values, the query projection and the normalisation's scale hold real numbers.
-/

@[expose] public section
set_option maxRecDepth 16384
noncomputable section
namespace Cert.Precondition
open Idealize.ShloMosaic Idealize.ShloMosaic.TcCoe
open Cert.AttnSpec Cert.KernelIdeal.Arrays

instance facts : Cert.Pre_finite_inputs.Facts where
  bitsLt_bf16_f32 := by decide
  bcast_S_S256x2048 := by decide
  bcast_S_S1024x1024 := by decide
  bcast_S_S1024 := by decide

/-- A number whose absolute value is below infinity is real. -/
theorem real_of_lt {x : EReal} (h : FloatOps.cmpf (F := Ideal) (φ := .f32) .olt (FloatOps.hostAbsf (F := Ideal) (φ := .f32) x)
    (Ideal.ofBits .f32 0x7F800000#32) = 1#1) : IsReal x := by
  have e : Ideal.ofBits .f32 0x7F800000#32 = ⊤ := by simp [Ideal.ofBits, Ideal.ieee]
  rw [e] at h
  change Ideal.cmp .olt (max x (-x)) ⊤ = 1#1 at h
  induction x with
  | bot => simp [Ideal.cmp] at h
  | top => simp [Ideal.cmp] at h
  | coe r => exact ⟨r, rfl⟩

variable {m : (ℓ : Loc Cert.KernelIdeal.nD Cert.KernelIdeal.τ Cert.KernelIdeal.sig) → Buf (Elt Ideal) ℓ}

theorem real2 (h : Cert.Pre_KernelIdeal_finite_inputs m) (c) (j : Fin 256) (l : Fin 2048) : IsReal (a2 m c j l) := by
  have := congrFun (h c).1 (ix2 j l)
  unfold Cert.Pre_finite_inputs.fn at this
  exact real_of_lt this

theorem real3 (h : Cert.Pre_KernelIdeal_finite_inputs m) (c) (j l : Fin 1024) : IsReal (a3 m c j l) := by
  have := congrFun (h c).2.1 (ix2 j l)
  unfold Cert.Pre_finite_inputs.fn at this
  exact real_of_lt this

theorem real5 (h : Cert.Pre_KernelIdeal_finite_inputs m) (c) (j : Fin 1024) : IsReal (a5 m c j) := by
  have := congrFun (h c).2.2 (ix1 j)
  unfold Cert.Pre_finite_inputs.fn at this
  exact real_of_lt this

end Cert.Precondition
end
-- ==== Proof.FfnSpec.lean ====
module

public import proofs.«01_k».proof.Proof.Equation

/-!
The SwiGLU block's gradient as functions of its arguments: the gate's and the up projection's gradients, the normalised rows',
the rows' and the norm's scale's. The gate's gradient has two forms, equal where its arguments are real.
-/

@[expose] public section
noncomputable section
namespace Cert.FfnSpec
open Idealize.ShloMosaic Cert.AttnSpec

/-- The logistic function. -/
def sg (x : EReal) : EReal := Ideal.logistic x
/-- The gradient of the gate, from the gradient `d` of the activation: the kernel's form. -/
def dgate (d g u : EReal) : EReal := d * u * (sg g * (1 + g * (1 - sg g)))
/-- The gradient of the gate as differentiating `g * sg g` gives it. -/
def dgateQ (d g u : EReal) : EReal := d * u * sg g + g * (d * u) * (sg g * (1 - sg g))
/-- The gradient of the up projection. -/
def dup (d g : EReal) : EReal := d * (g * sg g)

/-- A gate column of the joined projection. -/
def gcol (j : Fin 2816) : Fin 5632 := ⟨j, by omega⟩
/-- An up column of the joined projection. -/
def ucol (j : Fin 2816) : Fin 5632 := ⟨2816 + j, by omega⟩

/-- The two gradients of one row, from the activation's gradient `d` and the row's joined projection `p`. -/
def dguRow (d : Fin 2816 → EReal) (p : Fin 2 → Fin 2816 → EReal) (s : Fin 2) (j : Fin 2816) : EReal :=
  if s = 0 then dgate (d j) (p 0 j) (p 1 j) else dup (d j) (p 0 j)
/-- The gradient of the normalised row, from the row's two gradients and the two weights. -/
def dhnRow (q : Fin 2 → Fin 2816 → EReal) (w : Fin 2 → Fin 1024 → Fin 2816 → EReal) (c : Fin 1024) : EReal :=
  (∑ j, q 0 j * w 0 c j) + ∑ j, q 1 j * w 1 c j

/-- The half `s` of a joined projection: the gate's columns or the up columns. -/
def half (f : Fin 5632 → EReal) (s : Fin 2) (j : Fin 2816) : EReal := if s = 0 then f (gcol j) else f (ucol j)

section results
variable (a0 : Fin 4096 → Fin 1024 → EReal) (a1 : Fin 2816 → Fin 1024 → EReal) (a2 : Fin 1024 → Fin 5632 → EReal)
  (a3 : Fin 4096 → Fin 1024 → EReal) (a4 : Fin 1024 → EReal)

/-- The joined projection of the normalised rows. -/
def gus (R : Fin 4096) (c : Fin 5632) : EReal := ∑ e, a3 R e * rms (a3 R) * a4 e * a2 e c
/-- The gradient of the activation. -/
def dacts (R : Fin 4096) : Fin 2816 → EReal := dotT (a0 R) a1
/-- The gradients of gate and up. -/
def dgus (R : Fin 4096) : Fin 2 → Fin 2816 → EReal := dguRow (dacts a0 a1 R) (half (gus a2 a3 a4 R))
/-- The gradient of the normalised rows. -/
def dhnf (R : Fin 4096) : Fin 1024 → EReal :=
  dhnRow (dgus a0 a1 a2 a3 a4 R) (fun s c => half (a2 c) s)
/-- The gradient of the rows. -/
def dhf (R : Fin 4096) : Fin 1024 → EReal := rmsBack (a0 R) (dhnf a0 a1 a2 a3 a4 R) (a3 R) a4
/-- The gradient of the normalisation's scale. -/
def dgf (c : Fin 1024) : EReal := ∑ R, dhnf a0 a1 a2 a3 a4 R c * (a3 R c * rms (a3 R))
end results

theorem IsReal.gus {a2 : Fin 1024 → Fin 5632 → EReal} {a3 : Fin 4096 → Fin 1024 → EReal} {a4 : Fin 1024 → EReal}
    (h2 : ∀ e c, IsReal (a2 e c)) (h4 : ∀ e, IsReal (a4 e)) (R : Fin 4096) (c : Fin 5632) : IsReal (gus a2 a3 a4 R c) :=
  IsReal.sum fun e => ((norm_real (a3 R) e).mul (h4 e)).mul (h2 e c)

/-- The logistic function of a real number is real. -/
theorem sg_coe (r : ℝ) : IsReal (sg r) := by
  unfold sg Ideal.logistic
  rw [← EReal.coe_neg, Ideal.exp_coe, ← EReal.coe_one, ← EReal.coe_add,
    Ideal.div_coe (by positivity), ← EReal.coe_mul]
  exact ⟨_, rfl⟩

/-- The two forms of the gate's gradient are equal on real numbers. -/
theorem dgateQ_eq {d g u : EReal} (hd : IsReal d) (hg : IsReal g) (hu : IsReal u) : dgateQ d g u = dgate d g u := by
  obtain ⟨d, rfl⟩ := hd
  obtain ⟨g, rfl⟩ := hg
  obtain ⟨u, rfl⟩ := hu
  obtain ⟨s, hs⟩ := sg_coe g
  unfold dgateQ dgate
  rw [hs]
  norm_cast
  ring

end Cert.FfnSpec
end
-- ==== Proof.FfnBlock.lean ====
module

public import proofs.«01_k».proof.Proof.Gen.Kernel2Ideal.Skeleton
public import Idealize.ShloMosaic.Lib.Pointwise
public import proofs.«01_k».proof.Proof.FfnSpec

/-!
One block of 512 rows of the SwiGLU block's gradient: the stored pieces, entry by entry.
-/

@[expose] public section
set_option maxRecDepth 16384
noncomputable section
namespace Cert.Kernel2Ideal.Block
open Cert.Kernel2Ideal Cert.Kernel2Ideal.Gen Idealize.ShloMosaic Idealize.ShloMosaic.TcCoe Idealize.SL.Sem Cert.AttnSpec Cert.FfnSpec

/-- The quotient the kernel writes is the logistic function. -/
theorem sg_eq (x : EReal) : Ideal.div 1 (1 + Ideal.exp (0 - x)) = sg x := by
  rw [zero_sub]; rfl

section pieces
variable (X : FVec Ideal S512x1024 .f32) (D : FVec Ideal S512x1024 .bf16) (W : FVec Ideal S1024x1024 .bf16)
  (G U : FVec Ideal S1x512x1024 .bf16) (W' : FVec Ideal S768x1024 .bf16) (G' U' : FVec Ideal S1x512x768 .bf16)

theorem act0 (r : Fin 512) (j : Fin 1024) : k0_pay5 (F := Ideal) X W (ix2 r j) = ∑ e, X (ix2 r e) * W (ix2 j e) := by
  pointwise [k0_pay5, k0_pay4]
theorem gate0 (r : Fin 512) (j : Fin 1024) : k0_pay6 (F := Ideal) G (ix2 r j) = G (ix3 0 r j) := by
  pointwise [k0_pay6]
theorem sg0 (r : Fin 512) (j : Fin 1024) : k0_pay7 (F := Ideal) G (ix2 r j) = sg (G (ix3 0 r j)) := by
  rw [← sg_eq, ← gate0 G r j]
  pointwise [k0_pay7]
theorem dgate0 (a : Fin 1) (r : Fin 512) (j : Fin 1024) : k0_pay8 (F := Ideal) X W G U (ix3 a r j) =
    dgate (∑ e, X (ix2 r e) * W (ix2 j e)) (G (ix3 0 r j)) (U (ix3 0 r j)) := by
  rw [dgate, ← act0, ← sg0, ← gate0 G r j]
  pointwise [k0_pay8]
theorem dup0 (a : Fin 1) (r : Fin 512) (j : Fin 1024) : k0_pay10 (F := Ideal) (k0_pay9 (F := Ideal) X W G) (ix3 a r j) =
    dup (∑ e, X (ix2 r e) * W (ix2 j e)) (G (ix3 0 r j)) := by
  rw [dup, ← act0, ← sg0, ← gate0 G r j]
  pointwise [k0_pay10, k0_pay9]

/-! The second piece runs the first's operations. -/
theorem dgate1_eq : k0_pay14 (F := Ideal) (k0_pay4 (F := Ideal) X) W G U = k0_pay8 (F := Ideal) X W G U := rfl
theorem dup1_eq : k0_pay15 (F := Ideal) (k0_pay4 (F := Ideal) X) W G = k0_pay10 (F := Ideal) (k0_pay9 (F := Ideal) X W G) := rfl

theorem act2 (r : Fin 512) (j : Fin 768) :
    k0_pay16 (F := Ideal) (k0_pay4 (F := Ideal) X) W' (ix2 r j) = ∑ e, X (ix2 r e) * W' (ix2 j e) := by
  pointwise [k0_pay16, k0_pay4]
theorem gate2 (r : Fin 512) (j : Fin 768) : k0_pay17 (F := Ideal) G' (ix2 r j) = G' (ix3 0 r j) := by
  pointwise [k0_pay17]
theorem sg2 (r : Fin 512) (j : Fin 768) : k0_pay18 (F := Ideal) G' (ix2 r j) = sg (G' (ix3 0 r j)) := by
  rw [← sg_eq, ← gate2 G' r j]
  pointwise [k0_pay18]
theorem dgate2 (a : Fin 1) (r : Fin 512) (j : Fin 768) :
    k0_pay19 (F := Ideal) (k0_pay4 (F := Ideal) X) W' G' U' (ix3 a r j) =
    dgate (∑ e, X (ix2 r e) * W' (ix2 j e)) (G' (ix3 0 r j)) (U' (ix3 0 r j)) := by
  rw [dgate, ← act2, ← sg2, ← gate2 G' r j]
  generalize k0_pay4 (F := Ideal) X = D
  pointwise [k0_pay19]
theorem dup2 (a : Fin 1) (r : Fin 512) (j : Fin 768) : k0_pay20 (F := Ideal) (k0_pay4 (F := Ideal) X) W' G' (ix3 a r j) =
    dup (∑ e, X (ix2 r e) * W' (ix2 j e)) (G' (ix3 0 r j)) := by
  rw [dup, ← act2, ← sg2, ← gate2 G' r j]
  generalize k0_pay4 (F := Ideal) X = D
  pointwise [k0_pay20]
end pieces

section rows
variable (P Q : FVec Ideal S1x512x2816 .bf16) (V W : FVec Ideal S1x1024x2816 .bf16) (X H : FVec Ideal S512x1024 .f32)
  (G : FVec Ideal S1x1024 .f32)

/-- Row `r`'s gradient of the normalised rows, from the two gradients and the two weights. -/
abbrev dhnv (r : Fin 512) (c : Fin 1024) : EReal :=
  (∑ j : Fin 2816, P (ix3 0 r j) * V (ix3 0 c j)) + ∑ j : Fin 2816, Q (ix3 0 r j) * W (ix3 0 c j)

theorem dhn_apply (r : Fin 512) (c : Fin 1024) : k0_pay21 (F := Ideal) P V Q W (ix2 r c) = dhnv P Q V W r c := by
  pointwise [k0_pay21]
theorem rms_apply (r : Fin 512) (c : Fin 1) : k0_pay22 (F := Ideal) H (ix2 r c) = rms (fun e => H (ix2 r e)) := by
  pointwise [k0_pay22]
  rfl
theorem norm_apply (r : Fin 512) (c : Fin 1024) :
    k0_pay23 (F := Ideal) H (ix2 r c) = H (ix2 r c) * rms (fun e => H (ix2 r e)) := by
  rw [← rms_apply H r 0]
  pointwise [k0_pay23]

/-- The block's part of the gradient of the normalisation's scale. -/
theorem dg_apply (a : Fin 1) (c : Fin 1024) : k0_pay24 (F := Ideal) P V Q W H (ix2 a c) =
    ∑ r : Fin 512, dhnv P Q V W r c * (H (ix2 r c) * rms (fun e => H (ix2 r e))) := by
  simp only [← norm_apply, ← dhn_apply]
  pointwise [k0_pay24]

/-- The gradient of the rows. -/
theorem dh_apply (r : Fin 512) (c : Fin 1024) : k0_pay25 (F := Ideal) X P V Q W H G (ix2 r c) =
    rmsBack (fun c => X (ix2 r c)) (dhnv P Q V W r) (fun c => H (ix2 r c)) (fun c => G (ix2 0 c)) c := by
  simp only [rmsBack, ← norm_apply, ← dhn_apply, ← rms_apply H r 0]
  pointwise [k0_pay25]
  rfl
end rows
end Cert.Kernel2Ideal.Block
end
-- ==== Proof.FfnPoints.lean ====
module

public import proofs.«01_k».proof.Proof.Gen.Kernel2Ideal.Frame
public import Idealize.ShloMosaic.Lib.Pipeline.ValueKit
public import Idealize.ShloMosaic.Lib.Pipeline.ReadBack
public import proofs.«01_k».proof.Proof.FfnBlock

/-!
What one grid point of the SwiGLU block's gradient leaves in each output block, in terms of the point's input blocks.
-/

@[expose] public section
set_option maxRecDepth 16384
noncomputable section
namespace Cert.Kernel2Ideal.Points
open Cert.Kernel2Ideal Cert.Kernel2Ideal.Gen Idealize.ShloMosaic Idealize.ShloMosaic.TcCoe Idealize.SL.Sem
open Idealize.ShloMosaic.Pipeline (Dat)
open Cert.AttnSpec Cert.FfnSpec Cert.Kernel2Ideal.Block

section payloads
variable {X0 : FVec Ideal S512x1024 .f32} {X1 : FVec Ideal S2816x1024 .bf16} {X2 : FVec Ideal S2x512x2816 .bf16}
  {W : FVec Ideal S1024x1024 .bf16} {G U : FVec Ideal S1x512x1024 .bf16} {W' : FVec Ideal S768x1024 .bf16}
  {G' U' : FVec Ideal S1x512x768 .bf16}

variable (X0 X1 X2) in
/-- Row `r` of a block's gradients of gate and up. -/
abbrev dgur (r : Fin 512) : Fin 2 → Fin 2816 → EReal :=
  dguRow (dotT (fun e => X0 (ix2 r e)) (fun j e => X1 (ix2 j e))) (fun s j => X2 (ix3 s r j))

variable {s : Fin 2} {R r : Fin 512} {J : Fin 2816} {j : Fin 1024} {i : Fin 768} {a : Fin 1}

theorem dgate0_at (hs : (s : ℕ) = 0) (hr : (R : ℕ) = r) (hW : ∀ e, W (ix2 j e) = X1 (ix2 J e)) (hG : G (ix3 0 r j) = X2 (ix3 0 R J))
    (hU : U (ix3 0 r j) = X2 (ix3 1 R J)) : k0_pay8 (F := Ideal) X0 W G U (ix3 a r j) = dgur X0 X1 X2 R s J := by
  obtain rfl : s = 0 := Fin.ext hs
  obtain rfl : R = r := Fin.ext hr
  rw [dgate0]; simp only [hW, hG, hU]; rfl
theorem dup0_at (hs : (s : ℕ) = 1) (hr : (R : ℕ) = r) (hW : ∀ e, W (ix2 j e) = X1 (ix2 J e)) (hG : G (ix3 0 r j) = X2 (ix3 0 R J)) :
    k0_pay10 (F := Ideal) (k0_pay9 (F := Ideal) X0 W G) (ix3 a r j) = dgur X0 X1 X2 R s J := by
  obtain rfl : s = 1 := Fin.ext hs
  obtain rfl : R = r := Fin.ext hr
  rw [dup0]; simp only [hW, hG]; rfl
theorem dgate2_at (hs : (s : ℕ) = 0) (hr : (R : ℕ) = r) (hW : ∀ e, W' (ix2 i e) = X1 (ix2 J e)) (hG : G' (ix3 0 r i) = X2 (ix3 0 R J))
    (hU : U' (ix3 0 r i) = X2 (ix3 1 R J)) :
    k0_pay19 (F := Ideal) (k0_pay4 (F := Ideal) X0) W' G' U' (ix3 a r i) = dgur X0 X1 X2 R s J := by
  obtain rfl : s = 0 := Fin.ext hs
  obtain rfl : R = r := Fin.ext hr
  rw [dgate2]; simp only [hW, hG, hU]; rfl
theorem dup2_at (hs : (s : ℕ) = 1) (hr : (R : ℕ) = r) (hW : ∀ e, W' (ix2 i e) = X1 (ix2 J e)) (hG : G' (ix3 0 r i) = X2 (ix3 0 R J)) :
    k0_pay20 (F := Ideal) (k0_pay4 (F := Ideal) X0) W' G' (ix3 a r i) = dgur X0 X1 X2 R s J := by
  obtain rfl : s = 1 := Fin.ext hs
  obtain rfl : R = r := Fin.ext hr
  rw [dup2]; simp only [hW, hG]; rfl
end payloads

/-! The loads of the three ranges of columns. -/
section loads
variable (X1 : FVec Ideal S2816x1024 .bf16) (X2 : FVec Ideal S2x512x2816 .bf16) {J : Fin 2816} {j : Fin 1024} {i : Fin 768}

def wd0 : FVec Ideal S1024x1024 .bf16 :=
  View.ld (Val := Elt Ideal) (e' := .bf16) X1 (Rect.unit (s := S2816x1024) ![0, 0] ![1024, 1024] inb_S2816x1024_S1024x1024_0_0)
def g0 : FVec Ideal S1x512x1024 .bf16 :=
  View.ld (Val := Elt Ideal) (e' := .bf16) X2 (Rect.unit (s := S2x512x2816) ![0, 0, 0] ![1, 512, 1024] inb_S2x512x2816_S1x512x1024_0_0_0)
def u0 : FVec Ideal S1x512x1024 .bf16 :=
  View.ld (Val := Elt Ideal) (e' := .bf16) X2 (Rect.unit (s := S2x512x2816) ![1, 0, 0] ![1, 512, 1024] inb_S2x512x2816_S1x512x1024_1_0_0)
theorem wd0_at (h : (J : ℕ) = 0 + j) (e : Fin 1024) : wd0 X1 (ix2 j e) = X1 (ix2 J e) := by
  obtain ⟨J, hJ⟩ := J
  obtain rfl : J = 0 + j := h
  unfold wd0; pointwise; try blk_ext
theorem g0_at (h : (J : ℕ) = 0 + j) (r : Fin 512) : g0 X2 (ix3 0 r j) = X2 (ix3 0 r J) := by
  obtain ⟨J, hJ⟩ := J
  obtain rfl : J = 0 + j := h
  unfold g0; pointwise; try blk_ext
theorem u0_at (h : (J : ℕ) = 0 + j) (r : Fin 512) : u0 X2 (ix3 0 r j) = X2 (ix3 1 r J) := by
  obtain ⟨J, hJ⟩ := J
  obtain rfl : J = 0 + j := h
  unfold u0; pointwise; try blk_ext

def wd1 : FVec Ideal S1024x1024 .bf16 :=
  View.ld (Val := Elt Ideal) (e' := .bf16) X1 (Rect.unit (s := S2816x1024) ![1024, 0] ![1024, 1024] inb_S2816x1024_S1024x1024_1024_0)
def g1 : FVec Ideal S1x512x1024 .bf16 :=
  View.ld (Val := Elt Ideal) (e' := .bf16) X2 (Rect.unit (s := S2x512x2816) ![0, 0, 1024] ![1, 512, 1024] inb_S2x512x2816_S1x512x1024_0_0_1024)
def u1 : FVec Ideal S1x512x1024 .bf16 :=
  View.ld (Val := Elt Ideal) (e' := .bf16) X2 (Rect.unit (s := S2x512x2816) ![1, 0, 1024] ![1, 512, 1024] inb_S2x512x2816_S1x512x1024_1_0_1024)
theorem wd1_at (h : (J : ℕ) = 1024 + j) (e : Fin 1024) : wd1 X1 (ix2 j e) = X1 (ix2 J e) := by
  obtain ⟨J, hJ⟩ := J
  obtain rfl : J = 1024 + j := h
  unfold wd1; pointwise; try blk_ext
theorem g1_at (h : (J : ℕ) = 1024 + j) (r : Fin 512) : g1 X2 (ix3 0 r j) = X2 (ix3 0 r J) := by
  obtain ⟨J, hJ⟩ := J
  obtain rfl : J = 1024 + j := h
  unfold g1; pointwise; try blk_ext
theorem u1_at (h : (J : ℕ) = 1024 + j) (r : Fin 512) : u1 X2 (ix3 0 r j) = X2 (ix3 1 r J) := by
  obtain ⟨J, hJ⟩ := J
  obtain rfl : J = 1024 + j := h
  unfold u1; pointwise; try blk_ext

def wd2 : FVec Ideal S768x1024 .bf16 :=
  View.ld (Val := Elt Ideal) (e' := .bf16) X1 (Rect.unit (s := S2816x1024) ![2048, 0] ![768, 1024] inb_S2816x1024_S768x1024_2048_0)
def g2 : FVec Ideal S1x512x768 .bf16 :=
  View.ld (Val := Elt Ideal) (e' := .bf16) X2 (Rect.unit (s := S2x512x2816) ![0, 0, 2048] ![1, 512, 768] inb_S2x512x2816_S1x512x768_0_0_2048)
def u2 : FVec Ideal S1x512x768 .bf16 :=
  View.ld (Val := Elt Ideal) (e' := .bf16) X2 (Rect.unit (s := S2x512x2816) ![1, 0, 2048] ![1, 512, 768] inb_S2x512x2816_S1x512x768_1_0_2048)
theorem wd2_at (h : (J : ℕ) = 2048 + i) (e : Fin 1024) : wd2 X1 (ix2 i e) = X1 (ix2 J e) := by
  obtain ⟨J, hJ⟩ := J
  obtain rfl : J = 2048 + i := h
  unfold wd2; pointwise; try blk_ext
theorem g2_at (h : (J : ℕ) = 2048 + i) (r : Fin 512) : g2 X2 (ix3 0 r i) = X2 (ix3 0 r J) := by
  obtain ⟨J, hJ⟩ := J
  obtain rfl : J = 2048 + i := h
  unfold g2; pointwise; try blk_ext
theorem u2_at (h : (J : ℕ) = 2048 + i) (r : Fin 512) : u2 X2 (ix3 0 r i) = X2 (ix3 1 r J) := by
  obtain ⟨J, hJ⟩ := J
  obtain rfl : J = 2048 + i := h
  unfold u2; pointwise; try blk_ext
end loads

section block
variable (X0 : FVec Ideal S512x1024 .f32) (X1 : FVec Ideal S2816x1024 .bf16) (X2 : FVec Ideal S2x512x2816 .bf16)

/-- The six stores of a point's gradients of gate and up. -/
abbrev pieces : List (View.Piece (Elt Ideal) S2x512x2816 .bf16) :=
  [⟨Rect.unit ![1, 0, 2048] ![1, 512, 768] inb_S2x512x2816_S1x512x768_1_0_2048,
      k0_pay20 (F := Ideal) (k0_pay4 (F := Ideal) X0) (wd2 X1) (g2 X2)⟩,
    ⟨Rect.unit ![0, 0, 2048] ![1, 512, 768] inb_S2x512x2816_S1x512x768_0_0_2048,
      k0_pay19 (F := Ideal) (k0_pay4 (F := Ideal) X0) (wd2 X1) (g2 X2) (u2 X2)⟩,
    ⟨Rect.unit ![1, 0, 1024] ![1, 512, 1024] inb_S2x512x2816_S1x512x1024_1_0_1024,
      k0_pay15 (F := Ideal) (k0_pay4 (F := Ideal) X0) (wd1 X1) (g1 X2)⟩,
    ⟨Rect.unit ![0, 0, 1024] ![1, 512, 1024] inb_S2x512x2816_S1x512x1024_0_0_1024,
      k0_pay14 (F := Ideal) (k0_pay4 (F := Ideal) X0) (wd1 X1) (g1 X2) (u1 X2)⟩,
    ⟨Rect.unit ![1, 0, 0] ![1, 512, 1024] inb_S2x512x2816_S1x512x1024_1_0_0,
      k0_pay10 (F := Ideal) (k0_pay9 (F := Ideal) X0 (wd0 X1) (g0 X2))⟩,
    ⟨Rect.unit ![0, 0, 0] ![1, 512, 1024] inb_S2x512x2816_S1x512x1024_0_0_0,
      k0_pay8 (F := Ideal) X0 (wd0 X1) (g0 X2) (u0 X2)⟩]

theorem pieces_cover (y : S2x512x2816.Idx) : ∃ p ∈ pieces X0 X1 X2, y ∈ p.1.set :=
  View.cover_of_tiledBy (pieces X0 X1 X2) ![1, 512, 256] (by sl_kernel_rfl) y

theorem canon_pieces (s : Fin 2) (r : Fin 512) (j : Fin 2816) :
    View.canon (pieces X0 X1 X2) (ix3 s r j) = dgur X0 X1 X2 r s j := by
  canon_tiles x h using (pieces_cover X0 X1 X2 _)
  all_goals idx_vars x
  · exact dup2_at (by omega) h1 (wd2_at X1 h2) (by obtain rfl : r = x1 := Fin.ext h1; exact g2_at X2 h2 r)
  · exact dgate2_at (by omega) h1 (wd2_at X1 h2) (by obtain rfl : r = x1 := Fin.ext h1; exact g2_at X2 h2 r)
      (by obtain rfl : r = x1 := Fin.ext h1; exact u2_at X2 h2 r)
  · rw [dup1_eq]
    exact dup0_at (by omega) h1 (wd1_at X1 h2) (by obtain rfl : r = x1 := Fin.ext h1; exact g1_at X2 h2 r)
  · rw [dgate1_eq]
    exact dgate0_at (by omega) h1 (wd1_at X1 h2) (by obtain rfl : r = x1 := Fin.ext h1; exact g1_at X2 h2 r)
      (by obtain rfl : r = x1 := Fin.ext h1; exact u1_at X2 h2 r)
  · exact dup0_at (by omega) h1 (wd0_at X1 (by omega)) (by obtain rfl : r = x1 := Fin.ext h1; exact g0_at X2 (by omega) r)
  · exact dgate0_at (by omega) h1 (wd0_at X1 (by omega)) (by obtain rfl : r = x1 := Fin.ext h1; exact g0_at X2 (by omega) r)
      (by obtain rfl : r = x1 := Fin.ext h1; exact u0_at X2 (by omega) r)
end block

variable (m : (ℓ : Loc nD τ sig) → Buf (Elt Ideal) ℓ)

/-- The gradients of gate and up a point leaves. -/
theorem w6 (c : Dev nD) (t : Fin cfg0.N) (s : Fin 2) (r : Fin 512) (j : Fin 2816) :
    (outsAt0 m c t.val t.isLt).1 (ix3 s r j) = dgur (iblk m c 0 t) (iblk m c 1 t) (iblk m c 2 t) r s j := by
  by_cases h0 : t.val % 8 = 0
  · rw [outsAt0_A m c t h0]; frame_out
    exact canon_pieces _ _ _ s r j
  · rw [outsAt0_B m c t h0]; frame_out
    exact canon_pieces _ _ _ s r j

/-! The loads of the two halves of the gradients and of the weights. -/
section halves
variable (X3 : FVec Ideal S2x1024x2816 .bf16) (Z : FVec Ideal S2x512x2816 .bf16)
def v0 : FVec Ideal S1x1024x2816 .bf16 :=
  View.ld (Val := Elt Ideal) (e' := .bf16) X3 (Rect.unit (s := S2x1024x2816) ![0, 0, 0] ![1, 1024, 2816] inb_S2x1024x2816_S1x1024x2816_0_0_0)
def v1 : FVec Ideal S1x1024x2816 .bf16 :=
  View.ld (Val := Elt Ideal) (e' := .bf16) X3 (Rect.unit (s := S2x1024x2816) ![1, 0, 0] ![1, 1024, 2816] inb_S2x1024x2816_S1x1024x2816_1_0_0)
theorem v0_at (c : Fin 1024) (j : Fin 2816) : v0 X3 (ix3 0 c j) = X3 (ix3 0 c j) := by unfold v0; pointwise; try blk_ext
theorem v1_at (c : Fin 1024) (j : Fin 2816) : v1 X3 (ix3 0 c j) = X3 (ix3 1 c j) := by unfold v1; pointwise; try blk_ext
def z0 : FVec Ideal S1x512x2816 .bf16 :=
  View.ld (Val := Elt Ideal) (e' := .bf16) Z (Rect.unit (s := S2x512x2816) ![0, 0, 0] ![1, 512, 2816] inb_S2x512x2816_S1x512x2816_0_0_0)
def z1 : FVec Ideal S1x512x2816 .bf16 :=
  View.ld (Val := Elt Ideal) (e' := .bf16) Z (Rect.unit (s := S2x512x2816) ![1, 0, 0] ![1, 512, 2816] inb_S2x512x2816_S1x512x2816_1_0_0)
theorem z0_at (r : Fin 512) (j : Fin 2816) : z0 Z (ix3 0 r j) = Z (ix3 0 r j) := by unfold z0; pointwise; try blk_ext
theorem z1_at (r : Fin 512) (j : Fin 2816) : z1 Z (ix3 0 r j) = Z (ix3 1 r j) := by unfold z1; pointwise; try blk_ext

/-- A load of the gate's half of the block reads what the stores left. -/
theorem z0_read {κ : Kind} {sp : Space} (v : View sig κ sp S2x512x2816 .bf16) (L M : List (View.Piece (Elt Ideal) S2x512x2816 .bf16))
    (h : L = M) : v.readCov L (Rect.unit (s := S2x512x2816) ![0, 0, 0] ![1, 512, 2816] inb_S2x512x2816_S1x512x2816_0_0_0).toLoadRect =
      z0 (View.canon M) := by
  subst h
  exact View.readCov_eq_canon' v L _
/-- And a load of the up projection's half. -/
theorem z1_read {κ : Kind} {sp : Space} (v : View sig κ sp S2x512x2816 .bf16) (L M : List (View.Piece (Elt Ideal) S2x512x2816 .bf16))
    (h : L = M) : v.readCov L (Rect.unit (s := S2x512x2816) ![1, 0, 0] ![1, 512, 2816] inb_S2x512x2816_S1x512x2816_1_0_0).toLoadRect =
      z1 (View.canon M) := by
  subst h
  exact View.readCov_eq_canon' v L _
end halves

section rest
variable {X0 : FVec Ideal S512x1024 .f32} {X1 : FVec Ideal S2816x1024 .bf16} {X2 : FVec Ideal S2x512x2816 .bf16}
  {X3 : FVec Ideal S2x1024x2816 .bf16} {H : FVec Ideal S512x1024 .f32} {G : FVec Ideal S1x1024 .f32}
  {P Q : FVec Ideal S1x512x2816 .bf16} {V W : FVec Ideal S1x1024x2816 .bf16}

variable (X0 X1 X2 X3) in
/-- Row `r` of the gradient of the normalised rows. -/
abbrev dhnr (r : Fin 512) : Fin 1024 → EReal := dhnRow (dgur X0 X1 X2 r) (fun s c j => X3 (ix3 s c j))

theorem dhnv_eq (hP : P = z0 (View.canon (pieces X0 X1 X2))) (hQ : Q = z1 (View.canon (pieces X0 X1 X2)))
    (hV : V = v0 X3) (hW : W = v1 X3) (r : Fin 512) :
    dhnv P Q V W r = dhnr X0 X1 X2 X3 r := by
  subst hP hQ hV hW
  funext c
  exact congrArg₂ (· + ·)
    (Finset.sum_congr rfl fun j _ => congrArg₂ (· * ·) ((z0_at _ r j).trans (canon_pieces X0 X1 X2 0 r j)) (v0_at X3 c j))
    (Finset.sum_congr rfl fun j _ => congrArg₂ (· * ·) ((z1_at _ r j).trans (canon_pieces X0 X1 X2 1 r j)) (v1_at X3 c j))

variable (X0 X1 X2 X3 H) in
/-- A point's part of the gradient of the normalisation's scale. -/
def dgBlock (c : Fin 1024) : EReal := ∑ r : Fin 512, dhnr X0 X1 X2 X3 r c * (H (ix2 r c) * rms (fun e => H (ix2 r e)))

variable (X0 X1 X2 X3 H G)
theorem dg_of (hP : P = z0 (View.canon (pieces X0 X1 X2))) (hQ : Q = z1 (View.canon (pieces X0 X1 X2)))
    (hV : V = v0 X3) (hW : W = v1 X3) (a : Fin 1) (c : Fin 1024) :
    k0_pay24 (F := Ideal) P V Q W H (ix2 a c) = dgBlock X0 X1 X2 X3 H c :=
  (dg_apply P Q V W H a c).trans
    (Finset.sum_congr rfl fun r _ => congrArg (· * _) (congrFun (dhnv_eq hP hQ hV hW r) c))

theorem dh_of (hP : P = z0 (View.canon (pieces X0 X1 X2))) (hQ : Q = z1 (View.canon (pieces X0 X1 X2)))
    (hV : V = v0 X3) (hW : W = v1 X3) (r : Fin 512) (c : Fin 1024) :
    k0_pay25 (F := Ideal) X0 P V Q W H G (ix2 r c) =
      rmsBack (fun e => X0 (ix2 r e)) (dhnr X0 X1 X2 X3 r) (fun e => H (ix2 r e)) (fun e => G (ix2 0 e)) c := by
  rw [dh_apply, dhnv_eq hP hQ hV hW]
end rest

/-- The rows' gradient a point leaves. -/
theorem w7 (c : Dev nD) (t : Fin cfg0.N) (r : Fin 512) (l : Fin 1024) :
    (outsAt0 m c t.val t.isLt).2.1 (ix2 r l) =
      rmsBack (fun e => iblk m c 0 t (ix2 r e)) (dhnr (iblk m c 0 t) (iblk m c 1 t) (iblk m c 2 t) (iblk m c 3 t) r)
        (fun e => iblk m c 4 t (ix2 r e)) (fun e => iblk m c 5 t (ix2 0 e)) l := by
  by_cases h0 : t.val % 8 = 0
  · rw [outsAt0_A m c t h0]; frame_out
    exact dh_of (iblk m c 0 t) (iblk m c 1 t) (iblk m c 2 t) (iblk m c 3 t) (iblk m c 4 t) (iblk m c 5 t)
      (z0_read _ _ _ rfl) (z1_read _ _ _ rfl) rfl rfl r l
  · rw [outsAt0_B m c t h0]; frame_out
    exact dh_of (iblk m c 0 t) (iblk m c 1 t) (iblk m c 2 t) (iblk m c 3 t) (iblk m c 4 t) (iblk m c 5 t)
      (z0_read _ _ _ rfl) (z1_read _ _ _ rfl) rfl rfl r l

/-- Its second copy: the same values. -/
theorem w8 (c : Dev nD) (t : Fin cfg0.N) (r : Fin 512) (l : Fin 1024) :
    (outsAt0 m c t.val t.isLt).2.2.1 (ix2 r l) =
      rmsBack (fun e => iblk m c 0 t (ix2 r e)) (dhnr (iblk m c 0 t) (iblk m c 1 t) (iblk m c 2 t) (iblk m c 3 t) r)
        (fun e => iblk m c 4 t (ix2 r e)) (fun e => iblk m c 5 t (ix2 0 e)) l := by
  by_cases h0 : t.val % 8 = 0
  · rw [outsAt0_A m c t h0]; frame_out
    exact dh_of (iblk m c 0 t) (iblk m c 1 t) (iblk m c 2 t) (iblk m c 3 t) (iblk m c 4 t) (iblk m c 5 t)
      (z0_read _ _ _ rfl) (z1_read _ _ _ rfl) rfl rfl r l
  · rw [outsAt0_B m c t h0]; frame_out
    exact dh_of (iblk m c 0 t) (iblk m c 1 t) (iblk m c 2 t) (iblk m c 3 t) (iblk m c 4 t) (iblk m c 5 t)
      (z0_read _ _ _ rfl) (z1_read _ _ _ rfl) rfl rfl r l

theorem acc_apply (x y : FVec Ideal S1x1024 .f32) (i : S1x1024.Idx) : k0_pay2 (F := Ideal) x y i = y i + x i := by
  pointwise [k0_pay2]
theorem fill_apply (i : S1x1024.Idx) : k0_pay3 (F := Ideal) i = (0 : EReal) := by
  pointwise [k0_pay3]

/-- The scale's gradient after the first point: that point's part. -/
theorem w9_A (c : Dev nD) (t : Fin cfg0.N) (h0 : t.val % 8 = 0) (a : Fin 1) (l : Fin 1024) :
    (outsAt0 m c t.val t.isLt).2.2.2 (ix2 a l) =
      dgBlock (iblk m c 0 t) (iblk m c 1 t) (iblk m c 2 t) (iblk m c 3 t) (iblk m c 4 t) l := by
  rw [outsAt0_A m c t h0]; frame_out
  refine (acc_apply _ _ _).trans ((Ideal.add_congr (fill_apply _) ?_).trans (zero_add _))
  exact dg_of (iblk m c 0 t) (iblk m c 1 t) (iblk m c 2 t) (iblk m c 3 t) (iblk m c 4 t)
    (z0_read _ _ _ rfl) (z1_read _ _ _ rfl) rfl rfl a l

/-- The scale's gradient after a later point: the point's part added to what the point before left. -/
theorem w9_B (c : Dev nD) (t : Fin cfg0.N) (h0 : ¬ t.val % 8 = 0) (a : Fin 1) (l : Fin 1024) :
    (outsAt0 m c t.val t.isLt).2.2.2 (ix2 a l) =
      (show EReal from (outsAt0 m c (t.val - 1) (Nat.lt_of_le_of_lt (Nat.sub_le _ _) t.isLt)).2.2.2 (ix2 a l)) +
      dgBlock (iblk m c 0 t) (iblk m c 1 t) (iblk m c 2 t) (iblk m c 3 t) (iblk m c 4 t) l := by
  rw [outsAt0_B m c t h0]; frame_out
  refine (acc_apply _ _ _).trans (Ideal.add_congr rfl ?_)
  exact dg_of (iblk m c 0 t) (iblk m c 1 t) (iblk m c 2 t) (iblk m c 3 t) (iblk m c 4 t)
    (z0_read _ _ _ rfl) (z1_read _ _ _ rfl) rfl rfl a l
end Cert.Kernel2Ideal.Points
end
-- ==== Proof.FfnArrays.lean ====
module

public import proofs.«01_k».proof.Proof.FfnPoints
public import proofs.«01_k».proof.Proof.Gen.Kernel2Ideal.Value
public import Idealize.ShloMosaic.Lib.Claim

/-!
The second kernel's four result arrays as functions of its arguments.
-/

@[expose] public section
set_option maxRecDepth 16384
noncomputable section
namespace Cert.Kernel2Ideal.Arrays
open Cert.Kernel2Ideal Cert.Kernel2Ideal.Gen Idealize.ShloMosaic Idealize.ShloMosaic.TcCoe Idealize.SL.Sem
open Idealize.ShloMosaic.Pipeline (Dat)
open Cert.AttnSpec Cert.FfnSpec Cert.Kernel2Ideal.Points

variable (m : (ℓ : Loc nD τ sig) → Buf (Elt Ideal) ℓ) (c : Dev nD)

abbrev a0 : Fin 4096 → Fin 1024 → EReal := ent (a := 4096) (b := 1024) (φ := .f32) (m ((c : Thread nD τ).loc main_arg0))
abbrev a1 : Fin 2816 → Fin 1024 → EReal := ent (a := 2816) (b := 1024) (φ := .bf16) (m ((c : Thread nD τ).loc main_arg1))
abbrev a2 : Fin 1024 → Fin 5632 → EReal := ent (a := 1024) (b := 5632) (φ := .bf16) (m ((c : Thread nD τ).loc main_arg2))
abbrev a3 : Fin 4096 → Fin 1024 → EReal := ent (a := 4096) (b := 1024) (φ := .f32) (m ((c : Thread nD τ).loc main_arg3))
abbrev a4 : Fin 1024 → EReal := ent1 (a := 1024) (φ := .f32) (m ((c : Thread nD τ).loc main_arg4))

theorem idx : ∀ t : Fin cfg0.N, win0_0.index t = ![t.val, 0] ∧ win0_1.index t = ![0, 0] ∧ win0_2.index t = ![0, t.val, 0]
    ∧ win0_3.index t = ![0, 0, 0] ∧ win0_4.index t = ![t.val, 0] ∧ win0_5.index t = ![0, 0]
    ∧ win0_6.index t = ![0, t.val, 0] ∧ win0_7.index t = ![t.val, 0] ∧ win0_8.index t = ![t.val, 0] ∧ t.val < 8 :=
  (by decide +kernel : ∀ t : Fin grid0.N, _)

/-- Row `r` of the block of point `t`. -/
def rowOf (t : Fin cfg0.N) (r : Fin 512) : Fin 4096 := ⟨t.val * 512 + r, by have := (idx t).2.2.2.2.2.2.2.2.2; omega⟩

theorem b0 (t : Fin cfg0.N) (r : Fin 512) (e : Fin 1024) : (show FVec Ideal S512x1024 .f32 from iblk m c 0 t) (ix2 r e) = a0 m c (rowOf t r) e := by
  blk_ext [iblk, V, idx t, rowOf]
theorem b1 (t : Fin cfg0.N) (r : Fin 2816) (e : Fin 1024) : (show FVec Ideal S2816x1024 .bf16 from iblk m c 1 t) (ix2 r e) = a1 m c r e := by
  blk_ext [iblk, V, idx t]
theorem b4 (t : Fin cfg0.N) (r : Fin 512) (e : Fin 1024) : (show FVec Ideal S512x1024 .f32 from iblk m c 4 t) (ix2 r e) = a3 m c (rowOf t r) e := by
  blk_ext [iblk, V, idx t, rowOf]
theorem b5 (t : Fin cfg0.N) (e : Fin 1024) : (show FVec Ideal S1x1024 .f32 from iblk m c 5 t) (ix2 0 e) = a4 m c e := by
  have h : (show FVec Ideal S1x1024 .f32 from iblk m c 5 t) (ix2 0 e) =
      (show FVec Ideal S1x1024 .f32 from V m c main_v28) (ix2 0 e) := by blk_ext [iblk, idx t]
  refine h.trans ?_
  entry_read
  pointwise
theorem b3 (t : Fin cfg0.N) (s : Fin 2) (r : Fin 1024) (j : Fin 2816) :
    (show FVec Ideal S2x1024x2816 .bf16 from iblk m c 3 t) (ix3 s r j) = half (a2 m c r) s j := by
  have h : (show FVec Ideal S2x1024x2816 .bf16 from iblk m c 3 t) (ix3 s r j) =
      (show FVec Ideal S2x1024x2816 .bf16 from V m c main_v4) (ix3 s r j) := by blk_ext [iblk, idx t]
  refine h.trans ?_
  entry_read
  pointwise
  by_cases hs : s.val < 1
  · obtain rfl : s = 0 := Fin.ext (by omega)
    exact (dif_pos hs).trans rfl
  · obtain rfl : s = 1 := Fin.ext (by omega)
    exact (dif_neg hs).trans rfl
theorem b2 (t : Fin cfg0.N) (s : Fin 2) (r : Fin 512) (j : Fin 2816) :
    (show FVec Ideal S2x512x2816 .bf16 from iblk m c 2 t) (ix3 s r j) = half (gus (a2 m c) (a3 m c) (a4 m c) (rowOf t r)) s j := by
  have h : (show FVec Ideal S2x512x2816 .bf16 from iblk m c 2 t) (ix3 s r j) =
      (show FVec Ideal S2x4096x2816 .bf16 from V m c main_v27) (ix3 s (rowOf t r) j) := by blk_ext [iblk, idx t, rowOf]
  refine h.trans ?_
  entry_read
  pointwise
  by_cases hs : s.val < 1
  · obtain rfl : s = 0 := Fin.ext (by omega)
    exact (dif_pos hs).trans rfl
  · obtain rfl : s = 1 := Fin.ext (by omega)
    exact (dif_neg hs).trans rfl

/-! The rows of a block. -/
section rows
variable (t : Fin cfg0.N) (r : Fin 512)

theorem dgur_eq : dgur (iblk m c 0 t) (iblk m c 1 t) (iblk m c 2 t) r = dgus (a0 m c) (a1 m c) (a2 m c) (a3 m c) (a4 m c) (rowOf t r) :=
  congrArg₂ dguRow (congrArg₂ dotT (funext (b0 m c t r)) (funext fun j => funext (b1 m c t j)))
    (funext fun s => funext fun j => b2 m c t s r j)
theorem dhnr_eq : dhnr (iblk m c 0 t) (iblk m c 1 t) (iblk m c 2 t) (iblk m c 3 t) r = dhnf (a0 m c) (a1 m c) (a2 m c) (a3 m c) (a4 m c) (rowOf t r) :=
  congrArg₂ dhnRow (dgur_eq m c t r) (funext fun s => funext fun l => funext fun j => b3 m c t s l j)
theorem hrow_eq : (fun e => (show FVec Ideal S512x1024 .f32 from iblk m c 4 t) (ix2 r e)) = a3 m c (rowOf t r) :=
  funext (b4 m c t r)

theorem back_eq (l : Fin 1024) :
    rmsBack (fun e => (show FVec Ideal S512x1024 .f32 from iblk m c 0 t) (ix2 r e)) (dhnr (iblk m c 0 t) (iblk m c 1 t) (iblk m c 2 t) (iblk m c 3 t) r)
      (fun e => (show FVec Ideal S512x1024 .f32 from iblk m c 4 t) (ix2 r e))
      (fun e => (show FVec Ideal S1x1024 .f32 from iblk m c 5 t) (ix2 0 e)) l =
    dhf (a0 m c) (a1 m c) (a2 m c) (a3 m c) (a4 m c) (rowOf t r) l := by
  rw [dhnr_eq, hrow_eq, show (fun e => (show FVec Ideal S512x1024 .f32 from iblk m c 0 t) (ix2 r e)) = a0 m c (rowOf t r) from
    funext (b0 m c t r), show (fun e => (show FVec Ideal S1x1024 .f32 from iblk m c 5 t) (ix2 0 e)) = a4 m c from
    funext (b5 m c t)]
  rfl

end rows

theorem dgBlock_eq (t : Fin cfg0.N) (l : Fin 1024) : dgBlock (iblk m c 0 t) (iblk m c 1 t) (iblk m c 2 t) (iblk m c 3 t) (iblk m c 4 t) l =
    ∑ r, (fun R => dhnf (a0 m c) (a1 m c) (a2 m c) (a3 m c) (a4 m c) R l * (a3 m c R l * rms (a3 m c R))) (rowOf t r) := by
  unfold dgBlock
  refine Finset.sum_congr rfl fun r _ => ?_
  rw [dhnr_eq, hrow_eq]
  exact congrArg (fun z => _ * (z * _)) (b4 m c t r l)

/-- A sum over the points and their blocks' rows is the sum over all rows. -/
theorem sum_rows (f : Fin 4096 → EReal) : ∑ t : Fin cfg0.N, ∑ r, f (rowOf t r) = ∑ R, f R :=
  ((Fin.sum_univ_tiles 8 512 (by rfl) f).trans (by rfl)).symm

/-! The four arrays. -/

theorem sum9 (l : Fin 1024) : ∑ t : Fin cfg0.N, dgBlock (iblk m c 0 t) (iblk m c 1 t) (iblk m c 2 t) (iblk m c 3 t) (iblk m c 4 t) l = dgf (a0 m c) (a1 m c) (a2 m c) (a3 m c) (a4 m c) l := by
  unfold dgf
  rw [← sum_rows]
  exact Finset.sum_congr rfl fun t _ => dgBlock_eq m c t l

theorem p6 (t : Fin cfg0.N) (s : Fin 2) (r : Fin 512) (j : Fin 2816) :
    (show FVec Ideal S2x512x2816 .bf16 from (outsAt0 m c t.val t.isLt).1) (ix3 s r j) = dgus (a0 m c) (a1 m c) (a2 m c) (a3 m c) (a4 m c) (rowOf t r) s j :=
  (w6 m c t s r j).trans (congrFun (congrFun (dgur_eq m c t r) s) j)

theorem final6 : (dats m 0 c).arrAt 6 cfg0.N = fun i : S2x4096x2816.Idx => dgus (a0 m c) (a1 m c) (a2 m c) (a3 m c) (a4 m c) (i 1) (i 0) (i 2) := by
  refine (dats m 0 c).arrAt_eq_of_covers 6 _ (by decide +kernel) fun t _ y => ?_
  blk_simp
  rw [after0_6]
  idx_vars y
  refine (p6 m c t y0 y1 y2).trans ?_
  generalize dgus _ _ _ _ _ = F
  have e : ∀ {R R' : Fin 4096} {s s' : Fin 2} {j j' : Fin 2816}, R = R' → s = s' → j = j' → F R s j = F R' s' j' := by
    rintro _ _ _ _ _ _ rfl rfl rfl; rfl
  refine e (Fin.ext ?_) (Fin.ext ?_) (Fin.ext ?_) <;> blk_simp [idx t, rowOf]

theorem final7 : (dats m 0 c).arrAt 7 cfg0.N = fun i : S4096x1024.Idx => dhf (a0 m c) (a1 m c) (a2 m c) (a3 m c) (a4 m c) (i 0) (i 1) := by
  refine (dats m 0 c).arrAt_eq_of_covers 7 _ (by decide +kernel) fun t _ y => ?_
  blk_simp
  rw [after0_7]
  idx_vars y
  refine ((w7 m c t y0 y1).trans (back_eq m c t y0 y1)).trans ?_
  generalize dhf _ _ _ _ _ = F
  refine congrArg₂ F (Fin.ext ?_) (Fin.ext ?_) <;> blk_simp [idx t, rowOf]

theorem final8 : (dats m 0 c).arrAt 8 cfg0.N = fun i : S4096x1024.Idx => dhf (a0 m c) (a1 m c) (a2 m c) (a3 m c) (a4 m c) (i 0) (i 1) := by
  refine (dats m 0 c).arrAt_eq_of_covers 8 _ (by decide +kernel) fun t _ y => ?_
  blk_simp
  rw [after0_8]
  idx_vars y
  refine ((w8 m c t y0 y1).trans (back_eq m c t y0 y1)).trans ?_
  generalize dhf _ _ _ _ _ = F
  refine congrArg₂ F (Fin.ext ?_) (Fin.ext ?_) <;> blk_simp [idx t, rowOf]

theorem final9 : (dats m 0 c).arrAt 9 cfg0.N = fun i : S1x1024.Idx => dgf (a0 m c) (a1 m c) (a2 m c) (a3 m c) (a4 m c) (i 1) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0)
    (fun t j => dgBlock (iblk m c 0 t) (iblk m c 1 t) (iblk m c 2 t) (iblk m c 3 t) (iblk m c 4 t) (j 1))
    (fun t h j => by rw [eq_ix2 j]; exact (w9_A m c t h _ _).trans (zero_add _).symm)
    (fun t h j => by rw [eq_ix2 j]; exact w9_B m c t h _ _)
    (le_of_eq N_0) t0_7 rfl j, zero_add]
  exact sum9 m c (j 1)

end Cert.Kernel2Ideal.Arrays
end
-- ==== Proof.FfnPre.lean ====
module

public import proofs.«01_k».proof.Defs
public import proofs.«01_k».proof.Proof.Pre
public import proofs.«01_k».proof.Proof.FfnArrays

/-!
The second precondition: the gradient that enters, the two weights and the normalisation's scale hold real numbers.
-/

@[expose] public section
set_option maxRecDepth 16384
noncomputable section
namespace Cert.Precondition2
open Idealize.ShloMosaic Idealize.ShloMosaic.TcCoe
open Cert.AttnSpec Cert.FfnSpec Cert.Kernel2Ideal.Arrays Cert.Precondition

instance facts : Cert.Pre_finite_inputs2.Facts where
  bcast_S_S4096x1024 := by decide
  bitsLt_bf16_f32 := by decide
  bcast_S_S2816x1024 := by decide
  bcast_S_S1024x5632 := by decide
  bcast_S_S1024 := by decide

variable {m : (ℓ : Loc Cert.Kernel2Ideal.nD Cert.Kernel2Ideal.τ Cert.Kernel2Ideal.sig) → Buf (Elt Ideal) ℓ}

theorem real0 (h : Cert.Pre_Kernel2Ideal_finite_inputs2 m) (c) (R : Fin 4096) (l : Fin 1024) : IsReal (a0 m c R l) := by
  have := congrFun (h c).1 (ix2 R l)
  unfold Cert.Pre_finite_inputs2.fn at this
  exact real_of_lt this

theorem real1 (h : Cert.Pre_Kernel2Ideal_finite_inputs2 m) (c) (j : Fin 2816) (l : Fin 1024) : IsReal (a1 m c j l) := by
  have := congrFun (h c).2.1 (ix2 j l)
  unfold Cert.Pre_finite_inputs2.fn at this
  exact real_of_lt this

theorem real2 (h : Cert.Pre_Kernel2Ideal_finite_inputs2 m) (c) (l : Fin 1024) (j : Fin 5632) : IsReal (a2 m c l j) := by
  have := congrFun (h c).2.2.1 (ix2 l j)
  unfold Cert.Pre_finite_inputs2.fn at this
  exact real_of_lt this

theorem real4 (h : Cert.Pre_Kernel2Ideal_finite_inputs2 m) (c) (l : Fin 1024) : IsReal (a4 m c l) := by
  have := congrFun (h c).2.2.2 (ix1 l)
  unfold Cert.Pre_finite_inputs2.fn at this
  exact real_of_lt this

/-- A row's gradient of the activation is real. -/
theorem real_dacts (h : Cert.Pre_Kernel2Ideal_finite_inputs2 m) (c) (R : Fin 4096) (j : Fin 2816) :
    IsReal (dacts (a0 m c) (a1 m c) R j) := by
  show IsReal (∑ l, a0 m c R l * a1 m c j l)
  exact IsReal.sum fun l => (real0 h c R l).mul (real1 h c j l)

/-- A row's joined projection is real. -/
theorem real_gus (h : Cert.Pre_Kernel2Ideal_finite_inputs2 m) (c) (R : Fin 4096) (j : Fin 5632) :
    IsReal (gus (a2 m c) (a3 m c) (a4 m c) R j) :=
  IsReal.gus (fun e j => real2 h c e j) (fun e => real4 h c e) R j

end Cert.Precondition2
end
-- ==== Proof.FfnRef.lean ====
module

public import proofs.«01_k».proof.Proof.FfnSpec
public import proofs.«01_k».proof.Proof.Gen.Reference2Ideal.Read

/-!
The second reference's results at an index, as the functions of `FfnSpec` with the gradients in the reference's own forms.
-/

@[expose] public section
set_option maxRecDepth 16384
noncomputable section
namespace Cert.Reference2Ideal.Ref
open Cert.Reference2Ideal Cert.Reference2Ideal.Read Idealize.ShloMosaic
open Cert.AttnSpec Cert.FfnSpec

/-- A sum over the joined columns is the sum over the gate's and the sum over the up projection's. -/
theorem sum_halves (f : Fin 5632 → EReal) : ∑ k, f k = (∑ j, f (gcol j)) + ∑ j, f (ucol j) :=
  Fin.sum_univ_add (a := 2816) (b := 2816) f

variable (x0 : FVec Ideal S4096x1024 .f32) (x1 : FVec Ideal S2816x1024 .bf16) (x2 : FVec Ideal S1024x5632 .bf16)
  (x3 : FVec Ideal S4096x1024 .f32) (x4 : FVec Ideal S1024 .f32)

theorem msq_at (R : Fin 4096) (z : Fin 1) : val_main_v8 (F := Ideal) x3 (ix2 R z) = msq (ent x3 R) := by
  unfold val_main_v8 val_main_v7 val_main_v6 val_main_v5 val_main_v4 val_main_v3 val_main_v2 val_main_cst val_main_cst_0 val_main_cst_1
  pointwise [msq]
  rfl

/-- Row `R` of the joined projection. -/
abbrev gu (R : Fin 4096) : Fin 5632 → EReal := gus (ent x2) (ent x3) (ent1 x4) R
/-- Row `R` of the gradient of the activation. -/
abbrev da (R : Fin 4096) : Fin 2816 → EReal := dacts (ent x0) (ent x1) R

theorem gu_at (R : Fin 4096) (c : Fin 5632) : val_main_v18 (F := Ideal) x2 x3 x4 (ix2 R c) = gu x2 x3 x4 R c := by
  unfold val_main_v18 val_main_v17 val_main_v16 val_main_v15 val_main_v14 val_main_v13 val_main_v9 val_main_v1
  pointwise [gus, msq_at]
  rfl

theorem gate_at (R : Fin 4096) (j : Fin 2816) : val_main_v19 (F := Ideal) x2 x3 x4 (ix2 R j) = gu x2 x3 x4 R (gcol j) := by
  rw [← gu_at]
  unfold val_main_v19
  generalize val_main_v18 (F := Ideal) x2 x3 x4 = Y
  pointwise [gcol]

theorem up_at (R : Fin 4096) (j : Fin 2816) : val_main_v20 (F := Ideal) x2 x3 x4 (ix2 R j) = gu x2 x3 x4 R (ucol j) := by
  rw [← gu_at]
  unfold val_main_v20
  generalize val_main_v18 (F := Ideal) x2 x3 x4 = Y
  pointwise [ucol]

theorem sg_at (R : Fin 4096) (j : Fin 2816) : val_main_v21_2 (F := Ideal) x2 x3 x4 (ix2 R j) = sg (gu x2 x3 x4 R (gcol j)) := by
  unfold val_main_v21_2 val_main_call0_v4 val_main_call0_v3 val_main_call0_v2 val_main_call0_v1 val_main_call0_v0 val_main_call0_cst
    val_main_call0_cst_0
  pointwise [gate_at]
  rfl

theorem da_at (R : Fin 4096) (j : Fin 2816) : val_main_v26 (F := Ideal) x0 x1 (ix2 R j) = da x0 x1 R j := by
  unfold val_main_v26 val_main_v25 val_main_v0
  pointwise
  rfl

theorem dgate_at (R : Fin 4096) (j : Fin 2816) : val_main_v29 (F := Ideal) x0 x1 x2 x3 x4 (ix2 R j) =
    dgateQ (da x0 x1 R j) (gu x2 x3 x4 R (gcol j)) (gu x2 x3 x4 R (ucol j)) := by
  unfold val_main_v29 val_main_call1_v2 val_main_call1_v1 val_main_call1_v0 val_main_v28 val_main_v21_1 val_main_call0_v7
    val_main_call0_v6 val_main_call0_cst_1
  pointwise [gate_at, up_at, sg_at, da_at]
  rfl

theorem dup_at (R : Fin 4096) (j : Fin 2816) : val_main_v27 (F := Ideal) x0 x1 x2 x3 x4 (ix2 R j) =
    dup (da x0 x1 R j) (gu x2 x3 x4 R (gcol j)) := by
  unfold val_main_v27 val_main_v21_0
  pointwise [gate_at, sg_at, da_at]
  exact mul_comm _ _

/-- Row `R`'s gradients of gate and up, in the reference's form. -/
def dguQ (R : Fin 4096) (s : Fin 2) (j : Fin 2816) : EReal :=
  if s = 0 then dgateQ (da x0 x1 R j) (gu x2 x3 x4 R (gcol j)) (gu x2 x3 x4 R (ucol j))
  else dup (da x0 x1 R j) (gu x2 x3 x4 R (gcol j))

theorem joined_gate (R : Fin 4096) (j : Fin 2816) : val_main_v30 (F := Ideal) x0 x1 x2 x3 x4 (ix2 R (gcol j)) =
    dguQ x0 x1 x2 x3 x4 R 0 j := by
  refine Eq.trans ?_ (dgate_at x0 x1 x2 x3 x4 R j)
  unfold val_main_v30
  generalize val_main_v29 (F := Ideal) x0 x1 x2 x3 x4 = K
  generalize val_main_v27 (F := Ideal) x0 x1 x2 x3 x4 = W
  pointwise
  exact dif_pos j.isLt

theorem joined_up (R : Fin 4096) (j : Fin 2816) : val_main_v30 (F := Ideal) x0 x1 x2 x3 x4 (ix2 R (ucol j)) =
    dguQ x0 x1 x2 x3 x4 R 1 j := by
  refine Eq.trans ?_ (dup_at x0 x1 x2 x3 x4 R j)
  unfold val_main_v30
  generalize val_main_v29 (F := Ideal) x0 x1 x2 x3 x4 = K
  generalize val_main_v27 (F := Ideal) x0 x1 x2 x3 x4 = W
  pointwise
  refine (dif_neg (show ¬ 2816 + j.val < 2816 by omega)).trans (congrArg (fun l => W (ix2 R l)) (Fin.ext ?_))
  exact Nat.add_sub_cancel_left 2816 j.val

theorem dgu_at (s : Fin 2) (R : Fin 4096) (j : Fin 2816) : val_main_v58 (F := Ideal) x0 x1 x2 x3 x4 (ix3 s R j) =
    dguQ x0 x1 x2 x3 x4 R s j := by
  have eg := joined_gate x0 x1 x2 x3 x4 R j
  have eu := joined_up x0 x1 x2 x3 x4 R j
  unfold val_main_v58 val_main_v57 val_main_v56 val_main_v55 val_main_v54 val_main_v53
  generalize val_main_v30 (F := Ideal) x0 x1 x2 x3 x4 = K at eg eu
  pointwise
  by_cases h : s.val < 1
  · obtain rfl : s = 0 := Fin.ext (by omega)
    exact (dif_pos h).trans eg
  · obtain rfl : s = 1 := Fin.ext (by omega)
    exact (dif_neg h).trans eu

/-- Row `R`'s gradient of the normalised rows, in the reference's form. -/
abbrev dhnQ (R : Fin 4096) : Fin 1024 → EReal := dhnRow (dguQ x0 x1 x2 x3 x4 R) (fun s c => half (ent x2 c) s)

theorem dhn_at (R : Fin 4096) (c : Fin 1024) : val_main_v31 (F := Ideal) x0 x1 x2 x3 x4 (ix2 R c) = dhnQ x0 x1 x2 x3 x4 R c := by
  have h : val_main_v31 (F := Ideal) x0 x1 x2 x3 x4 (ix2 R c) =
      ∑ k : Fin 5632, val_main_v30 (F := Ideal) x0 x1 x2 x3 x4 (ix2 R k) * ent x2 c k := by
    unfold val_main_v31 val_main_v1
    generalize val_main_v30 (F := Ideal) x0 x1 x2 x3 x4 = K
    pointwise
  rw [h, sum_halves]
  simp only [joined_gate, joined_up]
  rfl

theorem dg_at (z : Fin 1) (c : Fin 1024) : val_main_v60 (F := Ideal) x0 x1 x2 x3 x4 (ix2 z c) =
    ∑ R, dhnQ x0 x1 x2 x3 x4 R c * (ent x3 R c * rms (ent x3 R)) := by
  unfold val_main_v60 val_main_v37 val_main_v34 val_main_v33 val_main_v32 val_main_v14 val_main_v13 val_main_v9
    val_main_cst_3 val_main_cst_4
  pointwise [dhn_at, msq_at]
  rw [Fin.sum_univ_one]
  exact Finset.sum_congr rfl fun R _ => mul_comm _ _

theorem dh_at (R : Fin 4096) (c : Fin 1024) : val_main_v52 (F := Ideal) x0 x1 x2 x3 x4 (ix2 R c) =
    rmsBackQ (ent x0 R) (dhnQ x0 x1 x2 x3 x4 R) (ent x3 R) (ent1 x4) c := by
  unfold val_main_v52 val_main_v51 val_main_v50 val_main_v49 val_main_v48 val_main_v47 val_main_v46 val_main_v45
    val_main_v44 val_main_v43 val_main_v42 val_main_v41 val_main_v40 val_main_v39 val_main_v38 val_main_v36 val_main_v35
    val_main_v15 val_main_v12 val_main_v11 val_main_v10 val_main_v9 val_main_cst_2 val_main_cst_5 val_main_cst_6 val_main_cst_7
  pointwise [dhn_at, msq_at]
  rw [Fin.sum_univ_one]
  rfl

end Cert.Reference2Ideal.Ref
end
-- ==== Proof.FfnEqual.lean ====
module

public import proofs.«01_k».proof.Proof.FfnPre
public import proofs.«01_k».proof.Proof.FfnRef
public import proofs.«01_k».proof.Proof.Gen.Reference2Ideal.Run

/-!
The second reference's four results are the second kernel's four arrays where the arguments are real.
-/

@[expose] public section
set_option maxRecDepth 16384
noncomputable section
namespace Cert.FfnEqual
open Idealize.ShloMosaic Idealize.ShloMosaic.TcCoe
open Cert.AttnSpec Cert.FfnSpec Cert.Kernel2Ideal.Arrays

variable {m : (ℓ : Loc Cert.Kernel2Ideal.nD Cert.Kernel2Ideal.τ Cert.Kernel2Ideal.sig) → Buf (Elt Ideal) ℓ}
  (hpre : Cert.Pre_Kernel2Ideal_finite_inputs2 m) (c : Dev Cert.Kernel2Ideal.nD)

abbrev b0 : FVec Ideal Cert.Reference2Ideal.S4096x1024 .f32 := m ((c : Thread Cert.Kernel2Ideal.nD Cert.Kernel2Ideal.τ).loc Cert.Kernel2Ideal.main_arg0)
abbrev b1 : FVec Ideal Cert.Reference2Ideal.S2816x1024 .bf16 := m ((c : Thread Cert.Kernel2Ideal.nD Cert.Kernel2Ideal.τ).loc Cert.Kernel2Ideal.main_arg1)
abbrev b2 : FVec Ideal Cert.Reference2Ideal.S1024x5632 .bf16 := m ((c : Thread Cert.Kernel2Ideal.nD Cert.Kernel2Ideal.τ).loc Cert.Kernel2Ideal.main_arg2)
abbrev b3 : FVec Ideal Cert.Reference2Ideal.S4096x1024 .f32 := m ((c : Thread Cert.Kernel2Ideal.nD Cert.Kernel2Ideal.τ).loc Cert.Kernel2Ideal.main_arg3)
abbrev b4 : FVec Ideal Cert.Reference2Ideal.S1024 .f32 := m ((c : Thread Cert.Kernel2Ideal.nD Cert.Kernel2Ideal.τ).loc Cert.Kernel2Ideal.main_arg4)

include hpre

/-- The reference's form of the two gradients is the kernel's. -/
theorem dgu_eq (R : Fin 4096) : Cert.Reference2Ideal.Ref.dguQ (b0 (m := m) c) (b1 (m := m) c) (b2 (m := m) c) (b3 (m := m) c) (b4 (m := m) c) R = dgus (a0 m c) (a1 m c) (a2 m c) (a3 m c) (a4 m c) R := by
  funext s j
  unfold Cert.Reference2Ideal.Ref.dguQ
  by_cases h : s = 0
  · subst h
    simpa only [if_true, dgus, dguRow, half, one_ne_zero, if_false] using
      dgateQ_eq (Cert.Precondition2.real_dacts hpre c R j) (Cert.Precondition2.real_gus hpre c R (gcol j))
        (Cert.Precondition2.real_gus hpre c R (ucol j))
  · simp only [if_neg h, if_true, dgus, dguRow, half]

theorem dhn_eq (R : Fin 4096) : Cert.Reference2Ideal.Ref.dhnQ (b0 (m := m) c) (b1 (m := m) c) (b2 (m := m) c) (b3 (m := m) c) (b4 (m := m) c) R = dhnf (a0 m c) (a1 m c) (a2 m c) (a3 m c) (a4 m c) R := by
  unfold Cert.Reference2Ideal.Ref.dhnQ
  rw [dgu_eq hpre c R]; rfl

theorem out_dgu : Cert.Reference2Ideal.Read.val_main_v58 (F := Ideal) (b0 (m := m) c) (b1 (m := m) c) (b2 (m := m) c) (b3 (m := m) c) (b4 (m := m) c) = fun i => dgus (a0 m c) (a1 m c) (a2 m c) (a3 m c) (a4 m c) (i 1) (i 0) (i 2) := by
  funext i
  obtain ⟨s, R, j, rfl⟩ : ∃ (s : Fin 2) (R : Fin 4096) (j : Fin 2816), i = ix3 s R j := ⟨_, _, _, eq_ix3 i⟩
  exact (Cert.Reference2Ideal.Ref.dgu_at _ _ _ _ _ s R j).trans (congrFun (congrFun (dgu_eq hpre c R) s) j)

theorem out_dh : Cert.Reference2Ideal.Read.val_main_v52 (F := Ideal) (b0 (m := m) c) (b1 (m := m) c) (b2 (m := m) c) (b3 (m := m) c) (b4 (m := m) c) = fun i => dhf (a0 m c) (a1 m c) (a2 m c) (a3 m c) (a4 m c) (i 0) (i 1) := by
  funext i
  obtain ⟨R, e, rfl⟩ : ∃ (R : Fin 4096) (e : Fin 1024), i = ix2 R e := ⟨_, _, eq_ix2 i⟩
  refine (Cert.Reference2Ideal.Ref.dh_at _ _ _ _ _ R e).trans ?_
  rw [dhn_eq hpre c, rmsBackQ_eq]; rfl

theorem out_dg : Cert.Reference2Ideal.Read.val_main_v60 (F := Ideal) (b0 (m := m) c) (b1 (m := m) c) (b2 (m := m) c) (b3 (m := m) c) (b4 (m := m) c) = fun i => dgf (a0 m c) (a1 m c) (a2 m c) (a3 m c) (a4 m c) (i 1) := by
  funext i
  rw [eq_ix2 i]
  refine (Cert.Reference2Ideal.Ref.dg_at _ _ _ _ _ (i 0) (i 1)).trans ?_
  refine Finset.sum_congr rfl fun R _ => ?_
  rw [dhn_eq hpre c]; rfl

/-! Each result of the reference, from arguments equal to the kernel's, is the kernel's array. -/

variable {m' : (ℓ : Loc Cert.Reference2Ideal.nD Cert.Reference2Ideal.τ Cert.Reference2Ideal.sig) → Buf (Elt Ideal) ℓ}
  (hagree : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
    ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
    ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
    ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
    ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))

include hagree

theorem res6 : Cert.Reference2Ideal.Value.res_main_v58 m' c = (Cert.Kernel2Ideal.Gen.dats m 0 c).arrAt 6 Cert.Kernel2Ideal.cfg0.N := by
  obtain ⟨e0, e1, e2, e3, e4⟩ := hagree
  rw [final6, Cert.Reference2Ideal.Read.val_main_v58_eq, e0, e1, e2, e3, e4]
  exact out_dgu hpre c

theorem res7 : Cert.Reference2Ideal.Value.res_main_v52 m' c = (Cert.Kernel2Ideal.Gen.dats m 0 c).arrAt 7 Cert.Kernel2Ideal.cfg0.N := by
  obtain ⟨e0, e1, e2, e3, e4⟩ := hagree
  rw [final7, Cert.Reference2Ideal.Read.val_main_v52_eq, e0, e1, e2, e3, e4]
  exact out_dh hpre c

theorem res8 : Cert.Reference2Ideal.Value.res_main_v59 m' c = (Cert.Kernel2Ideal.Gen.dats m 0 c).arrAt 8 Cert.Kernel2Ideal.cfg0.N := by
  obtain ⟨e0, e1, e2, e3, e4⟩ := hagree
  rw [final8, Cert.Reference2Ideal.Read.val_main_v59_eq, e0, e1, e2, e3, e4]
  exact out_dh hpre c

theorem res9 : Cert.Reference2Ideal.Value.res_main_v60 m' c = (Cert.Kernel2Ideal.Gen.dats m 0 c).arrAt 9 Cert.Kernel2Ideal.cfg0.N := by
  obtain ⟨e0, e1, e2, e3, e4⟩ := hagree
  rw [final9, Cert.Reference2Ideal.Read.val_main_v60_eq, e0, e1, e2, e3, e4]
  exact out_dg hpre c

end Cert.FfnEqual
end
-- ==== Proof.GradSpec.lean ====
module

public import Idealize.ShloMosaic.Lib.Pointwise
public import proofs.«01_k».proof.Proof.Spec

/-!
A weight's gradient: the product of the rows that entered the multiplication, transposed, with the rows' gradients;
and the sums over the rows in two or four blocks.
-/

@[expose] public section
noncomputable section
namespace Cert.GradSpec
open Idealize.ShloMosaic

/-- Row `k`, column `j` of the gradient, from column `k` of the rows and column `j` of their gradients. -/
def wgrad (x d : Fin 4096 → EReal) : EReal := ∑ R, x R * d R

/-- The same sum with the factors exchanged. -/
theorem wgrad_comm (x d : Fin 4096 → EReal) : ∑ R, d R * x R = wgrad x d :=
  Finset.sum_congr rfl fun _ _ => mul_comm _ _

/-- Row `r` of the `b`-th half of the rows. -/
def halfRow (b : Fin 2) (r : Fin 2048) : Fin 4096 := ⟨b.val * 2048 + r.val, by omega⟩

/-- The sum over all rows is the first half's and the second half's. -/
theorem sum_halfRow (f : Fin 4096 → EReal) : (∑ r, f (halfRow 0 r)) + ∑ r, f (halfRow 1 r) = ∑ R, f R :=
  ((Fin.sum_univ_tiles 2 2048 (by rfl) f).trans (Fin.sum_univ_two _)).symm

/-- A function of three indices at equal indices. -/
theorem at3 {n k l : ℕ} (F : Fin n → Fin k → Fin l → EReal) {s s' : Fin n} {R R' : Fin k} {j j' : Fin l}
    (hs : s.val = s'.val) (hR : R.val = R'.val) (hj : j.val = j'.val) : F s R j = F s' R' j' := by
  rw [Fin.ext hs, Fin.ext hR, Fin.ext hj]

/-- Four pieces of `w` columns stacked: the `s`-th, at column `j`, is the whole at column `s * w + j`. -/
theorem four_pieces {n w : ℕ} (K : (i : ℕ) → i < n → EReal) (s : Fin 4) (j : ℕ) (h0 : j < n) (h1 : w + j < n)
    (h2 : 2 * w + j < n) (h3 : 3 * w + j < n) (h : s.val * w + j < n) :
    (if _ : s.val < 1 then K j h0 else if _ : s.val - 1 < 1 then K (w + j) h1
      else if _ : s.val - 1 - 1 < 1 then K (2 * w + j) h2 else K (3 * w + j) h3) = K (s.val * w + j) h := by
  have e : ∀ {x y : ℕ} (hx : x < n) (hy : y < n), x = y → K x hx = K y hy := by
    rintro _ _ _ _ rfl; rfl
  match s with
  | 0 => exact (dif_pos (by decide)).trans (e _ _ (by show j = 0 * w + j; omega))
  | 1 => exact (dif_neg (by decide)).trans ((dif_pos (by decide)).trans (e _ _ (by show w + j = 1 * w + j; omega)))
  | 2 => exact (dif_neg (by decide)).trans ((dif_neg (by decide)).trans ((dif_pos (by decide)).trans rfl))
  | 3 => exact (dif_neg (by decide)).trans ((dif_neg (by decide)).trans ((dif_neg (by decide)).trans rfl))

end Cert.GradSpec
end
-- ==== Proof.GradGu.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Claim
public import proofs.«01_k».proof.Proof.GradSpec

/-!
The gradient of the gate and up projections' weights: what each grid point leaves, the array at the end, the
reference's result at an index.
-/

@[expose] public section
set_option maxRecDepth 16384
noncomputable section
namespace Cert.Kernel3Ideal.Grad
open Cert.Kernel3Ideal Cert.Kernel3Ideal.Gen Idealize.ShloMosaic Idealize.ShloMosaic.TcCoe Idealize.SL.Sem
open Idealize.ShloMosaic.Pipeline (Dat)
open Cert.AttnSpec Cert.GradSpec

section block
variable (X : FVec Ideal S2048x1024 .bf16) (D : FVec Ideal S1x2048x1408 .bf16) (Z : FVec Ideal S1x1024x1408 .f32)

/-- A half of the rows' part of the gradient. -/
abbrev part (k : Fin 1024) (j : Fin 1408) : EReal := ∑ r : Fin 2048, X (ix2 r k) * D (ix3 0 r j)

theorem pay1_at (k : Fin 1024) (j : Fin 1408) : k0_pay1 (F := Ideal) X D (ix2 k j) = part X D k j := by
  pointwise [k0_pay1]
theorem pay2_at (a : Fin 1) (k : Fin 1024) (j : Fin 1408) : k0_pay2 (F := Ideal) X D (ix3 a k j) = part X D k j := by
  pointwise [k0_pay2, pay1_at]
theorem pay3_at (a : Fin 1) (k : Fin 1024) (j : Fin 1408) :
    k0_pay3 (F := Ideal) X D Z (ix3 a k j) = Z (ix3 0 k j) + part X D k j := by
  pointwise [k0_pay3, pay1_at]
end block

variable (m : (ℓ : Loc nD τ sig) → Buf (Elt Ideal) ℓ) (c : Dev nD)

theorem w_A (t : Fin cfg0.N) (h : t.val % 2 = 0) (a : Fin 1) (k : Fin 1024) (j : Fin 1408) :
    outsAt0 m c t.val t.isLt (ix3 a k j) = part (iblk m c 0 t) (iblk m c 1 t) k j := by
  rw [outsAt0_A m c t h (by omega)]; frame_out
  exact pay2_at _ _ a k j
theorem w_B (t : Fin cfg0.N) (h : t.val % 2 = 1) (a : Fin 1) (k : Fin 1024) (j : Fin 1408) :
    outsAt0 m c t.val t.isLt (ix3 a k j) =
      (show EReal from outsAt0 m c (t.val - 1) (Nat.lt_of_le_of_lt (Nat.sub_le _ _) t.isLt) (ix3 0 k j)) +
      part (iblk m c 0 t) (iblk m c 1 t) k j := by
  rw [outsAt0_B m c t (by omega) h]; frame_out
  exact pay3_at _ _ _ a k j

abbrev a0 : Fin 4096 → Fin 1024 → EReal := ent (a := 4096) (b := 1024) (φ := .bf16) (m ((c : Thread nD τ).loc main_arg0))
abbrev a1 (s : Fin 2) (R : Fin 4096) (j : Fin 2816) : EReal :=
  (show FVec Ideal S2x4096x2816 .bf16 from m ((c : Thread nD τ).loc main_arg1)) (ix3 s R j)

/-- Which half of the stacked gradients the `s`-th block of columns lies in, and the column there. -/
def side (s : Fin 4) : Fin 2 := ⟨s.val / 2, by omega⟩
def col (s : Fin 4) (j : Fin 1408) : Fin 2816 := ⟨s.val % 2 * 1408 + j.val, by omega⟩

theorem idx : ∀ t : Fin cfg0.N, win0_0.index t = ![t.val % 2, 0] ∧ win0_1.index t = ![t.val / 4, t.val % 2, t.val / 2 % 2]
    ∧ win0_2.index t = ![t.val / 2, 0, 0] ∧ t.val < 8 :=
  (by decide +kernel : ∀ t : Fin grid0.N, _)
theorem odd_of_flush : ∀ t : Fin cfg0.N, (cfg0.win 2).flush t = true → t.val % 2 = 1 :=
  (by decide +kernel : ∀ t : Fin grid0.N, _)

/-- The block of columns and the half of the rows of a point. -/
def blockOf (t : Fin cfg0.N) : Fin 4 := ⟨t.val / 2, by have := (idx t).2.2.2; omega⟩
def halfOf (t : Fin cfg0.N) : Fin 2 := ⟨t.val % 2, by omega⟩

theorem b0 (t : Fin cfg0.N) (r : Fin 2048) (k : Fin 1024) :
    (show FVec Ideal S2048x1024 .bf16 from iblk m c 0 t) (ix2 r k) = a0 m c (halfRow (halfOf t) r) k := by
  blk_ext [iblk, V, idx t, halfRow, halfOf]
theorem b1 (t : Fin cfg0.N) (r : Fin 2048) (j : Fin 1408) :
    (show FVec Ideal S1x2048x1408 .bf16 from iblk m c 1 t) (ix3 0 r j) =
      a1 m c (side (blockOf t)) (halfRow (halfOf t) r) (col (blockOf t) j) := by
  blk_ext [iblk, V, idx t, halfRow, halfOf, side, col, blockOf]

theorem part_eq (t : Fin cfg0.N) (k : Fin 1024) (j : Fin 1408) : part (iblk m c 0 t) (iblk m c 1 t) k j =
    ∑ r, (fun R => a0 m c R k * a1 m c (side (blockOf t)) R (col (blockOf t) j)) (halfRow (halfOf t) r) :=
  Finset.sum_congr rfl fun r _ => congrArg₂ (· * ·) (b0 m c t r k) (b1 m c t r j)

/-- The gradient at row `k` and column `j` of the `s`-th block of columns. -/
def grad (s : Fin 4) (k : Fin 1024) (j : Fin 1408) : EReal :=
  wgrad (fun R => a0 m c R k) (fun R => a1 m c (side s) R (col s j))

theorem flushed_at (t : Fin cfg0.N) (h : t.val % 2 = 1) (a : Fin 1) (k : Fin 1024) (j : Fin 1408) :
    outsAt0 m c t.val t.isLt (ix3 a k j) = grad m c (blockOf t) k j := by
  have h' : t.val - 1 < cfg0.N := Nat.lt_of_le_of_lt (Nat.sub_le _ _) t.isLt
  rw [w_B m c t h]
  have e : blockOf ⟨t.val - 1, h'⟩ = blockOf t := Fin.ext (show (t.val - 1) / 2 = t.val / 2 by omega)
  have e0 : halfOf ⟨t.val - 1, h'⟩ = 0 := Fin.ext (show (t.val - 1) % 2 = 0 by omega)
  have e1 : halfOf t = 1 := Fin.ext h
  refine (Ideal.add_congr ((w_A m c ⟨t.val - 1, h'⟩ (by show (t.val - 1) % 2 = 0; omega) 0 k j).trans (part_eq m c _ k j))
    (part_eq m c t k j)).trans ?_
  rw [e, e0, e1]
  exact sum_halfRow fun R => a0 m c R k * a1 m c (side (blockOf t)) R (col (blockOf t) j)

theorem final2 : (dats m 0 c).arrAt 2 cfg0.N = fun i : S4x1024x1408.Idx => grad m c (i 0) (i 1) (i 2) := by
  refine (dats m 0 c).arrAt_eq_of_covers 2 _ (by decide +kernel) fun t ht y => ?_
  blk_simp
  rw [after0_2]
  idx_vars y
  refine (flushed_at m c t (odd_of_flush t ht) y0 y1 y2).trans ?_
  refine at3 (grad m c) ?_ ?_ ?_ <;> blk_simp [idx t, blockOf]

end Cert.Kernel3Ideal.Grad

namespace Cert.Reference3Ideal.Grad
open Cert.Reference3Ideal Cert.Reference3Ideal.Read Idealize.ShloMosaic
open Cert.AttnSpec Cert.GradSpec
open Cert.Kernel3Ideal.Grad (side col)

variable (x0 : FVec Ideal S4096x1024 .bf16) (x1 : FVec Ideal S2x4096x2816 .bf16)

/-- A column of the joined gradients: the stacked gradients' half and column. -/
theorem joined_at (R : Fin 4096) (s : Fin 4) (j : Fin 1408) (J : Fin 5632) (h : J.val = s.val * 1408 + j.val) :
    val_main_v4 (F := Ideal) x1 (ix2 R J) = x1 (ix3 (side s) R (col s j)) := by
  unfold val_main_v4 val_main_v3 val_main_v2 val_main_v1 val_main_v0
  pointwise
  by_cases hJ : J.val < 2816
  · refine (dif_pos hJ).trans (at3 (fun s R j => x1 (ix3 s R j)) ?_ rfl ?_)
    · show 0 = s.val / 2; omega
    · show J.val = s.val % 2 * 1408 + j.val; omega
  · refine (dif_neg hJ).trans (at3 (fun s R j => x1 (ix3 s R j)) ?_ rfl ?_)
    · show 1 = s.val / 2; omega
    · show J.val - 2816 = s.val % 2 * 1408 + j.val; omega

theorem grad_at (k : Fin 1024) (s : Fin 4) (j : Fin 1408) (J : Fin 5632) (h : J.val = s.val * 1408 + j.val) :
    val_main_v10 (F := Ideal) x0 x1 (ix2 k J) = wgrad (fun R => x0 (ix2 R k)) (fun R => x1 (ix3 (side s) R (col s j))) := by
  unfold val_main_v10 val_main_v9 val_main_v8 val_main_v6
  pointwise [joined_at x1 _ s j J h]
  exact wgrad_comm _ _

theorem out_at (s : Fin 4) (k : Fin 1024) (j : Fin 1408) : val_main_v19 (F := Ideal) x0 x1 (ix3 s k j) =
    wgrad (fun R => x0 (ix2 R k)) (fun R => x1 (ix3 (side s) R (col s j))) := by
  refine Eq.trans ?_ (grad_at x0 x1 k s j ⟨s.val * 1408 + j.val, by omega⟩ rfl)
  unfold val_main_v19 val_main_v18 val_main_v17 val_main_v16 val_main_v15 val_main_v14 val_main_v13 val_main_v12 val_main_v11
  generalize val_main_v10 (F := Ideal) x0 x1 = K
  pointwise
  exact four_pieces (fun n h => K (ix2 k ⟨n, h⟩)) s j.val (by omega) (by omega) (by omega) (by omega) (by omega)

end Cert.Reference3Ideal.Grad
end
-- ==== Proof.GradDown.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Claim
public import proofs.«01_k».proof.Proof.GradSpec

/-!
The gradient of the down projection's weight: what each grid point leaves, the array at the end, the
reference's result at an index.
-/

@[expose] public section
set_option maxRecDepth 16384
noncomputable section
namespace Cert.Kernel4Ideal.Grad
open Cert.Kernel4Ideal Cert.Kernel4Ideal.Gen Idealize.ShloMosaic Idealize.ShloMosaic.TcCoe Idealize.SL.Sem
open Idealize.ShloMosaic.Pipeline (Dat)
open Cert.AttnSpec Cert.GradSpec

section block
variable (X : FVec Ideal S2048x1408 .bf16) (D : FVec Ideal S1x2048x1024 .f32) (Z : FVec Ideal S1x1408x1024 .f32)

/-- A half of the rows' part of the gradient. -/
abbrev part (k : Fin 1408) (j : Fin 1024) : EReal := ∑ r : Fin 2048, X (ix2 r k) * D (ix3 0 r j)

theorem pay1_at (k : Fin 1408) (j : Fin 1024) : k0_pay1 (F := Ideal) X D (ix2 k j) = part X D k j := by
  pointwise [k0_pay1]
theorem pay2_at (a : Fin 1) (k : Fin 1408) (j : Fin 1024) : k0_pay2 (F := Ideal) X D (ix3 a k j) = part X D k j := by
  pointwise [k0_pay2, pay1_at]
theorem pay3_at (a : Fin 1) (k : Fin 1408) (j : Fin 1024) :
    k0_pay3 (F := Ideal) X D Z (ix3 a k j) = Z (ix3 0 k j) + part X D k j := by
  pointwise [k0_pay3, pay1_at]
end block

variable (m : (ℓ : Loc nD τ sig) → Buf (Elt Ideal) ℓ) (c : Dev nD)

theorem w_A (t : Fin cfg0.N) (h : t.val % 2 = 0) (a : Fin 1) (k : Fin 1408) (j : Fin 1024) :
    outsAt0 m c t.val t.isLt (ix3 a k j) = part (iblk m c 0 t) (iblk m c 1 t) k j := by
  rw [outsAt0_A m c t h (by omega)]; frame_out
  exact pay2_at _ _ a k j
theorem w_B (t : Fin cfg0.N) (h : t.val % 2 = 1) (a : Fin 1) (k : Fin 1408) (j : Fin 1024) :
    outsAt0 m c t.val t.isLt (ix3 a k j) =
      (show EReal from outsAt0 m c (t.val - 1) (Nat.lt_of_le_of_lt (Nat.sub_le _ _) t.isLt) (ix3 0 k j)) +
      part (iblk m c 0 t) (iblk m c 1 t) k j := by
  rw [outsAt0_B m c t (by omega) h]; frame_out
  exact pay3_at _ _ _ a k j

abbrev a0 : Fin 4096 → Fin 2816 → EReal := ent (a := 4096) (b := 2816) (φ := .bf16) (m ((c : Thread nD τ).loc main_arg0))
abbrev a1 : Fin 4096 → Fin 1024 → EReal := ent (a := 4096) (b := 1024) (φ := .f32) (m ((c : Thread nD τ).loc main_arg1))

theorem idx : ∀ t : Fin cfg0.N, win0_0.index t = ![t.val % 2, t.val / 2] ∧ win0_1.index t = ![0, t.val % 2, 0]
    ∧ win0_2.index t = ![0, t.val / 2, 0] ∧ t.val < 4 :=
  (by decide +kernel : ∀ t : Fin grid0.N, _)
theorem odd_of_flush : ∀ t : Fin cfg0.N, (cfg0.win 2).flush t = true → t.val % 2 = 1 :=
  (by decide +kernel : ∀ t : Fin grid0.N, _)

/-- The row of the gradient of a point's block's row `k`, and the half of the rows summed over. -/
def rowOf (t : Fin cfg0.N) (k : Fin 1408) : Fin 2816 := ⟨t.val / 2 * 1408 + k.val, by have := (idx t).2.2.2; omega⟩
def halfOf (t : Fin cfg0.N) : Fin 2 := ⟨t.val % 2, by omega⟩

theorem b0 (t : Fin cfg0.N) (r : Fin 2048) (k : Fin 1408) :
    (show FVec Ideal S2048x1408 .bf16 from iblk m c 0 t) (ix2 r k) = a0 m c (halfRow (halfOf t) r) (rowOf t k) := by
  blk_ext [iblk, V, idx t, halfRow, halfOf, rowOf]
theorem b1 (t : Fin cfg0.N) (r : Fin 2048) (j : Fin 1024) :
    (show FVec Ideal S1x2048x1024 .f32 from iblk m c 1 t) (ix3 0 r j) = a1 m c (halfRow (halfOf t) r) j := by
  have h : (show FVec Ideal S1x2048x1024 .f32 from iblk m c 1 t) (ix3 0 r j) =
      (show FVec Ideal S1x4096x1024 .f32 from V m c main_v0) (ix3 0 (halfRow (halfOf t) r) j) := by
    blk_ext [iblk, idx t, halfRow, halfOf]
  refine h.trans ?_
  entry_read
  pointwise

theorem part_eq (t : Fin cfg0.N) (k : Fin 1408) (j : Fin 1024) : part (iblk m c 0 t) (iblk m c 1 t) k j =
    ∑ r, (fun R => a0 m c R (rowOf t k) * a1 m c R j) (halfRow (halfOf t) r) :=
  Finset.sum_congr rfl fun r _ => congrArg₂ (· * ·) (b0 m c t r k) (b1 m c t r j)

/-- The gradient at row `k` and column `j`. -/
def grad (k : Fin 2816) (j : Fin 1024) : EReal := wgrad (fun R => a0 m c R k) (fun R => a1 m c R j)

theorem flushed_at (t : Fin cfg0.N) (h : t.val % 2 = 1) (a : Fin 1) (k : Fin 1408) (j : Fin 1024) :
    outsAt0 m c t.val t.isLt (ix3 a k j) = grad m c (rowOf t k) j := by
  have h' : t.val - 1 < cfg0.N := Nat.lt_of_le_of_lt (Nat.sub_le _ _) t.isLt
  rw [w_B m c t h]
  have e : rowOf ⟨t.val - 1, h'⟩ k = rowOf t k :=
    Fin.ext (show (t.val - 1) / 2 * 1408 + k.val = t.val / 2 * 1408 + k.val by omega)
  have e0 : halfOf ⟨t.val - 1, h'⟩ = 0 := Fin.ext (show (t.val - 1) % 2 = 0 by omega)
  have e1 : halfOf t = 1 := Fin.ext h
  refine (Ideal.add_congr ((w_A m c ⟨t.val - 1, h'⟩ (by show (t.val - 1) % 2 = 0; omega) 0 k j).trans (part_eq m c _ k j))
    (part_eq m c t k j)).trans ?_
  rw [e, e0, e1]
  exact sum_halfRow fun R => a0 m c R (rowOf t k) * a1 m c R j

theorem final2 : (dats m 0 c).arrAt 2 cfg0.N = fun i : S1x2816x1024.Idx => grad m c (i 1) (i 2) := by
  refine (dats m 0 c).arrAt_eq_of_covers 2 _ (by decide +kernel) fun t ht y => ?_
  blk_simp
  rw [after0_2]
  idx_vars y
  refine (flushed_at m c t (odd_of_flush t ht) y0 y1 y2).trans ?_
  refine congrArg₂ (grad m c) (Fin.ext ?_) (Fin.ext ?_) <;> blk_simp [idx t, rowOf]

end Cert.Kernel4Ideal.Grad

namespace Cert.Reference4Ideal.Grad
open Cert.Reference4Ideal Cert.Reference4Ideal.Read Idealize.ShloMosaic
open Cert.AttnSpec Cert.GradSpec

variable (x0 : FVec Ideal S4096x2816 .bf16) (x1 : FVec Ideal S4096x1024 .f32)

theorem out_at (s : Fin 1) (k : Fin 2816) (j : Fin 1024) : val_main_v5 (F := Ideal) x0 x1 (ix3 s k j) =
    wgrad (fun R => x0 (ix2 R k)) (fun R => x1 (ix2 R j)) := by
  unfold val_main_v5 val_main_v4 val_main_v3 val_main_v1
  pointwise
  exact wgrad_comm _ _

end Cert.Reference4Ideal.Grad
end
-- ==== Proof.GradIn.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Claim
public import proofs.«01_k».proof.Proof.GradSpec

/-!
The gradient of the sequence mixer's input weight: what each grid point leaves, the array at the end, the
reference's result at an index.
-/

@[expose] public section
set_option maxRecDepth 16384
noncomputable section
namespace Cert.Kernel5Ideal.Grad
open Cert.Kernel5Ideal Cert.Kernel5Ideal.Gen Idealize.ShloMosaic Idealize.ShloMosaic.TcCoe Idealize.SL.Sem
open Idealize.ShloMosaic.Pipeline (Dat)
open Cert.AttnSpec Cert.GradSpec

section block
variable (X : FVec Ideal S2048x1024 .bf16) (D : FVec Ideal S1x2048x1024 .bf16) (Z : FVec Ideal S1x1024x512 .f32)

/-- A half of the rows' part of the gradient. -/
abbrev part (k : Fin 1024) (j : Fin 1024) : EReal := ∑ r : Fin 2048, X (ix2 r k) * D (ix3 0 r j)

theorem pay1_at (k : Fin 1024) (j : Fin 1024) : k0_pay1 (F := Ideal) X D (ix2 k j) = part X D k j := by
  pointwise [k0_pay1]

/-- The column of a block of two pieces of 512 columns. -/
def wide (s : Fin 2) (j : Fin 512) : Fin 1024 := ⟨s.val * 512 + j.val, by omega⟩

variable {s : Fin 2} {K k : Fin 1024} {J j : Fin 512} {a : Fin 1}

theorem pay2_at (hs : s.val = 0) (hk : K.val = k.val) (hj : J.val = j.val) :
    k0_pay2 (F := Ideal) X D (ix3 a k j) = part X D K (wide s J) := by
  obtain rfl := Fin.ext hk; obtain rfl := Fin.ext hj
  refine Eq.trans ?_ ((pay1_at X D K ⟨J.val, by omega⟩).trans
    (congrArg (part X D K) (Fin.ext (show J.val = s.val * 512 + J.val by omega))))
  pointwise [k0_pay2]
theorem pay3_at (hs : s.val = 1) (hk : K.val = k.val) (hj : J.val = j.val) :
    k0_pay3 (F := Ideal) X D (ix3 a k j) = part X D K (wide s J) := by
  obtain rfl := Fin.ext hk; obtain rfl := Fin.ext hj
  refine Eq.trans ?_ ((pay1_at X D K ⟨512 + J.val, by omega⟩).trans
    (congrArg (part X D K) (Fin.ext (show 512 + J.val = s.val * 512 + J.val by omega))))
  pointwise [k0_pay3]
theorem pay4_at (k : Fin 1024) (j : Fin 512) : k0_pay4 (F := Ideal) X D Z (ix3 a k j) =
    Z (ix3 0 k j) + k0_pay2 (F := Ideal) X D (ix3 a k j) := by
  pointwise [k0_pay4, k0_pay2]
theorem pay5_at (k : Fin 1024) (j : Fin 512) : k0_pay5 (F := Ideal) X D Z (ix3 a k j) =
    Z (ix3 0 k j) + k0_pay3 (F := Ideal) X D (ix3 a k j) := by
  pointwise [k0_pay5, k0_pay3]

/-! The loads of a block's two pieces. -/
variable (Y : FVec Ideal S2x1024x512 .f32)
def lo0 : FVec Ideal S1x1024x512 .f32 :=
  View.ld (Val := Elt Ideal) (e' := .f32) Y (Rect.unit (s := S2x1024x512) ![0, 0, 0] ![1, 1024, 512] inb_S2x1024x512_S1x1024x512_0_0_0)
def lo1 : FVec Ideal S1x1024x512 .f32 :=
  View.ld (Val := Elt Ideal) (e' := .f32) Y (Rect.unit (s := S2x1024x512) ![1, 0, 0] ![1, 1024, 512] inb_S2x1024x512_S1x1024x512_1_0_0)
theorem lo0_at (hs : s.val = 0) (hk : K.val = k.val) (hj : J.val = j.val) : lo0 Y (ix3 0 k j) = Y (ix3 s K J) := by
  obtain rfl : s = 0 := Fin.ext hs
  obtain rfl := Fin.ext hk; obtain rfl := Fin.ext hj
  unfold lo0; pointwise; try blk_ext
theorem lo1_at (hs : s.val = 1) (hk : K.val = k.val) (hj : J.val = j.val) : lo1 Y (ix3 0 k j) = Y (ix3 s K J) := by
  obtain rfl : s = 1 := Fin.ext hs
  obtain rfl := Fin.ext hk; obtain rfl := Fin.ext hj
  unfold lo1; pointwise; try blk_ext
end block

variable (m : (ℓ : Loc nD τ sig) → Buf (Elt Ideal) ℓ) (c : Dev nD)

theorem w_A (t : Fin cfg0.N) (h : t.val % 2 = 0) (s : Fin 2) (k : Fin 1024) (j : Fin 512) :
    outsAt0 m c t.val t.isLt (ix3 s k j) = part (iblk m c 0 t) (iblk m c 1 t) k (wide s j) := by
  rw [outsAt0_A m c t h (by omega)]; frame_out
  canon_tiles x h
  all_goals idx_vars x
  · exact pay3_at _ _ (by omega) h1 h2
  · exact pay2_at _ _ (by omega) h1 h2

theorem w_B (t : Fin cfg0.N) (h : t.val % 2 = 1) (s : Fin 2) (k : Fin 1024) (j : Fin 512) :
    outsAt0 m c t.val t.isLt (ix3 s k j) =
      (show EReal from outsAt0 m c (t.val - 1) (Nat.lt_of_le_of_lt (Nat.sub_le _ _) t.isLt) (ix3 s k j)) +
      part (iblk m c 0 t) (iblk m c 1 t) k (wide s j) := by
  rw [outsAt0_B m c t (by omega) h]; frame_out
  canon_tiles x h
  all_goals idx_vars x
  · exact (pay5_at _ _ (lo1 (outsAt0 m c (t.val - 1) (Nat.lt_of_le_of_lt (Nat.sub_le _ _) t.isLt))) x1 x2).trans
      (Ideal.add_congr (lo1_at _ (by omega) h1 h2) (pay3_at _ _ (by omega) h1 h2))
  · exact (pay4_at _ _ (lo0 (outsAt0 m c (t.val - 1) (Nat.lt_of_le_of_lt (Nat.sub_le _ _) t.isLt))) x1 x2).trans
      (Ideal.add_congr (lo0_at _ (by omega) h1 h2) (pay2_at _ _ (by omega) h1 h2))

abbrev a0 : Fin 4096 → Fin 1024 → EReal := ent (a := 4096) (b := 1024) (φ := .bf16) (m ((c : Thread nD τ).loc main_arg0))
abbrev a1 : Fin 4096 → Fin 2048 → EReal := ent (a := 4096) (b := 2048) (φ := .bf16) (m ((c : Thread nD τ).loc main_arg1))

theorem idx : ∀ t : Fin cfg0.N, win0_0.index t = ![t.val % 2, 0] ∧ win0_1.index t = ![0, t.val % 2, t.val / 2]
    ∧ win0_2.index t = ![t.val / 2, 0, 0] ∧ t.val < 4 :=
  (by decide +kernel : ∀ t : Fin grid0.N, _)
theorem odd_of_flush : ∀ t : Fin cfg0.N, (cfg0.win 2).flush t = true → t.val % 2 = 1 :=
  (by decide +kernel : ∀ t : Fin grid0.N, _)

/-- The piece of the output a point's block's piece `s` is, the column of the gradients, the half of the rows. -/
def pieceOf (t : Fin cfg0.N) (s : Fin 2) : Fin 4 := ⟨t.val / 2 * 2 + s.val, by have := (idx t).2.2.2; omega⟩
def colOf (t : Fin cfg0.N) (j : Fin 1024) : Fin 2048 := ⟨t.val / 2 * 1024 + j.val, by have := (idx t).2.2.2; omega⟩
def halfOf (t : Fin cfg0.N) : Fin 2 := ⟨t.val % 2, by omega⟩
/-- Column `j` of the `s`-th piece. -/
def col (s : Fin 4) (j : Fin 512) : Fin 2048 := ⟨s.val * 512 + j.val, by omega⟩

theorem colOf_wide (t : Fin cfg0.N) (s : Fin 2) (j : Fin 512) : colOf t (wide s j) = col (pieceOf t s) j :=
  Fin.ext (show t.val / 2 * 1024 + (s.val * 512 + j.val) = (t.val / 2 * 2 + s.val) * 512 + j.val by omega)

theorem b0 (t : Fin cfg0.N) (r : Fin 2048) (k : Fin 1024) :
    (show FVec Ideal S2048x1024 .bf16 from iblk m c 0 t) (ix2 r k) = a0 m c (halfRow (halfOf t) r) k := by
  blk_ext [iblk, V, idx t, halfRow, halfOf]
theorem b1 (t : Fin cfg0.N) (r : Fin 2048) (j : Fin 1024) :
    (show FVec Ideal S1x2048x1024 .bf16 from iblk m c 1 t) (ix3 0 r j) = a1 m c (halfRow (halfOf t) r) (colOf t j) := by
  have h : (show FVec Ideal S1x2048x1024 .bf16 from iblk m c 1 t) (ix3 0 r j) =
      (show FVec Ideal S1x4096x2048 .bf16 from V m c main_v0) (ix3 0 (halfRow (halfOf t) r) (colOf t j)) := by
    blk_ext [iblk, idx t, halfRow, halfOf, colOf]
  refine h.trans ?_
  entry_read
  pointwise

theorem part_eq (t : Fin cfg0.N) (k : Fin 1024) (j : Fin 1024) : part (iblk m c 0 t) (iblk m c 1 t) k j =
    ∑ r, (fun R => a0 m c R k * a1 m c R (colOf t j)) (halfRow (halfOf t) r) :=
  Finset.sum_congr rfl fun r _ => congrArg₂ (· * ·) (b0 m c t r k) (b1 m c t r j)

/-- The gradient at row `k` and column `j` of the `s`-th piece. -/
def grad (s : Fin 4) (k : Fin 1024) (j : Fin 512) : EReal := wgrad (fun R => a0 m c R k) (fun R => a1 m c R (col s j))

theorem flushed_at (t : Fin cfg0.N) (h : t.val % 2 = 1) (s : Fin 2) (k : Fin 1024) (j : Fin 512) :
    outsAt0 m c t.val t.isLt (ix3 s k j) = grad m c (pieceOf t s) k j := by
  have h' : t.val - 1 < cfg0.N := Nat.lt_of_le_of_lt (Nat.sub_le _ _) t.isLt
  rw [w_B m c t h]
  have e : colOf ⟨t.val - 1, h'⟩ (wide s j) = colOf t (wide s j) :=
    Fin.ext (show (t.val - 1) / 2 * 1024 + (wide s j).val = t.val / 2 * 1024 + (wide s j).val by omega)
  have e0 : halfOf ⟨t.val - 1, h'⟩ = 0 := Fin.ext (show (t.val - 1) % 2 = 0 by omega)
  have e1 : halfOf t = 1 := Fin.ext h
  refine (Ideal.add_congr ((w_A m c ⟨t.val - 1, h'⟩ (by show (t.val - 1) % 2 = 0; omega) s k j).trans (part_eq m c _ k _))
    (part_eq m c t k _)).trans ?_
  rw [e, e0, e1, colOf_wide]
  exact sum_halfRow fun R => a0 m c R k * a1 m c R (col (pieceOf t s) j)

theorem final2 : (dats m 0 c).arrAt 2 cfg0.N = fun i : S4x1024x512.Idx => grad m c (i 0) (i 1) (i 2) := by
  refine (dats m 0 c).arrAt_eq_of_covers 2 _ (by decide +kernel) fun t ht y => ?_
  blk_simp
  rw [after0_2]
  idx_vars y
  refine (flushed_at m c t (odd_of_flush t ht) y0 y1 y2).trans ?_
  refine at3 (grad m c) ?_ ?_ ?_ <;> blk_simp [idx t, pieceOf]

end Cert.Kernel5Ideal.Grad

namespace Cert.Reference5Ideal.Grad
open Cert.Reference5Ideal Cert.Reference5Ideal.Read Idealize.ShloMosaic
open Cert.AttnSpec Cert.GradSpec
open Cert.Kernel5Ideal.Grad (col)

variable (x0 : FVec Ideal S4096x1024 .bf16) (x1 : FVec Ideal S4096x2048 .bf16)

theorem grad_at (k : Fin 1024) (j : Fin 2048) :
    val_main_v5 (F := Ideal) x0 x1 (ix2 k j) = wgrad (fun R => x0 (ix2 R k)) (fun R => x1 (ix2 R j)) := by
  unfold val_main_v5 val_main_v4 val_main_v3 val_main_v1
  pointwise
  exact wgrad_comm _ _

theorem out_at (s : Fin 4) (k : Fin 1024) (j : Fin 512) : val_main_v14 (F := Ideal) x0 x1 (ix3 s k j) =
    wgrad (fun R => x0 (ix2 R k)) (fun R => x1 (ix2 R (col s j))) := by
  refine Eq.trans ?_ (grad_at x0 x1 k (col s j))
  unfold val_main_v14 val_main_v13 val_main_v12 val_main_v11 val_main_v10 val_main_v9 val_main_v8 val_main_v7 val_main_v6
  generalize val_main_v5 (F := Ideal) x0 x1 = K
  pointwise
  exact four_pieces (fun n h => K (ix2 k ⟨n, h⟩)) s j.val (by omega) (by omega) (by omega) (by omega) (by omega)

end Cert.Reference5Ideal.Grad
end
-- ==== Proof.GradSquare.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pipeline.ReadBack
public import Idealize.ShloMosaic.Lib.Claim
public import proofs.«01_k».proof.Proof.GradSpec

/-!
The gradients of the three square weights: what each grid point adds, the arrays at the end, the reference's results.
-/

@[expose] public section
set_option maxRecDepth 16384
noncomputable section
namespace Cert.Kernel6Ideal.Grad
open Cert.Kernel6Ideal Cert.Kernel6Ideal.Gen Idealize.ShloMosaic Idealize.ShloMosaic.TcCoe Idealize.SL.Sem
open Idealize.ShloMosaic.Pipeline (Dat)
open Cert.AttnSpec Cert.GradSpec

section block
variable (X D : FVec Ideal S1024x1024 .bf16) (Z : FVec Ideal S1024x1024 .f32)

/-- A block of rows' part of a gradient. -/
abbrev part (i : S1024x1024.Idx) : EReal := ∑ r : Fin 1024, X (ix2 r (i 0)) * D (ix2 r (i 1))

theorem pay1_at (i : S1024x1024.Idx) : k0_pay1 (F := Ideal) X D i = part X D i := by
  rw [eq_ix2 i]
  pointwise [k0_pay1]
theorem pay4_at (i : S1024x1024.Idx) : k0_pay4 (F := Ideal) X D Z i = Z i + part X D i := by
  rw [← pay1_at]
  pointwise [k0_pay4]

/-! The three products and the three sums are the same operations. -/
theorem pay2_eq : k0_pay2 (F := Ideal) = k0_pay1 (F := Ideal) := rfl
theorem pay3_eq : k0_pay3 (F := Ideal) = k0_pay1 (F := Ideal) := rfl
theorem pay5_eq : k0_pay5 (F := Ideal) = k0_pay4 (F := Ideal) := rfl
theorem pay6_eq : k0_pay6 (F := Ideal) = k0_pay4 (F := Ideal) := rfl
end block

theorem idx : ∀ t : Fin cfg0.N, win0_0.index t = ![t.val, 0] ∧ win0_1.index t = ![t.val, 0] ∧ win0_2.index t = ![t.val, 0]
    ∧ win0_3.index t = ![t.val, 0] ∧ win0_4.index t = ![t.val, 0] ∧ win0_5.index t = ![t.val, 0] ∧ t.val < 4 :=
  (by decide +kernel : ∀ t : Fin grid0.N, _)

/-- Row `r` of the block of point `t`. -/
def rowOf (t : Fin cfg0.N) (r : Fin 1024) : Fin 4096 := ⟨t.val * 1024 + r, by have := (idx t).2.2.2.2.2.2; omega⟩

/-- The sum over the points and their blocks' rows is the sum over all rows. -/
theorem sum_rows (f : Fin 4096 → EReal) : ∑ t : Fin cfg0.N, ∑ r, f (rowOf t r) = ∑ R, f R :=
  ((Fin.sum_univ_tiles 4 1024 (by rfl) f).trans (by rfl)).symm

/-- An output that starts as the first point's part and to which each later point adds its own ends as the gradient. -/
theorem total (f : (n : ℕ) → n < cfg0.N → FVec Ideal S1024x1024 .f32) (x d : Fin 4096 → Fin 1024 → EReal)
    (X D : Fin cfg0.N → FVec Ideal S1024x1024 .bf16) (hX : ∀ t r k, X t (ix2 r k) = x (rowOf t r) k)
    (hD : ∀ t r k, D t (ix2 r k) = d (rowOf t r) k)
    (hA : ∀ t : Fin cfg0.N, t.val % 4 = 0 → ∀ i, f t.val t.isLt i = part (X t) (D t) i)
    (hB : ∀ t : Fin cfg0.N, ¬ t.val % 4 = 0 → ∀ i, f t.val t.isLt i =
      (show EReal from f (t.val - 1) (Nat.lt_of_le_of_lt (Nat.sub_le _ _) t.isLt) i) + part (X t) (D t) i)
    (i : S1024x1024.Idx) : f t0_3.val t0_3.isLt i = wgrad (fun R => x R (i 0)) (fun R => d R (i 1)) := by
  rw [Pipeline.eq_sum_fin_of_reset_step_apply_last f 4 (fun _ => 0) (fun t j => part (X t) (D t) j)
    (fun t h j => (hA t h j).trans (zero_add _).symm) (fun t h j => hB t h j) (le_of_eq N_0) t0_3 rfl i, zero_add]
  unfold wgrad
  rw [← sum_rows]
  exact Finset.sum_congr rfl fun t _ => Finset.sum_congr rfl fun r _ => congrArg₂ (· * ·) (hX t r _) (hD t r _)

variable (m : (ℓ : Loc nD τ sig) → Buf (Elt Ideal) ℓ) (c : Dev nD)

abbrev a0 : Fin 4096 → Fin 1024 → EReal := ent (a := 4096) (b := 1024) (φ := .bf16) (m ((c : Thread nD τ).loc main_arg0))
abbrev a1 : Fin 4096 → Fin 1024 → EReal := ent (a := 4096) (b := 1024) (φ := .bf16) (m ((c : Thread nD τ).loc main_arg1))
abbrev a2 : Fin 4096 → Fin 1024 → EReal := ent (a := 4096) (b := 1024) (φ := .bf16) (m ((c : Thread nD τ).loc main_arg2))
abbrev a3 : Fin 4096 → Fin 1024 → EReal := ent (a := 4096) (b := 1024) (φ := .bf16) (m ((c : Thread nD τ).loc main_arg3))
abbrev a4 : Fin 4096 → Fin 1024 → EReal := ent (a := 4096) (b := 1024) (φ := .bf16) (m ((c : Thread nD τ).loc main_arg4))
abbrev a5 : Fin 4096 → Fin 1024 → EReal := ent (a := 4096) (b := 1024) (φ := .bf16) (m ((c : Thread nD τ).loc main_arg5))

section reads
variable (t : Fin cfg0.N) (r : Fin 1024) (k : Fin 1024)
theorem b0 : (show FVec Ideal S1024x1024 .bf16 from iblk m c 0 t) (ix2 r k) = a0 m c (rowOf t r) k := by
  blk_ext [iblk, V, idx t, rowOf]
theorem b1 : (show FVec Ideal S1024x1024 .bf16 from iblk m c 1 t) (ix2 r k) = a1 m c (rowOf t r) k := by
  blk_ext [iblk, V, idx t, rowOf]
theorem b2 : (show FVec Ideal S1024x1024 .bf16 from iblk m c 2 t) (ix2 r k) = a2 m c (rowOf t r) k := by
  blk_ext [iblk, V, idx t, rowOf]
theorem b3 : (show FVec Ideal S1024x1024 .bf16 from iblk m c 3 t) (ix2 r k) = a3 m c (rowOf t r) k := by
  blk_ext [iblk, V, idx t, rowOf]
theorem b4 : (show FVec Ideal S1024x1024 .bf16 from iblk m c 4 t) (ix2 r k) = a4 m c (rowOf t r) k := by
  blk_ext [iblk, V, idx t, rowOf]
theorem b5 : (show FVec Ideal S1024x1024 .bf16 from iblk m c 5 t) (ix2 r k) = a5 m c (rowOf t r) k := by
  blk_ext [iblk, V, idx t, rowOf]
end reads

theorem last6 (i : S1024x1024.Idx) : (outsAt0 m c t0_3.val t0_3.isLt).1 i =
    wgrad (fun R => a0 m c R (i 0)) (fun R => a1 m c R (i 1)) := by
  refine total (fun n h => (outsAt0 m c n h).1) (a0 m c) (a1 m c) (fun t => iblk m c 0 t) (fun t => iblk m c 1 t)
    (b0 m c) (b1 m c) (fun t h i => ?_) (fun t h i => ?_) i
  · rw [outsAt0_A m c t h (by have := (idx t).2.2.2.2.2.2; omega)]; frame_out
    exact pay1_at _ _ i
  · rw [outsAt0_B m c t h (by omega)]; frame_out
    exact pay4_at _ _ _ i

theorem last7 (i : S1024x1024.Idx) : (outsAt0 m c t0_3.val t0_3.isLt).2.1 i =
    wgrad (fun R => a2 m c R (i 0)) (fun R => a3 m c R (i 1)) := by
  refine total (fun n h => (outsAt0 m c n h).2.1) (a2 m c) (a3 m c) (fun t => iblk m c 2 t) (fun t => iblk m c 3 t)
    (b2 m c) (b3 m c) (fun t h i => ?_) (fun t h i => ?_) i
  · rw [outsAt0_A m c t h (by have := (idx t).2.2.2.2.2.2; omega)]; frame_out
    rw [pay2_eq]; exact pay1_at _ _ i
  · rw [outsAt0_B m c t h (by omega)]; frame_out
    rw [pay5_eq]; exact pay4_at _ _ _ i

theorem last8 (i : S1024x1024.Idx) : (outsAt0 m c t0_3.val t0_3.isLt).2.2 i =
    wgrad (fun R => a4 m c R (i 0)) (fun R => a5 m c R (i 1)) := by
  refine total (fun n h => (outsAt0 m c n h).2.2) (a4 m c) (a5 m c) (fun t => iblk m c 4 t) (fun t => iblk m c 5 t)
    (b4 m c) (b5 m c) (fun t h i => ?_) (fun t h i => ?_) i
  · rw [outsAt0_A m c t h (by have := (idx t).2.2.2.2.2.2; omega)]; frame_out
    rw [pay3_eq]; exact pay1_at _ _ i
  · rw [outsAt0_B m c t h (by omega)]; frame_out
    rw [pay6_eq]; exact pay4_at _ _ _ i

theorem final6 : (dats m 0 c).arrAt 6 cfg0.N = fun i : S1024x1024.Idx =>
    wgrad (fun R => a0 m c R (i 0)) (fun R => a1 m c R (i 1)) := by
  refine (dats m 0 c).arrAt_eq_of_after_last 6 t0_3 (by decide +kernel) _ fun j => ?_
  blk_simp
  rw [after0_6]
  exact last6 m c j
theorem final7 : (dats m 0 c).arrAt 7 cfg0.N = fun i : S1024x1024.Idx =>
    wgrad (fun R => a2 m c R (i 0)) (fun R => a3 m c R (i 1)) := by
  refine (dats m 0 c).arrAt_eq_of_after_last 7 t0_3 (by decide +kernel) _ fun j => ?_
  blk_simp
  rw [after0_7]
  exact last7 m c j
theorem final8 : (dats m 0 c).arrAt 8 cfg0.N = fun i : S1024x1024.Idx =>
    wgrad (fun R => a4 m c R (i 0)) (fun R => a5 m c R (i 1)) := by
  refine (dats m 0 c).arrAt_eq_of_after_last 8 t0_3 (by decide +kernel) _ fun j => ?_
  blk_simp
  rw [after0_8]
  exact last8 m c j

end Cert.Kernel6Ideal.Grad

namespace Cert.Reference6Ideal.Grad
open Cert.Reference6Ideal Cert.Reference6Ideal.Read Idealize.ShloMosaic
open Cert.AttnSpec Cert.GradSpec

variable (x0 x1 : FVec Ideal S4096x1024 .bf16)

theorem out_at (k j : Fin 1024) : val_main_v5 (F := Ideal) x0 x1 (ix2 k j) =
    wgrad (fun R => x0 (ix2 R k)) (fun R => x1 (ix2 R j)) := by
  unfold val_main_v5 val_main_v4 val_main_v3 val_main_v1
  pointwise
  exact wgrad_comm _ _

/-! The three results are the same function. -/
theorem v11_eq : val_main_v11 (F := Ideal) x0 x1 = val_main_v5 (F := Ideal) x0 x1 := rfl
theorem v17_eq : val_main_v17 (F := Ideal) x0 x1 = val_main_v5 (F := Ideal) x0 x1 := rfl

end Cert.Reference6Ideal.Grad
end
-- ==== Proof.GradEqual.lean ====
module

public import proofs.«01_k».proof.Defs
public import proofs.«01_k».proof.Proof.Gen.Kernel3Ideal.Value
public import proofs.«01_k».proof.Proof.GradGu
public import proofs.«01_k».proof.Proof.GradDown
public import proofs.«01_k».proof.Proof.GradIn
public import proofs.«01_k».proof.Proof.GradSquare

/-!
The weights' gradients: each reference's results are the kernel's arrays.
-/

@[expose] public section
set_option maxRecDepth 16384
noncomputable section
namespace Cert.GradEqual
open Idealize.ShloMosaic Idealize.ShloMosaic.TcCoe Idealize.SL.Sem
open Cert.AttnSpec Cert.GradSpec

theorem equal3 : Cert.algebraic_Kernel3Ideal_Reference3Ideal (hKernel3Ideal := Cert.Kernel3Ideal.Gen.facts)
    (hReference3Ideal := Cert.Reference3Ideal.Gen.facts) := by
  pair_intro
  · run_from Cert.Kernel3Ideal.Value.run_blocks m g
  · run_from Cert.Reference3Ideal.Value.run m' g'
    refine (Cert.Reference3Ideal.Read.val_main_v19_eq _ _).trans (Eq.trans ?_ (Cert.Kernel3Ideal.Grad.final2 m _).symm)
    funext i
    obtain ⟨s, k, j, rfl⟩ : ∃ (s : Fin 4) (k : Fin 1024) (j : Fin 1408), i = ix3 s k j := ⟨_, _, _, eq_ix3 i⟩
    exact Cert.Reference3Ideal.Grad.out_at _ _ s k j

theorem equal4 : Cert.algebraic_Kernel4Ideal_Reference4Ideal (hKernel4Ideal := Cert.Kernel4Ideal.Gen.facts)
    (hReference4Ideal := Cert.Reference4Ideal.Gen.facts) := by
  pair_intro
  · run_from Cert.Kernel4Ideal.Value.run_blocks m g
  · run_from Cert.Reference4Ideal.Value.run m' g'
    refine (Cert.Reference4Ideal.Read.val_main_v5_eq _ _).trans (Eq.trans ?_ (Cert.Kernel4Ideal.Grad.final2 m _).symm)
    funext i
    obtain ⟨s, k, j, rfl⟩ : ∃ (s : Fin 1) (k : Fin 2816) (j : Fin 1024), i = ix3 s k j := ⟨_, _, _, eq_ix3 i⟩
    exact Cert.Reference4Ideal.Grad.out_at _ _ s k j

theorem equal5 : Cert.algebraic_Kernel5Ideal_Reference5Ideal (hKernel5Ideal := Cert.Kernel5Ideal.Gen.facts)
    (hReference5Ideal := Cert.Reference5Ideal.Gen.facts) := by
  pair_intro
  · run_from Cert.Kernel5Ideal.Value.run_blocks m g
  · run_from Cert.Reference5Ideal.Value.run m' g'
    refine (Cert.Reference5Ideal.Read.val_main_v14_eq _ _).trans (Eq.trans ?_ (Cert.Kernel5Ideal.Grad.final2 m _).symm)
    funext i
    obtain ⟨s, k, j, rfl⟩ : ∃ (s : Fin 4) (k : Fin 1024) (j : Fin 512), i = ix3 s k j := ⟨_, _, _, eq_ix3 i⟩
    exact Cert.Reference5Ideal.Grad.out_at _ _ s k j

/-- A square weight's gradient, as the reference computes it, at every index. -/
theorem square (x0 x1 : FVec Ideal Cert.Reference6Ideal.S4096x1024 .bf16) :
    Cert.Reference6Ideal.Read.val_main_v5 (F := Ideal) x0 x1 =
      fun i => wgrad (fun R => ent (a := 4096) (b := 1024) x0 R (i 0)) (fun R => ent (a := 4096) (b := 1024) x1 R (i 1)) := by
  funext i
  rw [eq_ix2 i]
  exact Cert.Reference6Ideal.Grad.out_at x0 x1 (i 0) (i 1)

theorem equal6 : Cert.algebraic_Kernel6Ideal_Reference6Ideal (hKernel6Ideal := Cert.Kernel6Ideal.Gen.facts)
    (hReference6Ideal := Cert.Reference6Ideal.Gen.facts) := by
  pair_intro
  · run_from Cert.Kernel6Ideal.Value.run_blocks m g
  · run_from Cert.Reference6Ideal.Value.run m' g'
    · exact (Cert.Reference6Ideal.Read.val_main_v5_eq _ _).trans
        ((square _ _).trans (Cert.Kernel6Ideal.Grad.final6 m _).symm)
    · exact (Cert.Reference6Ideal.Read.val_main_v11_eq _ _).trans ((Cert.Reference6Ideal.Grad.v11_eq _ _).trans
        ((square _ _).trans (Cert.Kernel6Ideal.Grad.final7 m _).symm))
    · exact (Cert.Reference6Ideal.Read.val_main_v17_eq _ _).trans ((Cert.Reference6Ideal.Grad.v17_eq _ _).trans
        ((square _ _).trans (Cert.Kernel6Ideal.Grad.final8 m _).symm))

end Cert.GradEqual
end
-- ==== Proof.FfnUp.lean ====
module

public import proofs.«01_k».proof.Proof.FfnBlock
public import proofs.«01_k».proof.Proof.Gen.Kernel7Ideal.Value
public import proofs.«01_k».proof.Proof.Gen.Reference7Ideal.Read
public import Idealize.ShloMosaic.Lib.Pipeline.ValueKit
public import Idealize.ShloMosaic.Lib.Pipeline.ReadBack
public import Idealize.ShloMosaic.Lib.Claim
public import proofs.«01_k».proof.Proof.GradSpec

/-!
The gate and up projections of the SwiGLU block and their activation: what each grid point leaves, the two arrays
at the end, the reference's results at an index.
-/

@[expose] public section
set_option maxRecDepth 16384
noncomputable section
namespace Cert.FfnUp
open Idealize.ShloMosaic Cert.AttnSpec Cert.FfnSpec

/-- The activation of a gate and an up value. -/
def swiglu (g u : EReal) : EReal := g * sg g * u
/-- A row times a column of a matrix. -/
def proj {n : ℕ} (x : Fin 1024 → EReal) (w : Fin 1024 → Fin n → EReal) (j : Fin n) : EReal := ∑ e, x e * w e j

section results
variable (a0 : Fin 4096 → Fin 1024 → EReal) (a1 : Fin 1024 → Fin 5632 → EReal)
/-- The gate (`s = 0`) and up (`s = 1`) projections of row `R`. -/
def gu (R : Fin 4096) (s : Fin 2) : Fin 2816 → EReal := half (proj (a0 R) a1) s
/-- The activation of row `R`. -/
def act (R : Fin 4096) (j : Fin 2816) : EReal := swiglu (gu a0 a1 R 0 j) (gu a0 a1 R 1 j)
end results
end Cert.FfnUp

namespace Cert.Kernel7Ideal.Up
open Cert.Kernel7Ideal Cert.Kernel7Ideal.Gen Idealize.ShloMosaic Idealize.ShloMosaic.TcCoe Idealize.SL.Sem
open Idealize.ShloMosaic.Pipeline (Dat)
open Cert.AttnSpec Cert.FfnSpec Cert.FfnUp Cert.Kernel2Ideal.Block

section pieces
variable (X : FVec Ideal S512x1024 .bf16) (V W : FVec Ideal S1x1024x1024 .bf16) (V' W' : FVec Ideal S1x1024x768 .bf16)

/-- Row `r` of a block times column `j` of a range of a weight's columns. -/
abbrev blk {n : ℕ} (w : Fin 1024 → Fin n → EReal) (r : Fin 512) (j : Fin n) : EReal := proj (fun e => X (ix2 r e)) w j

theorem mul0 (r : Fin 512) (j : Fin 1024) : k0_pay3 (F := Ideal) X V (ix2 r j) = blk X (fun e j => V (ix3 0 e j)) r j := by
  pointwise [k0_pay3]
  rfl
theorem mul0' : k0_pay4 (F := Ideal) X V = k0_pay3 (F := Ideal) X V := rfl
theorem mul2 (r : Fin 512) (j : Fin 768) : k0_pay13 (F := Ideal) X V' (ix2 r j) = blk X (fun e j => V' (ix3 0 e j)) r j := by
  pointwise [k0_pay13]
  rfl
theorem mul2' : k0_pay14 (F := Ideal) X V' = k0_pay13 (F := Ideal) X V' := rfl

theorem store0 (a : Fin 1) (r : Fin 512) (j : Fin 1024) :
    k0_pay5 (F := Ideal) X V (ix3 a r j) = blk X (fun e j => V (ix3 0 e j)) r j := by
  pointwise [k0_pay5, mul0]
theorem store2 (a : Fin 1) (r : Fin 512) (j : Fin 768) :
    k0_pay15 (F := Ideal) X V' (ix3 a r j) = blk X (fun e j => V' (ix3 0 e j)) r j := by
  pointwise [k0_pay15, mul2]
theorem act0 (r : Fin 512) (j : Fin 1024) : k0_pay7 (F := Ideal) X V W (ix2 r j) =
    swiglu (blk X (fun e j => V (ix3 0 e j)) r j) (blk X (fun e j => W (ix3 0 e j)) r j) := by
  rw [swiglu, ← sg_eq, ← mul0 X V, ← mul0 X W, ← mul0' X W]
  pointwise [k0_pay7]
theorem act2 (r : Fin 512) (j : Fin 768) : k0_pay2 (F := Ideal) (k0_pay13 (F := Ideal) X V') (k0_pay14 (F := Ideal) X W') (ix2 r j) =
    swiglu (blk X (fun e j => V' (ix3 0 e j)) r j) (blk X (fun e j => W' (ix3 0 e j)) r j) := by
  rw [swiglu, ← sg_eq, ← mul2 X V', ← mul2 X W', ← mul2' X W']
  generalize k0_pay13 (F := Ideal) X V' = P
  generalize k0_pay14 (F := Ideal) X W' = Q
  pointwise [k0_pay2]
end pieces

/-! The loads of the three ranges of columns. -/
section loads
variable (X1 : FVec Ideal S2x1024x2816 .bf16) {J : Fin 2816} {j : Fin 1024} {i : Fin 768}

def g0 : FVec Ideal S1x1024x1024 .bf16 :=
  View.ld (Val := Elt Ideal) (e' := .bf16) X1 (Rect.unit (s := S2x1024x2816) ![0, 0, 0] ![1, 1024, 1024] inb_S2x1024x2816_S1x1024x1024_0_0_0)
def u0 : FVec Ideal S1x1024x1024 .bf16 :=
  View.ld (Val := Elt Ideal) (e' := .bf16) X1 (Rect.unit (s := S2x1024x2816) ![1, 0, 0] ![1, 1024, 1024] inb_S2x1024x2816_S1x1024x1024_1_0_0)
def g1 : FVec Ideal S1x1024x1024 .bf16 :=
  View.ld (Val := Elt Ideal) (e' := .bf16) X1 (Rect.unit (s := S2x1024x2816) ![0, 0, 1024] ![1, 1024, 1024] inb_S2x1024x2816_S1x1024x1024_0_0_1024)
def u1 : FVec Ideal S1x1024x1024 .bf16 :=
  View.ld (Val := Elt Ideal) (e' := .bf16) X1 (Rect.unit (s := S2x1024x2816) ![1, 0, 1024] ![1, 1024, 1024] inb_S2x1024x2816_S1x1024x1024_1_0_1024)
def g2 : FVec Ideal S1x1024x768 .bf16 :=
  View.ld (Val := Elt Ideal) (e' := .bf16) X1 (Rect.unit (s := S2x1024x2816) ![0, 0, 2048] ![1, 1024, 768] inb_S2x1024x2816_S1x1024x768_0_0_2048)
def u2 : FVec Ideal S1x1024x768 .bf16 :=
  View.ld (Val := Elt Ideal) (e' := .bf16) X1 (Rect.unit (s := S2x1024x2816) ![1, 0, 2048] ![1, 1024, 768] inb_S2x1024x2816_S1x1024x768_1_0_2048)

theorem g0_at (h : (J : ℕ) = 0 + j) (e : Fin 1024) : g0 X1 (ix3 0 e j) = X1 (ix3 0 e J) := by
  obtain ⟨J, hJ⟩ := J
  obtain rfl : J = 0 + j := h
  unfold g0; pointwise; try blk_ext
theorem u0_at (h : (J : ℕ) = 0 + j) (e : Fin 1024) : u0 X1 (ix3 0 e j) = X1 (ix3 1 e J) := by
  obtain ⟨J, hJ⟩ := J
  obtain rfl : J = 0 + j := h
  unfold u0; pointwise; try blk_ext
theorem g1_at (h : (J : ℕ) = 1024 + j) (e : Fin 1024) : g1 X1 (ix3 0 e j) = X1 (ix3 0 e J) := by
  obtain ⟨J, hJ⟩ := J
  obtain rfl : J = 1024 + j := h
  unfold g1; pointwise; try blk_ext
theorem u1_at (h : (J : ℕ) = 1024 + j) (e : Fin 1024) : u1 X1 (ix3 0 e j) = X1 (ix3 1 e J) := by
  obtain ⟨J, hJ⟩ := J
  obtain rfl : J = 1024 + j := h
  unfold u1; pointwise; try blk_ext
theorem g2_at (h : (J : ℕ) = 2048 + i) (e : Fin 1024) : g2 X1 (ix3 0 e i) = X1 (ix3 0 e J) := by
  obtain ⟨J, hJ⟩ := J
  obtain rfl : J = 2048 + i := h
  unfold g2; pointwise; try blk_ext
theorem u2_at (h : (J : ℕ) = 2048 + i) (e : Fin 1024) : u2 X1 (ix3 0 e i) = X1 (ix3 1 e J) := by
  obtain ⟨J, hJ⟩ := J
  obtain rfl : J = 2048 + i := h
  unfold u2; pointwise; try blk_ext
end loads

section block
variable (X0 : FVec Ideal S512x1024 .bf16) (X1 : FVec Ideal S2x1024x2816 .bf16)

/-- Row `r` of a block's projections. -/
abbrev gur (r : Fin 512) (s : Fin 2) (j : Fin 2816) : EReal := blk X0 (fun e j => X1 (ix3 s e j)) r j

variable {X0 X1} in
theorem blk_congr {n : ℕ} {w : Fin 1024 → Fin n → EReal} {s t : Fin 2} {r R : Fin 512} {j : Fin n} {J : Fin 2816} (hs : (t : ℕ) = s)
    (hr : (R : ℕ) = r) (hw : ∀ e, w e j = X1 (ix3 s e J)) : blk X0 w r j = gur X0 X1 R t J := by
  obtain rfl : t = s := Fin.ext hs
  obtain rfl : R = r := Fin.ext hr
  exact Finset.sum_congr rfl fun e _ => congrArg (_ * ·) (hw e)

abbrev guPieces : List (View.Piece (Elt Ideal) S2x512x2816 .bf16) :=
  [⟨Rect.unit ![1, 0, 2048] ![1, 512, 768] inb_S2x512x2816_S1x512x768_1_0_2048, k0_pay1 (F := Ideal) (k0_pay14 (F := Ideal) X0 (u2 X1))⟩,
    ⟨Rect.unit ![0, 0, 2048] ![1, 512, 768] inb_S2x512x2816_S1x512x768_0_0_2048, k0_pay15 (F := Ideal) X0 (g2 X1)⟩,
    ⟨Rect.unit ![1, 0, 1024] ![1, 512, 1024] inb_S2x512x2816_S1x512x1024_1_0_1024, k0_pay11 (F := Ideal) X0 (u1 X1)⟩,
    ⟨Rect.unit ![0, 0, 1024] ![1, 512, 1024] inb_S2x512x2816_S1x512x1024_0_0_1024, k0_pay10 (F := Ideal) (k0_pay8 (F := Ideal) X0 (g1 X1))⟩,
    ⟨Rect.unit ![1, 0, 0] ![1, 512, 1024] inb_S2x512x2816_S1x512x1024_1_0_0, k0_pay6 (F := Ideal) X0 (u0 X1)⟩,
    ⟨Rect.unit ![0, 0, 0] ![1, 512, 1024] inb_S2x512x2816_S1x512x1024_0_0_0, k0_pay5 (F := Ideal) X0 (g0 X1)⟩]

theorem guPieces_cover (y : S2x512x2816.Idx) : ∃ p ∈ guPieces X0 X1, y ∈ p.1.set :=
  View.cover_of_tiledBy (guPieces X0 X1) ![1, 512, 256] (by sl_kernel_rfl) y

theorem canon_gu (s : Fin 2) (r : Fin 512) (j : Fin 2816) : View.canon (guPieces X0 X1) (ix3 s r j) = gur X0 X1 r s j := by
  canon_tiles x h using (guPieces_cover X0 X1 _)
  all_goals idx_vars x
  · exact (store2 X0 _ x0 _ _).trans (blk_congr (by omega) h1 (u2_at X1 h2))
  · exact (store2 X0 _ x0 _ _).trans (blk_congr (by omega) h1 (g2_at X1 h2))
  · exact (store0 X0 _ x0 _ _).trans (blk_congr (by omega) h1 (u1_at X1 h2))
  · exact (store0 X0 _ x0 _ _).trans (blk_congr (by omega) h1 (g1_at X1 h2))
  · exact (store0 X0 _ x0 _ _).trans (blk_congr (by omega) h1 (u0_at X1 (by omega)))
  · exact (store0 X0 _ x0 _ _).trans (blk_congr (by omega) h1 (g0_at X1 (by omega)))

abbrev actPieces : List (View.Piece (Elt Ideal) S512x2816 .bf16) :=
  [⟨Rect.unit ![0, 2048] ![512, 768] inb_S512x2816_S512x768_0_2048,
      k0_pay2 (F := Ideal) (k0_pay13 (F := Ideal) X0 (g2 X1)) (k0_pay14 (F := Ideal) X0 (u2 X1))⟩,
    ⟨Rect.unit ![0, 1024] ![512, 1024] inb_S512x2816_S512x1024_0_1024,
      k0_pay12 (F := Ideal) X0 (k0_pay8 (F := Ideal) X0 (g1 X1)) (u1 X1)⟩,
    ⟨Rect.unit ![0, 0] ![512, 1024] inb_S512x2816_S512x1024_0_0, k0_pay7 (F := Ideal) X0 (g0 X1) (u0 X1)⟩]

theorem actPieces_cover (y : S512x2816.Idx) : ∃ p ∈ actPieces X0 X1, y ∈ p.1.set :=
  View.cover_of_tiledBy (actPieces X0 X1) ![512, 256] (by sl_kernel_rfl) y

theorem canon_act (r : Fin 512) (j : Fin 2816) :
    View.canon (actPieces X0 X1) (ix2 r j) = swiglu (gur X0 X1 r 0 j) (gur X0 X1 r 1 j) := by
  canon_tiles x h using (actPieces_cover X0 X1 _)
  all_goals idx_vars x
  · exact (act2 X0 _ _ _ _).trans (congrArg₂ swiglu (blk_congr rfl h0 (g2_at X1 h1)) (blk_congr rfl h0 (u2_at X1 h1)))
  · exact (act0 X0 _ _ _ _).trans (congrArg₂ swiglu (blk_congr rfl h0 (g1_at X1 h1)) (blk_congr rfl h0 (u1_at X1 h1)))
  · exact (act0 X0 _ _ _ _).trans
      (congrArg₂ swiglu (blk_congr rfl h0 (g0_at X1 (by omega))) (blk_congr rfl h0 (u0_at X1 (by omega))))
end block

variable (m : (ℓ : Loc nD τ sig) → Buf (Elt Ideal) ℓ) (c : Dev nD)

theorem w2 (t : Fin cfg0.N) (s : Fin 2) (r : Fin 512) (j : Fin 2816) :
    (outsAt0 m c t).1 (ix3 s r j) = gur (iblk m c 0 t) (iblk m c 1 t) r s j := by
  unfold outsAt0; frame_out
  exact canon_gu _ _ s r j
theorem w3 (t : Fin cfg0.N) (r : Fin 512) (j : Fin 2816) :
    (outsAt0 m c t).2 (ix2 r j) = swiglu (gur (iblk m c 0 t) (iblk m c 1 t) r 0 j) (gur (iblk m c 0 t) (iblk m c 1 t) r 1 j) := by
  unfold outsAt0; frame_out
  exact canon_act _ _ r j

abbrev a0 : Fin 4096 → Fin 1024 → EReal := ent (a := 4096) (b := 1024) (φ := .bf16) (m ((c : Thread nD τ).loc main_arg0))
abbrev a1 : Fin 1024 → Fin 5632 → EReal := ent (a := 1024) (b := 5632) (φ := .bf16) (m ((c : Thread nD τ).loc main_arg1))

theorem idx : ∀ t : Fin cfg0.N, win0_0.index t = ![t.val, 0] ∧ win0_1.index t = ![0, 0, 0] ∧ win0_2.index t = ![0, t.val, 0]
    ∧ win0_3.index t = ![t.val, 0] ∧ t.val < 8 :=
  (by decide +kernel : ∀ t : Fin grid0.N, _)

/-- Row `r` of the block of point `t`. -/
def rowOf (t : Fin cfg0.N) (r : Fin 512) : Fin 4096 := ⟨t.val * 512 + r, by have := (idx t).2.2.2.2; omega⟩

theorem b0 (t : Fin cfg0.N) (r : Fin 512) (e : Fin 1024) : (show FVec Ideal S512x1024 .bf16 from iblk m c 0 t) (ix2 r e) = a0 m c (rowOf t r) e := by
  blk_ext [iblk, V, idx t, rowOf]
theorem b1 (t : Fin cfg0.N) (s : Fin 2) (r : Fin 1024) (j : Fin 2816) :
    (show FVec Ideal S2x1024x2816 .bf16 from iblk m c 1 t) (ix3 s r j) = half (a1 m c r) s j := by
  have h : (show FVec Ideal S2x1024x2816 .bf16 from iblk m c 1 t) (ix3 s r j) =
      (show FVec Ideal S2x1024x2816 .bf16 from V m c main_v4) (ix3 s r j) := by blk_ext [iblk, idx t]
  refine h.trans ?_
  entry_read
  pointwise
  by_cases hs : s.val < 1
  · obtain rfl : s = 0 := Fin.ext (by omega)
    exact (dif_pos hs).trans rfl
  · obtain rfl : s = 1 := Fin.ext (by omega)
    exact (dif_neg hs).trans rfl

theorem gur_eq (t : Fin cfg0.N) (r : Fin 512) (s : Fin 2) (j : Fin 2816) :
    gur (iblk m c 0 t) (iblk m c 1 t) r s j = gu (a0 m c) (a1 m c) (rowOf t r) s j := by
  refine (Finset.sum_congr rfl fun e _ => congrArg₂ (· * ·) (b0 m c t r e) (b1 m c t s e j)).trans ?_
  unfold gu half
  split <;> rfl

theorem final2 : (dats m 0 c).arrAt 2 cfg0.N = fun i : S2x4096x2816.Idx => gu (a0 m c) (a1 m c) (i 1) (i 0) (i 2) := by
  refine (dats m 0 c).arrAt_eq_of_covers 2 _ (by decide +kernel) fun t _ y => ?_
  blk_simp
  rw [after0_2]
  idx_vars y
  refine ((w2 m c t y0 y1 y2).trans (gur_eq m c t y1 y0 y2)).trans ?_
  refine Cert.GradSpec.at3 (gu (a0 m c) (a1 m c)) ?_ ?_ ?_ <;> blk_simp [idx t, rowOf]

theorem final3 : (dats m 0 c).arrAt 3 cfg0.N = fun i : S4096x2816.Idx => act (a0 m c) (a1 m c) (i 0) (i 1) := by
  refine (dats m 0 c).arrAt_eq_of_covers 3 _ (by decide +kernel) fun t _ y => ?_
  blk_simp
  rw [after0_3]
  idx_vars y
  refine ((w3 m c t y0 y1).trans (congrArg₂ swiglu (gur_eq m c t y0 0 y1) (gur_eq m c t y0 1 y1))).trans ?_
  refine congrArg₂ (act (a0 m c) (a1 m c)) (Fin.ext ?_) (Fin.ext ?_) <;> blk_simp [idx t, rowOf]

end Cert.Kernel7Ideal.Up

namespace Cert.Reference7Ideal.Up
open Cert.Reference7Ideal Cert.Reference7Ideal.Read Idealize.ShloMosaic
open Cert.AttnSpec Cert.FfnSpec Cert.FfnUp

variable (x0 : FVec Ideal S4096x1024 .bf16) (x1 : FVec Ideal S1024x5632 .bf16)

theorem proj_at (R : Fin 4096) (j : Fin 5632) : val_main_v2 (F := Ideal) x0 x1 (ix2 R j) = proj (ent x0 R) (ent x1) j := by
  unfold val_main_v2 val_main_v1 val_main_v0
  pointwise
  rfl
theorem gate_at (R : Fin 4096) (j : Fin 2816) : val_main_v3 (F := Ideal) x0 x1 (ix2 R j) = gu (ent x0) (ent x1) R 0 j := by
  refine Eq.trans ?_ (proj_at x0 x1 R (gcol j))
  unfold val_main_v3
  generalize val_main_v2 (F := Ideal) x0 x1 = Y
  pointwise [gcol]
theorem up_at (R : Fin 4096) (j : Fin 2816) : val_main_v4 (F := Ideal) x0 x1 (ix2 R j) = gu (ent x0) (ent x1) R 1 j := by
  refine Eq.trans ?_ (proj_at x0 x1 R (ucol j))
  unfold val_main_v4
  generalize val_main_v2 (F := Ideal) x0 x1 = Y
  pointwise [ucol]

theorem gu_at (s : Fin 2) (R : Fin 4096) (j : Fin 2816) :
    val_main_v8 (F := Ideal) x0 x1 (ix3 s R j) = gu (ent x0) (ent x1) R s j := by
  unfold val_main_v8 val_main_v7 val_main_v6 val_main_v5
  pointwise [gate_at, up_at]
  by_cases hs : s.val < 1
  · obtain rfl : s = 0 := Fin.ext (by omega)
    exact (dif_pos hs).trans rfl
  · obtain rfl : s = 1 := Fin.ext (by omega)
    exact (dif_neg hs).trans rfl

theorem act_at (R : Fin 4096) (j : Fin 2816) : val_main_v11 (F := Ideal) x0 x1 (ix2 R j) = act (ent x0) (ent x1) R j := by
  unfold val_main_v11 val_main_v10 val_main_v9 val_main_call0_v5 val_main_call0_v4 val_main_call0_v3 val_main_call0_v2
    val_main_call0_v1 val_main_call0_v0 val_main_call0_cst val_main_call0_cst_0
  pointwise [gate_at, up_at]
  rfl

end Cert.Reference7Ideal.Up
end
-- ==== Proof.FfnLoss.lean ====
module

public import proofs.«01_k».proof.Proof.Equation
public import proofs.«01_k».proof.Proof.Gen.Kernel8Ideal.Value
public import proofs.«01_k».proof.Proof.Gen.Reference8Ideal.Read
public import Idealize.ShloMosaic.Lib.Pipeline.ValueKit
public import Idealize.ShloMosaic.Lib.Pipeline.ReadBack
public import Idealize.ShloMosaic.Lib.Claim

/-!
The SwiGLU block's down projection, the final normalisation, the loss and its gradient: what each grid point leaves and
the three arrays at the end.
-/

@[expose] public section
set_option maxRecDepth 16384
noncomputable section
namespace Cert.FfnLoss
open Idealize.ShloMosaic Cert.AttnSpec

/-- The difference of a normalised, scaled row from its target. -/
def diff (x g t : Fin 1024 → EReal) (c : Fin 1024) : EReal := x c * rms x * g c - t c
/-- The gradient of the loss in the normalised row. -/
def dnorm (x g t : Fin 1024 → EReal) (c : Fin 1024) : EReal := Ideal.div (diff x g t c) len
/-- The gradient of the loss in the row. -/
def dloss (x g t : Fin 1024 → EReal) : Fin 1024 → EReal := rmsBack (fun _ => 0) (dnorm x g t) x g
/-- A row's square of the difference. -/
def sq (x g t : Fin 1024 → EReal) (c : Fin 1024) : EReal := diff x g t c * diff x g t c
/-- A row's part of the gradient of the scale. -/
def dscale (x g t : Fin 1024 → EReal) (c : Fin 1024) : EReal := dnorm x g t c * (x c * rms x)
/-- A row of the activation through the down projection, added to the row that goes past. -/
def through (h : Fin 1024 → EReal) (a : Fin 2816 → EReal) (w : Fin 2816 → Fin 1024 → EReal) (c : Fin 1024) : EReal :=
  h c + ∑ j, a j * w j c
end Cert.FfnLoss

namespace Cert.Kernel8Ideal.Loss
open Cert.Kernel8Ideal Cert.Kernel8Ideal.Gen Idealize.ShloMosaic Idealize.ShloMosaic.TcCoe Idealize.SL.Sem
open Idealize.ShloMosaic.Pipeline (Dat)
open Cert.AttnSpec Cert.FfnLoss

section block
variable (H : FVec Ideal S512x1024 .f32) (A : FVec Ideal S512x2816 .bf16) (W : FVec Ideal S2816x1024 .bf16)
  (G : FVec Ideal S1x1024 .f32) (T : FVec Ideal S512x1024 .f32) (Z : FVec Ideal S1x1024 .f32)

/-- Row `r` of a block after the down projection. -/
abbrev xr (r : Fin 512) : Fin 1024 → EReal :=
  through (fun c => H (ix2 r c)) (fun j => A (ix2 r j)) (fun j c => W (ix2 j c))
/-- The scale and row `r` of the target. -/
abbrev gr : Fin 1024 → EReal := fun c => G (ix2 0 c)
abbrev tr (r : Fin 512) : Fin 1024 → EReal := fun c => T (ix2 r c)

theorem x_at (r : Fin 512) (c : Fin 1024) : k0_pay5 (F := Ideal) H A W (ix2 r c) = xr H A W r c := by
  pointwise [k0_pay5]
  rfl
theorem rms_at (r : Fin 512) (z : Fin 1) : k0_pay6 (F := Ideal) H A W (ix2 r z) = rms (xr H A W r) := by
  unfold rms
  simp only [← x_at]
  pointwise [k0_pay6]
  rfl
theorem norm_at (r : Fin 512) (c : Fin 1024) : k0_pay11 (F := Ideal) H A W (ix2 r c) = xr H A W r c * rms (xr H A W r) := by
  pointwise [k0_pay11, x_at, rms_at]
theorem diff_at (r : Fin 512) (c : Fin 1024) :
    k0_pay8 (F := Ideal) H A W G T (ix2 r c) = diff (xr H A W r) (gr G) (tr T r) c := by
  pointwise [k0_pay8, k0_pay7, x_at, rms_at]
  rfl
theorem dnorm_at (r : Fin 512) (c : Fin 1024) :
    k0_pay10 (F := Ideal) H A W G T (ix2 r c) = dnorm (xr H A W r) (gr G) (tr T r) c := by
  pointwise [k0_pay10, diff_at]
  rfl

theorem dh_at (r : Fin 512) (c : Fin 1024) :
    k0_pay1 (F := Ideal) (k0_pay6 (F := Ideal) H A W) (k0_pay7 (F := Ideal) G) (k0_pay10 (F := Ideal) H A W G T)
      (k0_pay11 (F := Ideal) H A W) (ix2 r c) = dloss (xr H A W r) (gr G) (tr T r) c := by
  have er := rms_at H A W r
  have en := norm_at H A W r
  have ed := dnorm_at H A W G T r
  unfold dloss rmsBack
  simp only [zero_add, ← en]
  simp only [← ed, ← er 0]
  generalize k0_pay6 (F := Ideal) H A W = P
  generalize k0_pay10 (F := Ideal) H A W G T = Q
  generalize k0_pay11 (F := Ideal) H A W = N
  pointwise [k0_pay1, k0_pay7]
  rfl

/-- A point's part of the sum of squares. -/
def sqBlock (c : Fin 1024) : EReal := ∑ r, sq (xr H A W r) (gr G) (tr T r) c
/-- A point's part of the gradient of the scale. -/
def dgBlock (c : Fin 1024) : EReal := ∑ r, dscale (xr H A W r) (gr G) (tr T r) c

theorem sq_at (a : Fin 1) (c : Fin 1024) :
    k0_pay9 (F := Ideal) H A W G T Z (ix2 a c) = Z (ix2 a c) + sqBlock H A W G T c := by
  pointwise [k0_pay9, diff_at]
  rfl
theorem dg_at (a : Fin 1) (c : Fin 1024) :
    k0_pay2 (F := Ideal) (k0_pay10 (F := Ideal) H A W G T) (k0_pay11 (F := Ideal) H A W) Z (ix2 a c) =
      Z (ix2 a c) + dgBlock H A W G T c := by
  unfold dgBlock dscale
  simp only [← norm_at, ← dnorm_at]
  generalize k0_pay10 (F := Ideal) H A W G T = Q
  generalize k0_pay11 (F := Ideal) H A W = N
  pointwise [k0_pay2]
theorem fill3 (i : S1x1024.Idx) : k0_pay3 (F := Ideal) i = (0 : EReal) := by
  pointwise [k0_pay3]
theorem fill4 (i : S1x1024.Idx) : k0_pay4 (F := Ideal) i = (0 : EReal) := by
  pointwise [k0_pay4]
end block

variable (m : (ℓ : Loc nD τ sig) → Buf (Elt Ideal) ℓ) (c : Dev nD)

theorem w5 (t : Fin cfg0.N) (r : Fin 512) (l : Fin 1024) :
    (outsAt0 m c t.val t.isLt).1 (ix2 r l) =
      dloss (xr (iblk m c 2 t) (iblk m c 0 t) (iblk m c 1 t) r) (gr (iblk m c 3 t)) (tr (iblk m c 4 t) r) l := by
  by_cases h0 : t.val % 8 = 0
  · rw [outsAt0_A m c t h0]; frame_out
    exact dh_at (iblk m c 2 t) (iblk m c 0 t) (iblk m c 1 t) (iblk m c 3 t) (iblk m c 4 t) r l
  · rw [outsAt0_B m c t h0]; frame_out
    exact dh_at (iblk m c 2 t) (iblk m c 0 t) (iblk m c 1 t) (iblk m c 3 t) (iblk m c 4 t) r l

theorem w6_A (t : Fin cfg0.N) (h0 : t.val % 8 = 0) (a : Fin 1) (l : Fin 1024) :
    (outsAt0 m c t.val t.isLt).2.1 (ix2 a l) =
      sqBlock (iblk m c 2 t) (iblk m c 0 t) (iblk m c 1 t) (iblk m c 3 t) (iblk m c 4 t) l := by
  rw [outsAt0_A m c t h0]; frame_out
  exact (sq_at (iblk m c 2 t) (iblk m c 0 t) (iblk m c 1 t) (iblk m c 3 t) (iblk m c 4 t) _ a l).trans
    ((Ideal.add_congr (fill3 _) rfl).trans (zero_add _))
theorem w6_B (t : Fin cfg0.N) (h0 : ¬ t.val % 8 = 0) (a : Fin 1) (l : Fin 1024) :
    (outsAt0 m c t.val t.isLt).2.1 (ix2 a l) =
      (show EReal from (outsAt0 m c (t.val - 1) (Nat.lt_of_le_of_lt (Nat.sub_le _ _) t.isLt)).2.1 (ix2 a l)) +
      sqBlock (iblk m c 2 t) (iblk m c 0 t) (iblk m c 1 t) (iblk m c 3 t) (iblk m c 4 t) l := by
  rw [outsAt0_B m c t h0]; frame_out
  exact sq_at (iblk m c 2 t) (iblk m c 0 t) (iblk m c 1 t) (iblk m c 3 t) (iblk m c 4 t) _ a l
theorem w7_A (t : Fin cfg0.N) (h0 : t.val % 8 = 0) (a : Fin 1) (l : Fin 1024) :
    (outsAt0 m c t.val t.isLt).2.2 (ix2 a l) =
      dgBlock (iblk m c 2 t) (iblk m c 0 t) (iblk m c 1 t) (iblk m c 3 t) (iblk m c 4 t) l := by
  rw [outsAt0_A m c t h0]; frame_out
  exact (dg_at (iblk m c 2 t) (iblk m c 0 t) (iblk m c 1 t) (iblk m c 3 t) (iblk m c 4 t) _ a l).trans
    ((Ideal.add_congr (fill4 _) rfl).trans (zero_add _))
theorem w7_B (t : Fin cfg0.N) (h0 : ¬ t.val % 8 = 0) (a : Fin 1) (l : Fin 1024) :
    (outsAt0 m c t.val t.isLt).2.2 (ix2 a l) =
      (show EReal from (outsAt0 m c (t.val - 1) (Nat.lt_of_le_of_lt (Nat.sub_le _ _) t.isLt)).2.2 (ix2 a l)) +
      dgBlock (iblk m c 2 t) (iblk m c 0 t) (iblk m c 1 t) (iblk m c 3 t) (iblk m c 4 t) l := by
  rw [outsAt0_B m c t h0]; frame_out
  exact dg_at (iblk m c 2 t) (iblk m c 0 t) (iblk m c 1 t) (iblk m c 3 t) (iblk m c 4 t) _ a l

/-! The three arrays. -/

abbrev a0 : Fin 4096 → Fin 2816 → EReal := ent (a := 4096) (b := 2816) (φ := .bf16) (m ((c : Thread nD τ).loc main_arg0))
abbrev a1 : Fin 2816 → Fin 1024 → EReal := ent (a := 2816) (b := 1024) (φ := .bf16) (m ((c : Thread nD τ).loc main_arg1))
abbrev a2 : Fin 4096 → Fin 1024 → EReal := ent (a := 4096) (b := 1024) (φ := .f32) (m ((c : Thread nD τ).loc main_arg2))
abbrev a3 : Fin 1024 → EReal := ent1 (a := 1024) (φ := .f32) (m ((c : Thread nD τ).loc main_arg3))
abbrev a4 : Fin 4096 → Fin 1024 → EReal := ent (a := 4096) (b := 1024) (φ := .f32) (m ((c : Thread nD τ).loc main_arg4))

theorem idx : ∀ t : Fin cfg0.N, win0_0.index t = ![t.val, 0] ∧ win0_1.index t = ![0, 0] ∧ win0_2.index t = ![t.val, 0]
    ∧ win0_3.index t = ![0, 0] ∧ win0_4.index t = ![t.val, 0] ∧ win0_5.index t = ![t.val, 0] ∧ t.val < 8 :=
  (by decide +kernel : ∀ t : Fin grid0.N, _)

/-- Row `r` of the block of point `t`. -/
def rowOf (t : Fin cfg0.N) (r : Fin 512) : Fin 4096 := ⟨t.val * 512 + r, by have := (idx t).2.2.2.2.2.2; omega⟩

theorem b0 (t : Fin cfg0.N) (r : Fin 512) (j : Fin 2816) : (show FVec Ideal S512x2816 .bf16 from iblk m c 0 t) (ix2 r j) = a0 m c (rowOf t r) j := by
  blk_ext [iblk, V, idx t, rowOf]
theorem b1 (t : Fin cfg0.N) (j : Fin 2816) (e : Fin 1024) : (show FVec Ideal S2816x1024 .bf16 from iblk m c 1 t) (ix2 j e) = a1 m c j e := by
  blk_ext [iblk, V, idx t]
theorem b2 (t : Fin cfg0.N) (r : Fin 512) (e : Fin 1024) : (show FVec Ideal S512x1024 .f32 from iblk m c 2 t) (ix2 r e) = a2 m c (rowOf t r) e := by
  blk_ext [iblk, V, idx t, rowOf]
theorem b3 (t : Fin cfg0.N) (e : Fin 1024) : (show FVec Ideal S1x1024 .f32 from iblk m c 3 t) (ix2 0 e) = a3 m c e := by
  have h : (show FVec Ideal S1x1024 .f32 from iblk m c 3 t) (ix2 0 e) =
      (show FVec Ideal S1x1024 .f32 from V m c main_v0) (ix2 0 e) := by blk_ext [iblk, idx t]
  refine h.trans ?_
  entry_read
  pointwise
theorem b4 (t : Fin cfg0.N) (r : Fin 512) (e : Fin 1024) : (show FVec Ideal S512x1024 .f32 from iblk m c 4 t) (ix2 r e) = a4 m c (rowOf t r) e := by
  blk_ext [iblk, V, idx t, rowOf]

/-- Row `R` after the down projection. -/
abbrev row (R : Fin 4096) : Fin 1024 → EReal := through (a2 m c R) (a0 m c R) (a1 m c)

theorem xr_eq (t : Fin cfg0.N) (r : Fin 512) : xr (iblk m c 2 t) (iblk m c 0 t) (iblk m c 1 t) r = row m c (rowOf t r) := by
  funext e
  exact congrArg₂ (· + ·) (b2 m c t r e) (Finset.sum_congr rfl fun j _ => congrArg₂ (· * ·) (b0 m c t r j) (b1 m c t j e))
theorem gr_eq (t : Fin cfg0.N) : gr (iblk m c 3 t) = a3 m c := funext (b3 m c t)
theorem tr_eq (t : Fin cfg0.N) (r : Fin 512) : tr (iblk m c 4 t) r = a4 m c (rowOf t r) := funext (b4 m c t r)

/-- The sum over the points and their blocks' rows is the sum over all rows. -/
theorem sum_rows (f : Fin 4096 → EReal) : ∑ t : Fin cfg0.N, ∑ r, f (rowOf t r) = ∑ R, f R :=
  ((Fin.sum_univ_tiles 8 512 (by rfl) f).trans (by rfl)).symm

theorem final5 : (dats m 0 c).arrAt 5 cfg0.N = fun i : S4096x1024.Idx => dloss (row m c (i 0)) (a3 m c) (a4 m c (i 0)) (i 1) := by
  refine (dats m 0 c).arrAt_eq_of_covers 5 _ (by decide +kernel) fun t _ y => ?_
  blk_simp
  rw [after0_5]
  idx_vars y
  refine (w5 m c t y0 y1).trans ?_
  rw [xr_eq, gr_eq, tr_eq]
  refine congrArg₂ (fun R e => dloss (row m c R) (a3 m c) (a4 m c R) e) (Fin.ext ?_) (Fin.ext ?_) <;> blk_simp [idx t, rowOf]

theorem final6 : (dats m 0 c).arrAt 6 cfg0.N = fun i : S1x1024.Idx => ∑ R, sq (row m c R) (a3 m c) (a4 m c R) (i 1) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0)
    (fun t j => sqBlock (iblk m c 2 t) (iblk m c 0 t) (iblk m c 1 t) (iblk m c 3 t) (iblk m c 4 t) (j 1))
    (fun t h j => by rw [eq_ix2 j]; exact (w6_A m c t h _ _).trans (zero_add _).symm)
    (fun t h j => by rw [eq_ix2 j]; exact w6_B m c t h _ _)
    (le_of_eq N_0) t0_7 rfl j, zero_add]
  refine Eq.trans (b := (∑ t : Fin cfg0.N, ∑ r, sq (row m c (rowOf t r)) (a3 m c) (a4 m c (rowOf t r)) (j 1) : EReal)) ?_
    (sum_rows fun R => sq (row m c R) (a3 m c) (a4 m c R) (j 1))
  refine Finset.sum_congr (M := EReal) rfl fun t _ => Finset.sum_congr (M := EReal) rfl fun r _ => ?_
  rw [xr_eq, gr_eq, tr_eq]

theorem final7 : (dats m 0 c).arrAt 7 cfg0.N = fun i : S1x1024.Idx => ∑ R, dscale (row m c R) (a3 m c) (a4 m c R) (i 1) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0)
    (fun t j => dgBlock (iblk m c 2 t) (iblk m c 0 t) (iblk m c 1 t) (iblk m c 3 t) (iblk m c 4 t) (j 1))
    (fun t h j => by rw [eq_ix2 j]; exact (w7_A m c t h _ _).trans (zero_add _).symm)
    (fun t h j => by rw [eq_ix2 j]; exact w7_B m c t h _ _)
    (le_of_eq N_0) t0_7 rfl j, zero_add]
  refine Eq.trans (b := (∑ t : Fin cfg0.N, ∑ r, dscale (row m c (rowOf t r)) (a3 m c) (a4 m c (rowOf t r)) (j 1) : EReal)) ?_
    (sum_rows fun R => dscale (row m c R) (a3 m c) (a4 m c R) (j 1))
  refine Finset.sum_congr (M := EReal) rfl fun t _ => Finset.sum_congr (M := EReal) rfl fun r _ => ?_
  rw [xr_eq, gr_eq, tr_eq]

end Cert.Kernel8Ideal.Loss

namespace Cert.Reference8Ideal.Loss
open Cert.Reference8Ideal Cert.Reference8Ideal.Read Idealize.ShloMosaic
open Cert.AttnSpec Cert.FfnLoss

/-- Half of a mean's gradient times twice the difference is the difference over the row length. -/
theorem half_twice (d : EReal) :
    Ideal.div (Ideal.ofBits .f32 0x3F000000#32 * Ideal.ofBits .f32 0x3F800000#32) len * (Ideal.ofBits .f32 0x40000000#32 * d) =
      Ideal.div d len := by
  have h1 : Ideal.ofBits .f32 0x3F000000#32 = ((1 / 2 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  have hl : (1024 : ℝ) ≠ 0 := by norm_num
  rw [h1, h2, h3, len_eq, Ideal.div_coe hl, Ideal.div_coe hl, ← mul_assoc, mul_comm d]
  congr 1
  norm_cast
  norm_num

variable (x0 : FVec Ideal S4096x2816 .bf16) (x1 : FVec Ideal S2816x1024 .bf16) (x2 : FVec Ideal S4096x1024 .f32)
  (x3 : FVec Ideal S1024 .f32) (x4 : FVec Ideal S4096x1024 .f32)

/-- Row `R` after the down projection. -/
abbrev row (R : Fin 4096) : Fin 1024 → EReal := through (ent x2 R) (ent x0 R) (ent x1)

theorem row_at (R : Fin 4096) (c : Fin 1024) : val_main_v3 (F := Ideal) x0 x1 x2 (ix2 R c) = row x0 x1 x2 R c := by
  unfold val_main_v3 val_main_v2 val_main_v1 val_main_v0
  pointwise
  rfl

theorem msq_at (R : Fin 4096) (z : Fin 1) : val_main_v10 (F := Ideal) x0 x1 x2 (ix2 R z) = msq (row x0 x1 x2 R) := by
  unfold val_main_v10 val_main_v9 val_main_v8 val_main_v7 val_main_v6 val_main_v5 val_main_v4 val_main_cst val_main_cst_0 val_main_cst_1
  pointwise [msq, row_at]
  rfl

theorem norm_at (R : Fin 4096) (c : Fin 1024) : val_main_v16 (F := Ideal) x0 x1 x2 (ix2 R c) =
    row x0 x1 x2 R c * rms (row x0 x1 x2 R) := by
  unfold val_main_v16 val_main_v15 val_main_v11
  pointwise [msq_at, row_at]
  rfl

theorem diff_at (R : Fin 4096) (c : Fin 1024) : val_main_v20 (F := Ideal) x0 x1 x2 x3 x4 (ix2 R c) =
    diff (row x0 x1 x2 R) (ent1 x3) (ent x4 R) c := by
  unfold val_main_v20 val_main_v19 val_main_v18 val_main_v17
  pointwise [norm_at]
  rfl

theorem dnorm_at (R : Fin 4096) (c : Fin 1024) : val_main_v34 (F := Ideal) x0 x1 x2 x3 x4 (ix2 R c) =
    dnorm (row x0 x1 x2 R) (ent1 x3) (ent x4 R) c := by
  refine Eq.trans ?_ (half_twice (diff (row x0 x1 x2 R) (ent1 x3) (ent x4 R) c))
  unfold val_main_v34 val_main_v33 val_main_v32 val_main_v31 val_main_v30 val_main_v29 val_main_v23 val_main_v22 val_main_cst_3
    val_main_cst_8 val_main_cst_9 val_main_cst_10
  pointwise [diff_at]
  rfl

theorem dh_at (R : Fin 4096) (c : Fin 1024) : val_main_v54 (F := Ideal) x0 x1 x2 x3 x4 (ix2 R c) =
    dloss (row x0 x1 x2 R) (ent1 x3) (ent x4 R) c := by
  unfold dloss
  rw [← rmsBackQ_eq]
  unfold rmsBackQ
  rw [zero_add]
  unfold val_main_v54 val_main_v53 val_main_v52 val_main_v51 val_main_v50 val_main_v49 val_main_v48 val_main_v47 val_main_v46
    val_main_v45 val_main_v44 val_main_v43 val_main_v42 val_main_v41 val_main_v39 val_main_v38 val_main_v17 val_main_v14
    val_main_v13 val_main_v12 val_main_v11 val_main_cst_2 val_main_cst_13 val_main_cst_14 val_main_cst_15
  pointwise [dnorm_at, row_at, msq_at]
  rw [Fin.sum_univ_one]
  rfl

/-- The reference normalises the rows again for the loss: the same difference. -/
theorem again : val_main_v68 (F := Ideal) x0 x1 x2 x3 x4 = val_main_v20 (F := Ideal) x0 x1 x2 x3 x4 := rfl

theorem sq_at (z : Fin 1) (c : Fin 1024) : val_main_v71 (F := Ideal) x0 x1 x2 x3 x4 (ix2 z c) =
    ∑ R, sq (row x0 x1 x2 R) (ent1 x3) (ent x4 R) c := by
  unfold val_main_v71 val_main_v70 val_main_v69 val_main_cst_19
  rw [again]
  pointwise [diff_at]
  rfl

theorem dg_at (z : Fin 1) (c : Fin 1024) : val_main_v72 (F := Ideal) x0 x1 x2 x3 x4 (ix2 z c) =
    ∑ R, dscale (row x0 x1 x2 R) (ent1 x3) (ent x4 R) c := by
  unfold val_main_v72 val_main_v40 val_main_v37 val_main_v36 val_main_v35 val_main_cst_11 val_main_cst_12
  pointwise [dnorm_at, norm_at]
  rw [Fin.sum_univ_one]
  exact Finset.sum_congr rfl fun R _ => mul_comm _ _

end Cert.Reference8Ideal.Loss
end
-- ==== Proof.AttnFwd.lean ====
module

public import proofs.«01_k».proof.Proof.Spec
public import proofs.«01_k».proof.Proof.Gen.Kernel9Ideal.Value
public import Idealize.ShloMosaic.Lib.Pipeline.ValueKit
public import Idealize.ShloMosaic.Lib.Pipeline.ReadBack
public import Idealize.ShloMosaic.Lib.Claim

/-!
The attention block going forward: what each grid point leaves in the six output blocks.
-/

@[expose] public section
set_option maxRecDepth 16384
noncomputable section
namespace Cert.AttnFwd
open Idealize.ShloMosaic Cert.AttnSpec

/-- A row times a matrix. -/
def times (x : Fin 1024 → EReal) (w : Fin 1024 → Fin 1024 → EReal) (c : Fin 1024) : EReal := ∑ e, x e * w e c
/-- A row times a matrix, added to the row that goes past. -/
def through (h x : Fin 1024 → EReal) (w : Fin 1024 → Fin 1024 → EReal) (c : Fin 1024) : EReal := h c + times x w c
/-- A normalised row times its scale. -/
def normed (x g : Fin 1024 → EReal) (c : Fin 1024) : EReal := x c * rms x * g c
/-- The attention of one row of queries to the memory. -/
def att (q : Fin 1024 → EReal) (kv : Fin 256 → Fin 2048 → EReal) (c : Fin 1024) : EReal :=
  ∑ j, soft (hscore q kv (headOf c)) j * kv j (vcol c)
end Cert.AttnFwd

namespace Cert.Kernel9Ideal.Fwd
open Cert.Kernel9Ideal Cert.Kernel9Ideal.Gen Idealize.ShloMosaic Idealize.ShloMosaic.TcCoe Idealize.SL.Sem
open Idealize.ShloMosaic.Pipeline (Dat)
open Cert.AttnSpec Cert.AttnFwd

/-! One head of a block of rows. -/
section head
variable (q : FVec Ideal S512x256 .bf16) (k v : FVec Ideal S256x256 .bf16)

/-- One head's output for a block of rows. -/
def HO : FVec Ideal S512x256 .bf16 := k0_pay9 (F := Ideal) q k v

theorem P_apply (r : Fin 512) (j : Fin 256) :
    k0_pay11 (F := Ideal) q k (ix2 r j) = soft (score (fun e => q (ix2 r e)) (fun i e => k (ix2 i e))) j := by
  pointwise [k0_pay11]
  rfl
theorem HO_apply (r : Fin 512) (e : Fin 256) :
    HO q k v (ix2 r e) = ∑ j, soft (score (fun e => q (ix2 r e)) (fun i e => k (ix2 i e))) j * v (ix2 j e) := by
  simp only [← P_apply]
  have h : HO q k v = k0_pay1 (F := Ideal) (k0_pay11 (F := Ideal) q k) v := rfl
  rw [h]
  generalize k0_pay11 (F := Ideal) q k = P
  pointwise [k0_pay1]
theorem ho0 : k0_pay8 (F := Ideal) (k0_pay7 (F := Ideal) q k) v = HO q k v := rfl
theorem ho2 : k0_pay10 (F := Ideal) q k v = HO q k v := rfl
theorem ho3 : k0_pay1 (F := Ideal) (k0_pay11 (F := Ideal) q k) v = HO q k v := rfl
end head

/-! The columns a head loads: of the block of queries it has just stored, and of the memory. -/

theorem ld_cols (X : FVec Ideal S512x1024 .bf16) {o : ℕ} (inb : ∀ a, ![0, o] a + ![512, 256] a ≤ S512x1024.size a)
    (r : Fin 512) (e : Fin 256) (l : Fin 1024) (h : l.val = o + e.val) :
    View.ld (Val := Elt Ideal) (e' := .bf16) X (Rect.unit (s := S512x1024) ![0, o] ![512, 256] inb) (ix2 r e) = X (ix2 r l) := by
  pointwise
  blk_ext [h]

theorem ld_mem (X : FVec Ideal S256x2048 .bf16) {o : ℕ} (inb : ∀ a, ![0, o] a + ![256, 256] a ≤ S256x2048.size a)
    (j e : Fin 256) (l : Fin 2048) (h : l.val = o + e.val) :
    View.ld (Val := Elt Ideal) (e' := .bf16) X (Rect.unit (s := S256x2048) ![0, o] ![256, 256] inb) (ix2 j e) = X (ix2 j l) := by
  pointwise
  blk_ext [h]

/-- A load of a whole block reads what the stores left. -/
theorem read_all {κ : Kind} {sp : Space} {S : Shape} {e : EltTy} (v : View sig κ sp S e) (L : List (View.Piece (Elt Ideal) S e))
    {off : Fin S.rank → ℕ} (inb : ∀ a, off a + S.size a ≤ S.size a) (h : ∀ a, off a = 0) :
    v.readCov L (Rect.unit off S.size inb).toLoadRect = View.canon L :=
  (View.readCov_eq_canon' v L _).trans (View.ld_unit_lit inb (View.canon L) h)

/-- A load of a head's columns from a block stored whole. -/
theorem read_cols {κ : Kind} {sp : Space} (v : View sig κ sp S512x1024 .bf16) (Q : FVec Ideal S512x1024 .bf16) {o : ℕ}
    (all : ∀ a, ![0, 0] a + S512x1024.size a ≤ S512x1024.size a) (inb : ∀ a, ![0, o] a + ![512, 256] a ≤ S512x1024.size a)
    (r : Fin 512) (e : Fin 256) (l : Fin 1024) (h : l.val = o + e.val) :
    v.readCov (Val := Elt Ideal) [⟨Rect.unit (s := S512x1024) ![0, 0] S512x1024.size all, Q⟩]
      (Rect.unit (s := S512x1024) ![0, o] ![512, 256] inb).toLoadRect (ix2 r e) = Q (ix2 r l) := by
  have hc : View.canon (Val := Elt Ideal) (e := .bf16) [⟨Rect.unit (s := S512x1024) ![0, 0] S512x1024.size all, Q⟩] = Q :=
    View.canon_cons_unit_lit (Val := Elt Ideal) (S := S512x1024) (e := .bf16) (off := ![0, 0]) all Q [] (by decide)
  refine (congrFun (View.readCov_eq_canon' v _ _) _).trans ?_
  rw [hc]
  exact ld_cols Q inb r e l h

section cut
variable (Q : FVec Ideal S512x1024 .bf16) (K : FVec Ideal S256x2048 .bf16)

/-- The three arrays a head works on are its columns of the queries and of the memory's keys and values. -/
structure Cut (h : Fin 4) (q : FVec Ideal S512x256 .bf16) (k v : FVec Ideal S256x256 .bf16) : Prop where
  query : ∀ r e, q (ix2 r e) = Q (ix2 r (col h e))
  key : ∀ j e, k (ix2 j e) = K (ix2 j (kcol (col h e)))
  val : ∀ j e, v (ix2 j e) = K (ix2 j (vcol (col h e)))

/-- The columns at a head's offsets are the head's. -/
theorem cut_at {κ : Kind} {sp : Space} (w : View sig κ sp S512x1024 .bf16) (h : Fin 4) {o p : ℕ}
    (all : ∀ a, ![0, 0] a + S512x1024.size a ≤ S512x1024.size a) (iq : ∀ a, ![0, o] a + ![512, 256] a ≤ S512x1024.size a)
    (ik : ∀ a, ![0, o] a + ![256, 256] a ≤ S256x2048.size a) (iv : ∀ a, ![0, p] a + ![256, 256] a ≤ S256x2048.size a)
    (ho : o = h.val * 256) (hp : p = 1024 + h.val * 256) :
    Cut Q K h (w.readCov (Val := Elt Ideal) [⟨Rect.unit (s := S512x1024) ![0, 0] S512x1024.size all, Q⟩]
        (Rect.unit (s := S512x1024) ![0, o] ![512, 256] iq).toLoadRect)
      (View.ld (Val := Elt Ideal) (e' := .bf16) K (Rect.unit (s := S256x2048) ![0, o] ![256, 256] ik))
      (View.ld (Val := Elt Ideal) (e' := .bf16) K (Rect.unit (s := S256x2048) ![0, p] ![256, 256] iv)) :=
  ⟨fun r e => read_cols w Q all iq r e _ (by simp only [col, ho]),
    fun j e => ld_mem K ik j e _ (by simp only [col, kcol, ho]),
    fun j e => ld_mem K iv j e _ (by simp only [col, vcol, hp]; omega)⟩

variable {Q K} {h : Fin 4} {q : FVec Ideal S512x256 .bf16} {k v : FVec Ideal S256x256 .bf16}

/-- A head's output, by the columns of the block. -/
theorem Cut.out (H : Cut Q K h q k v) {r x0 : Fin 512} {l : Fin 1024} {x1 : Fin 256} (h0 : (r : ℕ) = x0)
    (h1 : (l : ℕ) = h * 256 + x1) :
    HO q k v (ix2 x0 x1) = att (fun e => Q (ix2 r e)) (fun j e => K (ix2 j e)) l := by
  obtain rfl : r = x0 := Fin.ext h0
  obtain rfl : l = col h x1 := Fin.ext h1
  simp only [HO_apply, H.query, H.key, H.val, att, headOf_col, hscore]
end cut

/-! The rows of a block. -/
section rows
variable (X : FVec Ideal S512x1024 .f32) (M : FVec Ideal S512x1024 .bf16) (W : FVec Ideal S1024x1024 .bf16)
  (G : FVec Ideal S1x1024 .f32) (WQ : FVec Ideal S1024x1024 .bf16) (K : FVec Ideal S256x2048 .bf16)
  (WO : FVec Ideal S1024x1024 .bf16) (GF : FVec Ideal S1x1024 .f32) (r : Fin 512)

/-- The rows with the mixed rows' projection added. -/
abbrev h1r : Fin 1024 → EReal := through (fun e => X (ix2 r e)) (fun e => M (ix2 r e)) (fun e j => W (ix2 e j))
/-- Those normalised. -/
abbrev hn2r : Fin 1024 → EReal := normed (h1r X M W r) (fun e => G (ix2 0 e))
/-- The queries. -/
abbrev qr : Fin 1024 → EReal := times (hn2r X M W G r) (fun e j => WQ (ix2 e j))
/-- The attention's output. -/
abbrev or : Fin 1024 → EReal := att (qr X M W G WQ r) (fun j e => K (ix2 j e))
/-- The rows with the attention's projection added. -/
abbrev h2r : Fin 1024 → EReal := through (h1r X M W r) (or X M W G WQ K r) (fun e j => WO (ix2 e j))
/-- Those normalised. -/
abbrev hn3r : Fin 1024 → EReal := normed (h2r X M W G WQ K WO r) (fun e => GF (ix2 0 e))

theorem h1_at (l : Fin 1024) : k0_pay4 (F := Ideal) X M W (ix2 r l) = h1r X M W r l := by
  pointwise [k0_pay4]
  rfl
theorem hn2_at (l : Fin 1024) : k0_pay5 (F := Ideal) X M W G (ix2 r l) = hn2r X M W G r l := by
  unfold hn2r normed rms
  simp only [← h1_at]
  unfold k0_pay5
  generalize k0_pay4 (F := Ideal) X M W = H
  pointwise
  rfl
theorem q_at (l : Fin 1024) : k0_pay6 (F := Ideal) X M W G WQ (ix2 r l) = qr X M W G WQ r l := by
  unfold qr times
  simp only [← hn2_at]
  unfold k0_pay6
  generalize k0_pay5 (F := Ideal) X M W G = H
  pointwise

variable {X M W G WQ K} {O : FVec Ideal S512x1024 .bf16}
theorem h2_of (hO : ∀ r e, O (ix2 r e) = or X M W G WQ K r e) (l : Fin 1024) :
    k0_pay2 (F := Ideal) (k0_pay4 (F := Ideal) X M W) O WO (ix2 r l) = h2r X M W G WQ K WO r l := by
  unfold h2r
  unfold through times
  rw [← h1_at]
  simp only [← hO]
  generalize k0_pay4 (F := Ideal) X M W = H
  pointwise [k0_pay2]
theorem hn3_of (hO : ∀ r e, O (ix2 r e) = or X M W G WQ K r e) (l : Fin 1024) :
    k0_pay3 (F := Ideal) (k0_pay4 (F := Ideal) X M W) O WO GF (ix2 r l) = hn3r X M W G WQ K WO GF r l := by
  unfold hn3r normed rms
  simp only [← h2_of (WO := WO) (hO := hO)]
  unfold k0_pay3
  generalize k0_pay2 (F := Ideal) (k0_pay4 (F := Ideal) X M W) O WO = H
  pointwise
  rfl
end rows

variable (m : (ℓ : Loc nD τ sig) → Buf (Elt Ideal) ℓ) (c : Dev nD) (t : Fin cfg0.N) (r : Fin 512) (l : Fin 1024)

theorem w8 : (outsAt0 m c t).1 (ix2 r l) = h1r (iblk m c 0 t) (iblk m c 1 t) (iblk m c 2 t) r l := by
  unfold outsAt0; frame_out
  exact h1_at (iblk m c 0 t) (iblk m c 1 t) (iblk m c 2 t) r l
theorem w9 : (outsAt0 m c t).2.1 (ix2 r l) = hn2r (iblk m c 0 t) (iblk m c 1 t) (iblk m c 2 t) (iblk m c 3 t) r l := by
  unfold outsAt0; frame_out
  exact hn2_at (iblk m c 0 t) (iblk m c 1 t) (iblk m c 2 t) (iblk m c 3 t) r l
theorem w10 : (outsAt0 m c t).2.2.1 (ix2 r l) =
    qr (iblk m c 0 t) (iblk m c 1 t) (iblk m c 2 t) (iblk m c 3 t) (iblk m c 4 t) r l := by
  unfold outsAt0; frame_out
  exact q_at (iblk m c 0 t) (iblk m c 1 t) (iblk m c 2 t) (iblk m c 3 t) (iblk m c 4 t) r l
theorem w11 : (outsAt0 m c t).2.2.2.1 (ix2 r l) =
    or (iblk m c 0 t) (iblk m c 1 t) (iblk m c 2 t) (iblk m c 3 t) (iblk m c 4 t) (iblk m c 5 t) r l := by
  have hq : qr (iblk m c 0 t) (iblk m c 1 t) (iblk m c 2 t) (iblk m c 3 t) (iblk m c 4 t) r = fun e =>
      k0_pay6 (F := Ideal) (iblk m c 0 t) (iblk m c 1 t) (iblk m c 2 t) (iblk m c 3 t) (iblk m c 4 t) (ix2 r e) :=
    funext fun e => (q_at (iblk m c 0 t) (iblk m c 1 t) (iblk m c 2 t) (iblk m c 3 t) (iblk m c 4 t) r e).symm
  unfold or
  rw [hq]
  unfold outsAt0; frame_out
  canon_tiles x h
  all_goals idx_vars x
  · rw [ho3]; exact (cut_at _ _ _ 3 _ _ _ _ rfl rfl).out h0 h1
  · rw [ho2]; exact (cut_at _ _ _ 2 _ _ _ _ rfl rfl).out h0 h1
  · exact (cut_at _ _ _ 1 _ _ _ _ rfl rfl).out h0 h1
  · rw [ho0]; exact (cut_at _ _ _ 0 _ _ _ _ rfl rfl).out h0 (h1.trans (by simp))
theorem w12 : (outsAt0 m c t).2.2.2.2.1 (ix2 r l) =
    h2r (iblk m c 0 t) (iblk m c 1 t) (iblk m c 2 t) (iblk m c 3 t) (iblk m c 4 t) (iblk m c 5 t) (iblk m c 6 t) r l := by
  unfold outsAt0; frame_out
  refine h2_of (iblk m c 6 t) r (fun r e => ?_) l
  refine Eq.trans ?_ (w11 m c t r e)
  unfold outsAt0; frame_out
  exact congrFun (read_all _ _ _ (by decide)) _
theorem w13 : (outsAt0 m c t).2.2.2.2.2 (ix2 r l) = hn3r (iblk m c 0 t) (iblk m c 1 t) (iblk m c 2 t) (iblk m c 3 t) (iblk m c 4 t)
    (iblk m c 5 t) (iblk m c 6 t) (iblk m c 7 t) r l := by
  unfold outsAt0; frame_out
  refine hn3_of (iblk m c 6 t) (iblk m c 7 t) r (fun r e => ?_) l
  refine Eq.trans ?_ (w11 m c t r e)
  unfold outsAt0; frame_out
  exact congrFun (read_all _ _ _ (by decide)) _

end Cert.Kernel9Ideal.Fwd
end
-- ==== Proof.AttnFwdArrays.lean ====
module

public import proofs.«01_k».proof.Proof.AttnFwd
public import proofs.«01_k».proof.Proof.Equation
public import proofs.«01_k».proof.Proof.Gen.Reference9Ideal.Read

/-!
The attention block going forward: the kernel's six arrays and the reference's six results.
-/

@[expose] public section
set_option maxRecDepth 16384
noncomputable section
namespace Cert.AttnFwd
open Idealize.ShloMosaic Cert.AttnSpec
/-! The six results as functions of the arguments: the rows, the mixed rows, their projection, the first scale, the query
projection, the memory's keys and values, the output projection and the second scale. -/
section results
variable (a0 a1 : Fin 4096 → Fin 1024 → EReal) (a2 : Fin 1024 → Fin 1024 → EReal) (a3 : Fin 1024 → EReal)
  (a4 : Fin 1024 → Fin 1024 → EReal) (a5 : Fin 256 → Fin 2048 → EReal) (a6 : Fin 1024 → Fin 1024 → EReal) (a7 : Fin 1024 → EReal)
  (R : Fin 4096)
/-- The rows with the mixed rows' projection added. -/
def h1f : Fin 1024 → EReal := through (a0 R) (a1 R) a2
/-- Those normalised. -/
def hn2f : Fin 1024 → EReal := normed (h1f a0 a1 a2 R) a3
/-- The queries. -/
def qf : Fin 1024 → EReal := times (hn2f a0 a1 a2 a3 R) a4
/-- The attention's output. -/
def of : Fin 1024 → EReal := att (qf a0 a1 a2 a3 a4 R) a5
/-- The rows with the attention's projection added. -/
def h2f : Fin 1024 → EReal := through (h1f a0 a1 a2 R) (of a0 a1 a2 a3 a4 a5 R) a6
/-- Those normalised. -/
def hn3f : Fin 1024 → EReal := normed (h2f a0 a1 a2 a3 a4 a5 a6 R) a7
end results
end Cert.AttnFwd

namespace Cert.Kernel9Ideal.Fwd
open Cert.Kernel9Ideal Cert.Kernel9Ideal.Gen Idealize.ShloMosaic Idealize.ShloMosaic.TcCoe Idealize.SL.Sem
open Idealize.ShloMosaic.Pipeline (Dat)
open Cert.AttnSpec Cert.AttnFwd

variable (m : (ℓ : Loc nD τ sig) → Buf (Elt Ideal) ℓ) (c : Dev nD)

abbrev a0 : Fin 4096 → Fin 1024 → EReal := ent (a := 4096) (b := 1024) (φ := .f32) (m ((c : Thread nD τ).loc main_arg0))
abbrev a1 : Fin 4096 → Fin 1024 → EReal := ent (a := 4096) (b := 1024) (φ := .bf16) (m ((c : Thread nD τ).loc main_arg1))
abbrev a2 : Fin 1024 → Fin 1024 → EReal := ent (a := 1024) (b := 1024) (φ := .bf16) (m ((c : Thread nD τ).loc main_arg2))
abbrev a3 : Fin 1024 → EReal := ent1 (a := 1024) (φ := .f32) (m ((c : Thread nD τ).loc main_arg3))
abbrev a4 : Fin 1024 → Fin 1024 → EReal := ent (a := 1024) (b := 1024) (φ := .bf16) (m ((c : Thread nD τ).loc main_arg4))
abbrev a5 : Fin 256 → Fin 2048 → EReal := ent (a := 256) (b := 2048) (φ := .bf16) (m ((c : Thread nD τ).loc main_arg5))
abbrev a6 : Fin 1024 → Fin 1024 → EReal := ent (a := 1024) (b := 1024) (φ := .bf16) (m ((c : Thread nD τ).loc main_arg6))
abbrev a7 : Fin 1024 → EReal := ent1 (a := 1024) (φ := .f32) (m ((c : Thread nD τ).loc main_arg7))

theorem idx : ∀ t : Fin cfg0.N, win0_0.index t = ![t.val, 0] ∧ win0_1.index t = ![t.val, 0] ∧ win0_2.index t = ![0, 0] ∧ win0_3.index t = ![0, 0] ∧ win0_4.index t = ![0, 0]
    ∧ win0_5.index t = ![0, 0] ∧ win0_6.index t = ![0, 0] ∧ win0_7.index t = ![0, 0] ∧ win0_8.index t = ![t.val, 0] ∧ win0_9.index t = ![t.val, 0]
    ∧ win0_10.index t = ![t.val, 0] ∧ win0_11.index t = ![t.val, 0] ∧ win0_12.index t = ![t.val, 0] ∧ win0_13.index t = ![t.val, 0] ∧ t.val < 8 :=
  (by decide +kernel : ∀ t : Fin grid0.N, _)

theorem lt_8 (t : Fin cfg0.N) : t.val < 8 := lt_of_lt_of_eq t.isLt N_0
/-- Row `r` of the block of point `t`. -/
def rowOf (t : Fin cfg0.N) (r : Fin 512) : Fin 4096 := ⟨t.val * 512 + r, by have := lt_8 t; omega⟩

theorem b0 (t : Fin cfg0.N) (r : Fin 512) (e : Fin 1024) : (show FVec Ideal S512x1024 .f32 from iblk m c 0 t) (ix2 r e) = a0 m c (rowOf t r) e := by
  blk_ext [iblk, V, idx t, rowOf]
theorem b1 (t : Fin cfg0.N) (r : Fin 512) (e : Fin 1024) : (show FVec Ideal S512x1024 .bf16 from iblk m c 1 t) (ix2 r e) = a1 m c (rowOf t r) e := by
  blk_ext [iblk, V, idx t, rowOf]
theorem b2 (t : Fin cfg0.N) (j : Fin 1024) (e : Fin 1024) : (show FVec Ideal S1024x1024 .bf16 from iblk m c 2 t) (ix2 j e) = a2 m c j e := by
  blk_ext [iblk, V, idx t]
theorem b3 (t : Fin cfg0.N) (e : Fin 1024) : (show FVec Ideal S1x1024 .f32 from iblk m c 3 t) (ix2 0 e) = a3 m c e := by
  have h : (show FVec Ideal S1x1024 .f32 from iblk m c 3 t) (ix2 0 e) =
      (show FVec Ideal S1x1024 .f32 from V m c main_v0) (ix2 0 e) := by blk_ext [iblk, idx t]
  refine h.trans ?_
  entry_read
  pointwise
theorem b4 (t : Fin cfg0.N) (j : Fin 1024) (e : Fin 1024) : (show FVec Ideal S1024x1024 .bf16 from iblk m c 4 t) (ix2 j e) = a4 m c j e := by
  blk_ext [iblk, V, idx t]
theorem b5 (t : Fin cfg0.N) (j : Fin 256) (e : Fin 2048) : (show FVec Ideal S256x2048 .bf16 from iblk m c 5 t) (ix2 j e) = a5 m c j e := by
  blk_ext [iblk, V, idx t]
theorem b6 (t : Fin cfg0.N) (j : Fin 1024) (e : Fin 1024) : (show FVec Ideal S1024x1024 .bf16 from iblk m c 6 t) (ix2 j e) = a6 m c j e := by
  blk_ext [iblk, V, idx t]
theorem b7 (t : Fin cfg0.N) (e : Fin 1024) : (show FVec Ideal S1x1024 .f32 from iblk m c 7 t) (ix2 0 e) = a7 m c e := by
  have h : (show FVec Ideal S1x1024 .f32 from iblk m c 7 t) (ix2 0 e) =
      (show FVec Ideal S1x1024 .f32 from V m c main_v1) (ix2 0 e) := by blk_ext [iblk, idx t]
  refine h.trans ?_
  entry_read
  pointwise

/-! The rows of a point's blocks are the rows of the arrays. -/
section rowsOf
variable (t : Fin cfg0.N) (r : Fin 512)
theorem h1_eq : h1r (iblk m c 0 t) (iblk m c 1 t) (iblk m c 2 t) r = h1f (a0 m c) (a1 m c) (a2 m c) (rowOf t r) := by
  unfold h1f
  rw [← funext (b0 m c t r), ← funext (b1 m c t r), ← funext fun j => funext (b2 m c t j)]
theorem hn2_eq : hn2r (iblk m c 0 t) (iblk m c 1 t) (iblk m c 2 t) (iblk m c 3 t) r =
    hn2f (a0 m c) (a1 m c) (a2 m c) (a3 m c) (rowOf t r) := by
  unfold hn2f
  rw [← h1_eq, ← funext (b3 m c t)]
theorem q_eq : qr (iblk m c 0 t) (iblk m c 1 t) (iblk m c 2 t) (iblk m c 3 t) (iblk m c 4 t) r =
    qf (a0 m c) (a1 m c) (a2 m c) (a3 m c) (a4 m c) (rowOf t r) := by
  unfold qf
  rw [← hn2_eq, ← funext fun j => funext (b4 m c t j)]
theorem o_eq : or (iblk m c 0 t) (iblk m c 1 t) (iblk m c 2 t) (iblk m c 3 t) (iblk m c 4 t) (iblk m c 5 t) r =
    of (a0 m c) (a1 m c) (a2 m c) (a3 m c) (a4 m c) (a5 m c) (rowOf t r) := by
  unfold of
  rw [← q_eq, ← funext fun j => funext (b5 m c t j)]
theorem h2_eq : h2r (iblk m c 0 t) (iblk m c 1 t) (iblk m c 2 t) (iblk m c 3 t) (iblk m c 4 t) (iblk m c 5 t) (iblk m c 6 t) r =
    h2f (a0 m c) (a1 m c) (a2 m c) (a3 m c) (a4 m c) (a5 m c) (a6 m c) (rowOf t r) := by
  unfold h2f
  rw [← h1_eq, ← o_eq, ← funext fun j => funext (b6 m c t j)]
theorem hn3_eq : hn3r (iblk m c 0 t) (iblk m c 1 t) (iblk m c 2 t) (iblk m c 3 t) (iblk m c 4 t) (iblk m c 5 t) (iblk m c 6 t)
      (iblk m c 7 t) r = hn3f (a0 m c) (a1 m c) (a2 m c) (a3 m c) (a4 m c) (a5 m c) (a6 m c) (a7 m c) (rowOf t r) := by
  unfold hn3f
  rw [← h2_eq, ← funext (b7 m c t)]
end rowsOf

theorem final8 : (dats m 0 c).arrAt 8 cfg0.N = fun i : S4096x1024.Idx => h1f (a0 m c) (a1 m c) (a2 m c) (i 0) (i 1) := by
  refine (dats m 0 c).arrAt_eq_of_covers 8 _ (by decide +kernel) fun t _ y => ?_
  blk_simp
  rw [after0_8]
  idx_vars y
  refine (w8 m c t y0 y1).trans ?_
  rw [h1_eq]
  refine congrArg₂ (h1f (a0 m c) (a1 m c) (a2 m c)) (Fin.ext ?_) (Fin.ext ?_) <;> blk_simp [idx t, rowOf]
theorem final9 : (dats m 0 c).arrAt 9 cfg0.N = fun i : S4096x1024.Idx => hn2f (a0 m c) (a1 m c) (a2 m c) (a3 m c) (i 0) (i 1) := by
  refine (dats m 0 c).arrAt_eq_of_covers 9 _ (by decide +kernel) fun t _ y => ?_
  blk_simp
  rw [after0_9]
  idx_vars y
  refine (w9 m c t y0 y1).trans ?_
  rw [hn2_eq]
  refine congrArg₂ (hn2f (a0 m c) (a1 m c) (a2 m c) (a3 m c)) (Fin.ext ?_) (Fin.ext ?_) <;> blk_simp [idx t, rowOf]
theorem final10 : (dats m 0 c).arrAt 10 cfg0.N = fun i : S4096x1024.Idx => qf (a0 m c) (a1 m c) (a2 m c) (a3 m c) (a4 m c) (i 0) (i 1) := by
  refine (dats m 0 c).arrAt_eq_of_covers 10 _ (by decide +kernel) fun t _ y => ?_
  blk_simp
  rw [after0_10]
  idx_vars y
  refine (w10 m c t y0 y1).trans ?_
  rw [q_eq]
  refine congrArg₂ (qf (a0 m c) (a1 m c) (a2 m c) (a3 m c) (a4 m c)) (Fin.ext ?_) (Fin.ext ?_) <;> blk_simp [idx t, rowOf]
theorem final11 : (dats m 0 c).arrAt 11 cfg0.N = fun i : S4096x1024.Idx => of (a0 m c) (a1 m c) (a2 m c) (a3 m c) (a4 m c) (a5 m c) (i 0) (i 1) := by
  refine (dats m 0 c).arrAt_eq_of_covers 11 _ (by decide +kernel) fun t _ y => ?_
  blk_simp
  rw [after0_11]
  idx_vars y
  refine (w11 m c t y0 y1).trans ?_
  rw [o_eq]
  refine congrArg₂ (of (a0 m c) (a1 m c) (a2 m c) (a3 m c) (a4 m c) (a5 m c)) (Fin.ext ?_) (Fin.ext ?_) <;> blk_simp [idx t, rowOf]
theorem final12 : (dats m 0 c).arrAt 12 cfg0.N = fun i : S4096x1024.Idx => h2f (a0 m c) (a1 m c) (a2 m c) (a3 m c) (a4 m c) (a5 m c) (a6 m c) (i 0) (i 1) := by
  refine (dats m 0 c).arrAt_eq_of_covers 12 _ (by decide +kernel) fun t _ y => ?_
  blk_simp
  rw [after0_12]
  idx_vars y
  refine (w12 m c t y0 y1).trans ?_
  rw [h2_eq]
  refine congrArg₂ (h2f (a0 m c) (a1 m c) (a2 m c) (a3 m c) (a4 m c) (a5 m c) (a6 m c)) (Fin.ext ?_) (Fin.ext ?_) <;> blk_simp [idx t, rowOf]
theorem final13 : (dats m 0 c).arrAt 13 cfg0.N = fun i : S4096x1024.Idx => hn3f (a0 m c) (a1 m c) (a2 m c) (a3 m c) (a4 m c) (a5 m c) (a6 m c) (a7 m c) (i 0) (i 1) := by
  refine (dats m 0 c).arrAt_eq_of_covers 13 _ (by decide +kernel) fun t _ y => ?_
  blk_simp
  rw [after0_13]
  idx_vars y
  refine (w13 m c t y0 y1).trans ?_
  rw [hn3_eq]
  refine congrArg₂ (hn3f (a0 m c) (a1 m c) (a2 m c) (a3 m c) (a4 m c) (a5 m c) (a6 m c) (a7 m c)) (Fin.ext ?_) (Fin.ext ?_) <;> blk_simp [idx t, rowOf]

end Cert.Kernel9Ideal.Fwd

namespace Cert.Reference9Ideal.Fwd
open Cert.Reference9Ideal Cert.Reference9Ideal.Read Idealize.ShloMosaic
open Cert.AttnSpec Cert.AttnFwd

variable (x0 : FVec Ideal S4096x1024 .f32) (x1 : FVec Ideal S4096x1024 .bf16) (x2 : FVec Ideal S1024x1024 .bf16)
  (x3 : FVec Ideal S1024 .f32) (x4 : FVec Ideal S1024x1024 .bf16) (x5 : FVec Ideal S256x2048 .bf16) (x6 : FVec Ideal S1024x1024 .bf16)
  (x7 : FVec Ideal S1024 .f32)

abbrev h1 : Fin 4096 → Fin 1024 → EReal := h1f (ent x0) (ent x1) (ent x2)
abbrev hn2 : Fin 4096 → Fin 1024 → EReal := hn2f (ent x0) (ent x1) (ent x2) (ent1 x3)
abbrev q : Fin 4096 → Fin 1024 → EReal := qf (ent x0) (ent x1) (ent x2) (ent1 x3) (ent x4)
abbrev o : Fin 4096 → Fin 1024 → EReal := of (ent x0) (ent x1) (ent x2) (ent1 x3) (ent x4) (ent x5)
abbrev h2 : Fin 4096 → Fin 1024 → EReal := h2f (ent x0) (ent x1) (ent x2) (ent1 x3) (ent x4) (ent x5) (ent x6)
abbrev hn3 : Fin 4096 → Fin 1024 → EReal := hn3f (ent x0) (ent x1) (ent x2) (ent1 x3) (ent x4) (ent x5) (ent x6) (ent1 x7)

theorem h1_at (R : Fin 4096) (c : Fin 1024) : val_main_v3 (F := Ideal) x0 x1 x2 (ix2 R c) = h1 x0 x1 x2 R c := by
  unfold val_main_v3 val_main_v2 val_main_v1 val_main_v0
  pointwise
  rfl

theorem rms1_at (R : Fin 4096) (z : Fin 1) : val_main_v11 (F := Ideal) x0 x1 x2 (ix2 R z) = rms (h1 x0 x1 x2 R) := by
  unfold val_main_v11 val_main_v10 val_main_v9 val_main_v8 val_main_v7 val_main_v6 val_main_v5 val_main_v4 val_main_cst
    val_main_cst_0 val_main_cst_1
  pointwise [h1_at]
  rfl

theorem hn2_at (R : Fin 4096) (c : Fin 1024) : val_main_v16 (F := Ideal) x0 x1 x2 x3 (ix2 R c) = hn2 x0 x1 x2 x3 R c := by
  unfold val_main_v16 val_main_v15 val_main_v14 val_main_v13 val_main_v12
  pointwise [h1_at, rms1_at]
  rfl

theorem q_at (R : Fin 4096) (c : Fin 1024) : val_main_v18 (F := Ideal) x0 x1 x2 x3 x4 (ix2 R c) = q x0 x1 x2 x3 x4 R c := by
  unfold val_main_v18 val_main_v17
  pointwise [hn2_at]
  rfl

/-- The scores of row `R`. -/
abbrev sc (R : Fin 4096) (h : Fin 4) : Fin 256 → EReal := hscore (q x0 x1 x2 x3 x4 R) (ent x5) h

theorem score_at (h : Fin 4) (R : Fin 4096) (j : Fin 256) : val_main_v27 (F := Ideal) x0 x1 x2 x3 x4 x5 (ix3 h R j) =
    sc x0 x1 x2 x3 x4 x5 R h j := by
  unfold val_main_v27 val_main_v26 val_main_v25 val_main_v23 val_main_v21 val_main_v20 val_main_v19 val_main_cst_2
  pointwise [q_at]
  rfl

theorem max_at (h : Fin 4) (R : Fin 4096) : val_main_v28 (F := Ideal) x0 x1 x2 x3 x4 x5 (ix2 h R) =
    top fun j => val_main_v27 (F := Ideal) x0 x1 x2 x3 x4 x5 (ix3 h R j) := by
  unfold val_main_v28 val_main_cst_3
  generalize val_main_v27 (F := Ideal) x0 x1 x2 x3 x4 x5 = S
  unfold top
  pointwise

theorem top_at (h : Fin 4) (R : Fin 4096) : val_main_v30 (F := Ideal) x0 x1 x2 x3 x4 x5 (ix2 h R) =
    top (sc x0 x1 x2 x3 x4 x5 R h) := by
  rw [val_main_v30_apply, val_main_v29_apply, val_main_cst_4_apply, max_at,
    show (fun j => val_main_v27 (F := Ideal) x0 x1 x2 x3 x4 x5 (ix3 h R j)) = sc x0 x1 x2 x3 x4 x5 R h from
    funext (score_at x0 x1 x2 x3 x4 x5 h R), Ideal.ofBits_def, neg_inf_eq]
  exact max_eq_right bot_le

theorem ex_at (h : Fin 4) (R : Fin 4096) (j : Fin 256) : val_main_v34 (F := Ideal) x0 x1 x2 x3 x4 x5 (ix3 h R j) =
    ex (sc x0 x1 x2 x3 x4 x5 R h) j := by
  unfold val_main_v34 val_main_v33 val_main_v32 val_main_v31
  pointwise [score_at, top_at]
  rfl

theorem soft_at (h : Fin 4) (R : Fin 4096) (j : Fin 256) : val_main_v38 (F := Ideal) x0 x1 x2 x3 x4 x5 (ix3 h R j) =
    soft (sc x0 x1 x2 x3 x4 x5 R h) j := by
  unfold val_main_v38 val_main_v37 val_main_v36 val_main_v35 val_main_cst_5
  pointwise [ex_at]
  rfl

theorem o_at (R : Fin 4096) (c : Fin 1024) : val_main_v41 (F := Ideal) x0 x1 x2 x3 x4 x5 (ix2 R c) = o x0 x1 x2 x3 x4 x5 R c := by
  unfold o of att
  unfold val_main_v41 val_main_v40 val_main_v39 val_main_v24 val_main_v22 val_main_v19
  pointwise [soft_at]
  exact Finset.sum_congr rfl fun j _ => mul_comm _ _

theorem h2_at (R : Fin 4096) (c : Fin 1024) : val_main_v44 (F := Ideal) x0 x1 x2 x3 x4 x5 x6 (ix2 R c) =
    h2 x0 x1 x2 x3 x4 x5 x6 R c := by
  unfold val_main_v44 val_main_v43 val_main_v42
  pointwise [h1_at, o_at]
  rfl

theorem rms2_at (R : Fin 4096) (z : Fin 1) : val_main_v52 (F := Ideal) x0 x1 x2 x3 x4 x5 x6 (ix2 R z) =
    rms (h2 x0 x1 x2 x3 x4 x5 x6 R) := by
  unfold val_main_v52 val_main_v51 val_main_v50 val_main_v49 val_main_v48 val_main_v47 val_main_v46 val_main_v45 val_main_cst_6
    val_main_cst_7 val_main_cst_8
  pointwise [h2_at]
  rfl

theorem hn3_at (R : Fin 4096) (c : Fin 1024) : val_main_v57 (F := Ideal) x0 x1 x2 x3 x4 x5 x6 x7 (ix2 R c) =
    hn3 x0 x1 x2 x3 x4 x5 x6 x7 R c := by
  unfold val_main_v57 val_main_v56 val_main_v55 val_main_v54 val_main_v53
  pointwise [h2_at, rms2_at]
  rfl

/-! The results that are rounded are the same numbers. -/
theorem hn2_out : val_main_v58 (F := Ideal) x0 x1 x2 x3 = val_main_v16 (F := Ideal) x0 x1 x2 x3 := rfl
theorem q_out : val_main_v59 (F := Ideal) x0 x1 x2 x3 x4 = val_main_v18 (F := Ideal) x0 x1 x2 x3 x4 := rfl
theorem o_out : val_main_v60 (F := Ideal) x0 x1 x2 x3 x4 x5 = val_main_v41 (F := Ideal) x0 x1 x2 x3 x4 x5 := rfl
theorem hn3_out : val_main_v61 (F := Ideal) x0 x1 x2 x3 x4 x5 x6 x7 = val_main_v57 (F := Ideal) x0 x1 x2 x3 x4 x5 x6 x7 := rfl

end Cert.Reference9Ideal.Fwd
end
-- ==== Proof.FwdEqual.lean ====
module

public import proofs.«01_k».proof.Defs
public import proofs.«01_k».proof.Proof.FfnUp
public import proofs.«01_k».proof.Proof.FfnLoss
public import proofs.«01_k».proof.Proof.AttnFwdArrays

/-!
The calls going forward and the loss: each reference's results are the kernel's arrays.
-/

@[expose] public section
set_option maxRecDepth 16384
noncomputable section
namespace Cert.FwdEqual
open Idealize.ShloMosaic Idealize.ShloMosaic.TcCoe Idealize.SL.Sem

theorem equal7 : Cert.algebraic_Kernel7Ideal_Reference7Ideal (hKernel7Ideal := Cert.Kernel7Ideal.Gen.facts)
    (hReference7Ideal := Cert.Reference7Ideal.Gen.facts) := by
  pair_intro
  · run_from Cert.Kernel7Ideal.Value.run_blocks m g
  · run_from Cert.Reference7Ideal.Value.run m' g'
    · refine (Cert.Reference7Ideal.Read.val_main_v8_eq _ _).trans (Eq.trans ?_ (Cert.Kernel7Ideal.Up.final2 m _).symm)
      funext i
      obtain ⟨s, R, j, rfl⟩ : ∃ (s : Fin 2) (R : Fin 4096) (j : Fin 2816), i = ix3 s R j := ⟨_, _, _, eq_ix3 i⟩
      exact Cert.Reference7Ideal.Up.gu_at _ _ s R j
    · refine (Cert.Reference7Ideal.Read.val_main_v11_eq _ _).trans (Eq.trans ?_ (Cert.Kernel7Ideal.Up.final3 m _).symm)
      funext i
      obtain ⟨R, j, rfl⟩ : ∃ (R : Fin 4096) (j : Fin 2816), i = ix2 R j := ⟨_, _, eq_ix2 i⟩
      exact Cert.Reference7Ideal.Up.act_at _ _ R j

/-! The loss's three results are the kernel's arrays. -/
section pair8
variable (m : (ℓ : Loc Cert.Kernel8Ideal.nD Cert.Kernel8Ideal.τ Cert.Kernel8Ideal.sig) → Buf (Elt Ideal) ℓ) (c : Dev Cert.Kernel8Ideal.nD)
abbrev p0 : FVec Ideal Cert.Reference8Ideal.S4096x2816 .bf16 := m ((c : Thread Cert.Kernel8Ideal.nD Cert.Kernel8Ideal.τ).loc Cert.Kernel8Ideal.main_arg0)
abbrev p1 : FVec Ideal Cert.Reference8Ideal.S2816x1024 .bf16 := m ((c : Thread Cert.Kernel8Ideal.nD Cert.Kernel8Ideal.τ).loc Cert.Kernel8Ideal.main_arg1)
abbrev p2 : FVec Ideal Cert.Reference8Ideal.S4096x1024 .f32 := m ((c : Thread Cert.Kernel8Ideal.nD Cert.Kernel8Ideal.τ).loc Cert.Kernel8Ideal.main_arg2)
abbrev p3 : FVec Ideal Cert.Reference8Ideal.S1024 .f32 := m ((c : Thread Cert.Kernel8Ideal.nD Cert.Kernel8Ideal.τ).loc Cert.Kernel8Ideal.main_arg3)
abbrev p4 : FVec Ideal Cert.Reference8Ideal.S4096x1024 .f32 := m ((c : Thread Cert.Kernel8Ideal.nD Cert.Kernel8Ideal.τ).loc Cert.Kernel8Ideal.main_arg4)
theorem res8_5 : Cert.Reference8Ideal.Read.val_main_v54 (F := Ideal) (p0 m c) (p1 m c) (p2 m c) (p3 m c) (p4 m c) =
    (Cert.Kernel8Ideal.Gen.dats m 0 c).arrAt 5 Cert.Kernel8Ideal.cfg0.N := by
  refine Eq.trans ?_ (Cert.Kernel8Ideal.Loss.final5 m c).symm
  funext i
  obtain ⟨R, e, rfl⟩ : ∃ (R : Fin 4096) (e : Fin 1024), i = ix2 R e := ⟨_, _, eq_ix2 i⟩
  exact Cert.Reference8Ideal.Loss.dh_at (p0 m c) (p1 m c) (p2 m c) (p3 m c) (p4 m c) R e
theorem res8_6 : Cert.Reference8Ideal.Read.val_main_v71 (F := Ideal) (p0 m c) (p1 m c) (p2 m c) (p3 m c) (p4 m c) =
    (Cert.Kernel8Ideal.Gen.dats m 0 c).arrAt 6 Cert.Kernel8Ideal.cfg0.N := by
  refine Eq.trans ?_ (Cert.Kernel8Ideal.Loss.final6 m c).symm
  funext i
  obtain ⟨R, e, rfl⟩ : ∃ (R : Fin 1) (e : Fin 1024), i = ix2 R e := ⟨_, _, eq_ix2 i⟩
  exact Cert.Reference8Ideal.Loss.sq_at (p0 m c) (p1 m c) (p2 m c) (p3 m c) (p4 m c) R e
theorem res8_7 : Cert.Reference8Ideal.Read.val_main_v72 (F := Ideal) (p0 m c) (p1 m c) (p2 m c) (p3 m c) (p4 m c) =
    (Cert.Kernel8Ideal.Gen.dats m 0 c).arrAt 7 Cert.Kernel8Ideal.cfg0.N := by
  refine Eq.trans ?_ (Cert.Kernel8Ideal.Loss.final7 m c).symm
  funext i
  obtain ⟨R, e, rfl⟩ : ∃ (R : Fin 1) (e : Fin 1024), i = ix2 R e := ⟨_, _, eq_ix2 i⟩
  exact Cert.Reference8Ideal.Loss.dg_at (p0 m c) (p1 m c) (p2 m c) (p3 m c) (p4 m c) R e
end pair8

/-! The attention block's six results are the kernel's arrays. -/
section pair9
variable (m : (ℓ : Loc Cert.Kernel9Ideal.nD Cert.Kernel9Ideal.τ Cert.Kernel9Ideal.sig) → Buf (Elt Ideal) ℓ) (c : Dev Cert.Kernel9Ideal.nD)
abbrev q0 : FVec Ideal Cert.Reference9Ideal.S4096x1024 .f32 := m ((c : Thread Cert.Kernel9Ideal.nD Cert.Kernel9Ideal.τ).loc Cert.Kernel9Ideal.main_arg0)
abbrev q1 : FVec Ideal Cert.Reference9Ideal.S4096x1024 .bf16 := m ((c : Thread Cert.Kernel9Ideal.nD Cert.Kernel9Ideal.τ).loc Cert.Kernel9Ideal.main_arg1)
abbrev q2 : FVec Ideal Cert.Reference9Ideal.S1024x1024 .bf16 := m ((c : Thread Cert.Kernel9Ideal.nD Cert.Kernel9Ideal.τ).loc Cert.Kernel9Ideal.main_arg2)
abbrev q3 : FVec Ideal Cert.Reference9Ideal.S1024 .f32 := m ((c : Thread Cert.Kernel9Ideal.nD Cert.Kernel9Ideal.τ).loc Cert.Kernel9Ideal.main_arg3)
abbrev q4 : FVec Ideal Cert.Reference9Ideal.S1024x1024 .bf16 := m ((c : Thread Cert.Kernel9Ideal.nD Cert.Kernel9Ideal.τ).loc Cert.Kernel9Ideal.main_arg4)
abbrev q5 : FVec Ideal Cert.Reference9Ideal.S256x2048 .bf16 := m ((c : Thread Cert.Kernel9Ideal.nD Cert.Kernel9Ideal.τ).loc Cert.Kernel9Ideal.main_arg5)
abbrev q6 : FVec Ideal Cert.Reference9Ideal.S1024x1024 .bf16 := m ((c : Thread Cert.Kernel9Ideal.nD Cert.Kernel9Ideal.τ).loc Cert.Kernel9Ideal.main_arg6)
abbrev q7 : FVec Ideal Cert.Reference9Ideal.S1024 .f32 := m ((c : Thread Cert.Kernel9Ideal.nD Cert.Kernel9Ideal.τ).loc Cert.Kernel9Ideal.main_arg7)
theorem res9_8 : Cert.Reference9Ideal.Read.val_main_v3 (F := Ideal) (q0 m c) (q1 m c) (q2 m c) =
    (Cert.Kernel9Ideal.Gen.dats m 0 c).arrAt 8 Cert.Kernel9Ideal.cfg0.N := by
  refine Eq.trans ?_ (Cert.Kernel9Ideal.Fwd.final8 m c).symm
  funext i
  obtain ⟨R, e, rfl⟩ : ∃ (R : Fin 4096) (e : Fin 1024), i = ix2 R e := ⟨_, _, eq_ix2 i⟩
  exact Cert.Reference9Ideal.Fwd.h1_at (q0 m c) (q1 m c) (q2 m c) R e
theorem res9_9 : Cert.Reference9Ideal.Read.val_main_v58 (F := Ideal) (q0 m c) (q1 m c) (q2 m c) (q3 m c) =
    (Cert.Kernel9Ideal.Gen.dats m 0 c).arrAt 9 Cert.Kernel9Ideal.cfg0.N := by
  refine Eq.trans ?_ (Cert.Kernel9Ideal.Fwd.final9 m c).symm
  funext i
  obtain ⟨R, e, rfl⟩ : ∃ (R : Fin 4096) (e : Fin 1024), i = ix2 R e := ⟨_, _, eq_ix2 i⟩
  exact (congrFun (Cert.Reference9Ideal.Fwd.hn2_out (q0 m c) (q1 m c) (q2 m c) (q3 m c)) _).trans (Cert.Reference9Ideal.Fwd.hn2_at (q0 m c) (q1 m c) (q2 m c) (q3 m c) R e)
theorem res9_10 : Cert.Reference9Ideal.Read.val_main_v59 (F := Ideal) (q0 m c) (q1 m c) (q2 m c) (q3 m c) (q4 m c) =
    (Cert.Kernel9Ideal.Gen.dats m 0 c).arrAt 10 Cert.Kernel9Ideal.cfg0.N := by
  refine Eq.trans ?_ (Cert.Kernel9Ideal.Fwd.final10 m c).symm
  funext i
  obtain ⟨R, e, rfl⟩ : ∃ (R : Fin 4096) (e : Fin 1024), i = ix2 R e := ⟨_, _, eq_ix2 i⟩
  exact (congrFun (Cert.Reference9Ideal.Fwd.q_out (q0 m c) (q1 m c) (q2 m c) (q3 m c) (q4 m c)) _).trans (Cert.Reference9Ideal.Fwd.q_at (q0 m c) (q1 m c) (q2 m c) (q3 m c) (q4 m c) R e)
theorem res9_11 : Cert.Reference9Ideal.Read.val_main_v60 (F := Ideal) (q0 m c) (q1 m c) (q2 m c) (q3 m c) (q4 m c) (q5 m c) =
    (Cert.Kernel9Ideal.Gen.dats m 0 c).arrAt 11 Cert.Kernel9Ideal.cfg0.N := by
  refine Eq.trans ?_ (Cert.Kernel9Ideal.Fwd.final11 m c).symm
  funext i
  obtain ⟨R, e, rfl⟩ : ∃ (R : Fin 4096) (e : Fin 1024), i = ix2 R e := ⟨_, _, eq_ix2 i⟩
  exact (congrFun (Cert.Reference9Ideal.Fwd.o_out (q0 m c) (q1 m c) (q2 m c) (q3 m c) (q4 m c) (q5 m c)) _).trans (Cert.Reference9Ideal.Fwd.o_at (q0 m c) (q1 m c) (q2 m c) (q3 m c) (q4 m c) (q5 m c) R e)
theorem res9_12 : Cert.Reference9Ideal.Read.val_main_v44 (F := Ideal) (q0 m c) (q1 m c) (q2 m c) (q3 m c) (q4 m c) (q5 m c) (q6 m c) =
    (Cert.Kernel9Ideal.Gen.dats m 0 c).arrAt 12 Cert.Kernel9Ideal.cfg0.N := by
  refine Eq.trans ?_ (Cert.Kernel9Ideal.Fwd.final12 m c).symm
  funext i
  obtain ⟨R, e, rfl⟩ : ∃ (R : Fin 4096) (e : Fin 1024), i = ix2 R e := ⟨_, _, eq_ix2 i⟩
  exact Cert.Reference9Ideal.Fwd.h2_at (q0 m c) (q1 m c) (q2 m c) (q3 m c) (q4 m c) (q5 m c) (q6 m c) R e
theorem res9_13 : Cert.Reference9Ideal.Read.val_main_v61 (F := Ideal) (q0 m c) (q1 m c) (q2 m c) (q3 m c) (q4 m c) (q5 m c) (q6 m c) (q7 m c) =
    (Cert.Kernel9Ideal.Gen.dats m 0 c).arrAt 13 Cert.Kernel9Ideal.cfg0.N := by
  refine Eq.trans ?_ (Cert.Kernel9Ideal.Fwd.final13 m c).symm
  funext i
  obtain ⟨R, e, rfl⟩ : ∃ (R : Fin 4096) (e : Fin 1024), i = ix2 R e := ⟨_, _, eq_ix2 i⟩
  exact (congrFun (Cert.Reference9Ideal.Fwd.hn3_out (q0 m c) (q1 m c) (q2 m c) (q3 m c) (q4 m c) (q5 m c) (q6 m c) (q7 m c)) _).trans (Cert.Reference9Ideal.Fwd.hn3_at (q0 m c) (q1 m c) (q2 m c) (q3 m c) (q4 m c) (q5 m c) (q6 m c) (q7 m c) R e)
end pair9

/-- The loss's reference ends holding its stages, its arguments and every result left as they were. -/
theorem stages8 (m' : (ℓ : Loc Cert.Reference8Ideal.nD Cert.Reference8Ideal.τ Cert.Reference8Ideal.sig) → Buf (Elt Ideal) ℓ)
    (g' : Dev Cert.Reference8Ideal.nD → PrngReg) :
    θ_run (Cert.Reference8Ideal.defs (F := Ideal)) (onTc (τ := Cert.Reference8Ideal.τ) (Cert.Reference8Ideal.main (F := Ideal)))
      ⟨m', fun _ => 0, g'⟩ (fun r => ∀ c : Dev Cert.Reference8Ideal.nD,
        r.2.mem ((c.tc : Thread Cert.Reference8Ideal.nD Cert.Reference8Ideal.τ).loc Cert.Reference8Ideal.main_v54) =
          Cert.Reference8Ideal.Read.val_main_v54 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))
        ∧ r.2.mem ((c.tc : Thread Cert.Reference8Ideal.nD Cert.Reference8Ideal.τ).loc Cert.Reference8Ideal.main_v71) =
          Cert.Reference8Ideal.Read.val_main_v71 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))
        ∧ r.2.mem ((c.tc : Thread Cert.Reference8Ideal.nD Cert.Reference8Ideal.τ).loc Cert.Reference8Ideal.main_v72) =
          Cert.Reference8Ideal.Read.val_main_v72 (F := Ideal) (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))
        ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
        ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
        ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
        ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
        ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)) :=
  (θ_run _ _ _).mono (fun r h c => ⟨(h c).1.trans (Cert.Reference8Ideal.Read.val_main_v54_eq m' c),
    (h c).2.1.trans (Cert.Reference8Ideal.Read.val_main_v71_eq (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))),
    (h c).2.2.1.trans (Cert.Reference8Ideal.Read.val_main_v72_eq (m' ((c.tc : Thread Cert.Reference8Ideal.nD Cert.Reference8Ideal.τ).loc Cert.Reference8Ideal.main_arg0)) (m' ((c.tc : Thread Cert.Reference8Ideal.nD Cert.Reference8Ideal.τ).loc Cert.Reference8Ideal.main_arg1)) (m' ((c.tc : Thread Cert.Reference8Ideal.nD Cert.Reference8Ideal.τ).loc Cert.Reference8Ideal.main_arg2)) (m' ((c.tc : Thread Cert.Reference8Ideal.nD Cert.Reference8Ideal.τ).loc Cert.Reference8Ideal.main_arg3)) (m' ((c.tc : Thread Cert.Reference8Ideal.nD Cert.Reference8Ideal.τ).loc Cert.Reference8Ideal.main_arg4))), (h c).2.2.2⟩)
    (Cert.Reference8Ideal.Value.run m' g')

theorem equal8 : Cert.algebraic_Kernel8Ideal_Reference8Ideal (hKernel8Ideal := Cert.Kernel8Ideal.Gen.facts)
    (hReference8Ideal := Cert.Reference8Ideal.Gen.facts) := by
  pair_intro
  · run_from Cert.Kernel8Ideal.Value.run_blocks m g
  · refine (θ_run _ _ _).mono (fun r h c => ?_) (stages8 m' g')
    obtain ⟨h0, h1, h2, h3⟩ := h c
    obtain ⟨e0, e1, e2, e3, e4⟩ := hagree c
    rw [e0, e1, e2, e3, e4] at h0 h1 h2
    exact ⟨h0.trans (res8_5 m c), h1.trans (res8_6 m c), h2.trans (res8_7 m c), h3⟩

theorem equal9 : Cert.algebraic_Kernel9Ideal_Reference9Ideal (hKernel9Ideal := Cert.Kernel9Ideal.Gen.facts)
    (hReference9Ideal := Cert.Reference9Ideal.Gen.facts) := by
  pair_intro
  · run_from Cert.Kernel9Ideal.Value.run_blocks m g
  · run_from Cert.Reference9Ideal.Value.run m' g'
    · exact (Cert.Reference9Ideal.Read.val_main_v3_eq _ _ _).trans (res9_8 m _)
    · exact (Cert.Reference9Ideal.Read.val_main_v58_eq _ _ _ _).trans (res9_9 m _)
    · exact (Cert.Reference9Ideal.Read.val_main_v59_eq _ _ _ _ _).trans (res9_10 m _)
    · obtain ⟨e0, e1, e2, e3, e4, e5, e6, e7⟩ := hagree c
      rw [Cert.Reference9Ideal.Read.val_main_v60_eq, e0, e1, e2, e3, e4, e5]
      exact res9_11 m c
    · obtain ⟨e0, e1, e2, e3, e4, e5, e6, e7⟩ := hagree c
      rw [Cert.Reference9Ideal.Read.val_main_v44_eq, e0, e1, e2, e3, e4, e5, e6]
      exact res9_12 m c
    · obtain ⟨e0, e1, e2, e3, e4, e5, e6, e7⟩ := hagree c
      rw [Cert.Reference9Ideal.Read.val_main_v61_eq, e0, e1, e2, e3, e4, e5, e6, e7]
      exact res9_13 m c

end Cert.FwdEqual
end
-- ==== Proof.NormIn.lean ====
module

public import proofs.«01_k».proof.Proof.AttnFwd
public import proofs.«01_k».proof.Proof.Gen.Kernel12Ideal.Value
public import proofs.«01_k».proof.Proof.Gen.Reference12Ideal.Read

/-!
The norm in front of the sequence mixer: the kernel's array and the reference's result.
-/

@[expose] public section
set_option maxRecDepth 16384
noncomputable section
namespace Cert.Kernel12Ideal.NormIn
open Cert.Kernel12Ideal Cert.Kernel12Ideal.Gen Idealize.ShloMosaic Idealize.ShloMosaic.TcCoe Idealize.SL.Sem
open Idealize.ShloMosaic.Pipeline (Dat)
open Cert.AttnSpec Cert.AttnFwd

theorem norm_at (X : FVec Ideal S1024x1024 .f32) (G : FVec Ideal S1x1024 .f32) (r e : Fin 1024) :
    k0_pay1 (F := Ideal) X G (ix2 r e) = normed (fun e => X (ix2 r e)) (fun e => G (ix2 0 e)) e := by
  unfold normed rms k0_pay1
  pointwise
  rfl

variable (m : (ℓ : Loc nD τ sig) → Buf (Elt Ideal) ℓ) (c : Dev nD)
abbrev a0 : Fin 4096 → Fin 1024 → EReal := ent (a := 4096) (b := 1024) (φ := .f32) (m ((c : Thread nD τ).loc main_arg0))
abbrev a1 : Fin 1024 → EReal := ent1 (a := 1024) (φ := .f32) (m ((c : Thread nD τ).loc main_arg1))

theorem idx : ∀ t : Fin cfg0.N, win0_0.index t = ![t.val, 0] ∧ win0_1.index t = ![0, 0] ∧ win0_2.index t = ![t.val, 0] ∧ t.val < 4 :=
  (by decide +kernel : ∀ t : Fin grid0.N, _)
/-- Row `r` of the block of point `t`. -/
def rowOf (t : Fin cfg0.N) (r : Fin 1024) : Fin 4096 := ⟨t.val * 1024 + r, by have := (idx t).2.2.2; omega⟩

theorem b0 (t : Fin cfg0.N) (r e : Fin 1024) : (show FVec Ideal S1024x1024 .f32 from iblk m c 0 t) (ix2 r e) = a0 m c (rowOf t r) e := by
  blk_ext [iblk, V, idx t, rowOf]
theorem b1 (t : Fin cfg0.N) (e : Fin 1024) : (show FVec Ideal S1x1024 .f32 from iblk m c 1 t) (ix2 0 e) = a1 m c e := by
  have h : (show FVec Ideal S1x1024 .f32 from iblk m c 1 t) (ix2 0 e) =
      (show FVec Ideal S1x1024 .f32 from V m c main_v0) (ix2 0 e) := by blk_ext [iblk, idx t]
  refine h.trans ?_
  entry_read
  pointwise

theorem final2 : (dats m 0 c).arrAt 2 cfg0.N = fun i : S4096x1024.Idx => normed (a0 m c (i 0)) (a1 m c) (i 1) := by
  refine (dats m 0 c).arrAt_eq_of_covers 2 _ (by decide +kernel) fun t _ y => ?_
  blk_simp
  rw [after0_2]
  frame_out
  idx_vars y
  refine (norm_at _ _ y0 y1).trans ?_
  rw [funext (b0 m c t y0), funext (b1 m c t)]
  refine congrArg₂ (fun R => normed (a0 m c R) (a1 m c)) (Fin.ext ?_) (Fin.ext ?_) <;> blk_simp [idx t, rowOf]

end Cert.Kernel12Ideal.NormIn

namespace Cert.Reference12Ideal.NormIn
open Cert.Reference12Ideal Cert.Reference12Ideal.Read Idealize.ShloMosaic
open Cert.AttnSpec Cert.AttnFwd
variable (x0 : FVec Ideal S4096x1024 .f32) (x1 : FVec Ideal S1024 .f32)

theorem rms_at (R : Fin 4096) (z : Fin 1) : val_main_v7 (F := Ideal) x0 (ix2 R z) = rms (ent x0 R) := by
  unfold val_main_v7 val_main_v6 val_main_v5 val_main_v4 val_main_v3 val_main_v2 val_main_v1 val_main_v0 val_main_cst
    val_main_cst_0 val_main_cst_1
  pointwise
  rfl
theorem norm_at (R : Fin 4096) (e : Fin 1024) : val_main_v13 (F := Ideal) x0 x1 (ix2 R e) = normed (ent x0 R) (ent1 x1) e := by
  unfold val_main_v13 val_main_v12 val_main_v11 val_main_v10 val_main_v9 val_main_v8
  pointwise [rms_at]
  rfl
end Cert.Reference12Ideal.NormIn
end
-- ==== Proof.MemKv.lean ====
module

public import proofs.«01_k».proof.Proof.AttnFwd
public import proofs.«01_k».proof.Proof.FfnUp
public import proofs.«01_k».proof.Proof.Gen.Kernel10Ideal.Value
public import proofs.«01_k».proof.Proof.Gen.Reference10Ideal.Read
public import Idealize.ShloMosaic.Lib.StableHlo.ReadAt

/-!
The memory's keys and values: the kernel's two arrays and the reference's two results.
-/

@[expose] public section
set_option maxRecDepth 16384
noncomputable section
namespace Cert.Kernel10Ideal.MemKv
open Cert.Kernel10Ideal Cert.Kernel10Ideal.Gen Idealize.ShloMosaic Idealize.ShloMosaic.TcCoe Idealize.SL.Sem
open Idealize.ShloMosaic.Pipeline (Dat)
open Cert.AttnSpec Cert.AttnFwd Cert.FfnUp Cert.GradSpec

section pieces
variable (X : FVec Ideal S256x1024 .f32) (G : FVec Ideal S1x1024 .f32) (W : FVec Ideal S1x1024x512 .bf16) (W4 : FVec Ideal S4x1024x512 .bf16)

/-- A row of the memory normalised. -/
abbrev nr (r : Fin 256) : Fin 1024 → EReal := normed (fun e => X (ix2 r e)) (fun e => G (ix2 0 e))

theorem norm_at (r : Fin 256) (e : Fin 1024) : k0_pay2 (F := Ideal) X G (ix2 r e) = nr X G r e := by
  unfold nr normed rms k0_pay2
  pointwise
  rfl
theorem mul_at (r : Fin 256) (j : Fin 512) : k0_pay1 (F := Ideal) (k0_pay2 (F := Ideal) X G) W (ix2 r j) =
    proj (nr X G r) (fun e j => W (ix3 0 e j)) j := by
  unfold proj
  simp only [← norm_at]
  generalize k0_pay2 (F := Ideal) X G = Y
  pointwise [k0_pay1]
theorem mul3 : k0_pay3 (F := Ideal) X G W = k0_pay1 (F := Ideal) (k0_pay2 (F := Ideal) X G) W := rfl
theorem mul4 : k0_pay4 (F := Ideal) X G W = k0_pay1 (F := Ideal) (k0_pay2 (F := Ideal) X G) W := rfl
theorem mul5 : k0_pay5 (F := Ideal) X G W = k0_pay1 (F := Ideal) (k0_pay2 (F := Ideal) X G) W := rfl

def ld0 : FVec Ideal S1x1024x512 .bf16 :=
  View.ld (Val := Elt Ideal) (e' := .bf16) W4 (Rect.unit (s := S4x1024x512) ![0, 0, 0] ![1, 1024, 512] inb_S4x1024x512_S1x1024x512_0_0_0)
def ld1 : FVec Ideal S1x1024x512 .bf16 :=
  View.ld (Val := Elt Ideal) (e' := .bf16) W4 (Rect.unit (s := S4x1024x512) ![1, 0, 0] ![1, 1024, 512] inb_S4x1024x512_S1x1024x512_1_0_0)
def ld2 : FVec Ideal S1x1024x512 .bf16 :=
  View.ld (Val := Elt Ideal) (e' := .bf16) W4 (Rect.unit (s := S4x1024x512) ![2, 0, 0] ![1, 1024, 512] inb_S4x1024x512_S1x1024x512_2_0_0)
def ld3 : FVec Ideal S1x1024x512 .bf16 :=
  View.ld (Val := Elt Ideal) (e' := .bf16) W4 (Rect.unit (s := S4x1024x512) ![3, 0, 0] ![1, 1024, 512] inb_S4x1024x512_S1x1024x512_3_0_0)
theorem ld0_at (e : Fin 1024) (j : Fin 512) : ld0 W4 (ix3 0 e j) = W4 (ix3 0 e j) := by
  unfold ld0; pointwise; try blk_ext
theorem ld1_at (e : Fin 1024) (j : Fin 512) : ld1 W4 (ix3 0 e j) = W4 (ix3 1 e j) := by
  unfold ld1; pointwise; try blk_ext
theorem ld2_at (e : Fin 1024) (j : Fin 512) : ld2 W4 (ix3 0 e j) = W4 (ix3 2 e j) := by
  unfold ld2; pointwise; try blk_ext
theorem ld3_at (e : Fin 1024) (j : Fin 512) : ld3 W4 (ix3 0 e j) = W4 (ix3 3 e j) := by
  unfold ld3; pointwise; try blk_ext
end pieces

variable (m : (ℓ : Loc nD τ sig) → Buf (Elt Ideal) ℓ) (c : Dev nD)
abbrev a0 : Fin 256 → Fin 1024 → EReal := ent (a := 256) (b := 1024) (φ := .f32) (m ((c : Thread nD τ).loc main_arg0))
abbrev a1 : Fin 1024 → EReal := ent1 (a := 1024) (φ := .f32) (m ((c : Thread nD τ).loc main_arg1))
abbrev a2 : Fin 1024 → Fin 2048 → EReal := ent (a := 1024) (b := 2048) (φ := .bf16) (m ((c : Thread nD τ).loc main_arg2))

theorem idx : ∀ t : Fin cfg0.N, win0_0.index t = ![0, 0] ∧ win0_1.index t = ![0, 0] ∧ win0_2.index t = ![0, 0, 0] ∧ win0_3.index t = ![0, 0]
    ∧ win0_4.index t = ![0, 0] :=
  (by decide +kernel : ∀ t : Fin grid0.N, _)
/-- Column `j` of the `s`-th piece. -/
def col (s : Fin 4) (j : Fin 512) : Fin 2048 := ⟨s.val * 512 + j.val, by omega⟩

theorem b0 (t : Fin cfg0.N) (r : Fin 256) (e : Fin 1024) : (show FVec Ideal S256x1024 .f32 from iblk m c 0 t) (ix2 r e) = a0 m c r e := by
  blk_ext [iblk, V, idx t]
theorem b1 (t : Fin cfg0.N) (e : Fin 1024) : (show FVec Ideal S1x1024 .f32 from iblk m c 1 t) (ix2 0 e) = a1 m c e := by
  have h : (show FVec Ideal S1x1024 .f32 from iblk m c 1 t) (ix2 0 e) =
      (show FVec Ideal S1x1024 .f32 from V m c main_v0) (ix2 0 e) := by blk_ext [iblk, idx t]
  refine h.trans ?_
  entry_read
  pointwise
theorem b2 (t : Fin cfg0.N) (s : Fin 4) (e : Fin 1024) (j : Fin 512) :
    (show FVec Ideal S4x1024x512 .bf16 from iblk m c 2 t) (ix3 s e j) = a2 m c e (col s j) := by
  have h : (show FVec Ideal S4x1024x512 .bf16 from iblk m c 2 t) (ix3 s e j) =
      (show FVec Ideal S4x1024x512 .bf16 from V m c main_v9) (ix3 s e j) := by blk_ext [iblk, idx t]
  refine h.trans ?_
  after_reads_simp
  pointwise
  after_reads_simp
  pointwise
  exact four_pieces (fun n h => a2 m c e ⟨n, h⟩) s j.val (by omega) (by omega) (by omega) (by omega) (by omega)

theorem nr_eq (t : Fin cfg0.N) (r : Fin 256) : nr (iblk m c 0 t) (iblk m c 1 t) r = normed (a0 m c r) (a1 m c) := by
  unfold nr
  rw [funext (b0 m c t r), funext (b1 m c t)]
theorem mul_eq (t : Fin cfg0.N) {W : FVec Ideal S1x1024x512 .bf16} {s : Fin 4} {r R : Fin 256} {j : Fin 512} {J : Fin 2048}
    (hW : ∀ e, W (ix3 0 e j) = (show FVec Ideal S4x1024x512 .bf16 from iblk m c 2 t) (ix3 s e j)) (hr : R.val = r.val)
    (hJ : J.val = s.val * 512 + j.val) :
    k0_pay1 (F := Ideal) (k0_pay2 (F := Ideal) (iblk m c 0 t) (iblk m c 1 t)) W (ix2 r j) =
      proj (normed (a0 m c R) (a1 m c)) (a2 m c) J := by
  obtain rfl := Fin.ext hr
  obtain rfl : J = col s j := Fin.ext hJ
  refine (mul_at _ _ W R j).trans ?_
  rw [nr_eq]
  exact Finset.sum_congr rfl fun e _ => congrArg (_ * ·) ((hW e).trans (b2 m c t s e j))

theorem final3 : (dats m 0 c).arrAt 3 cfg0.N = fun i : S256x1024.Idx => normed (a0 m c (i 0)) (a1 m c) (i 1) := by
  refine (dats m 0 c).arrAt_eq_of_covers 3 _ (by decide +kernel) fun t _ y => ?_
  blk_simp
  rw [after0_3]
  frame_out
  idx_vars y
  refine (norm_at _ _ y0 y1).trans ?_
  rw [nr_eq]
  refine congrArg₂ (fun R => normed (a0 m c R) (a1 m c)) (Fin.ext ?_) (Fin.ext ?_) <;> blk_simp [idx t]

theorem w4 (t : Fin cfg0.N) (R : Fin 256) (J : Fin 2048) : out0_4 (F := Ideal) (iblk m c 0 t) (iblk m c 1 t) (iblk m c 2 t) (ix2 R J) =
    proj (normed (a0 m c R) (a1 m c)) (a2 m c) J := by
  frame_out
  canon_tiles x h
  all_goals idx_vars x
  · exact mul_eq m c t (ld3_at _ · x1) h0 (h1.trans (by omega))
  · exact (congrFun (mul5 _ _ _) _).trans (mul_eq m c t (ld2_at _ · x1) h0 (h1.trans (by omega)))
  · exact (congrFun (mul4 _ _ _) _).trans (mul_eq m c t (ld1_at _ · x1) h0 (h1.trans (by omega)))
  · exact (congrFun (mul3 _ _ _) _).trans (mul_eq m c t (ld0_at _ · x1) h0 (h1.trans (by omega)))

theorem final4 : (dats m 0 c).arrAt 4 cfg0.N = fun i : S256x2048.Idx => proj (normed (a0 m c (i 0)) (a1 m c)) (a2 m c) (i 1) := by
  refine (dats m 0 c).arrAt_eq_of_covers 4 _ (by decide +kernel) fun t _ y => ?_
  blk_simp
  rw [after0_4]
  idx_vars y
  refine (w4 m c t y0 y1).trans ?_
  refine congrArg₂ (fun R => proj (normed (a0 m c R) (a1 m c)) (a2 m c)) (Fin.ext ?_) (Fin.ext ?_) <;> blk_simp [idx t]

end Cert.Kernel10Ideal.MemKv

namespace Cert.Reference10Ideal.MemKv
open Cert.Reference10Ideal Cert.Reference10Ideal.Read Idealize.ShloMosaic
open Cert.AttnSpec Cert.AttnFwd Cert.FfnUp
variable (x0 : FVec Ideal S256x1024 .f32) (x1 : FVec Ideal S1024 .f32) (x2 : FVec Ideal S1024x2048 .bf16)

theorem rms_at (R : Fin 256) (z : Fin 1) : val_main_v7 (F := Ideal) x0 (ix2 R z) = rms (ent x0 R) := by
  unfold val_main_v7 val_main_v6 val_main_v5 val_main_v4 val_main_v3 val_main_v2 val_main_v1 val_main_v0 val_main_cst
    val_main_cst_0 val_main_cst_1
  pointwise
  rfl
theorem mn_at (R : Fin 256) (e : Fin 1024) : val_main_v12 (F := Ideal) x0 x1 (ix2 R e) = normed (ent x0 R) (ent1 x1) e := by
  unfold val_main_v12 val_main_v11 val_main_v10 val_main_v9 val_main_v8
  pointwise [rms_at]
  rfl
theorem norm_at (R : Fin 256) (e : Fin 1024) : val_main_v13 (F := Ideal) x0 x1 (ix2 R e) = normed (ent x0 R) (ent1 x1) e := by
  rw [← mn_at]
  unfold val_main_v13
  pointwise
theorem kv_at (R : Fin 256) (j : Fin 2048) : val_main_v16 (F := Ideal) x0 x1 x2 (ix2 R j) =
    proj (normed (ent x0 R) (ent1 x1)) (ent x2) j := by
  unfold val_main_v16 val_main_v15 val_main_v14
  pointwise [mn_at]
  rfl
end Cert.Reference10Ideal.MemKv
end
-- ==== Proof.MemKvBwd.lean ====
module

public import proofs.«01_k».proof.Proof.AttnFwd
public import proofs.«01_k».proof.Proof.GradSpec
public import proofs.«01_k».proof.Proof.Gen.Kernel11Ideal.Value
public import proofs.«01_k».proof.Proof.Gen.Reference11Ideal.Read
public import Idealize.ShloMosaic.Lib.StableHlo.ReadAt

/-!
The gradients of the memory's projection and of its norm's scale: the kernel's two arrays and the reference's two
results.
-/

@[expose] public section
set_option maxRecDepth 16384
noncomputable section
namespace Cert.MemKvBwd
open Idealize.ShloMosaic Cert.AttnSpec Cert.AttnFwd
/-- Column `j` of the `s`-th piece. -/
def pcol (s : Fin 4) (j : Fin 512) : Fin 2048 := ⟨s.val * 512 + j.val, by omega⟩
/-- A sum over the columns, piece by piece, from zero. -/
theorem sum_col (f : Fin 2048 → EReal) : 0 + (∑ j, f (pcol 0 j)) + (∑ j, f (pcol 1 j)) + (∑ j, f (pcol 2 j)) + (∑ j, f (pcol 3 j)) = ∑ j, f j := by
  rw [zero_add]
  exact ((Fin.sum_univ_tiles 4 512 (by rfl) f).trans (Fin.sum_univ_four _)).symm

section results
variable (a0 : Fin 256 → Fin 2048 → EReal) (a1 : Fin 1024 → Fin 2048 → EReal) (a2 : Fin 256 → Fin 1024 → EReal) (a3 : Fin 1024 → EReal)
/-- The weight's gradient at row `k` and column `J`. -/
def dw (k : Fin 1024) (J : Fin 2048) : EReal := ∑ r, normed (a2 r) a3 k * a0 r J
/-- The gradient of the normalised memory. -/
def dmn (r : Fin 256) (e : Fin 1024) : EReal := ∑ J, a0 r J * a1 e J
/-- The scale's gradient. -/
def dg (e : Fin 1024) : EReal := ∑ r, dmn a0 a1 r e * (a2 r e * rms (a2 r))
end results
end Cert.MemKvBwd

namespace Cert.Kernel11Ideal.MemKvBwd
open Cert.Kernel11Ideal Cert.Kernel11Ideal.Gen Idealize.ShloMosaic Idealize.ShloMosaic.TcCoe Idealize.SL.Sem
open Idealize.ShloMosaic.Pipeline (Dat)
open Cert.AttnSpec Cert.AttnFwd Cert.GradSpec Cert.MemKvBwd

section pieces
variable (X : FVec Ideal S256x1024 .bf16) (D D1 D2 D3 : FVec Ideal S256x512 .f32) (W W1 W2 W3 : FVec Ideal S1x1024x512 .bf16)
  (Y : FVec Ideal S256x1024 .f32) (D4 : FVec Ideal S256x2048 .f32) (W4 : FVec Ideal S4x1024x512 .bf16)

theorem dw_at (a : Fin 1) (k : Fin 1024) (j : Fin 512) : k0_pay6 (F := Ideal) X D (ix3 a k j) = ∑ r, X (ix2 r k) * D (ix2 r j) := by
  pointwise [k0_pay6, k0_pay4, k0_pay5]
theorem dw8 : k0_pay8 (F := Ideal) X D = k0_pay6 (F := Ideal) X D := rfl
theorem dw11 : k0_pay11 (F := Ideal) X D = k0_pay6 (F := Ideal) X D := rfl
theorem dw2 : k0_pay2 (F := Ideal) (k0_pay4 (F := Ideal) X) D = k0_pay6 (F := Ideal) X D := rfl

/-- A piece of the sum of a row of the gradients times a row of the weight. -/
abbrev part (D : FVec Ideal S256x512 .f32) (W : FVec Ideal S1x1024x512 .bf16) (r : Fin 256) (e : Fin 1024) : EReal :=
  ∑ j, D (ix2 r j) * W (ix3 0 e j)
theorem half_at (r : Fin 256) (e : Fin 1024) : k0_pay9 (F := Ideal) D W D1 W1 (ix2 r e) = 0 + part D W r e + part D1 W1 r e := by
  pointwise [k0_pay9, k0_pay5, k0_pay7]
theorem dg_at (a : Fin 1) (e : Fin 1024) :
    k0_pay3 (F := Ideal) (k0_pay9 (F := Ideal) D W D1 W1) (k0_pay10 (F := Ideal) D2) W2 D3 W3 Y (ix2 a e) =
      ∑ r, (0 + part D W r e + part D1 W1 r e + part D2 W2 r e + part D3 W3 r e) * (Y (ix2 r e) * rms (fun e => Y (ix2 r e))) := by
  simp only [← half_at]
  generalize k0_pay9 (F := Ideal) D W D1 W1 = H
  unfold rms
  pointwise [k0_pay3, k0_pay10, k0_pay1]
  rfl

def d0 : FVec Ideal S256x512 .f32 :=
  View.ld (Val := Elt Ideal) (e' := .f32) D4 (Rect.unit (s := S256x2048) ![0, 0] ![256, 512] inb_S256x2048_S256x512_0_0)
def d1 : FVec Ideal S256x512 .f32 :=
  View.ld (Val := Elt Ideal) (e' := .f32) D4 (Rect.unit (s := S256x2048) ![0, 512] ![256, 512] inb_S256x2048_S256x512_0_512)
def d2 : FVec Ideal S256x512 .f32 :=
  View.ld (Val := Elt Ideal) (e' := .f32) D4 (Rect.unit (s := S256x2048) ![0, 1024] ![256, 512] inb_S256x2048_S256x512_0_1024)
def d3 : FVec Ideal S256x512 .f32 :=
  View.ld (Val := Elt Ideal) (e' := .f32) D4 (Rect.unit (s := S256x2048) ![0, 1536] ![256, 512] inb_S256x2048_S256x512_0_1536)
theorem d0_at (r : Fin 256) (j : Fin 512) : d0 D4 (ix2 r j) = D4 (ix2 r (pcol 0 j)) := by
  unfold d0; pointwise; refine congrArg D4 ?_; funext i; match i with | 0 => rfl | 1 => exact Fin.ext (show _ = 0 * 512 + j.val by simp)
theorem d1_at (r : Fin 256) (j : Fin 512) : d1 D4 (ix2 r j) = D4 (ix2 r (pcol 1 j)) := by
  unfold d1; pointwise; try rfl
theorem d2_at (r : Fin 256) (j : Fin 512) : d2 D4 (ix2 r j) = D4 (ix2 r (pcol 2 j)) := by
  unfold d2; pointwise; try rfl
theorem d3_at (r : Fin 256) (j : Fin 512) : d3 D4 (ix2 r j) = D4 (ix2 r (pcol 3 j)) := by
  unfold d3; pointwise; try rfl

def ld0 : FVec Ideal S1x1024x512 .bf16 :=
  View.ld (Val := Elt Ideal) (e' := .bf16) W4 (Rect.unit (s := S4x1024x512) ![0, 0, 0] ![1, 1024, 512] inb_S4x1024x512_S1x1024x512_0_0_0)
def ld1 : FVec Ideal S1x1024x512 .bf16 :=
  View.ld (Val := Elt Ideal) (e' := .bf16) W4 (Rect.unit (s := S4x1024x512) ![1, 0, 0] ![1, 1024, 512] inb_S4x1024x512_S1x1024x512_1_0_0)
def ld2 : FVec Ideal S1x1024x512 .bf16 :=
  View.ld (Val := Elt Ideal) (e' := .bf16) W4 (Rect.unit (s := S4x1024x512) ![2, 0, 0] ![1, 1024, 512] inb_S4x1024x512_S1x1024x512_2_0_0)
def ld3 : FVec Ideal S1x1024x512 .bf16 :=
  View.ld (Val := Elt Ideal) (e' := .bf16) W4 (Rect.unit (s := S4x1024x512) ![3, 0, 0] ![1, 1024, 512] inb_S4x1024x512_S1x1024x512_3_0_0)
theorem ld0_at (e : Fin 1024) (j : Fin 512) : ld0 W4 (ix3 0 e j) = W4 (ix3 0 e j) := by
  unfold ld0; pointwise; try blk_ext
theorem ld1_at (e : Fin 1024) (j : Fin 512) : ld1 W4 (ix3 0 e j) = W4 (ix3 1 e j) := by
  unfold ld1; pointwise; try blk_ext
theorem ld2_at (e : Fin 1024) (j : Fin 512) : ld2 W4 (ix3 0 e j) = W4 (ix3 2 e j) := by
  unfold ld2; pointwise; try blk_ext
theorem ld3_at (e : Fin 1024) (j : Fin 512) : ld3 W4 (ix3 0 e j) = W4 (ix3 3 e j) := by
  unfold ld3; pointwise; try blk_ext
end pieces

variable (m : (ℓ : Loc nD τ sig) → Buf (Elt Ideal) ℓ) (c : Dev nD)
abbrev a0 : Fin 256 → Fin 2048 → EReal := ent (a := 256) (b := 2048) (φ := .f32) (m ((c : Thread nD τ).loc main_arg0))
abbrev a1 : Fin 1024 → Fin 2048 → EReal := ent (a := 1024) (b := 2048) (φ := .bf16) (m ((c : Thread nD τ).loc main_arg1))
abbrev a2 : Fin 256 → Fin 1024 → EReal := ent (a := 256) (b := 1024) (φ := .f32) (m ((c : Thread nD τ).loc main_arg2))
abbrev a3 : Fin 1024 → EReal := ent1 (a := 1024) (φ := .f32) (m ((c : Thread nD τ).loc main_arg3))

theorem idx : ∀ t : Fin cfg0.N, win0_0.index t = ![0, 0] ∧ win0_1.index t = ![0, 0] ∧ win0_2.index t = ![0, 0, 0] ∧ win0_3.index t = ![0, 0]
    ∧ win0_4.index t = ![0, 0] ∧ win0_5.index t = ![0, 0, 0] ∧ win0_6.index t = ![0, 0] :=
  (by decide +kernel : ∀ t : Fin grid0.N, _)

theorem b0 (t : Fin cfg0.N) (r : Fin 256) (j : Fin 2048) : (show FVec Ideal S256x2048 .f32 from iblk m c 0 t) (ix2 r j) = a0 m c r j := by
  blk_ext [iblk, V, idx t]
theorem b1 (t : Fin cfg0.N) (r : Fin 256) (e : Fin 1024) :
    (show FVec Ideal S256x1024 .bf16 from iblk m c 1 t) (ix2 r e) = normed (a2 m c r) (a3 m c) e := by
  have h : (show FVec Ideal S256x1024 .bf16 from iblk m c 1 t) (ix2 r e) =
      (show FVec Ideal S256x1024 .bf16 from V m c main_v13) (ix2 r e) := by blk_ext [iblk, idx t]
  refine h.trans ?_
  entry_read
  unfold normed rms
  pointwise
  rfl
theorem b2 (t : Fin cfg0.N) (s : Fin 4) (e : Fin 1024) (j : Fin 512) :
    (show FVec Ideal S4x1024x512 .bf16 from iblk m c 2 t) (ix3 s e j) = a1 m c e (pcol s j) := by
  have h : (show FVec Ideal S4x1024x512 .bf16 from iblk m c 2 t) (ix3 s e j) =
      (show FVec Ideal S4x1024x512 .bf16 from V m c main_v22) (ix3 s e j) := by blk_ext [iblk, idx t]
  refine h.trans ?_
  after_reads_simp
  pointwise
  after_reads_simp
  pointwise
  exact four_pieces (fun n h => a1 m c e ⟨n, h⟩) s j.val (by omega) (by omega) (by omega) (by omega) (by omega)
theorem b3 (t : Fin cfg0.N) (r : Fin 256) (e : Fin 1024) : (show FVec Ideal S256x1024 .f32 from iblk m c 3 t) (ix2 r e) = a2 m c r e := by
  blk_ext [iblk, V, idx t]

theorem dw_eq (t : Fin cfg0.N) {D : FVec Ideal S256x512 .f32} {s S : Fin 4} {a : Fin 1} {k K : Fin 1024} {j J : Fin 512}
    (hD : ∀ r, D (ix2 r j) = (show FVec Ideal S256x2048 .f32 from iblk m c 0 t) (ix2 r (pcol s j))) (hs : S.val = s.val)
    (hk : K.val = k.val) (hj : J.val = j.val) :
    k0_pay6 (F := Ideal) (iblk m c 1 t) D (ix3 a k j) = dw (a0 m c) (a2 m c) (a3 m c) K (pcol S J) := by
  obtain rfl := Fin.ext hs
  obtain rfl := Fin.ext hk
  obtain rfl := Fin.ext hj
  refine (dw_at _ D a K J).trans ?_
  exact Finset.sum_congr (M := EReal) rfl fun r _ => congrArg₂ (· * ·) (b1 m c t r K) ((hD r).trans (b0 m c t r _))

theorem w5 (t : Fin cfg0.N) (S : Fin 4) (K : Fin 1024) (J : Fin 512) :
    out0_5 (F := Ideal) (iblk m c 0 t) (iblk m c 1 t) (iblk m c 2 t) (iblk m c 3 t) (iblk m c 4 t) (ix3 S K J) =
    dw (a0 m c) (a2 m c) (a3 m c) K (pcol S J) := by
  frame_out
  canon_tiles x h
  all_goals idx_vars x
  · exact (congrFun (dw2 _ _) _).trans (dw_eq m c t (s := 3) (d3_at _ · x2) (by rw [h0]; simp) h1 h2)
  · exact (congrFun (dw11 _ _) _).trans (dw_eq m c t (s := 2) (d2_at _ · x2) (by rw [h0]; simp) h1 h2)
  · exact (congrFun (dw8 _ _) _).trans (dw_eq m c t (s := 1) (d1_at _ · x2) (by rw [h0]; simp) h1 h2)
  · exact dw_eq m c t (s := 0) (d0_at _ · x2) (by rw [h0]; simp) h1 h2

theorem final5 : (dats m 0 c).arrAt 5 cfg0.N = fun i : S4x1024x512.Idx => dw (a0 m c) (a2 m c) (a3 m c) (i 1) (pcol (i 0) (i 2)) := by
  refine (dats m 0 c).arrAt_eq_of_covers 5 _ (by decide +kernel) fun t _ y => ?_
  blk_simp
  rw [after0_5]
  idx_vars y
  refine (w5 m c t y0 y1 y2).trans ?_
  refine at3 (fun s k j => dw (a0 m c) (a2 m c) (a3 m c) k (pcol s j)) ?_ ?_ ?_ <;> blk_simp [idx t]

theorem part_eq (t : Fin cfg0.N) {D : FVec Ideal S256x512 .f32} {W : FVec Ideal S1x1024x512 .bf16} (s : Fin 4) (r : Fin 256) (e : Fin 1024)
    (hD : ∀ j, D (ix2 r j) = (show FVec Ideal S256x2048 .f32 from iblk m c 0 t) (ix2 r (pcol s j)))
    (hW : ∀ j, W (ix3 0 e j) = (show FVec Ideal S4x1024x512 .bf16 from iblk m c 2 t) (ix3 s e j)) :
    part D W r e = ∑ j, (fun J => a0 m c r J * a1 m c e J) (pcol s j) :=
  Finset.sum_congr (M := EReal) rfl fun j _ => congrArg₂ (· * ·) ((hD j).trans (b0 m c t r _)) ((hW j).trans (b2 m c t s e j))

theorem final6 : (dats m 0 c).arrAt 6 cfg0.N = fun i : S1x1024.Idx => dg (a0 m c) (a1 m c) (a2 m c) (i 1) := by
  refine (dats m 0 c).arrAt_eq_of_covers 6 _ (by decide +kernel) fun t _ y => ?_
  blk_simp
  rw [after0_6]
  frame_out
  idx_vars y
  refine (dg_at (d0 (iblk m c 0 t)) (d1 (iblk m c 0 t)) (d2 (iblk m c 0 t)) (d3 (iblk m c 0 t)) (ld0 (iblk m c 2 t)) (ld1 (iblk m c 2 t))
    (ld2 (iblk m c 2 t)) (ld3 (iblk m c 2 t)) (iblk m c 3 t) y0 y1).trans ?_
  refine Eq.trans ?_ (congrArg (dg (a0 m c) (a1 m c) (a2 m c)) (Fin.ext ?_ : y1 = _))
  · refine Finset.sum_congr (M := EReal) rfl fun r _ => ?_
    rw [part_eq m c t 0 r y1 (d0_at _ r) (ld0_at _ y1), part_eq m c t 1 r y1 (d1_at _ r) (ld1_at _ y1),
      part_eq m c t 2 r y1 (d2_at _ r) (ld2_at _ y1), part_eq m c t 3 r y1 (d3_at _ r) (ld3_at _ y1)]
    refine congrArg₂ (· * ·) (sum_col fun J => a0 m c r J * a1 m c y1 J) ?_
    exact congrArg₂ (· * ·) (b3 m c t r y1) (congrArg rms (funext (b3 m c t r)))
  · blk_simp [idx t]

end Cert.Kernel11Ideal.MemKvBwd

namespace Cert.Reference11Ideal.MemKvBwd
open Cert.Reference11Ideal Cert.Reference11Ideal.Read Idealize.ShloMosaic
open Cert.AttnSpec Cert.AttnFwd Cert.GradSpec Cert.MemKvBwd
variable (x0 : FVec Ideal S256x2048 .f32) (x1 : FVec Ideal S1024x2048 .bf16) (x2 : FVec Ideal S256x1024 .f32) (x3 : FVec Ideal S1024 .f32)

theorem rms_at (R : Fin 256) (z : Fin 1) : val_main_v8 (F := Ideal) x2 (ix2 R z) = rms (ent x2 R) := by
  unfold val_main_v8 val_main_v7 val_main_v6 val_main_v5 val_main_v4 val_main_v3 val_main_v2 val_main_v1 val_main_cst
    val_main_cst_0 val_main_cst_1
  pointwise
  rfl
theorem mn_at (R : Fin 256) (e : Fin 1024) : val_main_v13 (F := Ideal) x2 x3 (ix2 R e) = normed (ent x2 R) (ent1 x3) e := by
  unfold val_main_v13 val_main_v12 val_main_v11 val_main_v10 val_main_v9
  pointwise [rms_at]
  rfl
theorem full_at (k : Fin 1024) (J : Fin 2048) : val_main_v16 (F := Ideal) x0 x2 x3 (ix2 k J) = dw (ent x0) (ent x2) (ent1 x3) k J := by
  unfold val_main_v16 val_main_v15
  pointwise [mn_at]
  exact Finset.sum_congr (M := EReal) rfl fun r _ => mul_comm _ _
theorem dw_at (s : Fin 4) (k : Fin 1024) (j : Fin 512) :
    val_main_v30 (F := Ideal) x0 x2 x3 (ix3 s k j) = dw (ent x0) (ent x2) (ent1 x3) k (pcol s j) := by
  refine Eq.trans ?_ (full_at x0 x2 x3 k (pcol s j))
  unfold val_main_v30 val_main_v29 val_main_v28 val_main_v27 val_main_v26 val_main_v25 val_main_v24 val_main_v23 val_main_v22
  generalize val_main_v16 (F := Ideal) x0 x2 x3 = K
  pointwise
  exact four_pieces (fun n h => K (ix2 k ⟨n, h⟩)) s j.val (by omega) (by omega) (by omega) (by omega) (by omega)
theorem dmn_at (r : Fin 256) (e : Fin 1024) : val_main_v17 (F := Ideal) x0 x1 (ix2 r e) = dmn (ent x0) (ent x1) r e := by
  unfold val_main_v17 val_main_v0
  pointwise
  rfl
theorem dg_at (a : Fin 1) (e : Fin 1024) : val_main_v31 (F := Ideal) x0 x1 x2 (ix2 a e) = dg (ent x0) (ent x1) (ent x2) e := by
  unfold val_main_v31 val_main_v21 val_main_v20 val_main_v19 val_main_v18 val_main_v10 val_main_v9 val_main_cst_2 val_main_cst_3
  pointwise [rms_at, dmn_at]
  exact (Fin.sum_univ_one _).trans (Finset.sum_congr (M := EReal) rfl fun r _ => mul_comm _ _)
end Cert.Reference11Ideal.MemKvBwd
end
-- ==== Proof.MemEqual.lean ====
module

public import proofs.«01_k».proof.Defs
public import proofs.«01_k».proof.Proof.NormIn
public import proofs.«01_k».proof.Proof.MemKv
public import proofs.«01_k».proof.Proof.MemKvBwd

/-!
The calls of the memory and the first norm: each reference's results are the kernel's arrays.
-/

@[expose] public section
set_option maxRecDepth 16384
noncomputable section
namespace Cert.MemEqual
open Idealize.ShloMosaic Idealize.ShloMosaic.TcCoe Idealize.SL.Sem

theorem equal10 : Cert.algebraic_Kernel10Ideal_Reference10Ideal (hKernel10Ideal := Cert.Kernel10Ideal.Gen.facts)
    (hReference10Ideal := Cert.Reference10Ideal.Gen.facts) := by
  pair_intro
  · run_from Cert.Kernel10Ideal.Value.run_blocks m g
  · run_from Cert.Reference10Ideal.Value.run m' g'
    · refine (Cert.Reference10Ideal.Read.val_main_v13_eq _ _).trans (Eq.trans ?_ (Cert.Kernel10Ideal.MemKv.final3 m _).symm)
      funext i
      obtain ⟨R, e, rfl⟩ : ∃ (R : Fin 256) (e : Fin 1024), i = ix2 R e := ⟨_, _, eq_ix2 i⟩
      exact Cert.Reference10Ideal.MemKv.norm_at _ _ R e
    · refine (Cert.Reference10Ideal.Read.val_main_v16_eq _ _ _).trans (Eq.trans ?_ (Cert.Kernel10Ideal.MemKv.final4 m _).symm)
      funext i
      obtain ⟨R, j, rfl⟩ : ∃ (R : Fin 256) (j : Fin 2048), i = ix2 R j := ⟨_, _, eq_ix2 i⟩
      exact Cert.Reference10Ideal.MemKv.kv_at _ _ _ R j

theorem equal11 : Cert.algebraic_Kernel11Ideal_Reference11Ideal (hKernel11Ideal := Cert.Kernel11Ideal.Gen.facts)
    (hReference11Ideal := Cert.Reference11Ideal.Gen.facts) := by
  pair_intro
  · run_from Cert.Kernel11Ideal.Value.run_blocks m g
  · run_from Cert.Reference11Ideal.Value.run m' g'
    · obtain ⟨e0, e1, e2, e3⟩ := hagree c
      rw [Cert.Reference11Ideal.Read.val_main_v30_eq, e0, e2, e3]
      refine Eq.trans ?_ (Cert.Kernel11Ideal.MemKvBwd.final5 m _).symm
      funext i
      obtain ⟨s, k, j, rfl⟩ : ∃ (s : Fin 4) (k : Fin 1024) (j : Fin 512), i = ix3 s k j := ⟨_, _, _, eq_ix3 i⟩
      exact Cert.Reference11Ideal.MemKvBwd.dw_at _ _ _ s k j
    · refine (Cert.Reference11Ideal.Read.val_main_v31_eq _ _ _).trans (Eq.trans ?_ (Cert.Kernel11Ideal.MemKvBwd.final6 m _).symm)
      funext i
      obtain ⟨a, e, rfl⟩ : ∃ (a : Fin 1) (e : Fin 1024), i = ix2 a e := ⟨_, _, eq_ix2 i⟩
      exact Cert.Reference11Ideal.MemKvBwd.dg_at _ _ _ a e

theorem equal12 : Cert.algebraic_Kernel12Ideal_Reference12Ideal (hKernel12Ideal := Cert.Kernel12Ideal.Gen.facts)
    (hReference12Ideal := Cert.Reference12Ideal.Gen.facts) := by
  pair_intro
  · run_from Cert.Kernel12Ideal.Value.run_blocks m g
  · run_from Cert.Reference12Ideal.Value.run m' g'
    refine (Cert.Reference12Ideal.Read.val_main_v13_eq _ _).trans (Eq.trans ?_ (Cert.Kernel12Ideal.NormIn.final2 m _).symm)
    funext i
    obtain ⟨R, e, rfl⟩ : ∃ (R : Fin 4096) (e : Fin 1024), i = ix2 R e := ⟨_, _, eq_ix2 i⟩
    exact Cert.Reference12Ideal.NormIn.norm_at _ _ R e

end Cert.MemEqual
end
-- ==== Proof.SeqSpec.lean ====
module

public import proofs.«01_k».proof.Proof.FfnUp

/-!
The mixer going forward, on rows: the projection, the gated convolution group and the gMLP group.
-/

@[expose] public section
set_option maxRecDepth 16384
noncomputable section
namespace Cert.SeqSpec
open Idealize.ShloMosaic Cert.AttnSpec Cert.FfnSpec Cert.FfnUp

/-- The length of a group's row. -/
def len5 : EReal := Ideal.ofBits .f32 0x44000000#32
def epsL : EReal := Ideal.ofBits .f32 0x3727C5AC#32
def geluC : EReal := Ideal.ofBits .f32 0x3F4C422A#32
def geluA : EReal := Ideal.ofBits .f32 0x3D372713#32
def half1 : EReal := Ideal.ofBits .f32 0x3F000000#32

def mean (x : Fin 512 → EReal) : EReal := Ideal.div (∑ j, x j) len5
/-- A row less its mean. -/
def cen (x : Fin 512 → EReal) (l : Fin 512) : EReal := x l - mean x
/-- The reciprocal of a row's standard deviation. -/
def dev (x : Fin 512 → EReal) : EReal := Ideal.rsqrt (Ideal.div (∑ j, cen x j * cen x j) len5 + epsL)
/-- The layer norm of a row. -/
def lnorm (x g b : Fin 512 → EReal) (l : Fin 512) : EReal := cen x l * dev x * g l + b l
def silu (x : EReal) : EReal := x * sg x
def gelu (x : EReal) : EReal := x * (half1 * (1 + Ideal.tanh (geluC * (x + geluA * (x * x * x)))))
/-- The kernel multiplies in another order. -/
theorem gelu_eq (x : EReal) : half1 * x * (1 + Ideal.tanh (geluC * (x + geluA * x * (x * x)))) = gelu x := by
  unfold gelu
  rw [mul_comm half1 x, mul_assoc x half1, mul_assoc geluA x, ← mul_assoc x x x]

/-- Column `l` of the `s`-th piece of the projection. -/
def qcol (s : Fin 4) (l : Fin 512) : Fin 2048 := ⟨s.val * 512 + l.val, by omega⟩
/-- The head of a column. -/
def hd (l : Fin 512) : Fin 8 := ⟨l.val / 64, by omega⟩
/-- Row `s` of the chunk that row `R` is in. -/
def chunk (R : Fin 4096) (s : Fin 128) : Fin 4096 := ⟨R.val / 128 * 128 + s.val, by omega⟩
/-- A row's place in its chunk. -/
def inChunk (R : Fin 4096) : Fin 128 := ⟨R.val % 128, by omega⟩

section rows
variable (hn : Fin 4096 → Fin 1024 → EReal) (w : Fin 1024 → Fin 2048 → EReal) (b : Fin 2048 → EReal)
  (cw : Fin 31 → Fin 512 → EReal) (cb lg lb gg gb : Fin 512 → EReal) (ws : Fin 8 → Fin 128 → Fin 128 → EReal) (bs : Fin 8 → Fin 128 → EReal)

/-- The projection of row `R`. -/
def zr (R : Fin 4096) (j : Fin 2048) : EReal := proj (hn R) w j + b j
/-- The gated row that the convolution reads. -/
def glur (R : Fin 4096) (l : Fin 512) : EReal := zr hn w b R (qcol 0 l) * sg (zr hn w b R (qcol 1 l))
/-- The gated rows after 32 rows of zeros. -/
def halo (n : ℕ) (l : Fin 512) : EReal := if h : 32 ≤ n ∧ n < 4128 then glur hn w b ⟨n - 32, by omega⟩ l else 0
/-- The convolution's term of tap `k`. -/
def tap (R : ℕ) (l : Fin 512) (k : ℕ) : EReal := (if h : k < 31 then cw ⟨k, h⟩ l else 0) * halo hn w b (R + k + 2) l
/-- The convolution at row `R`. -/
def conv (R : ℕ) (l : Fin 512) : EReal := ∑ k ∈ Finset.range 31, tap hn w b cw R l k + cb l
/-- The convolution group at row `R`. -/
def convOut (R : ℕ) (l : Fin 512) : EReal := silu (lnorm (conv hn w b cw cb R) lg lb l)
/-- The rows that the gMLP group mixes. -/
def vn (R : Fin 4096) : Fin 512 → EReal := lnorm (fun l => gelu (zr hn w b R (qcol 3 l))) gg gb
/-- The lower triangle of the mixing weights. -/
def low (h : Fin 8) (t s : Fin 128) : EReal := if s.val ≤ t.val then ws h t s else 0
/-- The mixed rows. -/
def mixed (R : Fin 4096) (l : Fin 512) : EReal :=
  ∑ s, low ws (hd l) (inChunk R) s * vn hn w b gg gb (chunk R s) l + bs (hd l) (inChunk R)
/-- The gMLP group at row `R`. -/
def gmOut (R : Fin 4096) (l : Fin 512) : EReal := gelu (zr hn w b R (qcol 2 l)) * mixed hn w b gg gb ws bs R l
/-- The two groups side by side. -/
def mix (R : Fin 4096) (j : Fin 1024) : EReal :=
  if h : j.val < 512 then convOut hn w b cw cb lg lb R.val ⟨j.val, h⟩ else gmOut hn w b gg gb ws bs R ⟨j.val - 512, by omega⟩
end rows
end Cert.SeqSpec
end
-- ==== Proof.SeqPay.lean ====
module

public import proofs.«01_k».proof.Proof.SeqSpec
public import proofs.«01_k».proof.Proof.GradSpec
public import proofs.«01_k».proof.Proof.Gen.Kernel13Ideal.Skeleton

/-!
The mixer going forward: what the kernel's pieces hold at an index.
-/

@[expose] public section
set_option maxRecDepth 16384
noncomputable section
namespace Cert.Kernel13Ideal.Seq
open Cert.Kernel13Ideal Cert.Kernel13Ideal.Gen Idealize.ShloMosaic
open Cert.AttnSpec Cert.FfnSpec Cert.Kernel2Ideal.Block Cert.FfnUp Cert.GradSpec Cert.SeqSpec

section proj
variable (X : FVec Ideal S512x1024 .bf16) (W : FVec Ideal S1x1024x512 .bf16) (b : FVec Ideal S1x512 .f32) (r l : Fin 512)
/-- One entry of a piece of the projection. -/
abbrev pj : EReal := ∑ e, X (ix2 r e) * W (ix3 0 e l) + b (ix2 0 l)
theorem z5_at : k0_pay5 (F := Ideal) X W b (ix2 r l) = pj X W b r l := by
  pointwise [k0_pay5]
theorem z6_at : k0_pay6 (F := Ideal) X W b (ix2 r l) = pj X W b r l := by
  pointwise [k0_pay6]
theorem z8_at : k0_pay8 (F := Ideal) (k0_pay7 (F := Ideal) X W) b (ix2 r l) = pj X W b r l := by
  pointwise [k0_pay8, k0_pay7]
theorem z9_at : k0_pay9 (F := Ideal) X W b (ix2 r l) = pj X W b r l := by
  pointwise [k0_pay9]
end proj

section blocks
variable (P Q u V M : FVec Ideal S512x512 .f32) (g b : FVec Ideal S1x512 .f32) (r l : Fin 512)
theorem glu_at : k0_pay10 (F := Ideal) P Q (ix2 r l) = P (ix2 r l) * sg (Q (ix2 r l)) := by
  pointwise [k0_pay10]
  rw [← sg_eq]
theorem zero_at (i : Fin 32) : k0_pay3 (F := Ideal) (ix2 i l) = 0 := by
  pointwise [k0_pay3]
theorem keep_at (Z : FVec Ideal S32x512 .f32) (i : Fin 32) : k0_pay4 (F := Ideal) Z (ix2 i l) = Z (ix2 i l) := by
  pointwise [k0_pay4]
theorem u_at : k0_pay29 (F := Ideal) u (ix2 r l) = gelu (u (ix2 r l)) := by
  rw [← gelu_eq]
  pointwise [k0_pay29]
  rfl
theorem cen_at : k0_pay30 (F := Ideal) V (ix2 r l) = cen (fun l => gelu (V (ix2 r l))) l := by
  unfold cen mean
  simp only [← gelu_eq]
  pointwise [k0_pay30]
  rfl
theorem sq_at (z : Fin 1) : k0_pay31 (F := Ideal) V (ix2 r z) = ∑ j, cen (fun l => gelu (V (ix2 r l))) j * cen (fun l => gelu (V (ix2 r l))) j := by
  simp only [← cen_at]
  unfold k0_pay31
  generalize k0_pay30 (F := Ideal) V = C
  pointwise
theorem ln_at : k0_pay33 (F := Ideal) (k0_pay30 (F := Ideal) V) (k0_pay31 (F := Ideal) V) (k0_pay32 (F := Ideal)) g b (ix2 r l) =
    lnorm (fun l => gelu (V (ix2 r l))) (fun l => g (ix2 0 l)) (fun l => b (ix2 0 l)) l := by
  unfold lnorm dev
  rw [← cen_at, ← sq_at V r 0]
  generalize k0_pay30 (F := Ideal) V = C
  generalize k0_pay31 (F := Ideal) V = D
  pointwise [k0_pay33, k0_pay32]
  rfl
theorem half_word : ∀ l : Fin 512, IntOp.cmpi CmpIPredicate.eq (IntOp.andi (BitVec.ofNat 32 l.val) 64#32) 0#32 =
    if l.val / 64 % 2 = 0 then 1#1 else 0#1 := by decide +kernel
theorem lo_at (A : FVec Ideal S512x512 .f32) (D D' : FVec Ideal S512x1 .f32) : k0_pay35 (F := Ideal) A D D' g b (ix2 r l) =
    if l.val / 64 % 2 = 0 then k0_pay33 (F := Ideal) A D D' g b (ix2 r l) else 0 := by
  unfold k0_pay35
  generalize k0_pay33 (F := Ideal) A D D' g b = C
  pointwise [k0_pay34]
  rw [half_word]
  by_cases q : l.val / 64 % 2 = 0
  · rw [if_pos q, if_pos q]
    rfl
  · rw [if_neg q, if_neg q]
    rfl
theorem hi_at (A : FVec Ideal S512x512 .f32) (D D' : FVec Ideal S512x1 .f32) : k0_pay36 (F := Ideal) A D D' g b (ix2 r l) =
    if l.val / 64 % 2 = 0 then 0 else k0_pay33 (F := Ideal) A D D' g b (ix2 r l) := by
  unfold k0_pay36
  generalize k0_pay33 (F := Ideal) A D D' g b = C
  pointwise [k0_pay34]
  rw [half_word]
  by_cases q : l.val / 64 % 2 = 0
  · rw [if_pos q, if_pos q]
    rfl
  · rw [if_neg q, if_neg q]
    rfl
theorem gm_at : k0_pay2 (F := Ideal) u M (ix2 r l) = u (ix2 r l) * M (ix2 r l) := by
  pointwise [k0_pay2]
theorem out_at (A : FVec Ideal S512x512 .f32) (w : FVec Ideal S1x512 .f32) (a : FVec Ideal S512x512 .f32) (cb : FVec Ideal S1x512 .f32) :
    k0_pay28 (F := Ideal) A w a cb g b (ix2 r l) =
    silu (lnorm (fun l => k0_pay27 (F := Ideal) A w a cb (ix2 r l)) (fun l => g (ix2 0 l)) (fun l => b (ix2 0 l)) l) := by
  unfold k0_pay28 silu lnorm dev cen mean
  generalize k0_pay27 (F := Ideal) A w a cb = C
  rw [← sg_eq]
  pointwise
  rfl
end blocks

section mixing
variable (lo hi : FVec Ideal S512x512 .bf16) (W : FVec Ideal S1x128x256 .bf16) (B : FVec Ideal S128x128 .f32) (t d : Fin 128)
/-- One entry of a mixed chunk: the chunk from row `n`, the columns from `j`. -/
def mx (n j : ℕ) (hn : n + 128 ≤ 512) (hj : j + 128 ≤ 512) : EReal :=
  ∑ q : Fin 256, W (ix3 0 t q) * (if h : q.val < 128 then lo (ix2 ⟨n + q.val, by omega⟩ ⟨j + d.val, by omega⟩)
    else hi (ix2 ⟨n + (q.val - 128), by omega⟩ ⟨j + d.val, by omega⟩)) + B (ix2 t d)
theorem m40 : k0_pay40 (F := Ideal) lo hi W B (ix2 t d) = mx lo hi W B t d 0 256 (by decide) (by decide) := by
  unfold mx
  pointwise [k0_pay40]
theorem m42 : k0_pay42 (F := Ideal) (k0_pay41 (F := Ideal) lo hi W B) (ix2 t d) = mx lo hi W B t d 0 384 (by decide) (by decide) := by
  unfold mx
  pointwise [k0_pay42, k0_pay41]
theorem m43 : k0_pay43 (F := Ideal) lo hi W B (ix2 t d) = mx lo hi W B t d 128 0 (by decide) (by decide) := by
  unfold mx
  pointwise [k0_pay43]
theorem m44 : k0_pay44 (F := Ideal) lo hi W B (ix2 t d) = mx lo hi W B t d 128 128 (by decide) (by decide) := by
  unfold mx
  pointwise [k0_pay44]
theorem m46 : k0_pay46 (F := Ideal) (k0_pay45 (F := Ideal) lo hi W B) (ix2 t d) = mx lo hi W B t d 128 256 (by decide) (by decide) := by
  unfold mx
  pointwise [k0_pay46, k0_pay45]
theorem m47 : k0_pay47 (F := Ideal) lo hi W B (ix2 t d) = mx lo hi W B t d 128 384 (by decide) (by decide) := by
  unfold mx
  pointwise [k0_pay47]
theorem m48 : k0_pay48 (F := Ideal) lo hi W B (ix2 t d) = mx lo hi W B t d 256 0 (by decide) (by decide) := by
  unfold mx
  pointwise [k0_pay48]
theorem m50 : k0_pay50 (F := Ideal) (k0_pay49 (F := Ideal) lo hi W) B (ix2 t d) = mx lo hi W B t d 256 128 (by decide) (by decide) := by
  unfold mx
  pointwise [k0_pay50, k0_pay49]
theorem m51 : k0_pay51 (F := Ideal) lo hi W B (ix2 t d) = mx lo hi W B t d 256 256 (by decide) (by decide) := by
  unfold mx
  pointwise [k0_pay51]
theorem m52 : k0_pay52 (F := Ideal) lo hi W B (ix2 t d) = mx lo hi W B t d 256 384 (by decide) (by decide) := by
  unfold mx
  pointwise [k0_pay52]
theorem m54 : k0_pay54 (F := Ideal) (k0_pay53 (F := Ideal) lo hi W) B (ix2 t d) = mx lo hi W B t d 384 0 (by decide) (by decide) := by
  unfold mx
  pointwise [k0_pay54, k0_pay53]
theorem m55 : k0_pay55 (F := Ideal) lo hi W B (ix2 t d) = mx lo hi W B t d 384 128 (by decide) (by decide) := by
  unfold mx
  pointwise [k0_pay55]
theorem m56 : k0_pay56 (F := Ideal) lo hi W B (ix2 t d) = mx lo hi W B t d 384 256 (by decide) (by decide) := by
  unfold mx
  pointwise [k0_pay56]
theorem m1 : k0_pay1 (F := Ideal) (k0_pay57 (F := Ideal) lo hi) W B (ix2 t d) = mx lo hi W B t d 384 384 (by decide) (by decide) := by
  unfold mx
  pointwise [k0_pay1, k0_pay57]
variable (A : FVec Ideal S512x512 .f32) (D D' : FVec Ideal S512x1 .f32) (g b : FVec Ideal S1x512 .f32)
theorem m37 : k0_pay37 (F := Ideal) A D D' g b W B (ix2 t d) =
    mx (k0_pay35 (F := Ideal) A D D' g b) (k0_pay36 (F := Ideal) A D D' g b) W B t d 0 0 (by decide) (by decide) := by
  unfold mx k0_pay37
  generalize k0_pay35 (F := Ideal) A D D' g b = lo
  generalize k0_pay36 (F := Ideal) A D D' g b = hi
  pointwise
theorem m39 : k0_pay39 (F := Ideal) hi (k0_pay38 (F := Ideal) A D D' g b) W B (ix2 t d) =
    mx (k0_pay35 (F := Ideal) A D D' g b) hi W B t d 0 128 (by decide) (by decide) := by
  unfold mx k0_pay39 k0_pay38
  generalize k0_pay35 (F := Ideal) A D D' g b = lo
  pointwise
end mixing
section conv
variable (w0 w1 w2 w3 w4 w5 w6 w7 w8 w9 w10 w11 w12 w13 w14 w15 w16 w17 w18 w19 w20 w21 w22 w23 w24 w25 w26 w27 w28 w29 w30 : FVec Ideal S1x512 .f32) (a0 a1 a2 a3 a4 a5 a7 a8 a9 a10 a11 a12 a13 a15 a16 a17 a18 a19 a20 a21 a23 a24 a25 a26 a27 a28 a29 : FVec Ideal S1x512x512 .f32)
  (a6 a14 a22 a30 A P : FVec Ideal S512x512 .f32) (cb : FVec Ideal S1x512 .f32) (z : EReal) (r l : Fin 512)
theorem c18 : k0_pay18 (F := Ideal) z w0 a0 w1 a1 w2 a2 w3 a3 (ix2 r l) = z + w0 (ix2 0 l) * a0 (ix3 0 r l) + w1 (ix2 0 l) * a1 (ix3 0 r l) + w2 (ix2 0 l) * a2 (ix3 0 r l) + w3 (ix2 0 l) * a3 (ix3 0 r l) := by
  pointwise [k0_pay18]
theorem c19 : k0_pay19 (F := Ideal) w4 a4 (ix2 r l) = w4 (ix2 0 l) * a4 (ix3 0 r l) := by
  pointwise [k0_pay19]
theorem c20 : k0_pay20 (F := Ideal) A P w5 a5 w6 a6 w7 a7 w8 a8 w9 a9 (ix2 r l) = A (ix2 r l) + P (ix2 r l) + w5 (ix2 0 l) * a5 (ix3 0 r l) + w6 (ix2 0 l) * a6 (ix2 r l) + w7 (ix2 0 l) * a7 (ix3 0 r l) + w8 (ix2 0 l) * a8 (ix3 0 r l) + w9 (ix2 0 l) * a9 (ix3 0 r l) := by
  pointwise [k0_pay20]
theorem c21 : k0_pay21 (F := Ideal) A w10 a10 w11 a11 w12 a12 w13 a13 w14 a14 (ix2 r l) = A (ix2 r l) + w10 (ix2 0 l) * a10 (ix3 0 r l) + w11 (ix2 0 l) * a11 (ix3 0 r l) + w12 (ix2 0 l) * a12 (ix3 0 r l) + w13 (ix2 0 l) * a13 (ix3 0 r l) + w14 (ix2 0 l) * a14 (ix2 r l) := by
  pointwise [k0_pay21]
theorem c22 : k0_pay22 (F := Ideal) A w15 a15 w16 a16 w17 a17 w18 a18 w19 a19 (ix2 r l) = A (ix2 r l) + w15 (ix2 0 l) * a15 (ix3 0 r l) + w16 (ix2 0 l) * a16 (ix3 0 r l) + w17 (ix2 0 l) * a17 (ix3 0 r l) + w18 (ix2 0 l) * a18 (ix3 0 r l) + w19 (ix2 0 l) * a19 (ix3 0 r l) := by
  pointwise [k0_pay22]
theorem c23 : k0_pay23 (F := Ideal) A w20 a20 w21 a21 w22 a22 w23 a23 w24 a24 (ix2 r l) = A (ix2 r l) + w20 (ix2 0 l) * a20 (ix3 0 r l) + w21 (ix2 0 l) * a21 (ix3 0 r l) + w22 (ix2 0 l) * a22 (ix2 r l) + w23 (ix2 0 l) * a23 (ix3 0 r l) + w24 (ix2 0 l) * a24 (ix3 0 r l) := by
  pointwise [k0_pay23]
theorem c25 : k0_pay25 (F := Ideal) A (k0_pay24 (F := Ideal) w25) a25 w26 a26 w27 a27 w28 a28 w29 a29 (ix2 r l) = A (ix2 r l) + w25 (ix2 0 l) * a25 (ix3 0 r l) + w26 (ix2 0 l) * a26 (ix3 0 r l) + w27 (ix2 0 l) * a27 (ix3 0 r l) + w28 (ix2 0 l) * a28 (ix3 0 r l) + w29 (ix2 0 l) * a29 (ix3 0 r l) := by
  pointwise [k0_pay25, k0_pay24]
theorem c27 : k0_pay27 (F := Ideal) A (k0_pay26 (F := Ideal) w30) a30 cb (ix2 r l) = A (ix2 r l) + w30 (ix2 0 l) * a30 (ix2 r l) + cb (ix2 0 l) := by
  pointwise [k0_pay27, k0_pay26]
variable {w0 w1 w2 w3 w4 w5 w6 w7 w8 w9 w10 w11 w12 w13 w14 w15 w16 w17 w18 w19 w20 w21 w22 w23 w24 w25 w26 w27 w28 w29 w30 a0 a1 a2 a3 a4 a5 a6 a7 a8 a9 a10 a11 a12 a13 a14 a15 a16 a17 a18 a19 a20 a21 a22 a23 a24 a25 a26 a27 a28 a29 a30 z cb}
/-- The convolution's accumulator, tap by tap. -/
theorem c1_of (T : ℕ → EReal) (hz : z = 0)
    (h0 : w0 (ix2 0 l) * a0 (ix3 0 r l) = T 0)
    (h1 : w1 (ix2 0 l) * a1 (ix3 0 r l) = T 1)
    (h2 : w2 (ix2 0 l) * a2 (ix3 0 r l) = T 2)
    (h3 : w3 (ix2 0 l) * a3 (ix3 0 r l) = T 3)
    (h4 : w4 (ix2 0 l) * a4 (ix3 0 r l) = T 4)
    (h5 : w5 (ix2 0 l) * a5 (ix3 0 r l) = T 5)
    (h6 : w6 (ix2 0 l) * a6 (ix2 r l) = T 6)
    (h7 : w7 (ix2 0 l) * a7 (ix3 0 r l) = T 7)
    (h8 : w8 (ix2 0 l) * a8 (ix3 0 r l) = T 8)
    (h9 : w9 (ix2 0 l) * a9 (ix3 0 r l) = T 9)
    (h10 : w10 (ix2 0 l) * a10 (ix3 0 r l) = T 10)
    (h11 : w11 (ix2 0 l) * a11 (ix3 0 r l) = T 11)
    (h12 : w12 (ix2 0 l) * a12 (ix3 0 r l) = T 12)
    (h13 : w13 (ix2 0 l) * a13 (ix3 0 r l) = T 13)
    (h14 : w14 (ix2 0 l) * a14 (ix2 r l) = T 14)
    (h15 : w15 (ix2 0 l) * a15 (ix3 0 r l) = T 15)
    (h16 : w16 (ix2 0 l) * a16 (ix3 0 r l) = T 16)
    (h17 : w17 (ix2 0 l) * a17 (ix3 0 r l) = T 17)
    (h18 : w18 (ix2 0 l) * a18 (ix3 0 r l) = T 18)
    (h19 : w19 (ix2 0 l) * a19 (ix3 0 r l) = T 19)
    (h20 : w20 (ix2 0 l) * a20 (ix3 0 r l) = T 20)
    (h21 : w21 (ix2 0 l) * a21 (ix3 0 r l) = T 21)
    (h22 : w22 (ix2 0 l) * a22 (ix2 r l) = T 22)
    (h23 : w23 (ix2 0 l) * a23 (ix3 0 r l) = T 23)
    (h24 : w24 (ix2 0 l) * a24 (ix3 0 r l) = T 24)
    (h25 : w25 (ix2 0 l) * a25 (ix3 0 r l) = T 25)
    (h26 : w26 (ix2 0 l) * a26 (ix3 0 r l) = T 26)
    (h27 : w27 (ix2 0 l) * a27 (ix3 0 r l) = T 27)
    (h28 : w28 (ix2 0 l) * a28 (ix3 0 r l) = T 28)
    (h29 : w29 (ix2 0 l) * a29 (ix3 0 r l) = T 29)
    (h30 : w30 (ix2 0 l) * a30 (ix2 r l) = T 30) :
    k0_pay27 (F := Ideal) (k0_pay25 (F := Ideal) (k0_pay23 (F := Ideal) (k0_pay22 (F := Ideal) (k0_pay21 (F := Ideal) (k0_pay20 (F := Ideal) (k0_pay18 (F := Ideal) z w0 a0 w1 a1 w2 a2 w3 a3) (k0_pay19 (F := Ideal) w4 a4)
    w5 a5 w6 a6 w7 a7 w8 a8 w9 a9)
    w10 a10 w11 a11 w12 a12 w13 a13 w14 a14)
    w15 a15 w16 a16 w17 a17 w18 a18 w19 a19)
    w20 a20 w21 a21 w22 a22 w23 a23 w24 a24)
    (k0_pay24 (F := Ideal) w25) a25 w26 a26 w27 a27 w28 a28 w29 a29)
    (k0_pay26 (F := Ideal) w30) a30 cb (ix2 r l) = ∑ k ∈ Finset.range 31, T k + cb (ix2 0 l) := by
  simp only [Finset.sum_range_succ, Finset.sum_range_zero]
  rw [c27, c25, c23, c22, c21, c20, c18, c19, hz, h0, h1, h2, h3, h4, h5, h6, h7, h8, h9, h10, h11, h12, h13, h14, h15, h16, h17, h18, h19, h20, h21, h22, h23, h24, h25, h26, h27, h28, h29, h30]
end conv
end Cert.Kernel13Ideal.Seq
end
-- ==== Proof.SeqBlock.lean ====
module

public import proofs.«01_k».proof.Proof.SeqPay
public import proofs.«01_k».proof.Proof.AttnFwd
public import proofs.«01_k».proof.Proof.Gen.Kernel13Ideal.Frame

/-!
The mixer going forward: what one grid point's stores leave in its blocks, from the blocks it reads.
-/

@[expose] public section
set_option maxRecDepth 16384
noncomputable section
namespace Cert.Kernel13Ideal.Seq
open Cert.Kernel13Ideal Cert.Kernel13Ideal.Gen Idealize.ShloMosaic Idealize.ShloMosaic.TcCoe Idealize.SL.Sem
open Cert.AttnSpec Cert.AttnFwd Cert.FfnSpec Cert.FfnUp Cert.GradSpec Cert.SeqSpec

/-! Loads of rows and columns of a block. -/
theorem ld_w (W : FVec Ideal S4x1024x512 .bf16) {o : ℕ} (inb : ∀ a, ![o, 0, 0] a + ![1, 1024, 512] a ≤ S4x1024x512.size a)
    (s : Fin 4) (h : s.val = o) (e : Fin 1024) (l : Fin 512) :
    View.ld (Val := Elt Ideal) (e' := .bf16) W (Rect.unit (s := S4x1024x512) ![o, 0, 0] ![1, 1024, 512] inb) (ix3 0 e l) = W (ix3 s e l) := by
  pointwise
  blk_ext [h]
theorem ld_b (b : FVec Ideal S1x2048 .f32) {o : ℕ} (inb : ∀ a, ![0, o] a + ![1, 512] a ≤ S1x2048.size a)
    (l : Fin 512) (j : Fin 2048) (h : j.val = o + l.val) :
    View.ld (Val := Elt Ideal) (e' := .f32) b (Rect.unit (s := S1x2048) ![0, o] ![1, 512] inb) (ix2 0 l) = b (ix2 0 j) := by
  pointwise
  blk_ext [h]
theorem ld_cw (C : FVec Ideal S32x512 .f32) {o : ℕ} (inb : ∀ a, ![o, 0] a + ![1, 512] a ≤ S32x512.size a)
    (k : Fin 32) (h : k.val = o) (l : Fin 512) :
    View.ld (Val := Elt Ideal) (e' := .f32) C (Rect.unit (s := S32x512) ![o, 0] ![1, 512] inb) (ix2 0 l) = C (ix2 k l) := by
  pointwise
  blk_ext [h]
theorem ld_wp (W : FVec Ideal S4x128x256 .bf16) {o : ℕ} (inb : ∀ a, ![o, 0, 0] a + ![1, 128, 256] a ≤ S4x128x256.size a)
    (s : Fin 4) (h : s.val = o) (t : Fin 128) (q : Fin 256) :
    View.ld (Val := Elt Ideal) (e' := .bf16) W (Rect.unit (s := S4x128x256) ![o, 0, 0] ![1, 128, 256] inb) (ix3 0 t q) = W (ix3 s t q) := by
  pointwise
  blk_ext [h]
theorem ld_bi (B : FVec Ideal S128x512 .f32) {o : ℕ} (inb : ∀ a, ![0, o] a + ![128, 128] a ≤ S128x512.size a)
    (t d : Fin 128) (l : Fin 512) (h : l.val = o + d.val) :
    View.ld (Val := Elt Ideal) (e' := .f32) B (Rect.unit (s := S128x512) ![0, o] ![128, 128] inb) (ix2 t d) = B (ix2 t l) := by
  pointwise
  blk_ext [h]

section z
variable (X : FVec Ideal S512x1024 .bf16) (W : FVec Ideal S4x1024x512 .bf16) (b : FVec Ideal S1x2048 .f32)
/-- One entry of the block of the projection. -/
def zb (r : Fin 512) (j : Fin 2048) : EReal :=
  ∑ e, X (ix2 r e) * W (ix3 ⟨j.val / 512, by omega⟩ e ⟨j.val % 512, by omega⟩) + b (ix2 0 j)
theorem pj_eq {W' : FVec Ideal S1x1024x512 .bf16} {b' : FVec Ideal S1x512 .f32} {r R l : Fin 512} {j : Fin 2048} (s : Fin 4)
    (hr : R.val = r.val) (hj : j.val = s.val * 512 + l.val) (hW : ∀ e, W' (ix3 0 e l) = W (ix3 s e l)) (hb : b' (ix2 0 l) = b (ix2 0 j)) :
    pj X W' b' r l = zb X W b R j := by
  obtain rfl : R = r := Fin.ext hr
  unfold zb
  have e1 : (⟨j.val / 512, by omega⟩ : Fin 4) = s := Fin.ext (by simp only []; omega)
  have e2 : (⟨j.val % 512, by omega⟩ : Fin 512) = l := Fin.ext (by simp only []; omega)
  rw [e1, e2]
  exact congrArg₂ (· + ·) (Finset.sum_congr (M := EReal) rfl fun e _ => congrArg (_ * ·) (hW e)) hb

abbrev w_ (o : ℕ) (inb : ∀ a, ![o, 0, 0] a + ![1, 1024, 512] a ≤ S4x1024x512.size a) : FVec Ideal S1x1024x512 .bf16 :=
  View.ld (Val := Elt Ideal) (e' := .bf16) W (Rect.unit (s := S4x1024x512) ![o, 0, 0] ![1, 1024, 512] inb)
abbrev b_ (o : ℕ) (inb : ∀ a, ![0, o] a + ![1, 512] a ≤ S1x2048.size a) : FVec Ideal S1x512 .f32 :=
  View.ld (Val := Elt Ideal) (e' := .f32) b (Rect.unit (s := S1x2048) ![0, o] ![1, 512] inb)
abbrev z0 : FVec Ideal S512x512 .f32 := k0_pay5 (F := Ideal) X (w_ W 0 inb_S4x1024x512_S1x1024x512_0_0_0) (b_ b 0 inb_S1x2048_S1x512_0_0)
abbrev z1 : FVec Ideal S512x512 .f32 := k0_pay6 (F := Ideal) X (w_ W 1 inb_S4x1024x512_S1x1024x512_1_0_0) (b_ b 512 inb_S1x2048_S1x512_0_512)
abbrev z2 : FVec Ideal S512x512 .f32 := k0_pay8 (F := Ideal) (k0_pay7 (F := Ideal) X (w_ W 2 inb_S4x1024x512_S1x1024x512_2_0_0)) (b_ b 1024 inb_S1x2048_S1x512_0_1024)
abbrev z3 : FVec Ideal S512x512 .f32 := k0_pay9 (F := Ideal) X (w_ W 3 inb_S4x1024x512_S1x1024x512_3_0_0) (b_ b 1536 inb_S1x2048_S1x512_0_1536)
abbrev zP : List (View.Piece (Elt Ideal) S512x2048 .f32) :=
  [⟨Rect.unit ![0, 1536] ![512, 512] inb_S512x2048_S512x512_0_1536, z3 X W b⟩,
    ⟨Rect.unit ![0, 1024] ![512, 512] inb_S512x2048_S512x512_0_1024, z2 X W b⟩,
    ⟨Rect.unit ![0, 512] ![512, 512] inb_S512x2048_S512x512_0_512, z1 X W b⟩,
    ⟨Rect.unit ![0, 0] ![512, 512] inb_S512x2048_S512x512_0_0, z0 X W b⟩]
theorem zP_at (r : Fin 512) (j : Fin 2048) : View.canon (Val := Elt Ideal) (e := .f32) (zP X W b) (ix2 r j) = zb X W b r j := by
  canon_tiles x h
  all_goals idx_vars x
  · exact (z9_at X _ _ x0 x1).trans (pj_eq X W b 3 (by omega) (by rw [h1]; simp) (fun e => ld_w W _ 3 rfl e x1) (ld_b b _ x1 _ (by omega)))
  · exact (z8_at X _ _ x0 x1).trans (pj_eq X W b 2 (by omega) (by rw [h1]; simp) (fun e => ld_w W _ 2 rfl e x1) (ld_b b _ x1 _ (by omega)))
  · exact (z6_at X _ _ x0 x1).trans (pj_eq X W b 1 (by omega) (by rw [h1]; simp) (fun e => ld_w W _ 1 rfl e x1) (ld_b b _ x1 _ (by omega)))
  · exact (z5_at X _ _ x0 x1).trans (pj_eq X W b 0 (by omega) (by rw [h1]; simp) (fun e => ld_w W _ 0 rfl e x1) (ld_b b _ x1 _ (by omega)))
theorem z0_at (r l : Fin 512) : z0 X W b (ix2 r l) = zb X W b r (qcol 0 l) :=
  (z5_at X _ _ r l).trans (pj_eq X W b 0 rfl (by simp [qcol]) (fun e => ld_w W _ 0 rfl e l) (ld_b b _ l _ (by simp [qcol])))
theorem z1_at (r l : Fin 512) : z1 X W b (ix2 r l) = zb X W b r (qcol 1 l) :=
  (z6_at X _ _ r l).trans (pj_eq X W b 1 rfl (by simp [qcol]) (fun e => ld_w W _ 1 rfl e l) (ld_b b _ l _ (by simp [qcol])))
/-- A load of the columns from `o` of the stored projection. -/
theorem z_rd {κ : Kind} {sp : Space} (v : View sig κ sp S512x2048 .f32) {o : ℕ} (inb : ∀ a, ![0, o] a + ![512, 512] a ≤ S512x2048.size a)
    (r l : Fin 512) (j : Fin 2048) (h : j.val = o + l.val) :
    v.readCov (Val := Elt Ideal) (zP X W b) (Rect.unit (s := S512x2048) ![0, o] ![512, 512] inb).toLoadRect (ix2 r l) = zb X W b r j := by
  refine (congrFun (View.readCov_eq_canon' v _ _) _).trans ?_
  refine Eq.trans ?_ (zP_at X W b r j)
  generalize zP X W b = L
  refine congrArg (View.canon (Val := Elt Ideal) (e := .f32) L) ?_
  blk_ext [Rect.idx_unit_val, h]
end z

section ab
variable (Z : FVec Ideal S32x512 .f32) (P Q : FVec Ideal S512x512 .f32)
abbrev abP : List (View.Piece (Elt Ideal) S544x512 .f32) :=
  [⟨Rect.unit ![32, 0] ![512, 512] inb_S544x512_S512x512_32_0, k0_pay10 (F := Ideal) P Q⟩,
    ⟨Rect.unit ![0, 0] ![32, 512] inb_S544x512_S32x512_0_0, Z⟩]
/-- The rows that the convolution reads: 32 kept ones, then the gated ones. -/
def ab (n : ℕ) (l : Fin 512) : EReal :=
  if h : n < 32 then Z (ix2 ⟨n, h⟩ l) else if h' : n < 544 then P (ix2 ⟨n - 32, by omega⟩ l) * sg (Q (ix2 ⟨n - 32, by omega⟩ l)) else 0
theorem abP_at (n : Fin 544) (l : Fin 512) : View.canon (Val := Elt Ideal) (e := .f32) (abP Z P Q) (ix2 n l) = ab Z P Q n.val l := by
  canon_tiles x h using (View.cover_of_tiledBy (abP Z P Q) ![32, 512] (by sl_kernel_rfl) _)
  all_goals idx_vars x
  · obtain rfl : l = x1 := Fin.ext (by omega)
    have e : (⟨n.val - 32, by omega⟩ : Fin 512) = x0 := Fin.ext (by simp only []; omega)
    refine (glu_at P Q x0 l).trans ?_
    unfold ab
    rw [dif_neg (by omega), dif_pos n.isLt, e]
  · obtain rfl : l = x1 := Fin.ext (by omega)
    have e : (⟨n.val, by omega⟩ : Fin 32) = x0 := Fin.ext (by simp only []; omega)
    unfold ab
    rw [dif_pos (by omega), e]
end ab

section sh
variable (L : List (View.Piece (Elt Ideal) S544x512 .f32)) (A : ℕ → Fin 512 → EReal)
  (hA : ∀ (n : Fin 544) (l : Fin 512), View.canon (Val := Elt Ideal) (e := .f32) L (ix2 n l) = A n.val l)
include hA
/-- A load of rows from the `o`-th. -/
theorem ab_rd {κ : Kind} {sp : Space} (v : View sig κ sp S544x512 .f32) {o : ℕ} (inb : ∀ a, ![o, 0] a + ![512, 512] a ≤ S544x512.size a)
    (r l : Fin 512) : v.readCov (Val := Elt Ideal) L (Rect.unit (s := S544x512) ![o, 0] ![512, 512] inb).toLoadRect (ix2 r l) = A (r.val + o) l := by
  have hi : o + 512 ≤ 544 := inb 0
  refine (congrFun (View.readCov_eq_canon' v _ _) _).trans ?_
  refine Eq.trans ?_ (hA ⟨r.val + o, by omega⟩ l)
  refine congrArg (View.canon (Val := Elt Ideal) (e := .f32) L) ?_
  blk_ext [Rect.idx_unit_val, Nat.add_comm]
theorem ab_rd' {κ : Kind} {sp : Space} (v : View sig κ sp S544x512 .f32) {o : ℕ} (inb : ∀ a, ![o, 0] a + ![536, 512] a ≤ S544x512.size a)
    (r : Fin 536) (l : Fin 512) : v.readCov (Val := Elt Ideal) L (Rect.unit (s := S544x512) ![o, 0] ![536, 512] inb).toLoadRect (ix2 r l) = A (r.val + o) l := by
  have hi : o + 536 ≤ 544 := inb 0
  refine (congrFun (View.readCov_eq_canon' v _ _) _).trans ?_
  refine Eq.trans ?_ (hA ⟨r.val + o, by omega⟩ l)
  refine congrArg (View.canon (Val := Elt Ideal) (e := .f32) L) ?_
  blk_ext [Rect.idx_unit_val, Nat.add_comm]
omit hA
abbrev cp (o : ℕ) (inb : ∀ a, ![o, 0] a + ![536, 512] a ≤ S544x512.size a) : FVec Ideal S536x512 .f32 :=
  (View.whole cc0_scratch0).readCov (Val := Elt Ideal) L (Rect.unit (s := S544x512) ![o, 0] ![536, 512] inb).toLoadRect
abbrev shP : List (View.Piece (Elt Ideal) S7x536x512 .f32) :=
  [⟨Rect.unit ![6, 0, 0] ![1, 536, 512] inb_S7x536x512_S1x536x512_6_0_0, k0_pay17 (F := Ideal) (cp L 7 inb_S544x512_S536x512_7_0)⟩,
    ⟨Rect.unit ![5, 0, 0] ![1, 536, 512] inb_S7x536x512_S1x536x512_5_0_0, k0_pay16 (F := Ideal) (cp L 6 inb_S544x512_S536x512_6_0)⟩,
    ⟨Rect.unit ![4, 0, 0] ![1, 536, 512] inb_S7x536x512_S1x536x512_4_0_0, k0_pay15 (F := Ideal) (cp L 5 inb_S544x512_S536x512_5_0)⟩,
    ⟨Rect.unit ![3, 0, 0] ![1, 536, 512] inb_S7x536x512_S1x536x512_3_0_0, k0_pay14 (F := Ideal) (cp L 4 inb_S544x512_S536x512_4_0)⟩,
    ⟨Rect.unit ![2, 0, 0] ![1, 536, 512] inb_S7x536x512_S1x536x512_2_0_0, k0_pay13 (F := Ideal) (cp L 3 inb_S544x512_S536x512_3_0)⟩,
    ⟨Rect.unit ![1, 0, 0] ![1, 536, 512] inb_S7x536x512_S1x536x512_1_0_0, k0_pay12 (F := Ideal) (cp L 2 inb_S544x512_S536x512_2_0)⟩,
    ⟨Rect.unit ![0, 0, 0] ![1, 536, 512] inb_S7x536x512_S1x536x512_0_0_0, k0_pay11 (F := Ideal) (cp L 1 inb_S544x512_S536x512_1_0)⟩]
theorem s11_at (Y : FVec Ideal S536x512 .f32) (i : Fin 536) (l : Fin 512) : k0_pay11 (F := Ideal) Y (ix3 0 i l) = Y (ix2 i l) := by
  pointwise [k0_pay11]
theorem s12_at (Y : FVec Ideal S536x512 .f32) (i : Fin 536) (l : Fin 512) : k0_pay12 (F := Ideal) Y (ix3 0 i l) = Y (ix2 i l) := by
  pointwise [k0_pay12]
theorem s13_at (Y : FVec Ideal S536x512 .f32) (i : Fin 536) (l : Fin 512) : k0_pay13 (F := Ideal) Y (ix3 0 i l) = Y (ix2 i l) := by
  pointwise [k0_pay13]
theorem s14_at (Y : FVec Ideal S536x512 .f32) (i : Fin 536) (l : Fin 512) : k0_pay14 (F := Ideal) Y (ix3 0 i l) = Y (ix2 i l) := by
  pointwise [k0_pay14]
theorem s15_at (Y : FVec Ideal S536x512 .f32) (i : Fin 536) (l : Fin 512) : k0_pay15 (F := Ideal) Y (ix3 0 i l) = Y (ix2 i l) := by
  pointwise [k0_pay15]
theorem s16_at (Y : FVec Ideal S536x512 .f32) (i : Fin 536) (l : Fin 512) : k0_pay16 (F := Ideal) Y (ix3 0 i l) = Y (ix2 i l) := by
  pointwise [k0_pay16]
theorem s17_at (Y : FVec Ideal S536x512 .f32) (i : Fin 536) (l : Fin 512) : k0_pay17 (F := Ideal) Y (ix3 0 i l) = Y (ix2 i l) := by
  pointwise [k0_pay17]
include hA
theorem shP_at (q : Fin 7) (i : Fin 536) (l : Fin 512) :
    View.canon (Val := Elt Ideal) (e := .f32) (shP L) (ix3 q i l) = A (i.val + q.val + 1) l := by
  canon_tiles x h using (View.cover_of_tiledBy (shP L) ![1, 536, 512] (by sl_kernel_rfl) _)
  all_goals idx_vars x
  all_goals obtain rfl : l = x2 := Fin.ext (by omega)
  all_goals obtain rfl : i = x1 := Fin.ext (by omega)
  all_goals obtain rfl : x0 = 0 := Fin.ext (by omega)
  · exact ((s17_at _ i l).trans (ab_rd' L A hA _ _ i l)).trans (congrArg (A · l) (by omega))
  · exact ((s16_at _ i l).trans (ab_rd' L A hA _ _ i l)).trans (congrArg (A · l) (by omega))
  · exact ((s15_at _ i l).trans (ab_rd' L A hA _ _ i l)).trans (congrArg (A · l) (by omega))
  · exact ((s14_at _ i l).trans (ab_rd' L A hA _ _ i l)).trans (congrArg (A · l) (by omega))
  · exact ((s13_at _ i l).trans (ab_rd' L A hA _ _ i l)).trans (congrArg (A · l) (by omega))
  · exact ((s12_at _ i l).trans (ab_rd' L A hA _ _ i l)).trans (congrArg (A · l) (by omega))
  · exact ((s11_at _ i l).trans (ab_rd' L A hA _ _ i l)).trans (congrArg (A · l) (by omega))
/-- A load of rows from a shifted copy. -/
theorem sh_rd {κ : Kind} {sp : Space} (v : View sig κ sp S7x536x512 .f32) {q o : ℕ}
    (inb : ∀ a, ![q, o, 0] a + ![1, 512, 512] a ≤ S7x536x512.size a) (n : ℕ) (r l : Fin 512) (hn : n = r.val + o + q + 1) :
    v.readCov (Val := Elt Ideal) (shP L) (Rect.unit (s := S7x536x512) ![q, o, 0] ![1, 512, 512] inb).toLoadRect (ix3 0 r l) = A n l := by
  have hq : q + 1 ≤ 7 := inb 0
  have ho : o + 512 ≤ 536 := inb 1
  refine (congrFun (View.readCov_eq_canon' v _ _) _).trans ?_
  refine Eq.trans ?_ ((shP_at L A hA ⟨q, by omega⟩ ⟨r.val + o, by omega⟩ l).trans (congrArg (A · l) hn.symm))
  generalize shP L = M
  refine congrArg (View.canon (Val := Elt Ideal) (e := .f32) M) ?_
  blk_ext [Rect.idx_unit_val, Nat.add_comm]
omit hA
variable (C : FVec Ideal S32x512 .f32) (cb : FVec Ideal S1x512 .f32)
abbrev cw_ (o : ℕ) (inb : ∀ a, ![o, 0] a + ![1, 512] a ≤ S32x512.size a) : FVec Ideal S1x512 .f32 :=
  View.ld (Val := Elt Ideal) (e' := .f32) C (Rect.unit (s := S32x512) ![o, 0] ![1, 512] inb)
abbrev f_ (o : ℕ) (inb : ∀ a, ![o, 0] a + ![512, 512] a ≤ S544x512.size a) : FVec Ideal S512x512 .f32 :=
  (View.whole cc0_scratch0).readCov (Val := Elt Ideal) L (Rect.unit (s := S544x512) ![o, 0] ![512, 512] inb).toLoadRect
abbrev g_ (q o : ℕ) (inb : ∀ a, ![q, o, 0] a + ![1, 512, 512] a ≤ S7x536x512.size a) : FVec Ideal S1x512x512 .f32 :=
  (View.whole cc0_scratch1).readCov (Val := Elt Ideal) (shP L) (Rect.unit (s := S7x536x512) ![q, o, 0] ![1, 512, 512] inb).toLoadRect
abbrev acc_ (z : EReal) : FVec Ideal S512x512 .f32 :=
    k0_pay25 (F := Ideal) (k0_pay23 (F := Ideal) (k0_pay22 (F := Ideal) (k0_pay21 (F := Ideal) (k0_pay20 (F := Ideal) (k0_pay18 (F := Ideal) z (cw_ C 0 inb_S32x512_S1x512_0_0) (g_ L 1 0 inb_S7x536x512_S1x512x512_1_0_0)
      (cw_ C 1 inb_S32x512_S1x512_1_0) (g_ L 2 0 inb_S7x536x512_S1x512x512_2_0_0)
      (cw_ C 2 inb_S32x512_S1x512_2_0) (g_ L 3 0 inb_S7x536x512_S1x512x512_3_0_0)
      (cw_ C 3 inb_S32x512_S1x512_3_0) (g_ L 4 0 inb_S7x536x512_S1x512x512_4_0_0)) (k0_pay19 (F := Ideal) (cw_ C 4 inb_S32x512_S1x512_4_0) (g_ L 5 0 inb_S7x536x512_S1x512x512_5_0_0))
      (cw_ C 5 inb_S32x512_S1x512_5_0) (g_ L 6 0 inb_S7x536x512_S1x512x512_6_0_0)
      (cw_ C 6 inb_S32x512_S1x512_6_0) (f_ L 8 inb_S544x512_S512x512_8_0)
      (cw_ C 7 inb_S32x512_S1x512_7_0) (g_ L 0 8 inb_S7x536x512_S1x512x512_0_8_0)
      (cw_ C 8 inb_S32x512_S1x512_8_0) (g_ L 1 8 inb_S7x536x512_S1x512x512_1_8_0)
      (cw_ C 9 inb_S32x512_S1x512_9_0) (g_ L 2 8 inb_S7x536x512_S1x512x512_2_8_0))
      (cw_ C 10 inb_S32x512_S1x512_10_0) (g_ L 3 8 inb_S7x536x512_S1x512x512_3_8_0)
      (cw_ C 11 inb_S32x512_S1x512_11_0) (g_ L 4 8 inb_S7x536x512_S1x512x512_4_8_0)
      (cw_ C 12 inb_S32x512_S1x512_12_0) (g_ L 5 8 inb_S7x536x512_S1x512x512_5_8_0)
      (cw_ C 13 inb_S32x512_S1x512_13_0) (g_ L 6 8 inb_S7x536x512_S1x512x512_6_8_0)
      (cw_ C 14 inb_S32x512_S1x512_14_0) (f_ L 16 inb_S544x512_S512x512_16_0))
      (cw_ C 15 inb_S32x512_S1x512_15_0) (g_ L 0 16 inb_S7x536x512_S1x512x512_0_16_0)
      (cw_ C 16 inb_S32x512_S1x512_16_0) (g_ L 1 16 inb_S7x536x512_S1x512x512_1_16_0)
      (cw_ C 17 inb_S32x512_S1x512_17_0) (g_ L 2 16 inb_S7x536x512_S1x512x512_2_16_0)
      (cw_ C 18 inb_S32x512_S1x512_18_0) (g_ L 3 16 inb_S7x536x512_S1x512x512_3_16_0)
      (cw_ C 19 inb_S32x512_S1x512_19_0) (g_ L 4 16 inb_S7x536x512_S1x512x512_4_16_0))
      (cw_ C 20 inb_S32x512_S1x512_20_0) (g_ L 5 16 inb_S7x536x512_S1x512x512_5_16_0)
      (cw_ C 21 inb_S32x512_S1x512_21_0) (g_ L 6 16 inb_S7x536x512_S1x512x512_6_16_0)
      (cw_ C 22 inb_S32x512_S1x512_22_0) (f_ L 24 inb_S544x512_S512x512_24_0)
      (cw_ C 23 inb_S32x512_S1x512_23_0) (g_ L 0 24 inb_S7x536x512_S1x512x512_0_24_0)
      (cw_ C 24 inb_S32x512_S1x512_24_0) (g_ L 1 24 inb_S7x536x512_S1x512x512_1_24_0))
      (k0_pay24 (F := Ideal) (cw_ C 25 inb_S32x512_S1x512_25_0)) (g_ L 2 24 inb_S7x536x512_S1x512x512_2_24_0) (cw_ C 26 inb_S32x512_S1x512_26_0) (g_ L 3 24 inb_S7x536x512_S1x512x512_3_24_0)
      (cw_ C 27 inb_S32x512_S1x512_27_0) (g_ L 4 24 inb_S7x536x512_S1x512x512_4_24_0)
      (cw_ C 28 inb_S32x512_S1x512_28_0) (g_ L 5 24 inb_S7x536x512_S1x512x512_5_24_0)
      (cw_ C 29 inb_S32x512_S1x512_29_0) (g_ L 6 24 inb_S7x536x512_S1x512x512_6_24_0)
include hA
theorem c1_block (z : EReal) (hz : z = 0) (r l : Fin 512) :
    k0_pay27 (F := Ideal) (acc_ L C z) (k0_pay26 (F := Ideal) (cw_ C 30 inb_S32x512_S1x512_30_0)) (f_ L 32 inb_S544x512_S512x512_32_0) cb (ix2 r l) =
      ∑ k ∈ Finset.range 31, (if h : k < 31 then C (ix2 ⟨k, by omega⟩ l) else 0) * A (r.val + k + 2) l + cb (ix2 0 l) := by
  refine c1_of r l (fun k => (if h : k < 31 then C (ix2 ⟨k, by omega⟩ l) else 0) * A (r.val + k + 2) l) hz
    ?_ ?_ ?_ ?_ ?_ ?_ ?_ ?_ ?_ ?_ ?_ ?_ ?_ ?_ ?_ ?_ ?_ ?_ ?_ ?_ ?_ ?_ ?_ ?_ ?_ ?_ ?_ ?_ ?_ ?_ ?_
  · exact congrArg₂ (· * ·) (ld_cw C _ 0 rfl l) (sh_rd L A hA _ _ _ r l (by omega))
  · exact congrArg₂ (· * ·) (ld_cw C _ 1 rfl l) (sh_rd L A hA _ _ _ r l (by omega))
  · exact congrArg₂ (· * ·) (ld_cw C _ 2 rfl l) (sh_rd L A hA _ _ _ r l (by omega))
  · exact congrArg₂ (· * ·) (ld_cw C _ 3 rfl l) (sh_rd L A hA _ _ _ r l (by omega))
  · exact congrArg₂ (· * ·) (ld_cw C _ 4 rfl l) (sh_rd L A hA _ _ _ r l (by omega))
  · exact congrArg₂ (· * ·) (ld_cw C _ 5 rfl l) (sh_rd L A hA _ _ _ r l (by omega))
  · exact congrArg₂ (· * ·) (ld_cw C _ 6 rfl l) (ab_rd L A hA _ _ r l)
  · exact congrArg₂ (· * ·) (ld_cw C _ 7 rfl l) (sh_rd L A hA _ _ _ r l (by omega))
  · exact congrArg₂ (· * ·) (ld_cw C _ 8 rfl l) (sh_rd L A hA _ _ _ r l (by omega))
  · exact congrArg₂ (· * ·) (ld_cw C _ 9 rfl l) (sh_rd L A hA _ _ _ r l (by omega))
  · exact congrArg₂ (· * ·) (ld_cw C _ 10 rfl l) (sh_rd L A hA _ _ _ r l (by omega))
  · exact congrArg₂ (· * ·) (ld_cw C _ 11 rfl l) (sh_rd L A hA _ _ _ r l (by omega))
  · exact congrArg₂ (· * ·) (ld_cw C _ 12 rfl l) (sh_rd L A hA _ _ _ r l (by omega))
  · exact congrArg₂ (· * ·) (ld_cw C _ 13 rfl l) (sh_rd L A hA _ _ _ r l (by omega))
  · exact congrArg₂ (· * ·) (ld_cw C _ 14 rfl l) (ab_rd L A hA _ _ r l)
  · exact congrArg₂ (· * ·) (ld_cw C _ 15 rfl l) (sh_rd L A hA _ _ _ r l (by omega))
  · exact congrArg₂ (· * ·) (ld_cw C _ 16 rfl l) (sh_rd L A hA _ _ _ r l (by omega))
  · exact congrArg₂ (· * ·) (ld_cw C _ 17 rfl l) (sh_rd L A hA _ _ _ r l (by omega))
  · exact congrArg₂ (· * ·) (ld_cw C _ 18 rfl l) (sh_rd L A hA _ _ _ r l (by omega))
  · exact congrArg₂ (· * ·) (ld_cw C _ 19 rfl l) (sh_rd L A hA _ _ _ r l (by omega))
  · exact congrArg₂ (· * ·) (ld_cw C _ 20 rfl l) (sh_rd L A hA _ _ _ r l (by omega))
  · exact congrArg₂ (· * ·) (ld_cw C _ 21 rfl l) (sh_rd L A hA _ _ _ r l (by omega))
  · exact congrArg₂ (· * ·) (ld_cw C _ 22 rfl l) (ab_rd L A hA _ _ r l)
  · exact congrArg₂ (· * ·) (ld_cw C _ 23 rfl l) (sh_rd L A hA _ _ _ r l (by omega))
  · exact congrArg₂ (· * ·) (ld_cw C _ 24 rfl l) (sh_rd L A hA _ _ _ r l (by omega))
  · exact congrArg₂ (· * ·) (ld_cw C _ 25 rfl l) (sh_rd L A hA _ _ _ r l (by omega))
  · exact congrArg₂ (· * ·) (ld_cw C _ 26 rfl l) (sh_rd L A hA _ _ _ r l (by omega))
  · exact congrArg₂ (· * ·) (ld_cw C _ 27 rfl l) (sh_rd L A hA _ _ _ r l (by omega))
  · exact congrArg₂ (· * ·) (ld_cw C _ 28 rfl l) (sh_rd L A hA _ _ _ r l (by omega))
  · exact congrArg₂ (· * ·) (ld_cw C _ 29 rfl l) (sh_rd L A hA _ _ _ r l (by omega))
  · exact congrArg₂ (· * ·) (ld_cw C _ 30 rfl l) (ab_rd L A hA _ _ r l)
end sh

section gm
variable (lo hi : FVec Ideal S512x512 .bf16) (WP : FVec Ideal S4x128x256 .bf16) (BI : FVec Ideal S128x512 .f32)
/-- One entry of the mixed block. -/
def mxv (r l : Fin 512) : EReal :=
  ∑ q : Fin 256, WP (ix3 ⟨l.val / 128, by omega⟩ ⟨r.val % 128, by omega⟩ q) *
    (if h : q.val < 128 then lo (ix2 ⟨r.val / 128 * 128 + q.val, by omega⟩ l) else hi (ix2 ⟨r.val / 128 * 128 + (q.val - 128), by omega⟩ l))
    + BI (ix2 ⟨r.val % 128, by omega⟩ l)
theorem mx_eq {W : FVec Ideal S1x128x256 .bf16} {B : FVec Ideal S128x128 .f32} {t d : Fin 128} {n j : ℕ} {hn : n + 128 ≤ 512}
    {hj : j + 128 ≤ 512} {r l : Fin 512} (s : Fin 4) (hs : j = s.val * 128) (hn' : n % 128 = 0) (h0 : r.val = n + t.val)
    (h1 : l.val = j + d.val) (hW : ∀ q, W (ix3 0 t q) = WP (ix3 s t q)) (hB : B (ix2 t d) = BI (ix2 t l)) :
    mx lo hi W B t d n j hn hj = mxv lo hi WP BI r l := by
  unfold mx mxv
  have e1 : (⟨l.val / 128, by omega⟩ : Fin 4) = s := Fin.ext (by simp only []; omega)
  have e2 : (⟨r.val % 128, by omega⟩ : Fin 128) = t := Fin.ext (by simp only []; omega)
  rw [e1, e2]
  refine congrArg₂ (· + ·) (Finset.sum_congr (M := EReal) rfl fun q _ => congrArg₂ (· * ·) (hW q) ?_) hB
  by_cases h : q.val < 128
  · rw [dif_pos h, dif_pos h]
    refine congrArg₂ (fun a c => lo (ix2 a c)) (Fin.ext ?_) (Fin.ext ?_) <;> simp only [] <;> omega
  · rw [dif_neg h, dif_neg h]
    refine congrArg₂ (fun a c => hi (ix2 a c)) (Fin.ext ?_) (Fin.ext ?_) <;> simp only [] <;> omega
variable (V : FVec Ideal S512x512 .f32) (g b : FVec Ideal S1x512 .f32)
abbrev lo_ : FVec Ideal S512x512 .bf16 := k0_pay35 (F := Ideal) (k0_pay30 (F := Ideal) V) (k0_pay31 (F := Ideal) V) (k0_pay32 (F := Ideal)) g b
abbrev hi_ : FVec Ideal S512x512 .bf16 := k0_pay36 (F := Ideal) (k0_pay30 (F := Ideal) V) (k0_pay31 (F := Ideal) V) (k0_pay32 (F := Ideal)) g b
abbrev wp_ (o : ℕ) (inb : ∀ a, ![o, 0, 0] a + ![1, 128, 256] a ≤ S4x128x256.size a) : FVec Ideal S1x128x256 .bf16 :=
  View.ld (Val := Elt Ideal) (e' := .bf16) WP (Rect.unit (s := S4x128x256) ![o, 0, 0] ![1, 128, 256] inb)
abbrev bi_ (o : ℕ) (inb : ∀ a, ![0, o] a + ![128, 128] a ≤ S128x512.size a) : FVec Ideal S128x128 .f32 :=
  View.ld (Val := Elt Ideal) (e' := .f32) BI (Rect.unit (s := S128x512) ![0, o] ![128, 128] inb)
abbrev mxP : List (View.Piece (Elt Ideal) S512x512 .f32) :=
  [⟨Rect.unit ![384, 384] ![128, 128] inb_S512x512_S128x128_384_384, k0_pay1 (F := Ideal) (k0_pay57 (F := Ideal) (lo_ V g b) (hi_ V g b)) (wp_ WP 3 inb_S4x128x256_S1x128x256_3_0_0) (bi_ BI 384 inb_S128x512_S128x128_0_384)⟩,
    ⟨Rect.unit ![384, 256] ![128, 128] inb_S512x512_S128x128_384_256, k0_pay56 (F := Ideal) (lo_ V g b) (hi_ V g b) (wp_ WP 2 inb_S4x128x256_S1x128x256_2_0_0) (bi_ BI 256 inb_S128x512_S128x128_0_256)⟩,
    ⟨Rect.unit ![384, 128] ![128, 128] inb_S512x512_S128x128_384_128, k0_pay55 (F := Ideal) (lo_ V g b) (hi_ V g b) (wp_ WP 1 inb_S4x128x256_S1x128x256_1_0_0) (bi_ BI 128 inb_S128x512_S128x128_0_128)⟩,
    ⟨Rect.unit ![384, 0] ![128, 128] inb_S512x512_S128x128_384_0, k0_pay54 (F := Ideal) (k0_pay53 (F := Ideal) (lo_ V g b) (hi_ V g b) (wp_ WP 0 inb_S4x128x256_S1x128x256_0_0_0)) (bi_ BI 0 inb_S128x512_S128x128_0_0)⟩,
    ⟨Rect.unit ![256, 384] ![128, 128] inb_S512x512_S128x128_256_384, k0_pay52 (F := Ideal) (lo_ V g b) (hi_ V g b) (wp_ WP 3 inb_S4x128x256_S1x128x256_3_0_0) (bi_ BI 384 inb_S128x512_S128x128_0_384)⟩,
    ⟨Rect.unit ![256, 256] ![128, 128] inb_S512x512_S128x128_256_256, k0_pay51 (F := Ideal) (lo_ V g b) (hi_ V g b) (wp_ WP 2 inb_S4x128x256_S1x128x256_2_0_0) (bi_ BI 256 inb_S128x512_S128x128_0_256)⟩,
    ⟨Rect.unit ![256, 128] ![128, 128] inb_S512x512_S128x128_256_128, k0_pay50 (F := Ideal) (k0_pay49 (F := Ideal) (lo_ V g b) (hi_ V g b) (wp_ WP 1 inb_S4x128x256_S1x128x256_1_0_0)) (bi_ BI 128 inb_S128x512_S128x128_0_128)⟩,
    ⟨Rect.unit ![256, 0] ![128, 128] inb_S512x512_S128x128_256_0, k0_pay48 (F := Ideal) (lo_ V g b) (hi_ V g b) (wp_ WP 0 inb_S4x128x256_S1x128x256_0_0_0) (bi_ BI 0 inb_S128x512_S128x128_0_0)⟩,
    ⟨Rect.unit ![128, 384] ![128, 128] inb_S512x512_S128x128_128_384, k0_pay47 (F := Ideal) (lo_ V g b) (hi_ V g b) (wp_ WP 3 inb_S4x128x256_S1x128x256_3_0_0) (bi_ BI 384 inb_S128x512_S128x128_0_384)⟩,
    ⟨Rect.unit ![128, 256] ![128, 128] inb_S512x512_S128x128_128_256, k0_pay46 (F := Ideal) (k0_pay45 (F := Ideal) (lo_ V g b) (hi_ V g b) (wp_ WP 2 inb_S4x128x256_S1x128x256_2_0_0) (bi_ BI 256 inb_S128x512_S128x128_0_256))⟩,
    ⟨Rect.unit ![128, 128] ![128, 128] inb_S512x512_S128x128_128_128, k0_pay44 (F := Ideal) (lo_ V g b) (hi_ V g b) (wp_ WP 1 inb_S4x128x256_S1x128x256_1_0_0) (bi_ BI 128 inb_S128x512_S128x128_0_128)⟩,
    ⟨Rect.unit ![128, 0] ![128, 128] inb_S512x512_S128x128_128_0, k0_pay43 (F := Ideal) (lo_ V g b) (hi_ V g b) (wp_ WP 0 inb_S4x128x256_S1x128x256_0_0_0) (bi_ BI 0 inb_S128x512_S128x128_0_0)⟩,
    ⟨Rect.unit ![0, 384] ![128, 128] inb_S512x512_S128x128_0_384, k0_pay42 (F := Ideal) (k0_pay41 (F := Ideal) (lo_ V g b) (hi_ V g b) (wp_ WP 3 inb_S4x128x256_S1x128x256_3_0_0) (bi_ BI 384 inb_S128x512_S128x128_0_384))⟩,
    ⟨Rect.unit ![0, 256] ![128, 128] inb_S512x512_S128x128_0_256, k0_pay40 (F := Ideal) (lo_ V g b) (hi_ V g b) (wp_ WP 2 inb_S4x128x256_S1x128x256_2_0_0) (bi_ BI 256 inb_S128x512_S128x128_0_256)⟩,
    ⟨Rect.unit ![0, 128] ![128, 128] inb_S512x512_S128x128_0_128, k0_pay39 (F := Ideal) (hi_ V g b) (k0_pay38 (F := Ideal) (k0_pay30 (F := Ideal) V) (k0_pay31 (F := Ideal) V) (k0_pay32 (F := Ideal)) g b) (wp_ WP 1 inb_S4x128x256_S1x128x256_1_0_0) (bi_ BI 128 inb_S128x512_S128x128_0_128)⟩,
    ⟨Rect.unit ![0, 0] ![128, 128] inb_S512x512_S128x128_0_0, k0_pay37 (F := Ideal) (k0_pay30 (F := Ideal) V) (k0_pay31 (F := Ideal) V) (k0_pay32 (F := Ideal)) g b (wp_ WP 0 inb_S4x128x256_S1x128x256_0_0_0) (bi_ BI 0 inb_S128x512_S128x128_0_0)⟩]
theorem mxP_at (r l : Fin 512) : View.canon (Val := Elt Ideal) (e := .f32) (mxP WP BI V g b) (ix2 r l) = mxv (lo_ V g b) (hi_ V g b) WP BI r l := by
  canon_tiles x h using (View.cover_of_tiledBy (mxP WP BI V g b) ![128, 128] (by sl_kernel_rfl) _)
  all_goals idx_vars x
  · exact (m1 _ _ _ _ x0 x1).trans (mx_eq _ _ WP BI 3 rfl rfl (by omega) (by omega) (fun q => ld_wp WP _ 3 rfl x0 q) (ld_bi BI _ x0 x1 _ (by omega)))
  · exact (m56 _ _ _ _ x0 x1).trans (mx_eq _ _ WP BI 2 rfl rfl (by omega) (by omega) (fun q => ld_wp WP _ 2 rfl x0 q) (ld_bi BI _ x0 x1 _ (by omega)))
  · exact (m55 _ _ _ _ x0 x1).trans (mx_eq _ _ WP BI 1 rfl rfl (by omega) (by omega) (fun q => ld_wp WP _ 1 rfl x0 q) (ld_bi BI _ x0 x1 _ (by omega)))
  · exact (m54 _ _ _ _ x0 x1).trans (mx_eq _ _ WP BI 0 rfl rfl (by omega) (by omega) (fun q => ld_wp WP _ 0 rfl x0 q) (ld_bi BI _ x0 x1 _ (by omega)))
  · exact (m52 _ _ _ _ x0 x1).trans (mx_eq _ _ WP BI 3 rfl rfl (by omega) (by omega) (fun q => ld_wp WP _ 3 rfl x0 q) (ld_bi BI _ x0 x1 _ (by omega)))
  · exact (m51 _ _ _ _ x0 x1).trans (mx_eq _ _ WP BI 2 rfl rfl (by omega) (by omega) (fun q => ld_wp WP _ 2 rfl x0 q) (ld_bi BI _ x0 x1 _ (by omega)))
  · exact (m50 _ _ _ _ x0 x1).trans (mx_eq _ _ WP BI 1 rfl rfl (by omega) (by omega) (fun q => ld_wp WP _ 1 rfl x0 q) (ld_bi BI _ x0 x1 _ (by omega)))
  · exact (m48 _ _ _ _ x0 x1).trans (mx_eq _ _ WP BI 0 rfl rfl (by omega) (by omega) (fun q => ld_wp WP _ 0 rfl x0 q) (ld_bi BI _ x0 x1 _ (by omega)))
  · exact (m47 _ _ _ _ x0 x1).trans (mx_eq _ _ WP BI 3 rfl rfl (by omega) (by omega) (fun q => ld_wp WP _ 3 rfl x0 q) (ld_bi BI _ x0 x1 _ (by omega)))
  · exact (m46 _ _ _ _ x0 x1).trans (mx_eq _ _ WP BI 2 rfl rfl (by omega) (by omega) (fun q => ld_wp WP _ 2 rfl x0 q) (ld_bi BI _ x0 x1 _ (by omega)))
  · exact (m44 _ _ _ _ x0 x1).trans (mx_eq _ _ WP BI 1 rfl rfl (by omega) (by omega) (fun q => ld_wp WP _ 1 rfl x0 q) (ld_bi BI _ x0 x1 _ (by omega)))
  · exact (m43 _ _ _ _ x0 x1).trans (mx_eq _ _ WP BI 0 rfl rfl (by omega) (by omega) (fun q => ld_wp WP _ 0 rfl x0 q) (ld_bi BI _ x0 x1 _ (by omega)))
  · exact (m42 _ _ _ _ x0 x1).trans (mx_eq _ _ WP BI 3 rfl rfl (by omega) (by omega) (fun q => ld_wp WP _ 3 rfl x0 q) (ld_bi BI _ x0 x1 _ (by omega)))
  · exact (m40 _ _ _ _ x0 x1).trans (mx_eq _ _ WP BI 2 rfl rfl (by omega) (by omega) (fun q => ld_wp WP _ 2 rfl x0 q) (ld_bi BI _ x0 x1 _ (by omega)))
  · exact (m39 _ _ _ x0 x1 _ _ _ g b).trans (mx_eq _ _ WP BI 1 rfl rfl (by omega) (by omega) (fun q => ld_wp WP _ 1 rfl x0 q) (ld_bi BI _ x0 x1 _ (by omega)))
  · exact (m37 _ _ x0 x1 _ _ _ g b).trans (mx_eq _ _ WP BI 0 rfl rfl (by omega) (by omega) (fun q => ld_wp WP _ 0 rfl x0 q) (ld_bi BI _ x0 x1 _ (by omega)))
end gm
end Cert.Kernel13Ideal.Seq
end
-- ==== Proof.SeqWindows.lean ====
module

public import proofs.«01_k».proof.Proof.SeqBlock
public import proofs.«01_k».proof.Proof.Gen.Kernel13Ideal.Value
public import Idealize.ShloMosaic.Lib.StableHlo.ReadAt

/-!
The mixer going forward: the blocks that one grid point reads, from the arguments.
-/

@[expose] public section
set_option maxRecDepth 16384
noncomputable section
namespace Cert.Kernel13Ideal.Seq
open Cert.Kernel13Ideal Cert.Kernel13Ideal.Gen Idealize.ShloMosaic Idealize.ShloMosaic.TcCoe Idealize.SL.Sem
open Idealize.ShloMosaic.Pipeline (Dat)
open Cert.AttnSpec Cert.AttnFwd Cert.FfnSpec Cert.FfnUp Cert.GradSpec Cert.SeqSpec

variable (m : (ℓ : Loc nD τ sig) → Buf (Elt Ideal) ℓ) (c : Dev nD)
abbrev a0 : Fin 4096 → Fin 1024 → EReal := ent (a := 4096) (b := 1024) (φ := .bf16) (m ((c : Thread nD τ).loc main_arg0))
abbrev a1 : Fin 1024 → Fin 2048 → EReal := ent (a := 1024) (b := 2048) (φ := .bf16) (m ((c : Thread nD τ).loc main_arg1))
abbrev a2 : Fin 2048 → EReal := ent1 (a := 2048) (φ := .f32) (m ((c : Thread nD τ).loc main_arg2))
abbrev a3 : Fin 31 → Fin 512 → EReal := ent (a := 31) (b := 512) (φ := .f32) (m ((c : Thread nD τ).loc main_arg3))
abbrev a4 : Fin 512 → EReal := ent1 (a := 512) (φ := .f32) (m ((c : Thread nD τ).loc main_arg4))
abbrev a5 : Fin 512 → EReal := ent1 (a := 512) (φ := .f32) (m ((c : Thread nD τ).loc main_arg5))
abbrev a6 : Fin 512 → EReal := ent1 (a := 512) (φ := .f32) (m ((c : Thread nD τ).loc main_arg6))
abbrev a7 : Fin 512 → EReal := ent1 (a := 512) (φ := .f32) (m ((c : Thread nD τ).loc main_arg7))
abbrev a8 : Fin 512 → EReal := ent1 (a := 512) (φ := .f32) (m ((c : Thread nD τ).loc main_arg8))
abbrev a9 : Fin 8 → Fin 128 → Fin 128 → EReal := fun h t s => (show FVec Ideal S8x128x128 .f32 from m ((c : Thread nD τ).loc main_arg9)) (ix3 h t s)
abbrev a10 : Fin 8 → Fin 128 → EReal := ent (a := 8) (b := 128) (φ := .f32) (m ((c : Thread nD τ).loc main_arg10))

theorem idx : ∀ t : Fin cfg0.N, win0_0.index t = ![t.val, 0] ∧ win0_1.index t = ![0, 0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0]
    ∧ win0_9.index t = ![0, 0, 0] ∧ win0_10.index t = ![0, 0] ∧ win0_11.index t = ![t.val, 0] ∧ win0_12.index t = ![t.val, 0]
    ∧ win0_13.index t = ![t.val, 0] ∧ t.val < 8 :=
  (by decide +kernel : ∀ t : Fin grid0.N, _)
theorem lt8 (t : Fin cfg0.N) : t.val < 8 := (idx t).2.2.2.2.2.2.2.2.2.2.2.2.2.2
/-- Row `r` of the block of point `t`. -/
def rowOf (t : Fin cfg0.N) (r : Fin 512) : Fin 4096 := ⟨t.val * 512 + r, by have := lt8 t; omega⟩

theorem b0 (t : Fin cfg0.N) (r : Fin 512) (e : Fin 1024) : (show FVec Ideal S512x1024 .bf16 from iblk m c 0 t) (ix2 r e) = a0 m c (rowOf t r) e := by
  blk_ext [iblk, V, idx t, rowOf]
theorem b1 (t : Fin cfg0.N) (s : Fin 4) (e : Fin 1024) (j : Fin 512) :
    (show FVec Ideal S4x1024x512 .bf16 from iblk m c 1 t) (ix3 s e j) = a1 m c e (qcol s j) := by
  have h : (show FVec Ideal S4x1024x512 .bf16 from iblk m c 1 t) (ix3 s e j) =
      (show FVec Ideal S4x1024x512 .bf16 from V m c main_v20) (ix3 s e j) := by blk_ext [iblk, idx t]
  refine h.trans ?_
  after_reads_simp
  pointwise
  after_reads_simp
  pointwise
  exact four_pieces (fun n h => a1 m c e ⟨n, h⟩) s j.val (by omega) (by omega) (by omega) (by omega) (by omega)
theorem b2 (t : Fin cfg0.N) (j : Fin 2048) : (show FVec Ideal S1x2048 .f32 from iblk m c 2 t) (ix2 0 j) = a2 m c j := by
  have h : (show FVec Ideal S1x2048 .f32 from iblk m c 2 t) (ix2 0 j) =
      (show FVec Ideal S1x2048 .f32 from V m c main_v21) (ix2 0 j) := by blk_ext [iblk, idx t]
  refine h.trans ?_
  after_reads_simp
  pointwise
theorem b3 (t : Fin cfg0.N) (k : Fin 31) (l : Fin 512) : (show FVec Ideal S32x512 .f32 from iblk m c 3 t) (ix2 ⟨k.val, by omega⟩ l) = a3 m c k l := by
  have h : (show FVec Ideal S32x512 .f32 from iblk m c 3 t) (ix2 ⟨k.val, by omega⟩ l) =
      (show FVec Ideal S32x512 .f32 from V m c main_v11) (ix2 ⟨k.val, by omega⟩ l) := by blk_ext [iblk, idx t]
  refine h.trans ?_
  after_reads_simp
  pointwise
  simp only [StableHlo.TRef.ofBuf_toBuf]
  simp -implicitDefEqProofs only [StableHlo.TRef.toBuf, StableHlo.TRef.ofBuf, cast_cast, cast_eq]
  pointwise
theorem b4 (t : Fin cfg0.N) (j : Fin 512) : (show FVec Ideal S1x512 .f32 from iblk m c 4 t) (ix2 0 j) = a4 m c j := by
  have h : (show FVec Ideal S1x512 .f32 from iblk m c 4 t) (ix2 0 j) =
      (show FVec Ideal S1x512 .f32 from V m c main_v22) (ix2 0 j) := by blk_ext [iblk, idx t]
  refine h.trans ?_
  after_reads_simp
  pointwise
theorem b5 (t : Fin cfg0.N) (j : Fin 512) : (show FVec Ideal S1x512 .f32 from iblk m c 5 t) (ix2 0 j) = a5 m c j := by
  have h : (show FVec Ideal S1x512 .f32 from iblk m c 5 t) (ix2 0 j) =
      (show FVec Ideal S1x512 .f32 from V m c main_v23) (ix2 0 j) := by blk_ext [iblk, idx t]
  refine h.trans ?_
  after_reads_simp
  pointwise
theorem b6 (t : Fin cfg0.N) (j : Fin 512) : (show FVec Ideal S1x512 .f32 from iblk m c 6 t) (ix2 0 j) = a6 m c j := by
  have h : (show FVec Ideal S1x512 .f32 from iblk m c 6 t) (ix2 0 j) =
      (show FVec Ideal S1x512 .f32 from V m c main_v24) (ix2 0 j) := by blk_ext [iblk, idx t]
  refine h.trans ?_
  after_reads_simp
  pointwise
theorem b7 (t : Fin cfg0.N) (j : Fin 512) : (show FVec Ideal S1x512 .f32 from iblk m c 7 t) (ix2 0 j) = a7 m c j := by
  have h : (show FVec Ideal S1x512 .f32 from iblk m c 7 t) (ix2 0 j) =
      (show FVec Ideal S1x512 .f32 from V m c main_v25) (ix2 0 j) := by blk_ext [iblk, idx t]
  refine h.trans ?_
  after_reads_simp
  pointwise
theorem b8 (t : Fin cfg0.N) (j : Fin 512) : (show FVec Ideal S1x512 .f32 from iblk m c 8 t) (ix2 0 j) = a8 m c j := by
  have h : (show FVec Ideal S1x512 .f32 from iblk m c 8 t) (ix2 0 j) =
      (show FVec Ideal S1x512 .f32 from V m c main_v26) (ix2 0 j) := by blk_ext [iblk, idx t]
  refine h.trans ?_
  after_reads_simp
  pointwise
theorem tri_word : ∀ t s : Fin 128, Scalar.select (α := BitVec 1) (IntOp.cmpi CmpIPredicate.sge (IntOp.addi (BitVec.ofNat 32 t.val) 0#32) (BitVec.ofNat 32 s.val)) 1#1 0#1 =
    if s.val ≤ t.val then 1#1 else 0#1 := by decide +kernel
theorem even_at (j : Fin 4) (u q : Fin 128) : (show FVec Ideal S4x128x128 .f32 from
    StableHlo.upto [hostOps0, hostOps0_1, hostOps0_2, hostOps0_3, hostOps0_4, hostOps0_5, hostOps0_6].flatten
      (fun b => m (c, b)) 19 (Proc.tc.devRef main_v4)) (ix3 j u q) = low (a9 m c) ⟨2 * j.val, by omega⟩ u q := by
  after_reads_at
  rw [tri_word]
  unfold low
  by_cases h : q.val ≤ u.val
  · rw [if_pos h, if_pos h]
    exact congrArg (fun n => a9 m c n u q) (Fin.ext (rfl))
  · rw [if_neg h, if_neg h]
    refine Eq.trans (b := (constant (F := Ideal) S_ FTy.f32 0#32 ix0 : EReal)) rfl ?_
    pointwise
theorem odd_at (j : Fin 4) (u q : Fin 128) : (show FVec Ideal S4x128x128 .f32 from
    StableHlo.upto [hostOps0, hostOps0_1, hostOps0_2, hostOps0_3, hostOps0_4, hostOps0_5, hostOps0_6].flatten
      (fun b => m (c, b)) 19 (Proc.tc.devRef main_v5)) (ix3 j u q) = low (a9 m c) ⟨2 * j.val + 1, by omega⟩ u q := by
  after_reads_at
  rw [tri_word]
  unfold low
  by_cases h : q.val ≤ u.val
  · rw [if_pos h, if_pos h]
    exact congrArg (fun n => a9 m c n u q) (Fin.ext (Nat.add_comm _ _))
  · rw [if_neg h, if_neg h]
    refine Eq.trans (b := (constant (F := Ideal) S_ FTy.f32 0#32 ix0 : EReal)) rfl ?_
    pointwise
theorem b9 (t : Fin cfg0.N) (j : Fin 4) (u : Fin 128) (q : Fin 256) : (show FVec Ideal S4x128x256 .bf16 from iblk m c 9 t) (ix3 j u q) =
    if h : q.val < 128 then low (a9 m c) ⟨2 * j.val, by omega⟩ u ⟨q.val, h⟩ else low (a9 m c) ⟨2 * j.val + 1, by omega⟩ u ⟨q.val - 128, by omega⟩ := by
  have h : (show FVec Ideal S4x128x256 .bf16 from iblk m c 9 t) (ix3 j u q) =
      (show FVec Ideal S4x128x256 .bf16 from V m c main_v7) (ix3 j u q) := by blk_ext [iblk, idx t]
  refine h.trans ?_
  after_reads_simp
  pointwise
  by_cases q' : q.val < 128
  · refine (dif_pos q').trans ((even_at m c j u ⟨q.val, q'⟩).trans ?_)
    rw [dif_pos q']
  · refine (dif_neg q').trans ((odd_at m c j u ⟨q.val - 128, by omega⟩).trans ?_)
    rw [dif_neg q']
theorem b10 (t : Fin cfg0.N) (u : Fin 128) (l : Fin 512) : (show FVec Ideal S128x512 .f32 from iblk m c 10 t) (ix2 u l) = a10 m c (hd l) u := by
  have h : (show FVec Ideal S128x512 .f32 from iblk m c 10 t) (ix2 u l) =
      (show FVec Ideal S128x512 .f32 from V m c main_v10) (ix2 u l) := by blk_ext [iblk, idx t]
  refine h.trans ?_
  after_reads_simp
  pointwise
  rfl
end Cert.Kernel13Ideal.Seq
end
-- ==== Proof.SeqRows.lean ====
module

public import proofs.«01_k».proof.Proof.SeqWindows

/-!
The mixer going forward: what every grid point leaves, row by row.
-/

@[expose] public section
set_option maxRecDepth 16384
noncomputable section
namespace Cert.Kernel13Ideal.Seq
open Cert.Kernel13Ideal Cert.Kernel13Ideal.Gen Idealize.ShloMosaic Idealize.ShloMosaic.TcCoe Idealize.SL.Sem
open Idealize.ShloMosaic.Pipeline (Dat)
open Cert.AttnSpec Cert.AttnFwd Cert.FfnSpec Cert.FfnUp Cert.GradSpec Cert.SeqSpec

/-- A load of the whole mixed block. -/
theorem read_mx {κ : Kind} {sp : Space} (v : View sig κ sp S512x512 .f32) (L : List (View.Piece (Elt Ideal) S512x512 .f32))
    (inb : ∀ a, ![0, 0] a + ![512, 512] a ≤ S512x512.size a) (r l : Fin 512) :
    v.readCov (Val := Elt Ideal) L (Rect.unit (s := S512x512) ![0, 0] ![512, 512] inb).toLoadRect (ix2 r l) = View.canon (Val := Elt Ideal) (e := .f32) L (ix2 r l) := by
  refine (congrFun (View.readCov_eq_canon' v _ _) _).trans ?_
  refine congrArg (View.canon (Val := Elt Ideal) (e := .f32) L) ?_
  blk_ext [Rect.idx_unit_val]
/-- One head's mixed value from the pair of half blocks: the half that is not the head's adds nothing. -/
theorem mxv_eq (lo hi : FVec Ideal S512x512 .bf16) (WP : FVec Ideal S4x128x256 .bf16) (BI : FVec Ideal S128x512 .f32)
    (ws : Fin 8 → Fin 128 → Fin 128 → EReal) (bs : Fin 8 → Fin 128 → EReal) (v : Fin 512 → Fin 512 → EReal)
    (hlo : ∀ r l, lo (ix2 r l) = if l.val / 64 % 2 = 0 then v r l else 0)
    (hhi : ∀ r l, hi (ix2 r l) = if l.val / 64 % 2 = 0 then 0 else v r l)
    (hW : ∀ (j : Fin 4) u (q : Fin 256), WP (ix3 j u q) = if h : q.val < 128 then low ws ⟨2 * j.val, by omega⟩ u ⟨q.val, h⟩ else low ws ⟨2 * j.val + 1, by omega⟩ u ⟨q.val - 128, by omega⟩)
    (hB : ∀ u l, BI (ix2 u l) = bs (hd l) u) (r l : Fin 512) :
    mxv lo hi WP BI r l = ∑ s : Fin 128, low ws (hd l) ⟨r.val % 128, by omega⟩ s * v ⟨r.val / 128 * 128 + s.val, by omega⟩ l
      + bs (hd l) ⟨r.val % 128, by omega⟩ := by
  unfold mxv
  rw [hB]
  congr 1
  refine (Fin.sum_univ_add (M := EReal) (a := 128) (b := 128) _).trans ?_
  by_cases hp : l.val / 64 % 2 = 0
  · refine (congrArg₂ (· + ·) (Finset.sum_congr (M := EReal) rfl (g := fun s : Fin 128 => low ws (hd l) ⟨r.val % 128, by omega⟩ s * v ⟨r.val / 128 * 128 + s.val, by omega⟩ l) fun s _ => ?_)
      (Finset.sum_eq_zero (M := EReal) fun s _ => ?_)).trans (add_zero _)
    · have hs : (Fin.castAdd 128 s).val < 128 := s.isLt
      simp only [hs, dif_pos, hW, hlo, hp, if_true]
      congr 2
      exact Fin.ext (show 2 * (l.val / 128) = l.val / 64 by omega)
    · have hs : ¬ (Fin.natAdd 128 s).val < 128 := by simp
      simp only [hs, dif_neg, not_false_eq_true, hhi, hp, if_true, mul_zero]
  · refine (congrArg₂ (· + ·) (Finset.sum_eq_zero (M := EReal) fun s _ => ?_)
      (Finset.sum_congr (M := EReal) rfl (g := fun s : Fin 128 => low ws (hd l) ⟨r.val % 128, by omega⟩ s * v ⟨r.val / 128 * 128 + s.val, by omega⟩ l) fun s _ => ?_)).trans (zero_add _)
    · have hs : (Fin.castAdd 128 s).val < 128 := s.isLt
      simp only [hs, dif_pos, hlo, hp, if_false, mul_zero]
    · have hs : ¬ (Fin.natAdd 128 s).val < 128 := by simp
      have e : (Fin.natAdd 128 s).val - 128 = s.val := by simp
      simp only [hs, dif_neg, not_false_eq_true, hW, hhi, hp, if_false, e]
      congr 2
      exact Fin.ext (show 2 * (l.val / 128) + 1 = l.val / 64 by omega)

variable (m : (ℓ : Loc nD τ sig) → Buf (Elt Ideal) ℓ) (c : Dev nD)
abbrev zr' : Fin 4096 → Fin 2048 → EReal := zr (a0 m c) (a1 m c) (a2 m c)
abbrev halo' : ℕ → Fin 512 → EReal := halo (a0 m c) (a1 m c) (a2 m c)

/-- The projection of the block of point `t`. -/
theorem zb_eq (t : Fin cfg0.N) (r : Fin 512) (j : Fin 2048) : zb (iblk m c 0 t) (iblk m c 1 t) (iblk m c 2 t) r j = zr' m c (rowOf t r) j := by
  refine congrArg₂ (· + ·) (Finset.sum_congr (M := EReal) rfl fun e _ => congrArg₂ (· * ·) (b0 m c t r e)
    ((b1 m c t ⟨j.val / 512, by omega⟩ e ⟨j.val % 512, by omega⟩).trans (congrArg (a1 m c e) (Fin.ext ?_)))) (b2 m c t j)
  simp only [qcol]
  omega

section point
variable (t : Fin cfg0.N)
abbrev zP' := zP (iblk m c 0 t) (iblk m c 1 t) (iblk m c 2 t)
variable {κ₀ : Kind} {sp₀ : Space} (w : View sig κ₀ sp₀ S512x2048 .f32)
abbrev abP' (Z : FVec Ideal S32x512 .f32) := abP Z
  (w.readCov (Val := Elt Ideal) (zP' m c t) (Rect.unit (s := S512x2048) ![0, 0] ![512, 512] inb_S512x2048_S512x512_0_0).toLoadRect)
  (w.readCov (Val := Elt Ideal) (zP' m c t) (Rect.unit (s := S512x2048) ![0, 512] ![512, 512] inb_S512x2048_S512x512_0_512).toLoadRect)
variable (Z : FVec Ideal S32x512 .f32) (hZ : ∀ (i : Fin 32) l, Z (ix2 i l) = halo' m c (t.val * 512 + i.val) l)
include hZ
/-- The rows that the convolution reads at point `t`. -/
theorem ab_halo (n : Fin 544) (l : Fin 512) : View.canon (Val := Elt Ideal) (e := .f32) (abP' m c t w Z) (ix2 n l) = halo' m c (t.val * 512 + n.val) l := by
  have ht := lt8 t
  refine (abP_at _ _ _ n l).trans ?_
  unfold ab
  by_cases h : n.val < 32
  · rw [dif_pos h]
    exact hZ ⟨n.val, h⟩ l
  · rw [dif_neg h, dif_pos n.isLt, z_rd _ _ _ w _ _ l (qcol 0 l) (by simp [qcol]), z_rd _ _ _ w _ _ l (qcol 1 l) (by simp [qcol]), zb_eq, zb_eq]
    refine Eq.trans ?_ (dif_pos (by omega)).symm
    unfold glur
    have e : rowOf t ⟨n.val - 32, by omega⟩ = ⟨t.val * 512 + n.val - 32, by omega⟩ := Fin.ext (by simp only [rowOf]; omega)
    rw [e]
/-- The convolution at point `t`. -/
theorem c1_row (z : EReal) (hz : z = 0) (r l : Fin 512) :
    k0_pay27 (F := Ideal) (acc_ (abP' m c t w Z) (iblk m c 3 t) z) (k0_pay26 (F := Ideal) (cw_ (iblk m c 3 t) 30 inb_S32x512_S1x512_30_0))
      (f_ (abP' m c t w Z) 32 inb_S544x512_S512x512_32_0) (iblk m c 4 t) (ix2 r l) =
    conv (a0 m c) (a1 m c) (a2 m c) (a3 m c) (a4 m c) (rowOf t r).val l := by
  refine (c1_block (abP' m c t w Z) (fun n l => halo' m c (t.val * 512 + n) l) (ab_halo m c t w Z hZ) (iblk m c 3 t) (iblk m c 4 t) z hz r l).trans ?_
  refine congrArg₂ (· + ·) (Finset.sum_congr (M := EReal) rfl fun k hk => congrArg₂ (· * ·) ?_ ?_) (b4 m c t l)
  · have h : k < 31 := Finset.mem_range.1 hk
    rw [dif_pos h, dif_pos h]
    exact b3 m c t ⟨k, h⟩ l
  · exact congrArg (halo' m c · l) (by simp only [rowOf]; omega)
/-- The convolution group at point `t`. -/
theorem conv_row (z : EReal) (hz : z = 0) (r l : Fin 512) :
    k0_pay28 (F := Ideal) (acc_ (abP' m c t w Z) (iblk m c 3 t) z) (k0_pay26 (F := Ideal) (cw_ (iblk m c 3 t) 30 inb_S32x512_S1x512_30_0))
      (f_ (abP' m c t w Z) 32 inb_S544x512_S512x512_32_0) (iblk m c 4 t) (iblk m c 5 t) (iblk m c 6 t) (ix2 r l) =
    convOut (a0 m c) (a1 m c) (a2 m c) (a3 m c) (a4 m c) (a5 m c) (a6 m c) (rowOf t r).val l := by
  refine (out_at _ _ _ _ _ _ _ _).trans ?_
  unfold convOut
  rw [funext fun l => c1_row m c t w Z hZ z hz r l, funext fun l => b5 m c t l, funext fun l => b6 m c t l]
omit hZ
/-- The gMLP group at point `t`. -/
theorem gm_row {κ κ' : Kind} {sp sp' : Space} (v : View sig κ sp S512x2048 .f32) (v' : View sig κ' sp' S512x512 .f32) (r l : Fin 512) :
    k0_pay2 (F := Ideal) (k0_pay29 (F := Ideal) (v.readCov (Val := Elt Ideal) (zP' m c t) (Rect.unit (s := S512x2048) ![0, 1024] ![512, 512] inb_S512x2048_S512x512_0_1024).toLoadRect))
      (v'.readCov (Val := Elt Ideal) (mxP (iblk m c 9 t) (iblk m c 10 t)
        (v.readCov (Val := Elt Ideal) (zP' m c t) (Rect.unit (s := S512x2048) ![0, 1536] ![512, 512] inb_S512x2048_S512x512_0_1536).toLoadRect)
        (iblk m c 7 t) (iblk m c 8 t)) (Rect.unit (s := S512x512) ![0, 0] ![512, 512] inb_S512x512_S512x512_0_0).toLoadRect) (ix2 r l) =
    gmOut (a0 m c) (a1 m c) (a2 m c) (a7 m c) (a8 m c) (a9 m c) (a10 m c) (rowOf t r) l := by
  refine (gm_at _ _ r l).trans ?_
  refine congrArg₂ (· * ·) ((u_at _ r l).trans (congrArg gelu ?_)) ?_
  · exact (z_rd _ _ _ v _ r l (qcol 2 l) (by simp [qcol])).trans (zb_eq m c t r _)
  have hV : ∀ r l, v.readCov (Val := Elt Ideal) (zP' m c t) (Rect.unit (s := S512x2048) ![0, 1536] ![512, 512] inb_S512x2048_S512x512_0_1536).toLoadRect (ix2 r l) = zr' m c (rowOf t r) (qcol 3 l) := fun r l =>
    (z_rd _ _ _ v _ r l (qcol 3 l) (by simp [qcol])).trans (zb_eq m c t r _)
  revert hV
  generalize v.readCov (Val := Elt Ideal) (zP' m c t) (Rect.unit (s := S512x2048) ![0, 1536] ![512, 512] inb_S512x2048_S512x512_0_1536).toLoadRect = V
  intro hV
  refine (read_mx v' _ _ r l).trans ?_
  refine (mxP_at _ _ V _ _ r l).trans ?_
  have hn : ∀ r l, k0_pay33 (F := Ideal) (k0_pay30 (F := Ideal) V) (k0_pay31 (F := Ideal) V) (k0_pay32 (F := Ideal)) (iblk m c 7 t) (iblk m c 8 t) (ix2 r l)
      = vn (a0 m c) (a1 m c) (a2 m c) (a7 m c) (a8 m c) (rowOf t r) l := by
    intro r l
    refine (ln_at _ _ _ _ _).trans ?_
    unfold vn
    rw [funext fun l => b7 m c t l, funext fun l => b8 m c t l]
    refine congrArg (fun x => lnorm x _ _ l) (funext fun l => congrArg gelu (hV r l))
  refine (mxv_eq _ _ _ _ (a9 m c) (a10 m c) (fun r l => vn (a0 m c) (a1 m c) (a2 m c) (a7 m c) (a8 m c) (rowOf t r) l)
    (fun r l => (lo_at _ _ _ _ _ _ _).trans (by rw [hn])) (fun r l => (hi_at _ _ _ _ _ _ _).trans (by rw [hn])) (b9 m c t) (b10 m c t) r l).trans ?_
  unfold mixed
  have e : inChunk (rowOf t r) = ⟨r.val % 128, by omega⟩ := Fin.ext (by simp only [inChunk, rowOf]; omega)
  rw [e]
  refine congrArg (· + _) (Finset.sum_congr (M := EReal) rfl fun s _ => congrArg₂ (· * ·) rfl ?_)
  refine congrArg (fun R => vn (a0 m c) (a1 m c) (a2 m c) (a7 m c) (a8 m c) R l) (Fin.ext ?_)
  simp only [chunk, rowOf]
  omega
end point

theorem ld_keep (X : FVec Ideal S544x512 .f32) (inb : ∀ a, ![512, 0] a + ![32, 512] a ≤ S544x512.size a) (i : Fin 32) (l : Fin 512) :
    View.ld (Val := Elt Ideal) (e' := .f32) X (Rect.unit (s := S544x512) ![512, 0] ![32, 512] inb) (ix2 i l) = X (ix2 ⟨512 + i.val, by omega⟩ l) := by
  pointwise
  try blk_ext
theorem first_at (t : Fin cfg0.N) (h : t.val = 0) (i : Fin 32) (l : Fin 512) :
    k0_pay3 (F := Ideal) (ix2 i l) = halo' m c (t.val * 512 + i.val) l :=
  (zero_at l i).trans (Eq.symm (by unfold halo' halo; exact dif_neg (by omega)))
end Cert.Kernel13Ideal.Seq
end
-- ==== Proof.SeqArrays.lean ====
module

public import proofs.«01_k».proof.Proof.SeqRows

/-!
The mixer going forward: what every grid point leaves, and from it the three whole arrays.
-/

@[expose] public section
set_option maxRecDepth 16384
noncomputable section
namespace Cert.Kernel13Ideal.Seq
open Cert.Kernel13Ideal Cert.Kernel13Ideal.Gen Idealize.ShloMosaic Idealize.ShloMosaic.TcCoe Idealize.SL.Sem
open Idealize.ShloMosaic.Pipeline (Dat)
open Cert.AttnSpec Cert.AttnFwd Cert.FfnSpec Cert.FfnUp Cert.GradSpec Cert.SeqSpec

variable (m : (ℓ : Loc nD τ sig) → Buf (Elt Ideal) ℓ) (c : Dev nD)
theorem abuf_A (t : Fin cfg0.N) (h0 : t.val % 8 = 0) (h1 : ¬1 ≤ t.val) (i : Fin 544) (l : Fin 512) :
    (outsAt0 m c t.val t.isLt).2.2.2 (ix2 i l) = halo' m c (t.val * 512 + i.val) l := by
  rw [outsAt0_A m c t h0 h1]; frame_out
  exact ab_halo m c t _ _ (fun j l => first_at m c t (by omega) j l) i l
theorem keep_halo (t : Fin cfg0.N) (h1 : 1 ≤ t.val)
    (ih : ∀ (i : Fin 544) l, (outsAt0 m c (t.val - 1) (Nat.lt_of_le_of_lt (Nat.sub_le _ _) t.isLt)).2.2.2 (ix2 i l) = halo' m c ((t.val - 1) * 512 + i.val) l)
    (i : Fin 32) (l : Fin 512) :
    k0_pay4 (F := Ideal) (View.ld (Val := Elt Ideal) (e' := .f32) (outsAt0 m c (t.val - 1) (Nat.lt_of_le_of_lt (Nat.sub_le _ _) t.isLt)).2.2.2
      (Rect.unit (s := S544x512) ![512, 0] ![32, 512] inb_S544x512_S32x512_512_0)) (ix2 i l) = halo' m c (t.val * 512 + i.val) l :=
  ((keep_at l _ i).trans (ld_keep _ _ i l)).trans ((ih _ l).trans (congrArg (halo' m c · l) (by simp only []; omega)))
theorem abuf_B (t : Fin cfg0.N) (h0 : ¬t.val % 8 = 0) (h1 : 1 ≤ t.val)
    (ih : ∀ (i : Fin 544) l, (outsAt0 m c (t.val - 1) (Nat.lt_of_le_of_lt (Nat.sub_le _ _) t.isLt)).2.2.2 (ix2 i l) = halo' m c ((t.val - 1) * 512 + i.val) l)
    (i : Fin 544) (l : Fin 512) :
    (outsAt0 m c t.val t.isLt).2.2.2 (ix2 i l) = halo' m c (t.val * 512 + i.val) l := by
  rw [outsAt0_B m c t h0 h1]; frame_out
  exact ab_halo m c t _ _ (fun j l => by rw [read_unread_whole]; exact keep_halo m c t h1 ih j l) i l
/-- The rows carried to the next point. -/
theorem abuf_at : ∀ (n : ℕ) (h : n < cfg0.N) (i : Fin 544) (l : Fin 512), (outsAt0 m c n h).2.2.2 (ix2 i l) = halo' m c (n * 512 + i.val) l := by
  intro n
  induction n with
  | zero => exact fun h => abuf_A m c ⟨0, h⟩ (Nat.zero_mod 8) (Nat.not_succ_le_zero 0)
  | succ n ih =>
    intro h
    have hl : n + 1 < 8 := lt8 ⟨n + 1, h⟩
    exact abuf_B m c ⟨n + 1, h⟩ (show ¬(n + 1) % 8 = 0 by omega) (show 1 ≤ n + 1 by omega) (ih _)
theorem next_at (t : Fin cfg0.N) (h1 : 1 ≤ t.val) (i : Fin 32) (l : Fin 512) :
    k0_pay4 (F := Ideal) (View.ld (Val := Elt Ideal) (e' := .f32) (outsAt0 m c (t.val - 1) (Nat.lt_of_le_of_lt (Nat.sub_le _ _) t.isLt)).2.2.2
      (Rect.unit (s := S544x512) ![512, 0] ![32, 512] inb_S544x512_S32x512_512_0)) (ix2 i l) = halo' m c (t.val * 512 + i.val) l :=
  keep_halo m c t h1 (abuf_at m c _ _) i l

abbrev mix' : Fin 4096 → Fin 1024 → EReal :=
  mix (a0 m c) (a1 m c) (a2 m c) (a3 m c) (a4 m c) (a5 m c) (a6 m c) (a7 m c) (a8 m c) (a9 m c) (a10 m c)
abbrev conv' : ℕ → Fin 512 → EReal := conv (a0 m c) (a1 m c) (a2 m c) (a3 m c) (a4 m c)
theorem mix_left {R : Fin 4096} {j : Fin 1024} {l : Fin 512} (h : j.val = l.val) :
    convOut (a0 m c) (a1 m c) (a2 m c) (a3 m c) (a4 m c) (a5 m c) (a6 m c) R.val l = mix' m c R j := by
  refine Eq.trans ?_ (dif_pos (show j.val < 512 by omega)).symm
  exact congrArg _ (Fin.ext h.symm)
theorem mix_right {R : Fin 4096} {j : Fin 1024} {l : Fin 512} (h : j.val = 512 + l.val) :
    gmOut (a0 m c) (a1 m c) (a2 m c) (a7 m c) (a8 m c) (a9 m c) (a10 m c) R l = mix' m c R j := by
  refine Eq.trans ?_ (dif_neg (show ¬j.val < 512 by omega)).symm
  exact congrArg _ (Fin.ext (by simp only []; omega))

theorem w11 (t : Fin cfg0.N) (r : Fin 512) (j : Fin 2048) : (outsAt0 m c t.val t.isLt).1 (ix2 r j) = zr' m c (rowOf t r) j := by
  have ht := lt8 t
  by_cases hp : 1 ≤ t.val
  · rw [outsAt0_B m c t (by omega) hp]; frame_out
    exact (zP_at _ _ _ r j).trans (zb_eq m c t r j)
  · rw [outsAt0_A m c t (by omega) hp]; frame_out
    exact (zP_at _ _ _ r j).trans (zb_eq m c t r j)
theorem z_word : (FloatOps.ofBits (F := Ideal) FTy.f32 0#32 : EReal) = 0 := by
  pointwise
theorem w13_A (t : Fin cfg0.N) (h0 : t.val % 8 = 0) (hp : ¬1 ≤ t.val) (r l : Fin 512) :
    (outsAt0 m c t.val t.isLt).2.2.1 (ix2 r l) = conv' m c (rowOf t r).val l := by
  rw [outsAt0_A m c t h0 hp]; frame_out
  exact c1_row m c t _ _ (fun j l => first_at m c t (by omega) j l) _ z_word r l
theorem w13_B (t : Fin cfg0.N) (h0 : ¬t.val % 8 = 0) (hp : 1 ≤ t.val) (r l : Fin 512) :
    (outsAt0 m c t.val t.isLt).2.2.1 (ix2 r l) = conv' m c (rowOf t r).val l := by
  rw [outsAt0_B m c t h0 hp]; frame_out
  exact c1_row m c t _ _ (fun j l => by rw [read_unread_whole]; exact next_at m c t hp j l) _ z_word r l
theorem w13 (t : Fin cfg0.N) (r l : Fin 512) : (outsAt0 m c t.val t.isLt).2.2.1 (ix2 r l) = conv' m c (rowOf t r).val l := by
  have ht := lt8 t
  by_cases hp : 1 ≤ t.val
  · exact w13_B m c t (by omega) hp r l
  · exact w13_A m c t (by omega) hp r l
/-- The two halves of a stored row of the two groups. -/
theorem halves (A B : FVec Ideal S512x512 .bf16) (f : Fin 512 → Fin 1024 → EReal)
    (hA : ∀ r l (j : Fin 1024), j.val = 512 + l.val → A (ix2 r l) = f r j) (hB : ∀ r l (j : Fin 1024), j.val = l.val → B (ix2 r l) = f r j)
    (r : Fin 512) (j : Fin 1024) :
    View.canon (Val := Elt Ideal) (e := .bf16) [⟨Rect.unit (s := S512x1024) ![0, 512] ![512, 512] inb_S512x1024_S512x512_0_512, A⟩,
      ⟨Rect.unit (s := S512x1024) ![0, 0] ![512, 512] inb_S512x1024_S512x512_0_0, B⟩] (ix2 r j) = f r j := by
  canon_tiles x h
  all_goals idx_vars x
  all_goals obtain rfl : r = x0 := Fin.ext (by omega)
  · exact hA r x1 j (by omega)
  · exact hB r x1 j (by omega)
theorem w12_A (t : Fin cfg0.N) (h0 : t.val % 8 = 0) (hp : ¬1 ≤ t.val) (r : Fin 512) (j : Fin 1024) :
    (outsAt0 m c t.val t.isLt).2.1 (ix2 r j) = mix' m c (rowOf t r) j := by
  rw [outsAt0_A m c t h0 hp]; frame_out
  exact halves _ _ (fun r j => mix' m c (rowOf t r) j) (fun r l j h => (gm_row m c t _ _ r l).trans (mix_right m c h))
    (fun r l j h => (conv_row m c t _ _ (fun j l => first_at m c t (by omega) j l) _ z_word r l).trans (mix_left m c h)) r j
theorem w12_B (t : Fin cfg0.N) (h0 : ¬t.val % 8 = 0) (hp : 1 ≤ t.val) (r : Fin 512) (j : Fin 1024) :
    (outsAt0 m c t.val t.isLt).2.1 (ix2 r j) = mix' m c (rowOf t r) j := by
  rw [outsAt0_B m c t h0 hp]; frame_out
  exact halves _ _ (fun r j => mix' m c (rowOf t r) j) (fun r l j h => (gm_row m c t _ _ r l).trans (mix_right m c h))
    (fun r l j h => (conv_row m c t _ _ (fun j l => by rw [read_unread_whole]; exact next_at m c t hp j l) _ z_word r l).trans (mix_left m c h)) r j
theorem w12 (t : Fin cfg0.N) (r : Fin 512) (j : Fin 1024) : (outsAt0 m c t.val t.isLt).2.1 (ix2 r j) = mix' m c (rowOf t r) j := by
  have ht := lt8 t
  by_cases hp : 1 ≤ t.val
  · exact w12_B m c t (by omega) hp r j
  · exact w12_A m c t (by omega) hp r j

theorem final11 : (dats m 0 c).arrAt 11 cfg0.N = fun i : S4096x2048.Idx => zr' m c (i 0) (i 1) := by
  refine (dats m 0 c).arrAt_eq_of_covers 11 _ (by decide +kernel) fun t _ y => ?_
  blk_simp
  rw [after0_11]
  idx_vars y
  refine (w11 m c t y0 y1).trans ?_
  refine congrArg₂ (zr' m c) (Fin.ext ?_) (Fin.ext ?_) <;> blk_simp [idx t, rowOf]
theorem final12 : (dats m 0 c).arrAt 12 cfg0.N = fun i : S4096x1024.Idx => mix' m c (i 0) (i 1) := by
  refine (dats m 0 c).arrAt_eq_of_covers 12 _ (by decide +kernel) fun t _ y => ?_
  blk_simp
  rw [after0_12]
  idx_vars y
  refine (w12 m c t y0 y1).trans ?_
  refine congrArg₂ (mix' m c) (Fin.ext ?_) (Fin.ext ?_) <;> blk_simp [idx t, rowOf]
theorem final13 : (dats m 0 c).arrAt 13 cfg0.N = fun i : S4096x512.Idx => conv' m c (i 0).val (i 1) := by
  refine (dats m 0 c).arrAt_eq_of_covers 13 _ (by decide +kernel) fun t _ y => ?_
  blk_simp
  rw [after0_13]
  idx_vars y
  refine (w13 m c t y0 y1).trans ?_
  refine congrArg₂ (conv' m c) ?_ (Fin.ext ?_) <;> blk_simp [idx t, rowOf]
end Cert.Kernel13Ideal.Seq
end
-- ==== Proof.SeqRef.lean ====
module

public import proofs.«01_k».proof.Proof.SeqSpec
public import proofs.«01_k».proof.Proof.Gen.Reference13Ideal.Read

/-!
The mixer's reference going forward: its results at an index.
-/

@[expose] public section
set_option maxRecDepth 16384
noncomputable section
namespace Cert.Reference13Ideal.Seq
open Cert.Reference13Ideal Cert.Reference13Ideal.Read Idealize.ShloMosaic
open Cert.AttnSpec Cert.FfnSpec Cert.FfnUp Cert.SeqSpec
variable (x0 : FVec Ideal S4096x1024 .bf16) (x1 : FVec Ideal S1024x2048 .bf16) (x2 : FVec Ideal S2048 .f32) (x3 : FVec Ideal S31x512 .f32)
  (x4 x5 x6 x7 x8 : FVec Ideal S512 .f32) (x9 : FVec Ideal S8x128x128 .f32) (x10 : FVec Ideal S8x128 .f32)

theorem z_at (R : Fin 4096) (j : Fin 2048) : val_main_v5 (F := Ideal) x0 x1 x2 (ix2 R j) = zr (ent x0) (ent x1) (ent1 x2) R j := by
  unfold val_main_v5 val_main_v4 val_main_v3 val_main_v2 val_main_v1 val_main_v0
  pointwise
  rfl
theorem p0_at (R : Fin 4096) (l : Fin 512) : val_main_v6 (F := Ideal) x0 x1 x2 (ix2 R l) = zr (ent x0) (ent x1) (ent1 x2) R (qcol 0 l) := by
  refine Eq.trans ?_ (z_at x0 x1 x2 R (qcol 0 l))
  unfold val_main_v6
  generalize val_main_v5 (F := Ideal) x0 x1 x2 = Y
  pointwise [qcol]
theorem p1_at (R : Fin 4096) (l : Fin 512) : val_main_v7 (F := Ideal) x0 x1 x2 (ix2 R l) = zr (ent x0) (ent x1) (ent1 x2) R (qcol 1 l) := by
  refine Eq.trans ?_ (z_at x0 x1 x2 R (qcol 1 l))
  unfold val_main_v7
  generalize val_main_v5 (F := Ideal) x0 x1 x2 = Y
  pointwise [qcol]
theorem p2_at (R : Fin 4096) (l : Fin 512) : val_main_v8 (F := Ideal) x0 x1 x2 (ix2 R l) = zr (ent x0) (ent x1) (ent1 x2) R (qcol 2 l) := by
  refine Eq.trans ?_ (z_at x0 x1 x2 R (qcol 2 l))
  unfold val_main_v8
  generalize val_main_v5 (F := Ideal) x0 x1 x2 = Y
  pointwise [qcol]
theorem p3_at (R : Fin 4096) (l : Fin 512) : val_main_v9 (F := Ideal) x0 x1 x2 (ix2 R l) = zr (ent x0) (ent x1) (ent1 x2) R (qcol 3 l) := by
  refine Eq.trans ?_ (z_at x0 x1 x2 R (qcol 3 l))
  unfold val_main_v9
  generalize val_main_v5 (F := Ideal) x0 x1 x2 = Y
  pointwise [qcol]
theorem glu_at (R : Fin 4096) (l : Fin 512) : val_main_v16 (F := Ideal) x0 x1 x2 (ix2 R l) = glur (ent x0) (ent x1) (ent1 x2) R l := by
  unfold val_main_v16 val_main_v15 val_main_v14 val_main_v13 val_main_v12 val_main_v11 val_main_v10 val_main_cst val_main_cst_0
  pointwise [p0_at, p1_at]
  rfl
theorem zero_eq : FloatOps.sitofp (F := Ideal) FTy.f32 (0#32) = (0 : EReal) := by
  show (((0#32).toInt : ℝ) : EReal) = 0
  simp
theorem tap_of (hn : Fin 4096 → Fin 1024 → EReal) (w : Fin 1024 → Fin 2048 → EReal) (b : Fin 2048 → EReal) (cw : Fin 31 → Fin 512 → EReal)
    (R : ℕ) (l : Fin 512) (k : Fin 31) (m : ℕ) (hm : k.val = m) : cw k l * halo hn w b (m + R + 2) l = tap hn w b cw R l m := by
  subst hm
  rw [tap, dif_pos k.isLt, Nat.add_comm k.val R]
theorem pad_at (n : Fin 4126) (l : Fin 512) : val_main_v17 (F := Ideal) x0 x1 x2 (ix2 n l) = halo (ent x0) (ent x1) (ent1 x2) (n + 2) l := by
  unfold val_main_v17 val_main_call0_v0 val_main_c halo
  pointwise [glu_at]
  by_cases h : 30 ≤ (n : ℕ)
  · rw [dif_pos ⟨h, by omega⟩, dif_pos ⟨h, by omega⟩]
    exact congrArg (fun k => glur (ent x0) (ent x1) (ent1 x2) k l) (Fin.ext (by simp only []; omega))
  · rw [dif_neg fun q => h q.1, dif_neg fun q => h q.1]
    exact zero_eq
theorem acc0_at (R : Fin 4096) (l : Fin 512) : val_main_v25 (F := Ideal) x0 x1 x2 x3 (ix2 R l) =
    ∑ k ∈ Finset.range 1, tap (ent x0) (ent x1) (ent1 x2) (ent x3) R l k := by
  rw [Finset.sum_range_one]
  unfold val_main_v25 val_main_v24 val_main_v23 val_main_v22 val_main_v21 val_main_v20 val_main_v19 val_main_v18 val_main_cst_1 tap
  pointwise [pad_at]
theorem acc1_at (R : Fin 4096) (l : Fin 512) : val_main_v32 (F := Ideal) x0 x1 x2 x3 (ix2 R l) =
    ∑ k ∈ Finset.range 2, tap (ent x0) (ent x1) (ent1 x2) (ent x3) R l k := by
  rw [Finset.sum_range_succ, ← acc0_at]
  unfold val_main_v32 val_main_v31 val_main_v30 val_main_v29 val_main_v28 val_main_v27 val_main_v26
  generalize val_main_v25 (F := Ideal) x0 x1 x2 x3 = Y
  pointwise [pad_at]
  exact congrArg (Y (ix2 R l) + ·) (tap_of (ent x0) (ent x1) (ent1 x2) (ent x3) R l 1 1 (by rfl))
theorem acc2_at (R : Fin 4096) (l : Fin 512) : val_main_v39 (F := Ideal) x0 x1 x2 x3 (ix2 R l) =
    ∑ k ∈ Finset.range 3, tap (ent x0) (ent x1) (ent1 x2) (ent x3) R l k := by
  rw [Finset.sum_range_succ, ← acc1_at]
  unfold val_main_v39 val_main_v38 val_main_v37 val_main_v36 val_main_v35 val_main_v34 val_main_v33
  generalize val_main_v32 (F := Ideal) x0 x1 x2 x3 = Y
  pointwise [pad_at]
  exact congrArg (Y (ix2 R l) + ·) (tap_of (ent x0) (ent x1) (ent1 x2) (ent x3) R l 2 2 (by rfl))
theorem acc3_at (R : Fin 4096) (l : Fin 512) : val_main_v46 (F := Ideal) x0 x1 x2 x3 (ix2 R l) =
    ∑ k ∈ Finset.range 4, tap (ent x0) (ent x1) (ent1 x2) (ent x3) R l k := by
  rw [Finset.sum_range_succ, ← acc2_at]
  unfold val_main_v46 val_main_v45 val_main_v44 val_main_v43 val_main_v42 val_main_v41 val_main_v40
  generalize val_main_v39 (F := Ideal) x0 x1 x2 x3 = Y
  pointwise [pad_at]
  exact congrArg (Y (ix2 R l) + ·) (tap_of (ent x0) (ent x1) (ent1 x2) (ent x3) R l 3 3 (by rfl))
theorem acc4_at (R : Fin 4096) (l : Fin 512) : val_main_v53 (F := Ideal) x0 x1 x2 x3 (ix2 R l) =
    ∑ k ∈ Finset.range 5, tap (ent x0) (ent x1) (ent1 x2) (ent x3) R l k := by
  rw [Finset.sum_range_succ, ← acc3_at]
  unfold val_main_v53 val_main_v52 val_main_v51 val_main_v50 val_main_v49 val_main_v48 val_main_v47
  generalize val_main_v46 (F := Ideal) x0 x1 x2 x3 = Y
  pointwise [pad_at]
  exact congrArg (Y (ix2 R l) + ·) (tap_of (ent x0) (ent x1) (ent1 x2) (ent x3) R l 4 4 (by rfl))
theorem acc5_at (R : Fin 4096) (l : Fin 512) : val_main_v60 (F := Ideal) x0 x1 x2 x3 (ix2 R l) =
    ∑ k ∈ Finset.range 6, tap (ent x0) (ent x1) (ent1 x2) (ent x3) R l k := by
  rw [Finset.sum_range_succ, ← acc4_at]
  unfold val_main_v60 val_main_v59 val_main_v58 val_main_v57 val_main_v56 val_main_v55 val_main_v54
  generalize val_main_v53 (F := Ideal) x0 x1 x2 x3 = Y
  pointwise [pad_at]
  exact congrArg (Y (ix2 R l) + ·) (tap_of (ent x0) (ent x1) (ent1 x2) (ent x3) R l 5 5 (by rfl))
theorem acc6_at (R : Fin 4096) (l : Fin 512) : val_main_v67 (F := Ideal) x0 x1 x2 x3 (ix2 R l) =
    ∑ k ∈ Finset.range 7, tap (ent x0) (ent x1) (ent1 x2) (ent x3) R l k := by
  rw [Finset.sum_range_succ, ← acc5_at]
  unfold val_main_v67 val_main_v66 val_main_v65 val_main_v64 val_main_v63 val_main_v62 val_main_v61
  generalize val_main_v60 (F := Ideal) x0 x1 x2 x3 = Y
  pointwise [pad_at]
  exact congrArg (Y (ix2 R l) + ·) (tap_of (ent x0) (ent x1) (ent1 x2) (ent x3) R l 6 6 (by rfl))
theorem acc7_at (R : Fin 4096) (l : Fin 512) : val_main_v74 (F := Ideal) x0 x1 x2 x3 (ix2 R l) =
    ∑ k ∈ Finset.range 8, tap (ent x0) (ent x1) (ent1 x2) (ent x3) R l k := by
  rw [Finset.sum_range_succ, ← acc6_at]
  unfold val_main_v74 val_main_v73 val_main_v72 val_main_v71 val_main_v70 val_main_v69 val_main_v68
  generalize val_main_v67 (F := Ideal) x0 x1 x2 x3 = Y
  pointwise [pad_at]
  exact congrArg (Y (ix2 R l) + ·) (tap_of (ent x0) (ent x1) (ent1 x2) (ent x3) R l 7 7 (by rfl))
theorem acc8_at (R : Fin 4096) (l : Fin 512) : val_main_v81 (F := Ideal) x0 x1 x2 x3 (ix2 R l) =
    ∑ k ∈ Finset.range 9, tap (ent x0) (ent x1) (ent1 x2) (ent x3) R l k := by
  rw [Finset.sum_range_succ, ← acc7_at]
  unfold val_main_v81 val_main_v80 val_main_v79 val_main_v78 val_main_v77 val_main_v76 val_main_v75
  generalize val_main_v74 (F := Ideal) x0 x1 x2 x3 = Y
  pointwise [pad_at]
  exact congrArg (Y (ix2 R l) + ·) (tap_of (ent x0) (ent x1) (ent1 x2) (ent x3) R l 8 8 (by rfl))
theorem acc9_at (R : Fin 4096) (l : Fin 512) : val_main_v88 (F := Ideal) x0 x1 x2 x3 (ix2 R l) =
    ∑ k ∈ Finset.range 10, tap (ent x0) (ent x1) (ent1 x2) (ent x3) R l k := by
  rw [Finset.sum_range_succ, ← acc8_at]
  unfold val_main_v88 val_main_v87 val_main_v86 val_main_v85 val_main_v84 val_main_v83 val_main_v82
  generalize val_main_v81 (F := Ideal) x0 x1 x2 x3 = Y
  pointwise [pad_at]
  exact congrArg (Y (ix2 R l) + ·) (tap_of (ent x0) (ent x1) (ent1 x2) (ent x3) R l 9 9 (by rfl))
theorem acc10_at (R : Fin 4096) (l : Fin 512) : val_main_v95 (F := Ideal) x0 x1 x2 x3 (ix2 R l) =
    ∑ k ∈ Finset.range 11, tap (ent x0) (ent x1) (ent1 x2) (ent x3) R l k := by
  rw [Finset.sum_range_succ, ← acc9_at]
  unfold val_main_v95 val_main_v94 val_main_v93 val_main_v92 val_main_v91 val_main_v90 val_main_v89
  generalize val_main_v88 (F := Ideal) x0 x1 x2 x3 = Y
  pointwise [pad_at]
  exact congrArg (Y (ix2 R l) + ·) (tap_of (ent x0) (ent x1) (ent1 x2) (ent x3) R l 10 10 (by rfl))
theorem acc11_at (R : Fin 4096) (l : Fin 512) : val_main_v102 (F := Ideal) x0 x1 x2 x3 (ix2 R l) =
    ∑ k ∈ Finset.range 12, tap (ent x0) (ent x1) (ent1 x2) (ent x3) R l k := by
  rw [Finset.sum_range_succ, ← acc10_at]
  unfold val_main_v102 val_main_v101 val_main_v100 val_main_v99 val_main_v98 val_main_v97 val_main_v96
  generalize val_main_v95 (F := Ideal) x0 x1 x2 x3 = Y
  pointwise [pad_at]
  exact congrArg (Y (ix2 R l) + ·) (tap_of (ent x0) (ent x1) (ent1 x2) (ent x3) R l 11 11 (by rfl))
theorem acc12_at (R : Fin 4096) (l : Fin 512) : val_main_v109 (F := Ideal) x0 x1 x2 x3 (ix2 R l) =
    ∑ k ∈ Finset.range 13, tap (ent x0) (ent x1) (ent1 x2) (ent x3) R l k := by
  rw [Finset.sum_range_succ, ← acc11_at]
  unfold val_main_v109 val_main_v108 val_main_v107 val_main_v106 val_main_v105 val_main_v104 val_main_v103
  generalize val_main_v102 (F := Ideal) x0 x1 x2 x3 = Y
  pointwise [pad_at]
  exact congrArg (Y (ix2 R l) + ·) (tap_of (ent x0) (ent x1) (ent1 x2) (ent x3) R l 12 12 (by rfl))
theorem acc13_at (R : Fin 4096) (l : Fin 512) : val_main_v116 (F := Ideal) x0 x1 x2 x3 (ix2 R l) =
    ∑ k ∈ Finset.range 14, tap (ent x0) (ent x1) (ent1 x2) (ent x3) R l k := by
  rw [Finset.sum_range_succ, ← acc12_at]
  unfold val_main_v116 val_main_v115 val_main_v114 val_main_v113 val_main_v112 val_main_v111 val_main_v110
  generalize val_main_v109 (F := Ideal) x0 x1 x2 x3 = Y
  pointwise [pad_at]
  exact congrArg (Y (ix2 R l) + ·) (tap_of (ent x0) (ent x1) (ent1 x2) (ent x3) R l 13 13 (by rfl))
theorem acc14_at (R : Fin 4096) (l : Fin 512) : val_main_v123 (F := Ideal) x0 x1 x2 x3 (ix2 R l) =
    ∑ k ∈ Finset.range 15, tap (ent x0) (ent x1) (ent1 x2) (ent x3) R l k := by
  rw [Finset.sum_range_succ, ← acc13_at]
  unfold val_main_v123 val_main_v122 val_main_v121 val_main_v120 val_main_v119 val_main_v118 val_main_v117
  generalize val_main_v116 (F := Ideal) x0 x1 x2 x3 = Y
  pointwise [pad_at]
  exact congrArg (Y (ix2 R l) + ·) (tap_of (ent x0) (ent x1) (ent1 x2) (ent x3) R l 14 14 (by rfl))
theorem acc15_at (R : Fin 4096) (l : Fin 512) : val_main_v130 (F := Ideal) x0 x1 x2 x3 (ix2 R l) =
    ∑ k ∈ Finset.range 16, tap (ent x0) (ent x1) (ent1 x2) (ent x3) R l k := by
  rw [Finset.sum_range_succ, ← acc14_at]
  unfold val_main_v130 val_main_v129 val_main_v128 val_main_v127 val_main_v126 val_main_v125 val_main_v124
  generalize val_main_v123 (F := Ideal) x0 x1 x2 x3 = Y
  pointwise [pad_at]
  exact congrArg (Y (ix2 R l) + ·) (tap_of (ent x0) (ent x1) (ent1 x2) (ent x3) R l 15 15 (by rfl))
theorem acc16_at (R : Fin 4096) (l : Fin 512) : val_main_v137 (F := Ideal) x0 x1 x2 x3 (ix2 R l) =
    ∑ k ∈ Finset.range 17, tap (ent x0) (ent x1) (ent1 x2) (ent x3) R l k := by
  rw [Finset.sum_range_succ, ← acc15_at]
  unfold val_main_v137 val_main_v136 val_main_v135 val_main_v134 val_main_v133 val_main_v132 val_main_v131
  generalize val_main_v130 (F := Ideal) x0 x1 x2 x3 = Y
  pointwise [pad_at]
  exact congrArg (Y (ix2 R l) + ·) (tap_of (ent x0) (ent x1) (ent1 x2) (ent x3) R l 16 16 (by rfl))
theorem acc17_at (R : Fin 4096) (l : Fin 512) : val_main_v144 (F := Ideal) x0 x1 x2 x3 (ix2 R l) =
    ∑ k ∈ Finset.range 18, tap (ent x0) (ent x1) (ent1 x2) (ent x3) R l k := by
  rw [Finset.sum_range_succ, ← acc16_at]
  unfold val_main_v144 val_main_v143 val_main_v142 val_main_v141 val_main_v140 val_main_v139 val_main_v138
  generalize val_main_v137 (F := Ideal) x0 x1 x2 x3 = Y
  pointwise [pad_at]
  exact congrArg (Y (ix2 R l) + ·) (tap_of (ent x0) (ent x1) (ent1 x2) (ent x3) R l 17 17 (by rfl))
theorem acc18_at (R : Fin 4096) (l : Fin 512) : val_main_v151 (F := Ideal) x0 x1 x2 x3 (ix2 R l) =
    ∑ k ∈ Finset.range 19, tap (ent x0) (ent x1) (ent1 x2) (ent x3) R l k := by
  rw [Finset.sum_range_succ, ← acc17_at]
  unfold val_main_v151 val_main_v150 val_main_v149 val_main_v148 val_main_v147 val_main_v146 val_main_v145
  generalize val_main_v144 (F := Ideal) x0 x1 x2 x3 = Y
  pointwise [pad_at]
  exact congrArg (Y (ix2 R l) + ·) (tap_of (ent x0) (ent x1) (ent1 x2) (ent x3) R l 18 18 (by rfl))
theorem acc19_at (R : Fin 4096) (l : Fin 512) : val_main_v158 (F := Ideal) x0 x1 x2 x3 (ix2 R l) =
    ∑ k ∈ Finset.range 20, tap (ent x0) (ent x1) (ent1 x2) (ent x3) R l k := by
  rw [Finset.sum_range_succ, ← acc18_at]
  unfold val_main_v158 val_main_v157 val_main_v156 val_main_v155 val_main_v154 val_main_v153 val_main_v152
  generalize val_main_v151 (F := Ideal) x0 x1 x2 x3 = Y
  pointwise [pad_at]
  exact congrArg (Y (ix2 R l) + ·) (tap_of (ent x0) (ent x1) (ent1 x2) (ent x3) R l 19 19 (by rfl))
theorem acc20_at (R : Fin 4096) (l : Fin 512) : val_main_v165 (F := Ideal) x0 x1 x2 x3 (ix2 R l) =
    ∑ k ∈ Finset.range 21, tap (ent x0) (ent x1) (ent1 x2) (ent x3) R l k := by
  rw [Finset.sum_range_succ, ← acc19_at]
  unfold val_main_v165 val_main_v164 val_main_v163 val_main_v162 val_main_v161 val_main_v160 val_main_v159
  generalize val_main_v158 (F := Ideal) x0 x1 x2 x3 = Y
  pointwise [pad_at]
  exact congrArg (Y (ix2 R l) + ·) (tap_of (ent x0) (ent x1) (ent1 x2) (ent x3) R l 20 20 (by rfl))
theorem acc21_at (R : Fin 4096) (l : Fin 512) : val_main_v172 (F := Ideal) x0 x1 x2 x3 (ix2 R l) =
    ∑ k ∈ Finset.range 22, tap (ent x0) (ent x1) (ent1 x2) (ent x3) R l k := by
  rw [Finset.sum_range_succ, ← acc20_at]
  unfold val_main_v172 val_main_v171 val_main_v170 val_main_v169 val_main_v168 val_main_v167 val_main_v166
  generalize val_main_v165 (F := Ideal) x0 x1 x2 x3 = Y
  pointwise [pad_at]
  exact congrArg (Y (ix2 R l) + ·) (tap_of (ent x0) (ent x1) (ent1 x2) (ent x3) R l 21 21 (by rfl))
theorem acc22_at (R : Fin 4096) (l : Fin 512) : val_main_v179 (F := Ideal) x0 x1 x2 x3 (ix2 R l) =
    ∑ k ∈ Finset.range 23, tap (ent x0) (ent x1) (ent1 x2) (ent x3) R l k := by
  rw [Finset.sum_range_succ, ← acc21_at]
  unfold val_main_v179 val_main_v178 val_main_v177 val_main_v176 val_main_v175 val_main_v174 val_main_v173
  generalize val_main_v172 (F := Ideal) x0 x1 x2 x3 = Y
  pointwise [pad_at]
  exact congrArg (Y (ix2 R l) + ·) (tap_of (ent x0) (ent x1) (ent1 x2) (ent x3) R l 22 22 (by rfl))
theorem acc23_at (R : Fin 4096) (l : Fin 512) : val_main_v186 (F := Ideal) x0 x1 x2 x3 (ix2 R l) =
    ∑ k ∈ Finset.range 24, tap (ent x0) (ent x1) (ent1 x2) (ent x3) R l k := by
  rw [Finset.sum_range_succ, ← acc22_at]
  unfold val_main_v186 val_main_v185 val_main_v184 val_main_v183 val_main_v182 val_main_v181 val_main_v180
  generalize val_main_v179 (F := Ideal) x0 x1 x2 x3 = Y
  pointwise [pad_at]
  exact congrArg (Y (ix2 R l) + ·) (tap_of (ent x0) (ent x1) (ent1 x2) (ent x3) R l 23 23 (by rfl))
theorem acc24_at (R : Fin 4096) (l : Fin 512) : val_main_v193 (F := Ideal) x0 x1 x2 x3 (ix2 R l) =
    ∑ k ∈ Finset.range 25, tap (ent x0) (ent x1) (ent1 x2) (ent x3) R l k := by
  rw [Finset.sum_range_succ, ← acc23_at]
  unfold val_main_v193 val_main_v192 val_main_v191 val_main_v190 val_main_v189 val_main_v188 val_main_v187
  generalize val_main_v186 (F := Ideal) x0 x1 x2 x3 = Y
  pointwise [pad_at]
  exact congrArg (Y (ix2 R l) + ·) (tap_of (ent x0) (ent x1) (ent1 x2) (ent x3) R l 24 24 (by rfl))
theorem acc25_at (R : Fin 4096) (l : Fin 512) : val_main_v200 (F := Ideal) x0 x1 x2 x3 (ix2 R l) =
    ∑ k ∈ Finset.range 26, tap (ent x0) (ent x1) (ent1 x2) (ent x3) R l k := by
  rw [Finset.sum_range_succ, ← acc24_at]
  unfold val_main_v200 val_main_v199 val_main_v198 val_main_v197 val_main_v196 val_main_v195 val_main_v194
  generalize val_main_v193 (F := Ideal) x0 x1 x2 x3 = Y
  pointwise [pad_at]
  exact congrArg (Y (ix2 R l) + ·) (tap_of (ent x0) (ent x1) (ent1 x2) (ent x3) R l 25 25 (by rfl))
theorem acc26_at (R : Fin 4096) (l : Fin 512) : val_main_v207 (F := Ideal) x0 x1 x2 x3 (ix2 R l) =
    ∑ k ∈ Finset.range 27, tap (ent x0) (ent x1) (ent1 x2) (ent x3) R l k := by
  rw [Finset.sum_range_succ, ← acc25_at]
  unfold val_main_v207 val_main_v206 val_main_v205 val_main_v204 val_main_v203 val_main_v202 val_main_v201
  generalize val_main_v200 (F := Ideal) x0 x1 x2 x3 = Y
  pointwise [pad_at]
  exact congrArg (Y (ix2 R l) + ·) (tap_of (ent x0) (ent x1) (ent1 x2) (ent x3) R l 26 26 (by rfl))
theorem acc27_at (R : Fin 4096) (l : Fin 512) : val_main_v214 (F := Ideal) x0 x1 x2 x3 (ix2 R l) =
    ∑ k ∈ Finset.range 28, tap (ent x0) (ent x1) (ent1 x2) (ent x3) R l k := by
  rw [Finset.sum_range_succ, ← acc26_at]
  unfold val_main_v214 val_main_v213 val_main_v212 val_main_v211 val_main_v210 val_main_v209 val_main_v208
  generalize val_main_v207 (F := Ideal) x0 x1 x2 x3 = Y
  pointwise [pad_at]
  exact congrArg (Y (ix2 R l) + ·) (tap_of (ent x0) (ent x1) (ent1 x2) (ent x3) R l 27 27 (by rfl))
theorem acc28_at (R : Fin 4096) (l : Fin 512) : val_main_v221 (F := Ideal) x0 x1 x2 x3 (ix2 R l) =
    ∑ k ∈ Finset.range 29, tap (ent x0) (ent x1) (ent1 x2) (ent x3) R l k := by
  rw [Finset.sum_range_succ, ← acc27_at]
  unfold val_main_v221 val_main_v220 val_main_v219 val_main_v218 val_main_v217 val_main_v216 val_main_v215
  generalize val_main_v214 (F := Ideal) x0 x1 x2 x3 = Y
  pointwise [pad_at]
  exact congrArg (Y (ix2 R l) + ·) (tap_of (ent x0) (ent x1) (ent1 x2) (ent x3) R l 28 28 (by rfl))
theorem acc29_at (R : Fin 4096) (l : Fin 512) : val_main_v228 (F := Ideal) x0 x1 x2 x3 (ix2 R l) =
    ∑ k ∈ Finset.range 30, tap (ent x0) (ent x1) (ent1 x2) (ent x3) R l k := by
  rw [Finset.sum_range_succ, ← acc28_at]
  unfold val_main_v228 val_main_v227 val_main_v226 val_main_v225 val_main_v224 val_main_v223 val_main_v222
  generalize val_main_v221 (F := Ideal) x0 x1 x2 x3 = Y
  pointwise [pad_at]
  exact congrArg (Y (ix2 R l) + ·) (tap_of (ent x0) (ent x1) (ent1 x2) (ent x3) R l 29 29 (by rfl))
theorem acc30_at (R : Fin 4096) (l : Fin 512) : val_main_v235 (F := Ideal) x0 x1 x2 x3 (ix2 R l) =
    ∑ k ∈ Finset.range 31, tap (ent x0) (ent x1) (ent1 x2) (ent x3) R l k := by
  rw [Finset.sum_range_succ, ← acc29_at]
  unfold val_main_v235 val_main_v234 val_main_v233 val_main_v232 val_main_v231 val_main_v230 val_main_v229
  generalize val_main_v228 (F := Ideal) x0 x1 x2 x3 = Y
  pointwise [pad_at]
  exact congrArg (Y (ix2 R l) + ·) (tap_of (ent x0) (ent x1) (ent1 x2) (ent x3) R l 30 30 (by rfl))
theorem conv_at (R : Fin 4096) (l : Fin 512) : val_main_v238 (F := Ideal) x0 x1 x2 x3 x4 (ix2 R l) =
    conv (ent x0) (ent x1) (ent1 x2) (ent x3) (ent1 x4) R l := by
  rw [conv, ← acc30_at]
  unfold val_main_v238 val_main_v237 val_main_v236
  pointwise

abbrev cvr (R : Fin 4096) : Fin 512 → EReal := conv (ent x0) (ent x1) (ent1 x2) (ent x3) (ent1 x4) R
theorem cmean_at (R : Fin 4096) (z : Fin 1) : val_main_v242 (F := Ideal) x0 x1 x2 x3 x4 (ix2 R z) = mean (cvr x0 x1 x2 x3 x4 R) := by
  unfold val_main_v242 val_main_v241 val_main_v240 val_main_v239 val_main_cst_2 val_main_cst_3
  pointwise [conv_at]
  rfl
theorem ccen_at (R : Fin 4096) (l : Fin 512) : val_main_v244 (F := Ideal) x0 x1 x2 x3 x4 (ix2 R l) = cen (cvr x0 x1 x2 x3 x4 R) l := by
  unfold val_main_v244 val_main_v243
  pointwise [conv_at, cmean_at]
  rfl
theorem cdev_at (R : Fin 4096) (z : Fin 1) : val_main_v254 (F := Ideal) x0 x1 x2 x3 x4 (ix2 R z) = dev (cvr x0 x1 x2 x3 x4 R) := by
  unfold val_main_v254 val_main_v253 val_main_v252 val_main_v249 val_main_v248 val_main_v247 val_main_v246 val_main_v245 val_main_cst_4
    val_main_cst_5 val_main_cst_6
  pointwise [ccen_at]
  rfl
theorem cln_at (R : Fin 4096) (l : Fin 512) : val_main_v262 (F := Ideal) x0 x1 x2 x3 x4 x5 x6 (ix2 R l) =
    lnorm (cvr x0 x1 x2 x3 x4 R) (ent1 x5) (ent1 x6) l := by
  unfold val_main_v262 val_main_v261 val_main_v260 val_main_v259 val_main_v258 val_main_v257 val_main_v256 val_main_v255 val_main_v251
    val_main_v250
  pointwise [conv_at, cmean_at, cdev_at]
  rfl
theorem cout_at (R : Fin 4096) (l : Fin 512) : val_main_v263 (F := Ideal) x0 x1 x2 x3 x4 x5 x6 (ix2 R l) =
    convOut (ent x0) (ent x1) (ent1 x2) (ent x3) (ent1 x4) (ent1 x5) (ent1 x6) R l := by
  unfold val_main_v263 val_main_call1_v5 val_main_call1_v4 val_main_call1_v3 val_main_call1_v2 val_main_call1_v1 val_main_call1_v0
    val_main_call1_cst val_main_call1_cst_0
  pointwise [cln_at]
  rfl

theorem u_at (R : Fin 4096) (l : Fin 512) : val_main_v276 (F := Ideal) x0 x1 x2 (ix2 R l) =
    gelu (zr (ent x0) (ent x1) (ent1 x2) R (qcol 2 l)) := by
  unfold val_main_v276 val_main_v275 val_main_v274 val_main_v273 val_main_v272 val_main_v271 val_main_v270 val_main_v269 val_main_v268
    val_main_v267 val_main_v266 val_main_v265 val_main_v264 val_main_cst_7 val_main_cst_8 val_main_cst_9 val_main_cst_10
  pointwise [p2_at]
  rfl
abbrev gvr (R : Fin 4096) : Fin 512 → EReal := fun l => gelu (zr (ent x0) (ent x1) (ent1 x2) R (qcol 3 l))
theorem g_at (R : Fin 4096) (l : Fin 512) : val_main_v289 (F := Ideal) x0 x1 x2 (ix2 R l) = gvr x0 x1 x2 R l := by
  unfold val_main_v289 val_main_v288 val_main_v287 val_main_v286 val_main_v285 val_main_v284 val_main_v283 val_main_v282 val_main_v281
    val_main_v280 val_main_v279 val_main_v278 val_main_v277 val_main_cst_11 val_main_cst_12 val_main_cst_13 val_main_cst_14
  pointwise [p3_at]
  rfl
theorem gmean_at (R : Fin 4096) (z : Fin 1) : val_main_v293 (F := Ideal) x0 x1 x2 (ix2 R z) = mean (gvr x0 x1 x2 R) := by
  unfold val_main_v293 val_main_v292 val_main_v291 val_main_v290 val_main_cst_15 val_main_cst_16
  pointwise [g_at]
  rfl
theorem gcen_at (R : Fin 4096) (l : Fin 512) : val_main_v295 (F := Ideal) x0 x1 x2 (ix2 R l) = cen (gvr x0 x1 x2 R) l := by
  unfold val_main_v295 val_main_v294
  pointwise [g_at, gmean_at]
  rfl
theorem gdev_at (R : Fin 4096) (z : Fin 1) : val_main_v305 (F := Ideal) x0 x1 x2 (ix2 R z) = dev (gvr x0 x1 x2 R) := by
  unfold val_main_v305 val_main_v304 val_main_v303 val_main_v300 val_main_v299 val_main_v298 val_main_v297 val_main_v296 val_main_cst_17
    val_main_cst_18 val_main_cst_19
  pointwise [gcen_at]
  rfl
theorem gln_at (R : Fin 4096) (l : Fin 512) : val_main_v313 (F := Ideal) x0 x1 x2 x7 x8 (ix2 R l) =
    vn (ent x0) (ent x1) (ent1 x2) (ent1 x7) (ent1 x8) R l := by
  unfold val_main_v313 val_main_v312 val_main_v311 val_main_v310 val_main_v309 val_main_v308 val_main_v307 val_main_v306 val_main_v302
    val_main_v301
  pointwise [g_at, gmean_at, gdev_at]
  rfl
theorem le_word : ∀ t s : Fin 128, Scalar.select (α := BitVec 1) (IntOp.cmpi CmpIPredicate.sge (IntOp.addi (BitVec.ofNat 32 t.val) 0#32) (BitVec.ofNat 32 s.val)) 1#1 0#1 =
    if s.val ≤ t.val then 1#1 else 0#1 := by decide +kernel
theorem low_at (h : Fin 8) (t s : Fin 128) : val_main_v319 (F := Ideal) x9 (ix3 h t s) = low (fun h t s => x9 (ix3 h t s)) h t s := by
  unfold val_main_v319 val_main_call3_v0 val_main_v318 val_main_cst_21 val_main_v317 val_main_v316 val_main_call2_v5 val_main_call2_c_0
    val_main_call2_v4 val_main_call2_v3 val_main_call2_v2 val_main_call2_v1 val_main_call2_c val_main_call2_v0 val_main_v315 val_main_c_20
  pointwise
  rw [le_word]
  unfold low
  by_cases q : s.val ≤ t.val
  · rw [if_pos q, if_pos q]
    rfl
  · rw [if_neg q, if_neg q]
    rfl
/-- The mixed rows, in the chunks and heads of the reference. -/
theorem dot_at (n : Fin 32) (t : Fin 128) (h : Fin 8) (d : Fin 64) : val_main_v325 (F := Ideal) x0 x1 x2 x7 x8 x9 x10 (ix4 n t h d) =
    ∑ s, low (fun h t s => x9 (ix3 h t s)) h t s * vn (ent x0) (ent x1) (ent1 x2) (ent1 x7) (ent1 x8) ⟨n.val * 128 + s.val, by omega⟩
      ⟨h.val * 64 + d.val, by omega⟩ + x10 (ix2 h t) := by
  unfold val_main_v325 val_main_v324 val_main_v323 val_main_v322 val_main_v321 val_main_v320 val_main_v314
  pointwise [low_at, gln_at]
  exact congrArg (· + x10 (ix2 h t)) (Finset.sum_congr (M := EReal) rfl fun s _ => mul_comm (G := EReal) _ _)
theorem gm_at (R : Fin 4096) (l : Fin 512) : val_main_v327 (F := Ideal) x0 x1 x2 x7 x8 x9 x10 (ix2 R l) =
    gmOut (ent x0) (ent x1) (ent1 x2) (ent1 x7) (ent1 x8) (fun h t s => x9 (ix3 h t s)) (ent x10) R l := by
  unfold val_main_v327 val_main_v326
  pointwise [u_at, dot_at]
  have hl : (⟨l.val / 64 * 64 + l.val % 64, by omega⟩ : Fin 512) = l := Fin.ext (Nat.div_add_mod' l.val 64)
  rw [hl]
  rfl
theorem mix_at (R : Fin 4096) (j : Fin 1024) : val_main_v329 (F := Ideal) x0 x1 x2 x3 x4 x5 x6 x7 x8 x9 x10 (ix2 R j) =
    mix (ent x0) (ent x1) (ent1 x2) (ent x3) (ent1 x4) (ent1 x5) (ent1 x6) (ent1 x7) (ent1 x8) (fun h t s => x9 (ix3 h t s)) (ent x10) R j := by
  unfold val_main_v329 val_main_v328
  pointwise [cout_at, gm_at]
  rfl
end Cert.Reference13Ideal.Seq
end
-- ==== Proof.SeqEqual.lean ====
module

public import proofs.«01_k».proof.Defs
public import proofs.«01_k».proof.Proof.SeqArrays
public import proofs.«01_k».proof.Proof.SeqRef

/-!
The mixer going forward: the reference's results are the kernel's arrays.
-/

@[expose] public section
set_option maxRecDepth 16384
noncomputable section
namespace Cert.SeqEqual
open Idealize.ShloMosaic Idealize.ShloMosaic.TcCoe Idealize.SL.Sem

theorem equal13 : Cert.algebraic_Kernel13Ideal_Reference13Ideal (hKernel13Ideal := Cert.Kernel13Ideal.Gen.facts)
    (hReference13Ideal := Cert.Reference13Ideal.Gen.facts) := by
  pair_intro
  · run_from Cert.Kernel13Ideal.Value.run_blocks m g
  · run_from Cert.Reference13Ideal.Value.run m' g'
    · obtain ⟨e0, e1, e2, e3, e4, e5, e6, e7, e8, e9, e10⟩ := hagree c
      refine (Cert.Reference13Ideal.Read.val_main_v5_eq (F := Ideal) (StableHlo.launchContents m' c)).trans ?_
      show Cert.Reference13Ideal.Read.val_main_v5 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) = _
      rw [e0, e1, e2]
      refine Eq.trans ?_ (Cert.Kernel13Ideal.Seq.final11 m c).symm
      funext i
      obtain ⟨R, j, rfl⟩ : ∃ (R : Fin 4096) (j : Fin 2048), i = ix2 R j := ⟨_, _, eq_ix2 i⟩
      exact Cert.Reference13Ideal.Seq.z_at _ _ _ R j
    · obtain ⟨e0, e1, e2, e3, e4, e5, e6, e7, e8, e9, e10⟩ := hagree c
      refine (Cert.Reference13Ideal.Read.val_main_v329_eq (F := Ideal) (StableHlo.launchContents m' c)).trans ?_
      show Cert.Reference13Ideal.Read.val_main_v329 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) (m' ((c.tc : Thread Cert.Reference13Ideal.nD Cert.Reference13Ideal.τ).loc Cert.Reference13Ideal.main_arg5)) (m' ((c.tc : Thread Cert.Reference13Ideal.nD Cert.Reference13Ideal.τ).loc Cert.Reference13Ideal.main_arg6)) (m' ((c.tc : Thread Cert.Reference13Ideal.nD Cert.Reference13Ideal.τ).loc Cert.Reference13Ideal.main_arg7)) (m' ((c.tc : Thread Cert.Reference13Ideal.nD Cert.Reference13Ideal.τ).loc Cert.Reference13Ideal.main_arg8)) (m' ((c.tc : Thread Cert.Reference13Ideal.nD Cert.Reference13Ideal.τ).loc Cert.Reference13Ideal.main_arg9)) (m' ((c.tc : Thread Cert.Reference13Ideal.nD Cert.Reference13Ideal.τ).loc Cert.Reference13Ideal.main_arg10)) = _
      rw [e0, e1, e2, e3, e4, e5, e6, e7, e8, e9, e10]
      refine Eq.trans ?_ (Cert.Kernel13Ideal.Seq.final12 m c).symm
      funext i
      obtain ⟨R, j, rfl⟩ : ∃ (R : Fin 4096) (j : Fin 1024), i = ix2 R j := ⟨_, _, eq_ix2 i⟩
      exact Cert.Reference13Ideal.Seq.mix_at _ _ _ _ _ _ _ _ _ _ _ R j
    · obtain ⟨e0, e1, e2, e3, e4, e5, e6, e7, e8, e9, e10⟩ := hagree c
      refine (Cert.Reference13Ideal.Read.val_main_v238_eq (F := Ideal) (StableHlo.launchContents m' c)).trans ?_
      show Cert.Reference13Ideal.Read.val_main_v238 (F := Ideal) (m' ((c.tc : Thread Cert.Reference13Ideal.nD Cert.Reference13Ideal.τ).loc Cert.Reference13Ideal.main_arg0)) (m' ((c.tc : Thread Cert.Reference13Ideal.nD Cert.Reference13Ideal.τ).loc Cert.Reference13Ideal.main_arg1)) (m' ((c.tc : Thread Cert.Reference13Ideal.nD Cert.Reference13Ideal.τ).loc Cert.Reference13Ideal.main_arg2)) (m' ((c.tc : Thread Cert.Reference13Ideal.nD Cert.Reference13Ideal.τ).loc Cert.Reference13Ideal.main_arg3)) (m' ((c.tc : Thread Cert.Reference13Ideal.nD Cert.Reference13Ideal.τ).loc Cert.Reference13Ideal.main_arg4)) = _
      rw [e0, e1, e2, e3, e4]
      refine Eq.trans ?_ (Cert.Kernel13Ideal.Seq.final13 m c).symm
      funext i
      obtain ⟨R, j, rfl⟩ : ∃ (R : Fin 4096) (j : Fin 512), i = ix2 R j := ⟨_, _, eq_ix2 i⟩
      exact Cert.Reference13Ideal.Seq.conv_at _ _ _ _ _ R j

end Cert.SeqEqual
end
-- ==== Proof.RefFrames.lean ====
module

public import proofs.«01_k».proof.Defs
public import Idealize.ShloMosaic.Lib.Claim
public import proofs.«01_k».proof.Proof.Gen.Reference3Ideal.Run
public import proofs.«01_k».proof.Proof.Gen.Reference4Ideal.Run
public import proofs.«01_k».proof.Proof.Gen.Reference5Ideal.Run
public import proofs.«01_k».proof.Proof.Gen.Reference6Ideal.Run
public import proofs.«01_k».proof.Proof.Gen.Reference7Ideal.Run
public import proofs.«01_k».proof.Proof.Gen.Reference8Ideal.Run
public import proofs.«01_k».proof.Proof.Gen.Reference9Ideal.Run
public import proofs.«01_k».proof.Proof.Gen.Reference10Ideal.Run
public import proofs.«01_k».proof.Proof.Gen.Reference11Ideal.Run
public import proofs.«01_k».proof.Proof.Gen.Reference12Ideal.Run
public import proofs.«01_k».proof.Proof.Gen.Reference13Ideal.Run

/-!
The references' runs leave their arguments and every counter alone.
-/

@[expose] public section
noncomputable section
namespace Cert.RefFrames
open Idealize.ShloMosaic Idealize.ShloMosaic.TcCoe Idealize.SL.Sem

theorem frame3 : Cert.quiescent_Reference3Ideal (hReference3Ideal := Cert.Reference3Ideal.Gen.facts) := fun m g _ =>
  (θ_run _ _ _).mono (fun r h => ⟨fun c => (h c).2, sem_eq_zero_of_no_sems (by rfl) _⟩)
    (Cert.Reference3Ideal.Value.run m g)
theorem frame4 : Cert.quiescent_Reference4Ideal (hReference4Ideal := Cert.Reference4Ideal.Gen.facts) := fun m g _ =>
  (θ_run _ _ _).mono (fun r h => ⟨fun c => (h c).2, sem_eq_zero_of_no_sems (by rfl) _⟩)
    (Cert.Reference4Ideal.Value.run m g)
theorem frame5 : Cert.quiescent_Reference5Ideal (hReference5Ideal := Cert.Reference5Ideal.Gen.facts) := fun m g _ =>
  (θ_run _ _ _).mono (fun r h => ⟨fun c => (h c).2, sem_eq_zero_of_no_sems (by rfl) _⟩)
    (Cert.Reference5Ideal.Value.run m g)
theorem frame6 : Cert.quiescent_Reference6Ideal (hReference6Ideal := Cert.Reference6Ideal.Gen.facts) := fun m g _ =>
  (θ_run _ _ _).mono (fun r h => ⟨fun c => (h c).2.2.2, sem_eq_zero_of_no_sems (by rfl) _⟩)
    (Cert.Reference6Ideal.Value.run m g)
theorem frame7 : Cert.quiescent_Reference7Ideal (hReference7Ideal := Cert.Reference7Ideal.Gen.facts) := fun m g _ =>
  (θ_run _ _ _).mono (fun r h => ⟨fun c => (h c).2.2, sem_eq_zero_of_no_sems (by rfl) _⟩)
    (Cert.Reference7Ideal.Value.run m g)
theorem frame8 : Cert.quiescent_Reference8Ideal (hReference8Ideal := Cert.Reference8Ideal.Gen.facts) := fun m g _ =>
  (θ_run _ _ _).mono (fun r h => ⟨fun c => (h c).2.2.2, sem_eq_zero_of_no_sems (by rfl) _⟩)
    (Cert.Reference8Ideal.Value.run m g)
theorem frame9 : Cert.quiescent_Reference9Ideal (hReference9Ideal := Cert.Reference9Ideal.Gen.facts) := fun m g _ =>
  (θ_run _ _ _).mono (fun r h => ⟨fun c => (h c).2.2.2.2.2.2, sem_eq_zero_of_no_sems (by rfl) _⟩)
    (Cert.Reference9Ideal.Value.run m g)
theorem frame10 : Cert.quiescent_Reference10Ideal (hReference10Ideal := Cert.Reference10Ideal.Gen.facts) := fun m g _ =>
  (θ_run _ _ _).mono (fun r h => ⟨fun c => (h c).2.2, sem_eq_zero_of_no_sems (by rfl) _⟩)
    (Cert.Reference10Ideal.Value.run m g)
theorem frame11 : Cert.quiescent_Reference11Ideal (hReference11Ideal := Cert.Reference11Ideal.Gen.facts) := fun m g _ =>
  (θ_run _ _ _).mono (fun r h => ⟨fun c => (h c).2.2, sem_eq_zero_of_no_sems (by rfl) _⟩)
    (Cert.Reference11Ideal.Value.run m g)
theorem frame12 : Cert.quiescent_Reference12Ideal (hReference12Ideal := Cert.Reference12Ideal.Gen.facts) := fun m g _ =>
  (θ_run _ _ _).mono (fun r h => ⟨fun c => (h c).2, sem_eq_zero_of_no_sems (by rfl) _⟩)
    (Cert.Reference12Ideal.Value.run m g)
theorem frame13 : Cert.quiescent_Reference13Ideal (hReference13Ideal := Cert.Reference13Ideal.Gen.facts) := fun m g _ =>
  (θ_run _ _ _).mono (fun r h => ⟨fun c => (h c).2.2.2, sem_eq_zero_of_no_sems (by rfl) _⟩)
    (Cert.Reference13Ideal.Value.run m g)

end Cert.RefFrames
end
-- ==== Proof.lean ====
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Arrays
public import proofs.«01_k».proof.Proof.Ref
public import proofs.«01_k».proof.Proof.Pre
public import proofs.«01_k».proof.Proof.FfnEqual
public import proofs.«01_k».proof.Proof.GradEqual
public import proofs.«01_k».proof.Proof.FwdEqual
public import proofs.«01_k».proof.Proof.MemEqual
public import proofs.«01_k».proof.Proof.SeqEqual
public import proofs.«01_k».proof.Proof.RefFrames
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Cert.AttnSpec Cert.KernelIdeal.Arrays

section equal
variable {m : (ℓ : Loc Cert.KernelIdeal.nD Cert.KernelIdeal.τ Cert.KernelIdeal.sig) → Buf (Elt Ideal) ℓ}
  (hpre : Cert.Pre_KernelIdeal_finite_inputs m) (c : Dev Cert.KernelIdeal.nD)

abbrev b0 : FVec Ideal Cert.ReferenceIdeal.S4096x1024 .f32 := m ((c : Thread Cert.KernelIdeal.nD Cert.KernelIdeal.τ).loc Cert.KernelIdeal.main_arg0)
abbrev b1 : FVec Ideal Cert.ReferenceIdeal.S1024x1024 .bf16 := m ((c : Thread Cert.KernelIdeal.nD Cert.KernelIdeal.τ).loc Cert.KernelIdeal.main_arg1)
abbrev b2 : FVec Ideal Cert.ReferenceIdeal.S256x2048 .bf16 := m ((c : Thread Cert.KernelIdeal.nD Cert.KernelIdeal.τ).loc Cert.KernelIdeal.main_arg2)
abbrev b3 : FVec Ideal Cert.ReferenceIdeal.S1024x1024 .bf16 := m ((c : Thread Cert.KernelIdeal.nD Cert.KernelIdeal.τ).loc Cert.KernelIdeal.main_arg3)
abbrev b4 : FVec Ideal Cert.ReferenceIdeal.S4096x1024 .f32 := m ((c : Thread Cert.KernelIdeal.nD Cert.KernelIdeal.τ).loc Cert.KernelIdeal.main_arg4)
abbrev b5 : FVec Ideal Cert.ReferenceIdeal.S1024 .f32 := m ((c : Thread Cert.KernelIdeal.nD Cert.KernelIdeal.τ).loc Cert.KernelIdeal.main_arg5)

include hpre

/-- The reference's form of the scores' gradient is the kernel's. -/
theorem ds_eq (R : Fin 4096) : Cert.ReferenceIdeal.Ref.dsQ (b0 (m := m) c) (b1 (m := m) c) (b2 (m := m) c) (b3 (m := m) c) (b4 (m := m) c) (b5 (m := m) c) R =
    dscores (a0 m c) (a1 m c) (a2 m c) (a3 m c) (a4 m c) (a5 m c) R :=
  funext fun h => dscoreQ_eq (fun j => hscore_real (fun l => queries_real (fun e l => Cert.Precondition.real3 hpre c e l)
    (fun e => Cert.Precondition.real5 hpre c e) R l) (fun j l => Cert.Precondition.real2 hpre c j l) h j) _

theorem dhn_eq (R : Fin 4096) : Cert.ReferenceIdeal.Ref.dhnQ (b0 (m := m) c) (b1 (m := m) c) (b2 (m := m) c) (b3 (m := m) c) (b4 (m := m) c) (b5 (m := m) c) R =
    dhns (a0 m c) (a1 m c) (a2 m c) (a3 m c) (a4 m c) (a5 m c) R := by
  unfold Cert.ReferenceIdeal.Ref.dhnQ
  rw [ds_eq hpre c R]; rfl

theorem dh_eq : Cert.ReferenceIdeal.Read.val_main_v111 (F := Ideal) (b0 (m := m) c) (b1 (m := m) c) (b2 (m := m) c) (b3 (m := m) c) (b4 (m := m) c) (b5 (m := m) c) =
    fun i => dhs (a0 m c) (a1 m c) (a2 m c) (a3 m c) (a4 m c) (a5 m c) (i 0) (i 1) := by
  funext i
  obtain ⟨R, e, rfl⟩ : ∃ (R : Fin 4096) (e : Fin 1024), i = ix2 R e := ⟨_, _, eq_ix2 i⟩
  refine (Cert.ReferenceIdeal.Ref.dh_at _ _ _ _ _ _ R e).trans ?_
  rw [dhn_eq hpre c, rmsBackQ_eq]; rfl

theorem dq_eq : Cert.ReferenceIdeal.Read.val_main_v89 (F := Ideal) (b0 (m := m) c) (b1 (m := m) c) (b2 (m := m) c) (b3 (m := m) c) (b4 (m := m) c) (b5 (m := m) c) =
    fun i => dqs (a0 m c) (a1 m c) (a2 m c) (a3 m c) (a4 m c) (a5 m c) (i 0) (i 1) := by
  funext i
  obtain ⟨R, e, rfl⟩ : ∃ (R : Fin 4096) (e : Fin 1024), i = ix2 R e := ⟨_, _, eq_ix2 i⟩
  refine (Cert.ReferenceIdeal.Ref.dq_at _ _ _ _ _ _ R e).trans ?_
  rw [ds_eq hpre c]; rfl

theorem dkv_eq : Cert.ReferenceIdeal.Read.val_main_v88 (F := Ideal) (b0 (m := m) c) (b1 (m := m) c) (b2 (m := m) c) (b3 (m := m) c) (b4 (m := m) c) (b5 (m := m) c) =
    fun i => dkvs (a0 m c) (a1 m c) (a2 m c) (a3 m c) (a4 m c) (a5 m c) (i 0) (i 1) := by
  funext i
  rw [eq_ix2 i]
  refine (Cert.ReferenceIdeal.Ref.dkv_at _ _ _ _ _ _ (i 0) (i 1)).trans ?_
  refine Finset.sum_congr rfl fun R _ => ?_
  rw [ds_eq hpre c]; rfl

theorem dg_eq : Cert.ReferenceIdeal.Read.val_main_v114 (F := Ideal) (b0 (m := m) c) (b1 (m := m) c) (b2 (m := m) c) (b3 (m := m) c) (b4 (m := m) c) (b5 (m := m) c) =
    fun i => dgs (a0 m c) (a1 m c) (a2 m c) (a3 m c) (a4 m c) (a5 m c) (i 1) := by
  funext i
  rw [eq_ix2 i]
  refine (Cert.ReferenceIdeal.Ref.dg_at _ _ _ _ _ _ (i 0) (i 1)).trans ?_
  refine Finset.sum_congr rfl fun R _ => ?_
  rw [dhn_eq hpre c]; rfl

/-! Each result of the reference, from arguments equal to the kernel's, is the kernel's array. -/

variable {m' : (ℓ : Loc Cert.ReferenceIdeal.nD Cert.ReferenceIdeal.τ Cert.ReferenceIdeal.sig) → Buf (Elt Ideal) ℓ}
  (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
    ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
    ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
    ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
    ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
    ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))

include hagree

theorem res7 : Cert.ReferenceIdeal.Value.res_main_v111 m' c = (Cert.KernelIdeal.Gen.dats m 0 c).arrAt 7 Cert.KernelIdeal.cfg0.N := by
  obtain ⟨e0, e1, e2, e3, e4, e5⟩ := hagree
  rw [final7, Cert.ReferenceIdeal.Read.val_main_v111_eq, e0, e1, e2, e3, e4, e5]
  exact dh_eq hpre c

theorem res8 : Cert.ReferenceIdeal.Value.res_main_v112 m' c = (Cert.KernelIdeal.Gen.dats m 0 c).arrAt 8 Cert.KernelIdeal.cfg0.N := by
  obtain ⟨e0, e1, e2, e3, e4, e5⟩ := hagree
  rw [final8, Cert.ReferenceIdeal.Read.val_main_v112_eq, e0, e1, e2, e3, e4, e5]
  exact dh_eq hpre c

theorem res9 : Cert.ReferenceIdeal.Value.res_main_v113 m' c = (Cert.KernelIdeal.Gen.dats m 0 c).arrAt 9 Cert.KernelIdeal.cfg0.N := by
  obtain ⟨e0, e1, e2, e3, e4, e5⟩ := hagree
  rw [final9, Cert.ReferenceIdeal.Read.val_main_v113_eq, e0, e1, e2, e3, e4, e5]
  exact dq_eq hpre c

theorem res10 : Cert.ReferenceIdeal.Value.res_main_v88 m' c = (Cert.KernelIdeal.Gen.dats m 0 c).arrAt 10 Cert.KernelIdeal.cfg0.N := by
  obtain ⟨e0, e1, e2, e3, e4, e5⟩ := hagree
  rw [final10, Cert.ReferenceIdeal.Read.val_main_v88_eq, e0, e1, e2, e3, e4, e5]
  exact dkv_eq hpre c

theorem res11 : Cert.ReferenceIdeal.Value.res_main_v114 m' c = (Cert.KernelIdeal.Gen.dats m 0 c).arrAt 11 Cert.KernelIdeal.cfg0.N := by
  obtain ⟨e0, e1, e2, e3, e4, e5⟩ := hagree
  rw [final11, Cert.ReferenceIdeal.Read.val_main_v114_eq, e0, e1, e2, e3, e4, e5]
  exact dg_eq hpre c

end equal

/-- The reference's run leaves its arguments and every counter alone. -/
theorem ref_frame : Cert.quiescent_ReferenceIdeal (hReferenceIdeal := Cert.ReferenceIdeal.Gen.facts) := fun m g _ =>
  (θ_run _ _ _).mono (fun r h => ⟨fun c => (h c).2.2.2.2.2, sem_eq_zero_of_no_sems (by rfl) _⟩)
    (Cert.ReferenceIdeal.Value.run m g)

theorem equal : Cert.algebraic_KernelIdeal_ReferenceIdeal_pre_finite_inputs (hKernelIdeal := Cert.KernelIdeal.Gen.facts)
    (hReferenceIdeal := Cert.ReferenceIdeal.Gen.facts) (hPre_finite_inputs := Cert.Precondition.facts) := by
  pair_intro
  · run_from Cert.KernelIdeal.Value.run_blocks m g
  · run_from Cert.ReferenceIdeal.Value.run m' g'
    · exact res7 hpre _ (hagree _)
    · exact res8 hpre _ (hagree _)
    · exact res9 hpre _ (hagree _)
    · exact res10 hpre _ (hagree _)
    · exact res11 hpre _ (hagree _)

/-- The second reference's run leaves its arguments and every counter alone. -/
theorem ref_frame2 : Cert.quiescent_Reference2Ideal (hReference2Ideal := Cert.Reference2Ideal.Gen.facts) := fun m g _ =>
  (θ_run _ _ _).mono (fun r h => ⟨fun c => (h c).2.2.2.2, sem_eq_zero_of_no_sems (by rfl) _⟩)
    (Cert.Reference2Ideal.Value.run m g)

theorem equal2 : Cert.algebraic_Kernel2Ideal_Reference2Ideal_pre_finite_inputs2 (hKernel2Ideal := Cert.Kernel2Ideal.Gen.facts)
    (hReference2Ideal := Cert.Reference2Ideal.Gen.facts) (hPre_finite_inputs2 := Cert.Precondition2.facts) := by
  pair_intro
  · run_from Cert.Kernel2Ideal.Value.run_blocks m g
  · run_from Cert.Reference2Ideal.Value.run m' g'
    · exact Cert.FfnEqual.res6 hpre _ (hagree _)
    · exact Cert.FfnEqual.res7 hpre _ (hagree _)
    · exact Cert.FfnEqual.res8 hpre _ (hagree _)
    · exact Cert.FfnEqual.res9 hpre _ (hagree _)

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Precondition.facts, Cert.Precondition2.facts,
    fun m ρ _ => Cert.Kernel.Gen.frame m ρ, fun m ρ _ => Cert.KernelIdeal.Gen.frame m ρ,
    fun m ρ _ => Cert.KernelIdeal.Gen.frame m ρ, ref_frame, fun m g _ => ref_frame m g trivial,
    fun m ρ _ => Cert.Kernel2.Gen.frame m ρ, fun m ρ _ => Cert.Kernel2Ideal.Gen.frame m ρ,
    fun m ρ _ => Cert.Kernel2Ideal.Gen.frame m ρ, ref_frame2, fun m g _ => ref_frame2 m g trivial,
    fun m ρ _ => Cert.Kernel3.Gen.frame m ρ, fun m ρ _ => Cert.Kernel3Ideal.Gen.frame m ρ, Cert.RefFrames.frame3,
    fun m ρ _ => Cert.Kernel4.Gen.frame m ρ, fun m ρ _ => Cert.Kernel4Ideal.Gen.frame m ρ, Cert.RefFrames.frame4,
    fun m ρ _ => Cert.Kernel5.Gen.frame m ρ, fun m ρ _ => Cert.Kernel5Ideal.Gen.frame m ρ, Cert.RefFrames.frame5,
    fun m ρ _ => Cert.Kernel6.Gen.frame m ρ, fun m ρ _ => Cert.Kernel6Ideal.Gen.frame m ρ, Cert.RefFrames.frame6,
    fun m ρ _ => Cert.Kernel7.Gen.frame m ρ, fun m ρ _ => Cert.Kernel7Ideal.Gen.frame m ρ, Cert.RefFrames.frame7,
    fun m ρ _ => Cert.Kernel8.Gen.frame m ρ, fun m ρ _ => Cert.Kernel8Ideal.Gen.frame m ρ, Cert.RefFrames.frame8,
    fun m ρ _ => Cert.Kernel9.Gen.frame m ρ, fun m ρ _ => Cert.Kernel9Ideal.Gen.frame m ρ, Cert.RefFrames.frame9,
    fun m ρ _ => Cert.Kernel10.Gen.frame m ρ, fun m ρ _ => Cert.Kernel10Ideal.Gen.frame m ρ, Cert.RefFrames.frame10,
    fun m ρ _ => Cert.Kernel11.Gen.frame m ρ, fun m ρ _ => Cert.Kernel11Ideal.Gen.frame m ρ, Cert.RefFrames.frame11,
    fun m ρ _ => Cert.Kernel12.Gen.frame m ρ, fun m ρ _ => Cert.Kernel12Ideal.Gen.frame m ρ, Cert.RefFrames.frame12,
    fun m ρ _ => Cert.Kernel13.Gen.frame m ρ, fun m ρ _ => Cert.Kernel13Ideal.Gen.frame m ρ, Cert.RefFrames.frame13,
    trivial, equal, trivial, equal2,
    trivial, Cert.GradEqual.equal3, trivial, Cert.GradEqual.equal4, trivial, Cert.GradEqual.equal5, trivial, Cert.GradEqual.equal6,
    trivial, Cert.FwdEqual.equal7, trivial, Cert.FwdEqual.equal8, trivial, Cert.FwdEqual.equal9,
    trivial, Cert.MemEqual.equal10, trivial, Cert.MemEqual.equal11, trivial, Cert.MemEqual.equal12,
    trivial, Cert.SeqEqual.equal13⟩

end Cert.Proof

end
